-- ==== Defs.lean ====
def Pre_Full (m : (ℓ : Loc Cert.Full.nD Cert.Full.τ Cert.Full.sig) → Buf (Elt Bits) ℓ) : Prop :=
  True

def Pre_FullIdeal (m : (ℓ : Loc Cert.FullIdeal.nD Cert.FullIdeal.τ Cert.FullIdeal.sig) → Buf (Elt Ideal) ℓ) : Prop :=
  True

def Pre_FullIdeal_finite_scores [hPre_finite_scores : Cert.Pre_finite_scores.Facts] (m : (ℓ : Loc Cert.FullIdeal.nD Cert.FullIdeal.τ Cert.FullIdeal.sig) → Buf (Elt Ideal) ℓ) : Prop :=
  ∀ c : Dev Cert.FullIdeal.nD,
    (Cert.Pre_finite_scores.fn (F := Ideal) (m ((c.tc : Thread Cert.FullIdeal.nD Cert.FullIdeal.τ).loc Cert.FullIdeal.main_arg0)) (m ((c.tc : Thread Cert.FullIdeal.nD Cert.FullIdeal.τ).loc Cert.FullIdeal.main_arg1)) (m ((c.tc : Thread Cert.FullIdeal.nD Cert.FullIdeal.τ).loc Cert.FullIdeal.main_arg2)) (m ((c.tc : Thread Cert.FullIdeal.nD Cert.FullIdeal.τ).loc Cert.FullIdeal.main_arg3)) (m ((c.tc : Thread Cert.FullIdeal.nD Cert.FullIdeal.τ).loc Cert.FullIdeal.main_arg4))).1 = (fun _ => 1#1)
    ∧ (Cert.Pre_finite_scores.fn (F := Ideal) (m ((c.tc : Thread Cert.FullIdeal.nD Cert.FullIdeal.τ).loc Cert.FullIdeal.main_arg0)) (m ((c.tc : Thread Cert.FullIdeal.nD Cert.FullIdeal.τ).loc Cert.FullIdeal.main_arg1)) (m ((c.tc : Thread Cert.FullIdeal.nD Cert.FullIdeal.τ).loc Cert.FullIdeal.main_arg2)) (m ((c.tc : Thread Cert.FullIdeal.nD Cert.FullIdeal.τ).loc Cert.FullIdeal.main_arg3)) (m ((c.tc : Thread Cert.FullIdeal.nD Cert.FullIdeal.τ).loc Cert.FullIdeal.main_arg4))).2.1 = (fun _ => 1#1)
    ∧ (Cert.Pre_finite_scores.fn (F := Ideal) (m ((c.tc : Thread Cert.FullIdeal.nD Cert.FullIdeal.τ).loc Cert.FullIdeal.main_arg0)) (m ((c.tc : Thread Cert.FullIdeal.nD Cert.FullIdeal.τ).loc Cert.FullIdeal.main_arg1)) (m ((c.tc : Thread Cert.FullIdeal.nD Cert.FullIdeal.τ).loc Cert.FullIdeal.main_arg2)) (m ((c.tc : Thread Cert.FullIdeal.nD Cert.FullIdeal.τ).loc Cert.FullIdeal.main_arg3)) (m ((c.tc : Thread Cert.FullIdeal.nD Cert.FullIdeal.τ).loc Cert.FullIdeal.main_arg4))).2.2 = (fun _ => 1#1)

def Pre_FullRefIdeal (m : (ℓ : Loc Cert.FullRefIdeal.nD Cert.FullRefIdeal.τ Cert.FullRefIdeal.sig) → Buf (Elt Ideal) ℓ) : Prop :=
  True

def Pre_FullRefIdeal_finite_scores [hPre_finite_scores : Cert.Pre_finite_scores.Facts] (m : (ℓ : Loc Cert.FullRefIdeal.nD Cert.FullRefIdeal.τ Cert.FullRefIdeal.sig) → Buf (Elt Ideal) ℓ) : Prop :=
  ∀ c : Dev Cert.FullRefIdeal.nD,
    (Cert.Pre_finite_scores.fn (F := Ideal) (m ((c.tc : Thread Cert.FullRefIdeal.nD Cert.FullRefIdeal.τ).loc Cert.FullRefIdeal.main_arg0)) (m ((c.tc : Thread Cert.FullRefIdeal.nD Cert.FullRefIdeal.τ).loc Cert.FullRefIdeal.main_arg1)) (m ((c.tc : Thread Cert.FullRefIdeal.nD Cert.FullRefIdeal.τ).loc Cert.FullRefIdeal.main_arg2)) (m ((c.tc : Thread Cert.FullRefIdeal.nD Cert.FullRefIdeal.τ).loc Cert.FullRefIdeal.main_arg3)) (m ((c.tc : Thread Cert.FullRefIdeal.nD Cert.FullRefIdeal.τ).loc Cert.FullRefIdeal.main_arg4))).1 = (fun _ => 1#1)
    ∧ (Cert.Pre_finite_scores.fn (F := Ideal) (m ((c.tc : Thread Cert.FullRefIdeal.nD Cert.FullRefIdeal.τ).loc Cert.FullRefIdeal.main_arg0)) (m ((c.tc : Thread Cert.FullRefIdeal.nD Cert.FullRefIdeal.τ).loc Cert.FullRefIdeal.main_arg1)) (m ((c.tc : Thread Cert.FullRefIdeal.nD Cert.FullRefIdeal.τ).loc Cert.FullRefIdeal.main_arg2)) (m ((c.tc : Thread Cert.FullRefIdeal.nD Cert.FullRefIdeal.τ).loc Cert.FullRefIdeal.main_arg3)) (m ((c.tc : Thread Cert.FullRefIdeal.nD Cert.FullRefIdeal.τ).loc Cert.FullRefIdeal.main_arg4))).2.1 = (fun _ => 1#1)
    ∧ (Cert.Pre_finite_scores.fn (F := Ideal) (m ((c.tc : Thread Cert.FullRefIdeal.nD Cert.FullRefIdeal.τ).loc Cert.FullRefIdeal.main_arg0)) (m ((c.tc : Thread Cert.FullRefIdeal.nD Cert.FullRefIdeal.τ).loc Cert.FullRefIdeal.main_arg1)) (m ((c.tc : Thread Cert.FullRefIdeal.nD Cert.FullRefIdeal.τ).loc Cert.FullRefIdeal.main_arg2)) (m ((c.tc : Thread Cert.FullRefIdeal.nD Cert.FullRefIdeal.τ).loc Cert.FullRefIdeal.main_arg3)) (m ((c.tc : Thread Cert.FullRefIdeal.nD Cert.FullRefIdeal.τ).loc Cert.FullRefIdeal.main_arg4))).2.2 = (fun _ => 1#1)

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InIdeal_finite_input [hPre_finite_input : Cert.Pre_finite_input.Facts] (m : (ℓ : Loc Cert.InIdeal.nD Cert.InIdeal.τ Cert.InIdeal.sig) → Buf (Elt Ideal) ℓ) : Prop :=
  ∀ c : Dev Cert.InIdeal.nD,
    (Cert.Pre_finite_input.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5))).1 = (fun _ => 1#1)
    ∧ (Cert.Pre_finite_input.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5))).2.1 = (fun _ => 1#1)
    ∧ (Cert.Pre_finite_input.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5))).2.2.1 = (fun _ => 1#1)
    ∧ (Cert.Pre_finite_input.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5))).2.2.2 = (fun _ => 1#1)

def Pre_InRefIdeal (m : (ℓ : Loc Cert.InRefIdeal.nD Cert.InRefIdeal.τ Cert.InRefIdeal.sig) → Buf (Elt Ideal) ℓ) : Prop :=
  True

def Pre_InRefIdeal_finite_input [hPre_finite_input : Cert.Pre_finite_input.Facts] (m : (ℓ : Loc Cert.InRefIdeal.nD Cert.InRefIdeal.τ Cert.InRefIdeal.sig) → Buf (Elt Ideal) ℓ) : Prop :=
  ∀ c : Dev Cert.InRefIdeal.nD,
    (Cert.Pre_finite_input.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4)) (m ((c.tc : Thread Cert.InRefIdeal.nD Cert.InRefIdeal.τ).loc Cert.InRefIdeal.main_arg5))).1 = (fun _ => 1#1)
    ∧ (Cert.Pre_finite_input.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4)) (m ((c.tc : Thread Cert.InRefIdeal.nD Cert.InRefIdeal.τ).loc Cert.InRefIdeal.main_arg5))).2.1 = (fun _ => 1#1)
    ∧ (Cert.Pre_finite_input.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4)) (m ((c.tc : Thread Cert.InRefIdeal.nD Cert.InRefIdeal.τ).loc Cert.InRefIdeal.main_arg5))).2.2.1 = (fun _ => 1#1)
    ∧ (Cert.Pre_finite_input.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4)) (m ((c.tc : Thread Cert.InRefIdeal.nD Cert.InRefIdeal.τ).loc Cert.InRefIdeal.main_arg5))).2.2.2 = (fun _ => 1#1)

def Pre_Rot (m : (ℓ : Loc Cert.Rot.nD Cert.Rot.τ Cert.Rot.sig) → Buf (Elt Bits) ℓ) : Prop :=
  True

def Pre_RotIdeal (m : (ℓ : Loc Cert.RotIdeal.nD Cert.RotIdeal.τ Cert.RotIdeal.sig) → Buf (Elt Ideal) ℓ) : Prop :=
  True

def Pre_RotIdeal_finite_sample [hPre_finite_sample : Cert.Pre_finite_sample.Facts] (m : (ℓ : Loc Cert.RotIdeal.nD Cert.RotIdeal.τ Cert.RotIdeal.sig) → Buf (Elt Ideal) ℓ) : Prop :=
  ∀ c : Dev Cert.RotIdeal.nD,
    (Cert.Pre_finite_sample.fn (F := Ideal) (m ((c.tc : Thread Cert.RotIdeal.nD Cert.RotIdeal.τ).loc Cert.RotIdeal.main_arg0)) (m ((c.tc : Thread Cert.RotIdeal.nD Cert.RotIdeal.τ).loc Cert.RotIdeal.main_arg1)) (m ((c.tc : Thread Cert.RotIdeal.nD Cert.RotIdeal.τ).loc Cert.RotIdeal.main_arg2)) (m ((c.tc : Thread Cert.RotIdeal.nD Cert.RotIdeal.τ).loc Cert.RotIdeal.main_arg3)) (m ((c.tc : Thread Cert.RotIdeal.nD Cert.RotIdeal.τ).loc Cert.RotIdeal.main_arg4)) (m ((c.tc : Thread Cert.RotIdeal.nD Cert.RotIdeal.τ).loc Cert.RotIdeal.main_arg5)) (m ((c.tc : Thread Cert.RotIdeal.nD Cert.RotIdeal.τ).loc Cert.RotIdeal.main_arg6)) (m ((c.tc : Thread Cert.RotIdeal.nD Cert.RotIdeal.τ).loc Cert.RotIdeal.main_arg7))).1 = (fun _ => 1#1)
    ∧ (Cert.Pre_finite_sample.fn (F := Ideal) (m ((c.tc : Thread Cert.RotIdeal.nD Cert.RotIdeal.τ).loc Cert.RotIdeal.main_arg0)) (m ((c.tc : Thread Cert.RotIdeal.nD Cert.RotIdeal.τ).loc Cert.RotIdeal.main_arg1)) (m ((c.tc : Thread Cert.RotIdeal.nD Cert.RotIdeal.τ).loc Cert.RotIdeal.main_arg2)) (m ((c.tc : Thread Cert.RotIdeal.nD Cert.RotIdeal.τ).loc Cert.RotIdeal.main_arg3)) (m ((c.tc : Thread Cert.RotIdeal.nD Cert.RotIdeal.τ).loc Cert.RotIdeal.main_arg4)) (m ((c.tc : Thread Cert.RotIdeal.nD Cert.RotIdeal.τ).loc Cert.RotIdeal.main_arg5)) (m ((c.tc : Thread Cert.RotIdeal.nD Cert.RotIdeal.τ).loc Cert.RotIdeal.main_arg6)) (m ((c.tc : Thread Cert.RotIdeal.nD Cert.RotIdeal.τ).loc Cert.RotIdeal.main_arg7))).2.1 = (fun _ => 1#1)
    ∧ (Cert.Pre_finite_sample.fn (F := Ideal) (m ((c.tc : Thread Cert.RotIdeal.nD Cert.RotIdeal.τ).loc Cert.RotIdeal.main_arg0)) (m ((c.tc : Thread Cert.RotIdeal.nD Cert.RotIdeal.τ).loc Cert.RotIdeal.main_arg1)) (m ((c.tc : Thread Cert.RotIdeal.nD Cert.RotIdeal.τ).loc Cert.RotIdeal.main_arg2)) (m ((c.tc : Thread Cert.RotIdeal.nD Cert.RotIdeal.τ).loc Cert.RotIdeal.main_arg3)) (m ((c.tc : Thread Cert.RotIdeal.nD Cert.RotIdeal.τ).loc Cert.RotIdeal.main_arg4)) (m ((c.tc : Thread Cert.RotIdeal.nD Cert.RotIdeal.τ).loc Cert.RotIdeal.main_arg5)) (m ((c.tc : Thread Cert.RotIdeal.nD Cert.RotIdeal.τ).loc Cert.RotIdeal.main_arg6)) (m ((c.tc : Thread Cert.RotIdeal.nD Cert.RotIdeal.τ).loc Cert.RotIdeal.main_arg7))).2.2.1 = (fun _ => 1#1)
    ∧ (Cert.Pre_finite_sample.fn (F := Ideal) (m ((c.tc : Thread Cert.RotIdeal.nD Cert.RotIdeal.τ).loc Cert.RotIdeal.main_arg0)) (m ((c.tc : Thread Cert.RotIdeal.nD Cert.RotIdeal.τ).loc Cert.RotIdeal.main_arg1)) (m ((c.tc : Thread Cert.RotIdeal.nD Cert.RotIdeal.τ).loc Cert.RotIdeal.main_arg2)) (m ((c.tc : Thread Cert.RotIdeal.nD Cert.RotIdeal.τ).loc Cert.RotIdeal.main_arg3)) (m ((c.tc : Thread Cert.RotIdeal.nD Cert.RotIdeal.τ).loc Cert.RotIdeal.main_arg4)) (m ((c.tc : Thread Cert.RotIdeal.nD Cert.RotIdeal.τ).loc Cert.RotIdeal.main_arg5)) (m ((c.tc : Thread Cert.RotIdeal.nD Cert.RotIdeal.τ).loc Cert.RotIdeal.main_arg6)) (m ((c.tc : Thread Cert.RotIdeal.nD Cert.RotIdeal.τ).loc Cert.RotIdeal.main_arg7))).2.2.2 = (fun _ => 1#1)

def Pre_RotRefIdeal (m : (ℓ : Loc Cert.RotRefIdeal.nD Cert.RotRefIdeal.τ Cert.RotRefIdeal.sig) → Buf (Elt Ideal) ℓ) : Prop :=
  True

def Pre_RotRefIdeal_finite_sample [hPre_finite_sample : Cert.Pre_finite_sample.Facts] (m : (ℓ : Loc Cert.RotRefIdeal.nD Cert.RotRefIdeal.τ Cert.RotRefIdeal.sig) → Buf (Elt Ideal) ℓ) : Prop :=
  ∀ c : Dev Cert.RotRefIdeal.nD,
    (Cert.Pre_finite_sample.fn (F := Ideal) (m ((c.tc : Thread Cert.RotRefIdeal.nD Cert.RotRefIdeal.τ).loc Cert.RotRefIdeal.main_arg0)) (m ((c.tc : Thread Cert.RotRefIdeal.nD Cert.RotRefIdeal.τ).loc Cert.RotRefIdeal.main_arg1)) (m ((c.tc : Thread Cert.RotRefIdeal.nD Cert.RotRefIdeal.τ).loc Cert.RotRefIdeal.main_arg2)) (m ((c.tc : Thread Cert.RotRefIdeal.nD Cert.RotRefIdeal.τ).loc Cert.RotRefIdeal.main_arg3)) (m ((c.tc : Thread Cert.RotRefIdeal.nD Cert.RotRefIdeal.τ).loc Cert.RotRefIdeal.main_arg4)) (m ((c.tc : Thread Cert.RotRefIdeal.nD Cert.RotRefIdeal.τ).loc Cert.RotRefIdeal.main_arg5)) (m ((c.tc : Thread Cert.RotRefIdeal.nD Cert.RotRefIdeal.τ).loc Cert.RotRefIdeal.main_arg6)) (m ((c.tc : Thread Cert.RotRefIdeal.nD Cert.RotRefIdeal.τ).loc Cert.RotRefIdeal.main_arg7))).1 = (fun _ => 1#1)
    ∧ (Cert.Pre_finite_sample.fn (F := Ideal) (m ((c.tc : Thread Cert.RotRefIdeal.nD Cert.RotRefIdeal.τ).loc Cert.RotRefIdeal.main_arg0)) (m ((c.tc : Thread Cert.RotRefIdeal.nD Cert.RotRefIdeal.τ).loc Cert.RotRefIdeal.main_arg1)) (m ((c.tc : Thread Cert.RotRefIdeal.nD Cert.RotRefIdeal.τ).loc Cert.RotRefIdeal.main_arg2)) (m ((c.tc : Thread Cert.RotRefIdeal.nD Cert.RotRefIdeal.τ).loc Cert.RotRefIdeal.main_arg3)) (m ((c.tc : Thread Cert.RotRefIdeal.nD Cert.RotRefIdeal.τ).loc Cert.RotRefIdeal.main_arg4)) (m ((c.tc : Thread Cert.RotRefIdeal.nD Cert.RotRefIdeal.τ).loc Cert.RotRefIdeal.main_arg5)) (m ((c.tc : Thread Cert.RotRefIdeal.nD Cert.RotRefIdeal.τ).loc Cert.RotRefIdeal.main_arg6)) (m ((c.tc : Thread Cert.RotRefIdeal.nD Cert.RotRefIdeal.τ).loc Cert.RotRefIdeal.main_arg7))).2.1 = (fun _ => 1#1)
    ∧ (Cert.Pre_finite_sample.fn (F := Ideal) (m ((c.tc : Thread Cert.RotRefIdeal.nD Cert.RotRefIdeal.τ).loc Cert.RotRefIdeal.main_arg0)) (m ((c.tc : Thread Cert.RotRefIdeal.nD Cert.RotRefIdeal.τ).loc Cert.RotRefIdeal.main_arg1)) (m ((c.tc : Thread Cert.RotRefIdeal.nD Cert.RotRefIdeal.τ).loc Cert.RotRefIdeal.main_arg2)) (m ((c.tc : Thread Cert.RotRefIdeal.nD Cert.RotRefIdeal.τ).loc Cert.RotRefIdeal.main_arg3)) (m ((c.tc : Thread Cert.RotRefIdeal.nD Cert.RotRefIdeal.τ).loc Cert.RotRefIdeal.main_arg4)) (m ((c.tc : Thread Cert.RotRefIdeal.nD Cert.RotRefIdeal.τ).loc Cert.RotRefIdeal.main_arg5)) (m ((c.tc : Thread Cert.RotRefIdeal.nD Cert.RotRefIdeal.τ).loc Cert.RotRefIdeal.main_arg6)) (m ((c.tc : Thread Cert.RotRefIdeal.nD Cert.RotRefIdeal.τ).loc Cert.RotRefIdeal.main_arg7))).2.2.1 = (fun _ => 1#1)
    ∧ (Cert.Pre_finite_sample.fn (F := Ideal) (m ((c.tc : Thread Cert.RotRefIdeal.nD Cert.RotRefIdeal.τ).loc Cert.RotRefIdeal.main_arg0)) (m ((c.tc : Thread Cert.RotRefIdeal.nD Cert.RotRefIdeal.τ).loc Cert.RotRefIdeal.main_arg1)) (m ((c.tc : Thread Cert.RotRefIdeal.nD Cert.RotRefIdeal.τ).loc Cert.RotRefIdeal.main_arg2)) (m ((c.tc : Thread Cert.RotRefIdeal.nD Cert.RotRefIdeal.τ).loc Cert.RotRefIdeal.main_arg3)) (m ((c.tc : Thread Cert.RotRefIdeal.nD Cert.RotRefIdeal.τ).loc Cert.RotRefIdeal.main_arg4)) (m ((c.tc : Thread Cert.RotRefIdeal.nD Cert.RotRefIdeal.τ).loc Cert.RotRefIdeal.main_arg5)) (m ((c.tc : Thread Cert.RotRefIdeal.nD Cert.RotRefIdeal.τ).loc Cert.RotRefIdeal.main_arg6)) (m ((c.tc : Thread Cert.RotRefIdeal.nD Cert.RotRefIdeal.τ).loc Cert.RotRefIdeal.main_arg7))).2.2.2 = (fun _ => 1#1)

def Pre_Win (m : (ℓ : Loc Cert.Win.nD Cert.Win.τ Cert.Win.sig) → Buf (Elt Bits) ℓ) : Prop :=
  True

def Pre_WinIdeal (m : (ℓ : Loc Cert.WinIdeal.nD Cert.WinIdeal.τ Cert.WinIdeal.sig) → Buf (Elt Ideal) ℓ) : Prop :=
  True

def Pre_WinIdeal_finite_scores_sink [hPre_finite_scores_sink : Cert.Pre_finite_scores_sink.Facts] (m : (ℓ : Loc Cert.WinIdeal.nD Cert.WinIdeal.τ Cert.WinIdeal.sig) → Buf (Elt Ideal) ℓ) : Prop :=
  ∀ c : Dev Cert.WinIdeal.nD,
    (Cert.Pre_finite_scores_sink.fn (F := Ideal) (m ((c.tc : Thread Cert.WinIdeal.nD Cert.WinIdeal.τ).loc Cert.WinIdeal.main_arg0)) (m ((c.tc : Thread Cert.WinIdeal.nD Cert.WinIdeal.τ).loc Cert.WinIdeal.main_arg1)) (m ((c.tc : Thread Cert.WinIdeal.nD Cert.WinIdeal.τ).loc Cert.WinIdeal.main_arg2)) (m ((c.tc : Thread Cert.WinIdeal.nD Cert.WinIdeal.τ).loc Cert.WinIdeal.main_arg3)) (m ((c.tc : Thread Cert.WinIdeal.nD Cert.WinIdeal.τ).loc Cert.WinIdeal.main_arg4)) (m ((c.tc : Thread Cert.WinIdeal.nD Cert.WinIdeal.τ).loc Cert.WinIdeal.main_arg5))).1 = (fun _ => 1#1)
    ∧ (Cert.Pre_finite_scores_sink.fn (F := Ideal) (m ((c.tc : Thread Cert.WinIdeal.nD Cert.WinIdeal.τ).loc Cert.WinIdeal.main_arg0)) (m ((c.tc : Thread Cert.WinIdeal.nD Cert.WinIdeal.τ).loc Cert.WinIdeal.main_arg1)) (m ((c.tc : Thread Cert.WinIdeal.nD Cert.WinIdeal.τ).loc Cert.WinIdeal.main_arg2)) (m ((c.tc : Thread Cert.WinIdeal.nD Cert.WinIdeal.τ).loc Cert.WinIdeal.main_arg3)) (m ((c.tc : Thread Cert.WinIdeal.nD Cert.WinIdeal.τ).loc Cert.WinIdeal.main_arg4)) (m ((c.tc : Thread Cert.WinIdeal.nD Cert.WinIdeal.τ).loc Cert.WinIdeal.main_arg5))).2.1 = (fun _ => 1#1)
    ∧ (Cert.Pre_finite_scores_sink.fn (F := Ideal) (m ((c.tc : Thread Cert.WinIdeal.nD Cert.WinIdeal.τ).loc Cert.WinIdeal.main_arg0)) (m ((c.tc : Thread Cert.WinIdeal.nD Cert.WinIdeal.τ).loc Cert.WinIdeal.main_arg1)) (m ((c.tc : Thread Cert.WinIdeal.nD Cert.WinIdeal.τ).loc Cert.WinIdeal.main_arg2)) (m ((c.tc : Thread Cert.WinIdeal.nD Cert.WinIdeal.τ).loc Cert.WinIdeal.main_arg3)) (m ((c.tc : Thread Cert.WinIdeal.nD Cert.WinIdeal.τ).loc Cert.WinIdeal.main_arg4)) (m ((c.tc : Thread Cert.WinIdeal.nD Cert.WinIdeal.τ).loc Cert.WinIdeal.main_arg5))).2.2.1 = (fun _ => 1#1)
    ∧ (Cert.Pre_finite_scores_sink.fn (F := Ideal) (m ((c.tc : Thread Cert.WinIdeal.nD Cert.WinIdeal.τ).loc Cert.WinIdeal.main_arg0)) (m ((c.tc : Thread Cert.WinIdeal.nD Cert.WinIdeal.τ).loc Cert.WinIdeal.main_arg1)) (m ((c.tc : Thread Cert.WinIdeal.nD Cert.WinIdeal.τ).loc Cert.WinIdeal.main_arg2)) (m ((c.tc : Thread Cert.WinIdeal.nD Cert.WinIdeal.τ).loc Cert.WinIdeal.main_arg3)) (m ((c.tc : Thread Cert.WinIdeal.nD Cert.WinIdeal.τ).loc Cert.WinIdeal.main_arg4)) (m ((c.tc : Thread Cert.WinIdeal.nD Cert.WinIdeal.τ).loc Cert.WinIdeal.main_arg5))).2.2.2 = (fun _ => 1#1)

def Pre_WinRefIdeal (m : (ℓ : Loc Cert.WinRefIdeal.nD Cert.WinRefIdeal.τ Cert.WinRefIdeal.sig) → Buf (Elt Ideal) ℓ) : Prop :=
  True

def Pre_WinRefIdeal_finite_scores_sink [hPre_finite_scores_sink : Cert.Pre_finite_scores_sink.Facts] (m : (ℓ : Loc Cert.WinRefIdeal.nD Cert.WinRefIdeal.τ Cert.WinRefIdeal.sig) → Buf (Elt Ideal) ℓ) : Prop :=
  ∀ c : Dev Cert.WinRefIdeal.nD,
    (Cert.Pre_finite_scores_sink.fn (F := Ideal) (m ((c.tc : Thread Cert.WinRefIdeal.nD Cert.WinRefIdeal.τ).loc Cert.WinRefIdeal.main_arg0)) (m ((c.tc : Thread Cert.WinRefIdeal.nD Cert.WinRefIdeal.τ).loc Cert.WinRefIdeal.main_arg1)) (m ((c.tc : Thread Cert.WinRefIdeal.nD Cert.WinRefIdeal.τ).loc Cert.WinRefIdeal.main_arg2)) (m ((c.tc : Thread Cert.WinRefIdeal.nD Cert.WinRefIdeal.τ).loc Cert.WinRefIdeal.main_arg3)) (m ((c.tc : Thread Cert.WinRefIdeal.nD Cert.WinRefIdeal.τ).loc Cert.WinRefIdeal.main_arg4)) (m ((c.tc : Thread Cert.WinRefIdeal.nD Cert.WinRefIdeal.τ).loc Cert.WinRefIdeal.main_arg5))).1 = (fun _ => 1#1)
    ∧ (Cert.Pre_finite_scores_sink.fn (F := Ideal) (m ((c.tc : Thread Cert.WinRefIdeal.nD Cert.WinRefIdeal.τ).loc Cert.WinRefIdeal.main_arg0)) (m ((c.tc : Thread Cert.WinRefIdeal.nD Cert.WinRefIdeal.τ).loc Cert.WinRefIdeal.main_arg1)) (m ((c.tc : Thread Cert.WinRefIdeal.nD Cert.WinRefIdeal.τ).loc Cert.WinRefIdeal.main_arg2)) (m ((c.tc : Thread Cert.WinRefIdeal.nD Cert.WinRefIdeal.τ).loc Cert.WinRefIdeal.main_arg3)) (m ((c.tc : Thread Cert.WinRefIdeal.nD Cert.WinRefIdeal.τ).loc Cert.WinRefIdeal.main_arg4)) (m ((c.tc : Thread Cert.WinRefIdeal.nD Cert.WinRefIdeal.τ).loc Cert.WinRefIdeal.main_arg5))).2.1 = (fun _ => 1#1)
    ∧ (Cert.Pre_finite_scores_sink.fn (F := Ideal) (m ((c.tc : Thread Cert.WinRefIdeal.nD Cert.WinRefIdeal.τ).loc Cert.WinRefIdeal.main_arg0)) (m ((c.tc : Thread Cert.WinRefIdeal.nD Cert.WinRefIdeal.τ).loc Cert.WinRefIdeal.main_arg1)) (m ((c.tc : Thread Cert.WinRefIdeal.nD Cert.WinRefIdeal.τ).loc Cert.WinRefIdeal.main_arg2)) (m ((c.tc : Thread Cert.WinRefIdeal.nD Cert.WinRefIdeal.τ).loc Cert.WinRefIdeal.main_arg3)) (m ((c.tc : Thread Cert.WinRefIdeal.nD Cert.WinRefIdeal.τ).loc Cert.WinRefIdeal.main_arg4)) (m ((c.tc : Thread Cert.WinRefIdeal.nD Cert.WinRefIdeal.τ).loc Cert.WinRefIdeal.main_arg5))).2.2.1 = (fun _ => 1#1)
    ∧ (Cert.Pre_finite_scores_sink.fn (F := Ideal) (m ((c.tc : Thread Cert.WinRefIdeal.nD Cert.WinRefIdeal.τ).loc Cert.WinRefIdeal.main_arg0)) (m ((c.tc : Thread Cert.WinRefIdeal.nD Cert.WinRefIdeal.τ).loc Cert.WinRefIdeal.main_arg1)) (m ((c.tc : Thread Cert.WinRefIdeal.nD Cert.WinRefIdeal.τ).loc Cert.WinRefIdeal.main_arg2)) (m ((c.tc : Thread Cert.WinRefIdeal.nD Cert.WinRefIdeal.τ).loc Cert.WinRefIdeal.main_arg3)) (m ((c.tc : Thread Cert.WinRefIdeal.nD Cert.WinRefIdeal.τ).loc Cert.WinRefIdeal.main_arg4)) (m ((c.tc : Thread Cert.WinRefIdeal.nD Cert.WinRefIdeal.τ).loc Cert.WinRefIdeal.main_arg5))).2.2.2 = (fun _ => 1#1)

def quiescent_Full [hFull : Cert.Full.Facts] : Prop :=
  ∀ (m : (ℓ : Loc Cert.Full.nD Cert.Full.τ Cert.Full.sig) → Buf (Elt Bits) ℓ) (g : Dev Cert.Full.nD → PrngReg), Pre_Full m →
    θ_run (Cert.Full.defs (F := Bits)) (onTc (τ := Cert.Full.τ) (Cert.Full.main (F := Bits))) ⟨m, fun _ => 0, g⟩ (fun r => (∀ c : Dev Cert.Full.nD,
      r.2.mem ((c.tc : Thread Cert.Full.nD Cert.Full.τ).loc Cert.Full.main_arg0) = m ((c.tc : Thread Cert.Full.nD Cert.Full.τ).loc Cert.Full.main_arg0)
      ∧ r.2.mem ((c.tc : Thread Cert.Full.nD Cert.Full.τ).loc Cert.Full.main_arg1) = m ((c.tc : Thread Cert.Full.nD Cert.Full.τ).loc Cert.Full.main_arg1)
      ∧ r.2.mem ((c.tc : Thread Cert.Full.nD Cert.Full.τ).loc Cert.Full.main_arg2) = m ((c.tc : Thread Cert.Full.nD Cert.Full.τ).loc Cert.Full.main_arg2)
      ∧ r.2.mem ((c.tc : Thread Cert.Full.nD Cert.Full.τ).loc Cert.Full.main_arg3) = m ((c.tc : Thread Cert.Full.nD Cert.Full.τ).loc Cert.Full.main_arg3)
      ∧ r.2.mem ((c.tc : Thread Cert.Full.nD Cert.Full.τ).loc Cert.Full.main_arg4) = m ((c.tc : Thread Cert.Full.nD Cert.Full.τ).loc Cert.Full.main_arg4))
      ∧ r.2.sem = fun _ => 0)

def quiescent_FullIdeal [hFullIdeal : Cert.FullIdeal.Facts] : Prop :=
  ∀ (m : (ℓ : Loc Cert.FullIdeal.nD Cert.FullIdeal.τ Cert.FullIdeal.sig) → Buf (Elt Ideal) ℓ) (g : Dev Cert.FullIdeal.nD → PrngReg), Pre_FullIdeal m →
    θ_run (Cert.FullIdeal.defs (F := Ideal)) (onTc (τ := Cert.FullIdeal.τ) (Cert.FullIdeal.main (F := Ideal))) ⟨m, fun _ => 0, g⟩ (fun r => (∀ c : Dev Cert.FullIdeal.nD,
      r.2.mem ((c.tc : Thread Cert.FullIdeal.nD Cert.FullIdeal.τ).loc Cert.FullIdeal.main_arg0) = m ((c.tc : Thread Cert.FullIdeal.nD Cert.FullIdeal.τ).loc Cert.FullIdeal.main_arg0)
      ∧ r.2.mem ((c.tc : Thread Cert.FullIdeal.nD Cert.FullIdeal.τ).loc Cert.FullIdeal.main_arg1) = m ((c.tc : Thread Cert.FullIdeal.nD Cert.FullIdeal.τ).loc Cert.FullIdeal.main_arg1)
      ∧ r.2.mem ((c.tc : Thread Cert.FullIdeal.nD Cert.FullIdeal.τ).loc Cert.FullIdeal.main_arg2) = m ((c.tc : Thread Cert.FullIdeal.nD Cert.FullIdeal.τ).loc Cert.FullIdeal.main_arg2)
      ∧ r.2.mem ((c.tc : Thread Cert.FullIdeal.nD Cert.FullIdeal.τ).loc Cert.FullIdeal.main_arg3) = m ((c.tc : Thread Cert.FullIdeal.nD Cert.FullIdeal.τ).loc Cert.FullIdeal.main_arg3)
      ∧ r.2.mem ((c.tc : Thread Cert.FullIdeal.nD Cert.FullIdeal.τ).loc Cert.FullIdeal.main_arg4) = m ((c.tc : Thread Cert.FullIdeal.nD Cert.FullIdeal.τ).loc Cert.FullIdeal.main_arg4))
      ∧ r.2.sem = fun _ => 0)

def quiescent_FullIdeal_pre_finite_scores [hFullIdeal : Cert.FullIdeal.Facts] [hPre_finite_scores : Cert.Pre_finite_scores.Facts] : Prop :=
  ∀ (m : (ℓ : Loc Cert.FullIdeal.nD Cert.FullIdeal.τ Cert.FullIdeal.sig) → Buf (Elt Ideal) ℓ) (g : Dev Cert.FullIdeal.nD → PrngReg), Pre_FullIdeal_finite_scores m →
    θ_run (Cert.FullIdeal.defs (F := Ideal)) (onTc (τ := Cert.FullIdeal.τ) (Cert.FullIdeal.main (F := Ideal))) ⟨m, fun _ => 0, g⟩ (fun r => (∀ c : Dev Cert.FullIdeal.nD,
      r.2.mem ((c.tc : Thread Cert.FullIdeal.nD Cert.FullIdeal.τ).loc Cert.FullIdeal.main_arg0) = m ((c.tc : Thread Cert.FullIdeal.nD Cert.FullIdeal.τ).loc Cert.FullIdeal.main_arg0)
      ∧ r.2.mem ((c.tc : Thread Cert.FullIdeal.nD Cert.FullIdeal.τ).loc Cert.FullIdeal.main_arg1) = m ((c.tc : Thread Cert.FullIdeal.nD Cert.FullIdeal.τ).loc Cert.FullIdeal.main_arg1)
      ∧ r.2.mem ((c.tc : Thread Cert.FullIdeal.nD Cert.FullIdeal.τ).loc Cert.FullIdeal.main_arg2) = m ((c.tc : Thread Cert.FullIdeal.nD Cert.FullIdeal.τ).loc Cert.FullIdeal.main_arg2)
      ∧ r.2.mem ((c.tc : Thread Cert.FullIdeal.nD Cert.FullIdeal.τ).loc Cert.FullIdeal.main_arg3) = m ((c.tc : Thread Cert.FullIdeal.nD Cert.FullIdeal.τ).loc Cert.FullIdeal.main_arg3)
      ∧ r.2.mem ((c.tc : Thread Cert.FullIdeal.nD Cert.FullIdeal.τ).loc Cert.FullIdeal.main_arg4) = m ((c.tc : Thread Cert.FullIdeal.nD Cert.FullIdeal.τ).loc Cert.FullIdeal.main_arg4))
      ∧ r.2.sem = fun _ => 0)

def quiescent_FullRefIdeal [hFullRefIdeal : Cert.FullRefIdeal.Facts] : Prop :=
  ∀ (m : (ℓ : Loc Cert.FullRefIdeal.nD Cert.FullRefIdeal.τ Cert.FullRefIdeal.sig) → Buf (Elt Ideal) ℓ) (g : Dev Cert.FullRefIdeal.nD → PrngReg), Pre_FullRefIdeal m →
    θ_run (Cert.FullRefIdeal.defs (F := Ideal)) (onTc (τ := Cert.FullRefIdeal.τ) (Cert.FullRefIdeal.main (F := Ideal))) ⟨m, fun _ => 0, g⟩ (fun r => (∀ c : Dev Cert.FullRefIdeal.nD,
      r.2.mem ((c.tc : Thread Cert.FullRefIdeal.nD Cert.FullRefIdeal.τ).loc Cert.FullRefIdeal.main_arg0) = m ((c.tc : Thread Cert.FullRefIdeal.nD Cert.FullRefIdeal.τ).loc Cert.FullRefIdeal.main_arg0)
      ∧ r.2.mem ((c.tc : Thread Cert.FullRefIdeal.nD Cert.FullRefIdeal.τ).loc Cert.FullRefIdeal.main_arg1) = m ((c.tc : Thread Cert.FullRefIdeal.nD Cert.FullRefIdeal.τ).loc Cert.FullRefIdeal.main_arg1)
      ∧ r.2.mem ((c.tc : Thread Cert.FullRefIdeal.nD Cert.FullRefIdeal.τ).loc Cert.FullRefIdeal.main_arg2) = m ((c.tc : Thread Cert.FullRefIdeal.nD Cert.FullRefIdeal.τ).loc Cert.FullRefIdeal.main_arg2)
      ∧ r.2.mem ((c.tc : Thread Cert.FullRefIdeal.nD Cert.FullRefIdeal.τ).loc Cert.FullRefIdeal.main_arg3) = m ((c.tc : Thread Cert.FullRefIdeal.nD Cert.FullRefIdeal.τ).loc Cert.FullRefIdeal.main_arg3)
      ∧ r.2.mem ((c.tc : Thread Cert.FullRefIdeal.nD Cert.FullRefIdeal.τ).loc Cert.FullRefIdeal.main_arg4) = m ((c.tc : Thread Cert.FullRefIdeal.nD Cert.FullRefIdeal.τ).loc Cert.FullRefIdeal.main_arg4))
      ∧ r.2.sem = fun _ => 0)

def quiescent_FullRefIdeal_pre_finite_scores [hFullRefIdeal : Cert.FullRefIdeal.Facts] [hPre_finite_scores : Cert.Pre_finite_scores.Facts] : Prop :=
  ∀ (m : (ℓ : Loc Cert.FullRefIdeal.nD Cert.FullRefIdeal.τ Cert.FullRefIdeal.sig) → Buf (Elt Ideal) ℓ) (g : Dev Cert.FullRefIdeal.nD → PrngReg), Pre_FullRefIdeal_finite_scores m →
    θ_run (Cert.FullRefIdeal.defs (F := Ideal)) (onTc (τ := Cert.FullRefIdeal.τ) (Cert.FullRefIdeal.main (F := Ideal))) ⟨m, fun _ => 0, g⟩ (fun r => (∀ c : Dev Cert.FullRefIdeal.nD,
      r.2.mem ((c.tc : Thread Cert.FullRefIdeal.nD Cert.FullRefIdeal.τ).loc Cert.FullRefIdeal.main_arg0) = m ((c.tc : Thread Cert.FullRefIdeal.nD Cert.FullRefIdeal.τ).loc Cert.FullRefIdeal.main_arg0)
      ∧ r.2.mem ((c.tc : Thread Cert.FullRefIdeal.nD Cert.FullRefIdeal.τ).loc Cert.FullRefIdeal.main_arg1) = m ((c.tc : Thread Cert.FullRefIdeal.nD Cert.FullRefIdeal.τ).loc Cert.FullRefIdeal.main_arg1)
      ∧ r.2.mem ((c.tc : Thread Cert.FullRefIdeal.nD Cert.FullRefIdeal.τ).loc Cert.FullRefIdeal.main_arg2) = m ((c.tc : Thread Cert.FullRefIdeal.nD Cert.FullRefIdeal.τ).loc Cert.FullRefIdeal.main_arg2)
      ∧ r.2.mem ((c.tc : Thread Cert.FullRefIdeal.nD Cert.FullRefIdeal.τ).loc Cert.FullRefIdeal.main_arg3) = m ((c.tc : Thread Cert.FullRefIdeal.nD Cert.FullRefIdeal.τ).loc Cert.FullRefIdeal.main_arg3)
      ∧ r.2.mem ((c.tc : Thread Cert.FullRefIdeal.nD Cert.FullRefIdeal.τ).loc Cert.FullRefIdeal.main_arg4) = m ((c.tc : Thread Cert.FullRefIdeal.nD Cert.FullRefIdeal.τ).loc Cert.FullRefIdeal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7)
      ∧ r.2.mem ((c.tc : Thread Cert.Out.nD Cert.Out.τ).loc Cert.Out.main_arg8) = m ((c.tc : Thread Cert.Out.nD Cert.Out.τ).loc Cert.Out.main_arg8)
      ∧ r.2.mem ((c.tc : Thread Cert.Out.nD Cert.Out.τ).loc Cert.Out.main_arg9) = m ((c.tc : Thread Cert.Out.nD Cert.Out.τ).loc Cert.Out.main_arg9)
      ∧ r.2.mem ((c.tc : Thread Cert.Out.nD Cert.Out.τ).loc Cert.Out.main_arg10) = m ((c.tc : Thread Cert.Out.nD Cert.Out.τ).loc Cert.Out.main_arg10)
      ∧ r.2.mem ((c.tc : Thread Cert.Out.nD Cert.Out.τ).loc Cert.Out.main_arg11) = m ((c.tc : Thread Cert.Out.nD Cert.Out.τ).loc Cert.Out.main_arg11)
      ∧ r.2.mem ((c.tc : Thread Cert.Out.nD Cert.Out.τ).loc Cert.Out.main_arg12) = m ((c.tc : Thread Cert.Out.nD Cert.Out.τ).loc Cert.Out.main_arg12)
      ∧ r.2.mem ((c.tc : Thread Cert.Out.nD Cert.Out.τ).loc Cert.Out.main_arg13) = m ((c.tc : Thread Cert.Out.nD Cert.Out.τ).loc Cert.Out.main_arg13)
      ∧ r.2.mem ((c.tc : Thread Cert.Out.nD Cert.Out.τ).loc Cert.Out.main_arg14) = m ((c.tc : Thread Cert.Out.nD Cert.Out.τ).loc Cert.Out.main_arg14))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
      ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
      ∧ r.2.mem ((c.tc : Thread Cert.OutIdeal.nD Cert.OutIdeal.τ).loc Cert.OutIdeal.main_arg9) = m ((c.tc : Thread Cert.OutIdeal.nD Cert.OutIdeal.τ).loc Cert.OutIdeal.main_arg9)
      ∧ r.2.mem ((c.tc : Thread Cert.OutIdeal.nD Cert.OutIdeal.τ).loc Cert.OutIdeal.main_arg10) = m ((c.tc : Thread Cert.OutIdeal.nD Cert.OutIdeal.τ).loc Cert.OutIdeal.main_arg10)
      ∧ r.2.mem ((c.tc : Thread Cert.OutIdeal.nD Cert.OutIdeal.τ).loc Cert.OutIdeal.main_arg11) = m ((c.tc : Thread Cert.OutIdeal.nD Cert.OutIdeal.τ).loc Cert.OutIdeal.main_arg11)
      ∧ r.2.mem ((c.tc : Thread Cert.OutIdeal.nD Cert.OutIdeal.τ).loc Cert.OutIdeal.main_arg12) = m ((c.tc : Thread Cert.OutIdeal.nD Cert.OutIdeal.τ).loc Cert.OutIdeal.main_arg12)
      ∧ r.2.mem ((c.tc : Thread Cert.OutIdeal.nD Cert.OutIdeal.τ).loc Cert.OutIdeal.main_arg13) = m ((c.tc : Thread Cert.OutIdeal.nD Cert.OutIdeal.τ).loc Cert.OutIdeal.main_arg13)
      ∧ r.2.mem ((c.tc : Thread Cert.OutIdeal.nD Cert.OutIdeal.τ).loc Cert.OutIdeal.main_arg14) = m ((c.tc : Thread Cert.OutIdeal.nD Cert.OutIdeal.τ).loc Cert.OutIdeal.main_arg14))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7)
      ∧ r.2.mem ((c.tc : Thread Cert.OutRefIdeal.nD Cert.OutRefIdeal.τ).loc Cert.OutRefIdeal.main_arg8) = m ((c.tc : Thread Cert.OutRefIdeal.nD Cert.OutRefIdeal.τ).loc Cert.OutRefIdeal.main_arg8)
      ∧ r.2.mem ((c.tc : Thread Cert.OutRefIdeal.nD Cert.OutRefIdeal.τ).loc Cert.OutRefIdeal.main_arg9) = m ((c.tc : Thread Cert.OutRefIdeal.nD Cert.OutRefIdeal.τ).loc Cert.OutRefIdeal.main_arg9)
      ∧ r.2.mem ((c.tc : Thread Cert.OutRefIdeal.nD Cert.OutRefIdeal.τ).loc Cert.OutRefIdeal.main_arg10) = m ((c.tc : Thread Cert.OutRefIdeal.nD Cert.OutRefIdeal.τ).loc Cert.OutRefIdeal.main_arg10)
      ∧ r.2.mem ((c.tc : Thread Cert.OutRefIdeal.nD Cert.OutRefIdeal.τ).loc Cert.OutRefIdeal.main_arg11) = m ((c.tc : Thread Cert.OutRefIdeal.nD Cert.OutRefIdeal.τ).loc Cert.OutRefIdeal.main_arg11)
      ∧ r.2.mem ((c.tc : Thread Cert.OutRefIdeal.nD Cert.OutRefIdeal.τ).loc Cert.OutRefIdeal.main_arg12) = m ((c.tc : Thread Cert.OutRefIdeal.nD Cert.OutRefIdeal.τ).loc Cert.OutRefIdeal.main_arg12)
      ∧ r.2.mem ((c.tc : Thread Cert.OutRefIdeal.nD Cert.OutRefIdeal.τ).loc Cert.OutRefIdeal.main_arg13) = m ((c.tc : Thread Cert.OutRefIdeal.nD Cert.OutRefIdeal.τ).loc Cert.OutRefIdeal.main_arg13)
      ∧ r.2.mem ((c.tc : Thread Cert.OutRefIdeal.nD Cert.OutRefIdeal.τ).loc Cert.OutRefIdeal.main_arg14) = m ((c.tc : Thread Cert.OutRefIdeal.nD Cert.OutRefIdeal.τ).loc Cert.OutRefIdeal.main_arg14))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4)
      ∧ r.2.mem ((c.tc : Thread Cert.In.nD Cert.In.τ).loc Cert.In.main_arg5) = m ((c.tc : Thread Cert.In.nD Cert.In.τ).loc Cert.In.main_arg5))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4)
      ∧ r.2.mem ((c.tc : Thread Cert.InIdeal.nD Cert.InIdeal.τ).loc Cert.InIdeal.main_arg5) = m ((c.tc : Thread Cert.InIdeal.nD Cert.InIdeal.τ).loc Cert.InIdeal.main_arg5))
      ∧ r.2.sem = fun _ => 0)

def quiescent_InIdeal_pre_finite_input [hInIdeal : Cert.InIdeal.Facts] [hPre_finite_input : Cert.Pre_finite_input.Facts] : Prop :=
  ∀ (m : (ℓ : Loc Cert.InIdeal.nD Cert.InIdeal.τ Cert.InIdeal.sig) → Buf (Elt Ideal) ℓ) (g : Dev Cert.InIdeal.nD → PrngReg), Pre_InIdeal_finite_input m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4)
      ∧ r.2.mem ((c.tc : Thread Cert.InIdeal.nD Cert.InIdeal.τ).loc Cert.InIdeal.main_arg5) = m ((c.tc : Thread Cert.InIdeal.nD Cert.InIdeal.τ).loc Cert.InIdeal.main_arg5))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5))
      ∧ r.2.sem = fun _ => 0)

def quiescent_InRefIdeal_pre_finite_input [hInRefIdeal : Cert.InRefIdeal.Facts] [hPre_finite_input : Cert.Pre_finite_input.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal_finite_input m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5))
      ∧ r.2.sem = fun _ => 0)

def quiescent_Rot [hRot : Cert.Rot.Facts] : Prop :=
  ∀ (m : (ℓ : Loc Cert.Rot.nD Cert.Rot.τ Cert.Rot.sig) → Buf (Elt Bits) ℓ) (g : Dev Cert.Rot.nD → PrngReg), Pre_Rot m →
    θ_run (Cert.Rot.defs (F := Bits)) (onTc (τ := Cert.Rot.τ) (Cert.Rot.main (F := Bits))) ⟨m, fun _ => 0, g⟩ (fun r => (∀ c : Dev Cert.Rot.nD,
      r.2.mem ((c.tc : Thread Cert.Rot.nD Cert.Rot.τ).loc Cert.Rot.main_arg0) = m ((c.tc : Thread Cert.Rot.nD Cert.Rot.τ).loc Cert.Rot.main_arg0)
      ∧ r.2.mem ((c.tc : Thread Cert.Rot.nD Cert.Rot.τ).loc Cert.Rot.main_arg1) = m ((c.tc : Thread Cert.Rot.nD Cert.Rot.τ).loc Cert.Rot.main_arg1)
      ∧ r.2.mem ((c.tc : Thread Cert.Rot.nD Cert.Rot.τ).loc Cert.Rot.main_arg2) = m ((c.tc : Thread Cert.Rot.nD Cert.Rot.τ).loc Cert.Rot.main_arg2)
      ∧ r.2.mem ((c.tc : Thread Cert.Rot.nD Cert.Rot.τ).loc Cert.Rot.main_arg3) = m ((c.tc : Thread Cert.Rot.nD Cert.Rot.τ).loc Cert.Rot.main_arg3)
      ∧ r.2.mem ((c.tc : Thread Cert.Rot.nD Cert.Rot.τ).loc Cert.Rot.main_arg4) = m ((c.tc : Thread Cert.Rot.nD Cert.Rot.τ).loc Cert.Rot.main_arg4)
      ∧ r.2.mem ((c.tc : Thread Cert.Rot.nD Cert.Rot.τ).loc Cert.Rot.main_arg5) = m ((c.tc : Thread Cert.Rot.nD Cert.Rot.τ).loc Cert.Rot.main_arg5)
      ∧ r.2.mem ((c.tc : Thread Cert.Rot.nD Cert.Rot.τ).loc Cert.Rot.main_arg6) = m ((c.tc : Thread Cert.Rot.nD Cert.Rot.τ).loc Cert.Rot.main_arg6)
      ∧ r.2.mem ((c.tc : Thread Cert.Rot.nD Cert.Rot.τ).loc Cert.Rot.main_arg7) = m ((c.tc : Thread Cert.Rot.nD Cert.Rot.τ).loc Cert.Rot.main_arg7))
      ∧ r.2.sem = fun _ => 0)

def quiescent_RotIdeal [hRotIdeal : Cert.RotIdeal.Facts] : Prop :=
  ∀ (m : (ℓ : Loc Cert.RotIdeal.nD Cert.RotIdeal.τ Cert.RotIdeal.sig) → Buf (Elt Ideal) ℓ) (g : Dev Cert.RotIdeal.nD → PrngReg), Pre_RotIdeal m →
    θ_run (Cert.RotIdeal.defs (F := Ideal)) (onTc (τ := Cert.RotIdeal.τ) (Cert.RotIdeal.main (F := Ideal))) ⟨m, fun _ => 0, g⟩ (fun r => (∀ c : Dev Cert.RotIdeal.nD,
      r.2.mem ((c.tc : Thread Cert.RotIdeal.nD Cert.RotIdeal.τ).loc Cert.RotIdeal.main_arg0) = m ((c.tc : Thread Cert.RotIdeal.nD Cert.RotIdeal.τ).loc Cert.RotIdeal.main_arg0)
      ∧ r.2.mem ((c.tc : Thread Cert.RotIdeal.nD Cert.RotIdeal.τ).loc Cert.RotIdeal.main_arg1) = m ((c.tc : Thread Cert.RotIdeal.nD Cert.RotIdeal.τ).loc Cert.RotIdeal.main_arg1)
      ∧ r.2.mem ((c.tc : Thread Cert.RotIdeal.nD Cert.RotIdeal.τ).loc Cert.RotIdeal.main_arg2) = m ((c.tc : Thread Cert.RotIdeal.nD Cert.RotIdeal.τ).loc Cert.RotIdeal.main_arg2)
      ∧ r.2.mem ((c.tc : Thread Cert.RotIdeal.nD Cert.RotIdeal.τ).loc Cert.RotIdeal.main_arg3) = m ((c.tc : Thread Cert.RotIdeal.nD Cert.RotIdeal.τ).loc Cert.RotIdeal.main_arg3)
      ∧ r.2.mem ((c.tc : Thread Cert.RotIdeal.nD Cert.RotIdeal.τ).loc Cert.RotIdeal.main_arg4) = m ((c.tc : Thread Cert.RotIdeal.nD Cert.RotIdeal.τ).loc Cert.RotIdeal.main_arg4)
      ∧ r.2.mem ((c.tc : Thread Cert.RotIdeal.nD Cert.RotIdeal.τ).loc Cert.RotIdeal.main_arg5) = m ((c.tc : Thread Cert.RotIdeal.nD Cert.RotIdeal.τ).loc Cert.RotIdeal.main_arg5)
      ∧ r.2.mem ((c.tc : Thread Cert.RotIdeal.nD Cert.RotIdeal.τ).loc Cert.RotIdeal.main_arg6) = m ((c.tc : Thread Cert.RotIdeal.nD Cert.RotIdeal.τ).loc Cert.RotIdeal.main_arg6)
      ∧ r.2.mem ((c.tc : Thread Cert.RotIdeal.nD Cert.RotIdeal.τ).loc Cert.RotIdeal.main_arg7) = m ((c.tc : Thread Cert.RotIdeal.nD Cert.RotIdeal.τ).loc Cert.RotIdeal.main_arg7))
      ∧ r.2.sem = fun _ => 0)

def quiescent_RotIdeal_pre_finite_sample [hRotIdeal : Cert.RotIdeal.Facts] [hPre_finite_sample : Cert.Pre_finite_sample.Facts] : Prop :=
  ∀ (m : (ℓ : Loc Cert.RotIdeal.nD Cert.RotIdeal.τ Cert.RotIdeal.sig) → Buf (Elt Ideal) ℓ) (g : Dev Cert.RotIdeal.nD → PrngReg), Pre_RotIdeal_finite_sample m →
    θ_run (Cert.RotIdeal.defs (F := Ideal)) (onTc (τ := Cert.RotIdeal.τ) (Cert.RotIdeal.main (F := Ideal))) ⟨m, fun _ => 0, g⟩ (fun r => (∀ c : Dev Cert.RotIdeal.nD,
      r.2.mem ((c.tc : Thread Cert.RotIdeal.nD Cert.RotIdeal.τ).loc Cert.RotIdeal.main_arg0) = m ((c.tc : Thread Cert.RotIdeal.nD Cert.RotIdeal.τ).loc Cert.RotIdeal.main_arg0)
      ∧ r.2.mem ((c.tc : Thread Cert.RotIdeal.nD Cert.RotIdeal.τ).loc Cert.RotIdeal.main_arg1) = m ((c.tc : Thread Cert.RotIdeal.nD Cert.RotIdeal.τ).loc Cert.RotIdeal.main_arg1)
      ∧ r.2.mem ((c.tc : Thread Cert.RotIdeal.nD Cert.RotIdeal.τ).loc Cert.RotIdeal.main_arg2) = m ((c.tc : Thread Cert.RotIdeal.nD Cert.RotIdeal.τ).loc Cert.RotIdeal.main_arg2)
      ∧ r.2.mem ((c.tc : Thread Cert.RotIdeal.nD Cert.RotIdeal.τ).loc Cert.RotIdeal.main_arg3) = m ((c.tc : Thread Cert.RotIdeal.nD Cert.RotIdeal.τ).loc Cert.RotIdeal.main_arg3)
      ∧ r.2.mem ((c.tc : Thread Cert.RotIdeal.nD Cert.RotIdeal.τ).loc Cert.RotIdeal.main_arg4) = m ((c.tc : Thread Cert.RotIdeal.nD Cert.RotIdeal.τ).loc Cert.RotIdeal.main_arg4)
      ∧ r.2.mem ((c.tc : Thread Cert.RotIdeal.nD Cert.RotIdeal.τ).loc Cert.RotIdeal.main_arg5) = m ((c.tc : Thread Cert.RotIdeal.nD Cert.RotIdeal.τ).loc Cert.RotIdeal.main_arg5)
      ∧ r.2.mem ((c.tc : Thread Cert.RotIdeal.nD Cert.RotIdeal.τ).loc Cert.RotIdeal.main_arg6) = m ((c.tc : Thread Cert.RotIdeal.nD Cert.RotIdeal.τ).loc Cert.RotIdeal.main_arg6)
      ∧ r.2.mem ((c.tc : Thread Cert.RotIdeal.nD Cert.RotIdeal.τ).loc Cert.RotIdeal.main_arg7) = m ((c.tc : Thread Cert.RotIdeal.nD Cert.RotIdeal.τ).loc Cert.RotIdeal.main_arg7))
      ∧ r.2.sem = fun _ => 0)

def quiescent_RotRefIdeal [hRotRefIdeal : Cert.RotRefIdeal.Facts] : Prop :=
  ∀ (m : (ℓ : Loc Cert.RotRefIdeal.nD Cert.RotRefIdeal.τ Cert.RotRefIdeal.sig) → Buf (Elt Ideal) ℓ) (g : Dev Cert.RotRefIdeal.nD → PrngReg), Pre_RotRefIdeal m →
    θ_run (Cert.RotRefIdeal.defs (F := Ideal)) (onTc (τ := Cert.RotRefIdeal.τ) (Cert.RotRefIdeal.main (F := Ideal))) ⟨m, fun _ => 0, g⟩ (fun r => (∀ c : Dev Cert.RotRefIdeal.nD,
      r.2.mem ((c.tc : Thread Cert.RotRefIdeal.nD Cert.RotRefIdeal.τ).loc Cert.RotRefIdeal.main_arg0) = m ((c.tc : Thread Cert.RotRefIdeal.nD Cert.RotRefIdeal.τ).loc Cert.RotRefIdeal.main_arg0)
      ∧ r.2.mem ((c.tc : Thread Cert.RotRefIdeal.nD Cert.RotRefIdeal.τ).loc Cert.RotRefIdeal.main_arg1) = m ((c.tc : Thread Cert.RotRefIdeal.nD Cert.RotRefIdeal.τ).loc Cert.RotRefIdeal.main_arg1)
      ∧ r.2.mem ((c.tc : Thread Cert.RotRefIdeal.nD Cert.RotRefIdeal.τ).loc Cert.RotRefIdeal.main_arg2) = m ((c.tc : Thread Cert.RotRefIdeal.nD Cert.RotRefIdeal.τ).loc Cert.RotRefIdeal.main_arg2)
      ∧ r.2.mem ((c.tc : Thread Cert.RotRefIdeal.nD Cert.RotRefIdeal.τ).loc Cert.RotRefIdeal.main_arg3) = m ((c.tc : Thread Cert.RotRefIdeal.nD Cert.RotRefIdeal.τ).loc Cert.RotRefIdeal.main_arg3)
      ∧ r.2.mem ((c.tc : Thread Cert.RotRefIdeal.nD Cert.RotRefIdeal.τ).loc Cert.RotRefIdeal.main_arg4) = m ((c.tc : Thread Cert.RotRefIdeal.nD Cert.RotRefIdeal.τ).loc Cert.RotRefIdeal.main_arg4)
      ∧ r.2.mem ((c.tc : Thread Cert.RotRefIdeal.nD Cert.RotRefIdeal.τ).loc Cert.RotRefIdeal.main_arg5) = m ((c.tc : Thread Cert.RotRefIdeal.nD Cert.RotRefIdeal.τ).loc Cert.RotRefIdeal.main_arg5)
      ∧ r.2.mem ((c.tc : Thread Cert.RotRefIdeal.nD Cert.RotRefIdeal.τ).loc Cert.RotRefIdeal.main_arg6) = m ((c.tc : Thread Cert.RotRefIdeal.nD Cert.RotRefIdeal.τ).loc Cert.RotRefIdeal.main_arg6)
      ∧ r.2.mem ((c.tc : Thread Cert.RotRefIdeal.nD Cert.RotRefIdeal.τ).loc Cert.RotRefIdeal.main_arg7) = m ((c.tc : Thread Cert.RotRefIdeal.nD Cert.RotRefIdeal.τ).loc Cert.RotRefIdeal.main_arg7))
      ∧ r.2.sem = fun _ => 0)

def quiescent_RotRefIdeal_pre_finite_sample [hRotRefIdeal : Cert.RotRefIdeal.Facts] [hPre_finite_sample : Cert.Pre_finite_sample.Facts] : Prop :=
  ∀ (m : (ℓ : Loc Cert.RotRefIdeal.nD Cert.RotRefIdeal.τ Cert.RotRefIdeal.sig) → Buf (Elt Ideal) ℓ) (g : Dev Cert.RotRefIdeal.nD → PrngReg), Pre_RotRefIdeal_finite_sample m →
    θ_run (Cert.RotRefIdeal.defs (F := Ideal)) (onTc (τ := Cert.RotRefIdeal.τ) (Cert.RotRefIdeal.main (F := Ideal))) ⟨m, fun _ => 0, g⟩ (fun r => (∀ c : Dev Cert.RotRefIdeal.nD,
      r.2.mem ((c.tc : Thread Cert.RotRefIdeal.nD Cert.RotRefIdeal.τ).loc Cert.RotRefIdeal.main_arg0) = m ((c.tc : Thread Cert.RotRefIdeal.nD Cert.RotRefIdeal.τ).loc Cert.RotRefIdeal.main_arg0)
      ∧ r.2.mem ((c.tc : Thread Cert.RotRefIdeal.nD Cert.RotRefIdeal.τ).loc Cert.RotRefIdeal.main_arg1) = m ((c.tc : Thread Cert.RotRefIdeal.nD Cert.RotRefIdeal.τ).loc Cert.RotRefIdeal.main_arg1)
      ∧ r.2.mem ((c.tc : Thread Cert.RotRefIdeal.nD Cert.RotRefIdeal.τ).loc Cert.RotRefIdeal.main_arg2) = m ((c.tc : Thread Cert.RotRefIdeal.nD Cert.RotRefIdeal.τ).loc Cert.RotRefIdeal.main_arg2)
      ∧ r.2.mem ((c.tc : Thread Cert.RotRefIdeal.nD Cert.RotRefIdeal.τ).loc Cert.RotRefIdeal.main_arg3) = m ((c.tc : Thread Cert.RotRefIdeal.nD Cert.RotRefIdeal.τ).loc Cert.RotRefIdeal.main_arg3)
      ∧ r.2.mem ((c.tc : Thread Cert.RotRefIdeal.nD Cert.RotRefIdeal.τ).loc Cert.RotRefIdeal.main_arg4) = m ((c.tc : Thread Cert.RotRefIdeal.nD Cert.RotRefIdeal.τ).loc Cert.RotRefIdeal.main_arg4)
      ∧ r.2.mem ((c.tc : Thread Cert.RotRefIdeal.nD Cert.RotRefIdeal.τ).loc Cert.RotRefIdeal.main_arg5) = m ((c.tc : Thread Cert.RotRefIdeal.nD Cert.RotRefIdeal.τ).loc Cert.RotRefIdeal.main_arg5)
      ∧ r.2.mem ((c.tc : Thread Cert.RotRefIdeal.nD Cert.RotRefIdeal.τ).loc Cert.RotRefIdeal.main_arg6) = m ((c.tc : Thread Cert.RotRefIdeal.nD Cert.RotRefIdeal.τ).loc Cert.RotRefIdeal.main_arg6)
      ∧ r.2.mem ((c.tc : Thread Cert.RotRefIdeal.nD Cert.RotRefIdeal.τ).loc Cert.RotRefIdeal.main_arg7) = m ((c.tc : Thread Cert.RotRefIdeal.nD Cert.RotRefIdeal.τ).loc Cert.RotRefIdeal.main_arg7))
      ∧ r.2.sem = fun _ => 0)

def quiescent_Win [hWin : Cert.Win.Facts] : Prop :=
  ∀ (m : (ℓ : Loc Cert.Win.nD Cert.Win.τ Cert.Win.sig) → Buf (Elt Bits) ℓ) (g : Dev Cert.Win.nD → PrngReg), Pre_Win m →
    θ_run (Cert.Win.defs (F := Bits)) (onTc (τ := Cert.Win.τ) (Cert.Win.main (F := Bits))) ⟨m, fun _ => 0, g⟩ (fun r => (∀ c : Dev Cert.Win.nD,
      r.2.mem ((c.tc : Thread Cert.Win.nD Cert.Win.τ).loc Cert.Win.main_arg0) = m ((c.tc : Thread Cert.Win.nD Cert.Win.τ).loc Cert.Win.main_arg0)
      ∧ r.2.mem ((c.tc : Thread Cert.Win.nD Cert.Win.τ).loc Cert.Win.main_arg1) = m ((c.tc : Thread Cert.Win.nD Cert.Win.τ).loc Cert.Win.main_arg1)
      ∧ r.2.mem ((c.tc : Thread Cert.Win.nD Cert.Win.τ).loc Cert.Win.main_arg2) = m ((c.tc : Thread Cert.Win.nD Cert.Win.τ).loc Cert.Win.main_arg2)
      ∧ r.2.mem ((c.tc : Thread Cert.Win.nD Cert.Win.τ).loc Cert.Win.main_arg3) = m ((c.tc : Thread Cert.Win.nD Cert.Win.τ).loc Cert.Win.main_arg3)
      ∧ r.2.mem ((c.tc : Thread Cert.Win.nD Cert.Win.τ).loc Cert.Win.main_arg4) = m ((c.tc : Thread Cert.Win.nD Cert.Win.τ).loc Cert.Win.main_arg4)
      ∧ r.2.mem ((c.tc : Thread Cert.Win.nD Cert.Win.τ).loc Cert.Win.main_arg5) = m ((c.tc : Thread Cert.Win.nD Cert.Win.τ).loc Cert.Win.main_arg5))
      ∧ r.2.sem = fun _ => 0)

def quiescent_WinIdeal [hWinIdeal : Cert.WinIdeal.Facts] : Prop :=
  ∀ (m : (ℓ : Loc Cert.WinIdeal.nD Cert.WinIdeal.τ Cert.WinIdeal.sig) → Buf (Elt Ideal) ℓ) (g : Dev Cert.WinIdeal.nD → PrngReg), Pre_WinIdeal m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
      ∧ r.2.mem ((c.tc : Thread Cert.WinIdeal.nD Cert.WinIdeal.τ).loc Cert.WinIdeal.main_arg2) = m ((c.tc : Thread Cert.WinIdeal.nD Cert.WinIdeal.τ).loc Cert.WinIdeal.main_arg2)
      ∧ r.2.mem ((c.tc : Thread Cert.WinIdeal.nD Cert.WinIdeal.τ).loc Cert.WinIdeal.main_arg3) = m ((c.tc : Thread Cert.WinIdeal.nD Cert.WinIdeal.τ).loc Cert.WinIdeal.main_arg3)
      ∧ r.2.mem ((c.tc : Thread Cert.WinIdeal.nD Cert.WinIdeal.τ).loc Cert.WinIdeal.main_arg4) = m ((c.tc : Thread Cert.WinIdeal.nD Cert.WinIdeal.τ).loc Cert.WinIdeal.main_arg4)
      ∧ r.2.mem ((c.tc : Thread Cert.WinIdeal.nD Cert.WinIdeal.τ).loc Cert.WinIdeal.main_arg5) = m ((c.tc : Thread Cert.WinIdeal.nD Cert.WinIdeal.τ).loc Cert.WinIdeal.main_arg5))
      ∧ r.2.sem = fun _ => 0)

def quiescent_WinIdeal_pre_finite_scores_sink [hWinIdeal : Cert.WinIdeal.Facts] [hPre_finite_scores_sink : Cert.Pre_finite_scores_sink.Facts] : Prop :=
  ∀ (m : (ℓ : Loc Cert.WinIdeal.nD Cert.WinIdeal.τ Cert.WinIdeal.sig) → Buf (Elt Ideal) ℓ) (g : Dev Cert.WinIdeal.nD → PrngReg), Pre_WinIdeal_finite_scores_sink m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
      ∧ r.2.mem ((c.tc : Thread Cert.WinIdeal.nD Cert.WinIdeal.τ).loc Cert.WinIdeal.main_arg2) = m ((c.tc : Thread Cert.WinIdeal.nD Cert.WinIdeal.τ).loc Cert.WinIdeal.main_arg2)
      ∧ r.2.mem ((c.tc : Thread Cert.WinIdeal.nD Cert.WinIdeal.τ).loc Cert.WinIdeal.main_arg3) = m ((c.tc : Thread Cert.WinIdeal.nD Cert.WinIdeal.τ).loc Cert.WinIdeal.main_arg3)
      ∧ r.2.mem ((c.tc : Thread Cert.WinIdeal.nD Cert.WinIdeal.τ).loc Cert.WinIdeal.main_arg4) = m ((c.tc : Thread Cert.WinIdeal.nD Cert.WinIdeal.τ).loc Cert.WinIdeal.main_arg4)
      ∧ r.2.mem ((c.tc : Thread Cert.WinIdeal.nD Cert.WinIdeal.τ).loc Cert.WinIdeal.main_arg5) = m ((c.tc : Thread Cert.WinIdeal.nD Cert.WinIdeal.τ).loc Cert.WinIdeal.main_arg5))
      ∧ r.2.sem = fun _ => 0)

def quiescent_WinRefIdeal [hWinRefIdeal : Cert.WinRefIdeal.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1)
      ∧ r.2.mem ((c.tc : Thread Cert.WinRefIdeal.nD Cert.WinRefIdeal.τ).loc Cert.WinRefIdeal.main_arg2) = m ((c.tc : Thread Cert.WinRefIdeal.nD Cert.WinRefIdeal.τ).loc Cert.WinRefIdeal.main_arg2)
      ∧ r.2.mem ((c.tc : Thread Cert.WinRefIdeal.nD Cert.WinRefIdeal.τ).loc Cert.WinRefIdeal.main_arg3) = m ((c.tc : Thread Cert.WinRefIdeal.nD Cert.WinRefIdeal.τ).loc Cert.WinRefIdeal.main_arg3)
      ∧ r.2.mem ((c.tc : Thread Cert.WinRefIdeal.nD Cert.WinRefIdeal.τ).loc Cert.WinRefIdeal.main_arg4) = m ((c.tc : Thread Cert.WinRefIdeal.nD Cert.WinRefIdeal.τ).loc Cert.WinRefIdeal.main_arg4)
      ∧ r.2.mem ((c.tc : Thread Cert.WinRefIdeal.nD Cert.WinRefIdeal.τ).loc Cert.WinRefIdeal.main_arg5) = m ((c.tc : Thread Cert.WinRefIdeal.nD Cert.WinRefIdeal.τ).loc Cert.WinRefIdeal.main_arg5))
      ∧ r.2.sem = fun _ => 0)

def quiescent_WinRefIdeal_pre_finite_scores_sink [hWinRefIdeal : Cert.WinRefIdeal.Facts] [hPre_finite_scores_sink : Cert.Pre_finite_scores_sink.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal_finite_scores_sink m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1)
      ∧ r.2.mem ((c.tc : Thread Cert.WinRefIdeal.nD Cert.WinRefIdeal.τ).loc Cert.WinRefIdeal.main_arg2) = m ((c.tc : Thread Cert.WinRefIdeal.nD Cert.WinRefIdeal.τ).loc Cert.WinRefIdeal.main_arg2)
      ∧ r.2.mem ((c.tc : Thread Cert.WinRefIdeal.nD Cert.WinRefIdeal.τ).loc Cert.WinRefIdeal.main_arg3) = m ((c.tc : Thread Cert.WinRefIdeal.nD Cert.WinRefIdeal.τ).loc Cert.WinRefIdeal.main_arg3)
      ∧ r.2.mem ((c.tc : Thread Cert.WinRefIdeal.nD Cert.WinRefIdeal.τ).loc Cert.WinRefIdeal.main_arg4) = m ((c.tc : Thread Cert.WinRefIdeal.nD Cert.WinRefIdeal.τ).loc Cert.WinRefIdeal.main_arg4)
      ∧ r.2.mem ((c.tc : Thread Cert.WinRefIdeal.nD Cert.WinRefIdeal.τ).loc Cert.WinRefIdeal.main_arg5) = m ((c.tc : Thread Cert.WinRefIdeal.nD Cert.WinRefIdeal.τ).loc Cert.WinRefIdeal.main_arg5))
      ∧ r.2.sem = fun _ => 0)

def preserves_Full_FullIdeal : Prop :=
  True

def algebraic_FullIdeal_FullRefIdeal_pre_finite_scores [hFullIdeal : Cert.FullIdeal.Facts] [hFullRefIdeal : Cert.FullRefIdeal.Facts] [hPre_finite_scores : Cert.Pre_finite_scores.Facts] : Prop :=
  ∀ (m : (ℓ : Loc Cert.FullIdeal.nD Cert.FullIdeal.τ Cert.FullIdeal.sig) → Buf (Elt Ideal) ℓ) (g : Dev Cert.FullIdeal.nD → PrngReg)
    (m' : (ℓ : Loc Cert.FullRefIdeal.nD Cert.FullRefIdeal.τ Cert.FullRefIdeal.sig) → Buf (Elt Ideal) ℓ) (g' : Dev Cert.FullRefIdeal.nD → PrngReg), Pre_FullIdeal_finite_scores m →
    (∀ c : Dev Cert.FullIdeal.nD,
      m' ((c.tc : Thread Cert.FullRefIdeal.nD Cert.FullRefIdeal.τ).loc Cert.FullRefIdeal.main_arg0) = m ((c.tc : Thread Cert.FullIdeal.nD Cert.FullIdeal.τ).loc Cert.FullIdeal.main_arg0)
      ∧ m' ((c.tc : Thread Cert.FullRefIdeal.nD Cert.FullRefIdeal.τ).loc Cert.FullRefIdeal.main_arg1) = m ((c.tc : Thread Cert.FullIdeal.nD Cert.FullIdeal.τ).loc Cert.FullIdeal.main_arg1)
      ∧ m' ((c.tc : Thread Cert.FullRefIdeal.nD Cert.FullRefIdeal.τ).loc Cert.FullRefIdeal.main_arg2) = m ((c.tc : Thread Cert.FullIdeal.nD Cert.FullIdeal.τ).loc Cert.FullIdeal.main_arg2)
      ∧ m' ((c.tc : Thread Cert.FullRefIdeal.nD Cert.FullRefIdeal.τ).loc Cert.FullRefIdeal.main_arg3) = m ((c.tc : Thread Cert.FullIdeal.nD Cert.FullIdeal.τ).loc Cert.FullIdeal.main_arg3)
      ∧ m' ((c.tc : Thread Cert.FullRefIdeal.nD Cert.FullRefIdeal.τ).loc Cert.FullRefIdeal.main_arg4) = m ((c.tc : Thread Cert.FullIdeal.nD Cert.FullIdeal.τ).loc Cert.FullIdeal.main_arg4)) →
    ∃ (v0 : (c : Dev Cert.FullIdeal.nD) → Buf (Elt Ideal) ((c.tc : Thread Cert.FullIdeal.nD Cert.FullIdeal.τ).loc Cert.FullIdeal.main_v28)),
      θ_run (Cert.FullIdeal.defs (F := Ideal)) (onTc (τ := Cert.FullIdeal.τ) (Cert.FullIdeal.main (F := Ideal))) ⟨m, fun _ => 0, g⟩ (fun r => ∀ c : Dev Cert.FullIdeal.nD,
          r.2.mem ((c.tc : Thread Cert.FullIdeal.nD Cert.FullIdeal.τ).loc Cert.FullIdeal.main_v28) = v0 c
          ∧ r.2.mem ((c.tc : Thread Cert.FullIdeal.nD Cert.FullIdeal.τ).loc Cert.FullIdeal.main_arg0) = m ((c.tc : Thread Cert.FullIdeal.nD Cert.FullIdeal.τ).loc Cert.FullIdeal.main_arg0)
          ∧ r.2.mem ((c.tc : Thread Cert.FullIdeal.nD Cert.FullIdeal.τ).loc Cert.FullIdeal.main_arg1) = m ((c.tc : Thread Cert.FullIdeal.nD Cert.FullIdeal.τ).loc Cert.FullIdeal.main_arg1)
          ∧ r.2.mem ((c.tc : Thread Cert.FullIdeal.nD Cert.FullIdeal.τ).loc Cert.FullIdeal.main_arg2) = m ((c.tc : Thread Cert.FullIdeal.nD Cert.FullIdeal.τ).loc Cert.FullIdeal.main_arg2)
          ∧ r.2.mem ((c.tc : Thread Cert.FullIdeal.nD Cert.FullIdeal.τ).loc Cert.FullIdeal.main_arg3) = m ((c.tc : Thread Cert.FullIdeal.nD Cert.FullIdeal.τ).loc Cert.FullIdeal.main_arg3)
          ∧ r.2.mem ((c.tc : Thread Cert.FullIdeal.nD Cert.FullIdeal.τ).loc Cert.FullIdeal.main_arg4) = m ((c.tc : Thread Cert.FullIdeal.nD Cert.FullIdeal.τ).loc Cert.FullIdeal.main_arg4))
      ∧ θ_run (Cert.FullRefIdeal.defs (F := Ideal)) (onTc (τ := Cert.FullRefIdeal.τ) (Cert.FullRefIdeal.main (F := Ideal))) ⟨m', fun _ => 0, g'⟩ (fun r => ∀ c : Dev Cert.FullRefIdeal.nD,
          r.2.mem ((c.tc : Thread Cert.FullRefIdeal.nD Cert.FullRefIdeal.τ).loc Cert.FullRefIdeal.main_v25) = v0 c
          ∧ r.2.mem ((c.tc : Thread Cert.FullRefIdeal.nD Cert.FullRefIdeal.τ).loc Cert.FullRefIdeal.main_arg0) = m' ((c.tc : Thread Cert.FullRefIdeal.nD Cert.FullRefIdeal.τ).loc Cert.FullRefIdeal.main_arg0)
          ∧ r.2.mem ((c.tc : Thread Cert.FullRefIdeal.nD Cert.FullRefIdeal.τ).loc Cert.FullRefIdeal.main_arg1) = m' ((c.tc : Thread Cert.FullRefIdeal.nD Cert.FullRefIdeal.τ).loc Cert.FullRefIdeal.main_arg1)
          ∧ r.2.mem ((c.tc : Thread Cert.FullRefIdeal.nD Cert.FullRefIdeal.τ).loc Cert.FullRefIdeal.main_arg2) = m' ((c.tc : Thread Cert.FullRefIdeal.nD Cert.FullRefIdeal.τ).loc Cert.FullRefIdeal.main_arg2)
          ∧ r.2.mem ((c.tc : Thread Cert.FullRefIdeal.nD Cert.FullRefIdeal.τ).loc Cert.FullRefIdeal.main_arg3) = m' ((c.tc : Thread Cert.FullRefIdeal.nD Cert.FullRefIdeal.τ).loc Cert.FullRefIdeal.main_arg3)
          ∧ r.2.mem ((c.tc : Thread Cert.FullRefIdeal.nD Cert.FullRefIdeal.τ).loc Cert.FullRefIdeal.main_arg4) = m' ((c.tc : Thread Cert.FullRefIdeal.nD Cert.FullRefIdeal.τ).loc Cert.FullRefIdeal.main_arg4))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)
      ∧ m' ((c.tc : Thread Cert.OutRefIdeal.nD Cert.OutRefIdeal.τ).loc Cert.OutRefIdeal.main_arg7) = m ((c.tc : Thread Cert.OutIdeal.nD Cert.OutIdeal.τ).loc Cert.OutIdeal.main_arg7)
      ∧ m' ((c.tc : Thread Cert.OutRefIdeal.nD Cert.OutRefIdeal.τ).loc Cert.OutRefIdeal.main_arg8) = m ((c.tc : Thread Cert.OutIdeal.nD Cert.OutIdeal.τ).loc Cert.OutIdeal.main_arg8)
      ∧ m' ((c.tc : Thread Cert.OutRefIdeal.nD Cert.OutRefIdeal.τ).loc Cert.OutRefIdeal.main_arg9) = m ((c.tc : Thread Cert.OutIdeal.nD Cert.OutIdeal.τ).loc Cert.OutIdeal.main_arg9)
      ∧ m' ((c.tc : Thread Cert.OutRefIdeal.nD Cert.OutRefIdeal.τ).loc Cert.OutRefIdeal.main_arg10) = m ((c.tc : Thread Cert.OutIdeal.nD Cert.OutIdeal.τ).loc Cert.OutIdeal.main_arg10)
      ∧ m' ((c.tc : Thread Cert.OutRefIdeal.nD Cert.OutRefIdeal.τ).loc Cert.OutRefIdeal.main_arg11) = m ((c.tc : Thread Cert.OutIdeal.nD Cert.OutIdeal.τ).loc Cert.OutIdeal.main_arg11)
      ∧ m' ((c.tc : Thread Cert.OutRefIdeal.nD Cert.OutRefIdeal.τ).loc Cert.OutRefIdeal.main_arg12) = m ((c.tc : Thread Cert.OutIdeal.nD Cert.OutIdeal.τ).loc Cert.OutIdeal.main_arg12)
      ∧ m' ((c.tc : Thread Cert.OutRefIdeal.nD Cert.OutRefIdeal.τ).loc Cert.OutRefIdeal.main_arg13) = m ((c.tc : Thread Cert.OutIdeal.nD Cert.OutIdeal.τ).loc Cert.OutIdeal.main_arg13)
      ∧ m' ((c.tc : Thread Cert.OutRefIdeal.nD Cert.OutRefIdeal.τ).loc Cert.OutRefIdeal.main_arg14) = m ((c.tc : Thread Cert.OutIdeal.nD Cert.OutIdeal.τ).loc Cert.OutIdeal.main_arg14)) →
    ∃ (v0 : (c : Dev Cert.OutIdeal.nD) → Buf (Elt Ideal) ((c.tc : Thread Cert.OutIdeal.nD Cert.OutIdeal.τ).loc Cert.OutIdeal.main_v8_0)) (v1 : (c : Dev Cert.OutIdeal.nD) → Buf (Elt Ideal) ((c.tc : Thread Cert.OutIdeal.nD Cert.OutIdeal.τ).loc Cert.OutIdeal.main_v8_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v8_0) = v0 c
          ∧ r.2.mem ((c.tc : Thread Cert.OutIdeal.nD Cert.OutIdeal.τ).loc Cert.OutIdeal.main_v8_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
          ∧ r.2.mem ((c.tc : Thread Cert.OutIdeal.nD Cert.OutIdeal.τ).loc Cert.OutIdeal.main_arg8) = m ((c.tc : Thread Cert.OutIdeal.nD Cert.OutIdeal.τ).loc Cert.OutIdeal.main_arg8)
          ∧ r.2.mem ((c.tc : Thread Cert.OutIdeal.nD Cert.OutIdeal.τ).loc Cert.OutIdeal.main_arg9) = m ((c.tc : Thread Cert.OutIdeal.nD Cert.OutIdeal.τ).loc Cert.OutIdeal.main_arg9)
          ∧ r.2.mem ((c.tc : Thread Cert.OutIdeal.nD Cert.OutIdeal.τ).loc Cert.OutIdeal.main_arg10) = m ((c.tc : Thread Cert.OutIdeal.nD Cert.OutIdeal.τ).loc Cert.OutIdeal.main_arg10)
          ∧ r.2.mem ((c.tc : Thread Cert.OutIdeal.nD Cert.OutIdeal.τ).loc Cert.OutIdeal.main_arg11) = m ((c.tc : Thread Cert.OutIdeal.nD Cert.OutIdeal.τ).loc Cert.OutIdeal.main_arg11)
          ∧ r.2.mem ((c.tc : Thread Cert.OutIdeal.nD Cert.OutIdeal.τ).loc Cert.OutIdeal.main_arg12) = m ((c.tc : Thread Cert.OutIdeal.nD Cert.OutIdeal.τ).loc Cert.OutIdeal.main_arg12)
          ∧ r.2.mem ((c.tc : Thread Cert.OutIdeal.nD Cert.OutIdeal.τ).loc Cert.OutIdeal.main_arg13) = m ((c.tc : Thread Cert.OutIdeal.nD Cert.OutIdeal.τ).loc Cert.OutIdeal.main_arg13)
          ∧ r.2.mem ((c.tc : Thread Cert.OutIdeal.nD Cert.OutIdeal.τ).loc Cert.OutIdeal.main_arg14) = m ((c.tc : Thread Cert.OutIdeal.nD Cert.OutIdeal.τ).loc Cert.OutIdeal.main_arg14))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v88) = v0 c
          ∧ r.2.mem ((c.tc : Thread Cert.OutRefIdeal.nD Cert.OutRefIdeal.τ).loc Cert.OutRefIdeal.main_v91) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7)
          ∧ r.2.mem ((c.tc : Thread Cert.OutRefIdeal.nD Cert.OutRefIdeal.τ).loc Cert.OutRefIdeal.main_arg8) = m' ((c.tc : Thread Cert.OutRefIdeal.nD Cert.OutRefIdeal.τ).loc Cert.OutRefIdeal.main_arg8)
          ∧ r.2.mem ((c.tc : Thread Cert.OutRefIdeal.nD Cert.OutRefIdeal.τ).loc Cert.OutRefIdeal.main_arg9) = m' ((c.tc : Thread Cert.OutRefIdeal.nD Cert.OutRefIdeal.τ).loc Cert.OutRefIdeal.main_arg9)
          ∧ r.2.mem ((c.tc : Thread Cert.OutRefIdeal.nD Cert.OutRefIdeal.τ).loc Cert.OutRefIdeal.main_arg10) = m' ((c.tc : Thread Cert.OutRefIdeal.nD Cert.OutRefIdeal.τ).loc Cert.OutRefIdeal.main_arg10)
          ∧ r.2.mem ((c.tc : Thread Cert.OutRefIdeal.nD Cert.OutRefIdeal.τ).loc Cert.OutRefIdeal.main_arg11) = m' ((c.tc : Thread Cert.OutRefIdeal.nD Cert.OutRefIdeal.τ).loc Cert.OutRefIdeal.main_arg11)
          ∧ r.2.mem ((c.tc : Thread Cert.OutRefIdeal.nD Cert.OutRefIdeal.τ).loc Cert.OutRefIdeal.main_arg12) = m' ((c.tc : Thread Cert.OutRefIdeal.nD Cert.OutRefIdeal.τ).loc Cert.OutRefIdeal.main_arg12)
          ∧ r.2.mem ((c.tc : Thread Cert.OutRefIdeal.nD Cert.OutRefIdeal.τ).loc Cert.OutRefIdeal.main_arg13) = m' ((c.tc : Thread Cert.OutRefIdeal.nD Cert.OutRefIdeal.τ).loc Cert.OutRefIdeal.main_arg13)
          ∧ r.2.mem ((c.tc : Thread Cert.OutRefIdeal.nD Cert.OutRefIdeal.τ).loc Cert.OutRefIdeal.main_arg14) = m' ((c.tc : Thread Cert.OutRefIdeal.nD Cert.OutRefIdeal.τ).loc Cert.OutRefIdeal.main_arg14))

def preserves_In_InIdeal : Prop :=
  True

def algebraic_InIdeal_InRefIdeal_pre_finite_input [hInIdeal : Cert.InIdeal.Facts] [hInRefIdeal : Cert.InRefIdeal.Facts] [hPre_finite_input : Cert.Pre_finite_input.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal_finite_input m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)
      ∧ m' ((c.tc : Thread Cert.InRefIdeal.nD Cert.InRefIdeal.τ).loc Cert.InRefIdeal.main_arg4) = m ((c.tc : Thread Cert.InIdeal.nD Cert.InIdeal.τ).loc Cert.InIdeal.main_arg4)
      ∧ m' ((c.tc : Thread Cert.InRefIdeal.nD Cert.InRefIdeal.τ).loc Cert.InRefIdeal.main_arg5) = m ((c.tc : Thread Cert.InIdeal.nD Cert.InIdeal.τ).loc Cert.InIdeal.main_arg5)) →
    ∃ (v0 : (c : Dev Cert.InIdeal.nD) → Buf (Elt Ideal) ((c.tc : Thread Cert.InIdeal.nD Cert.InIdeal.τ).loc Cert.InIdeal.main_v20_0)) (v1 : (c : Dev Cert.InIdeal.nD) → Buf (Elt Ideal) ((c.tc : Thread Cert.InIdeal.nD Cert.InIdeal.τ).loc Cert.InIdeal.main_v20_1)) (v2 : (c : Dev Cert.InIdeal.nD) → Buf (Elt Ideal) ((c.tc : Thread Cert.InIdeal.nD Cert.InIdeal.τ).loc Cert.InIdeal.main_v20_2)) (v3 : (c : Dev Cert.InIdeal.nD) → Buf (Elt Ideal) ((c.tc : Thread Cert.InIdeal.nD Cert.InIdeal.τ).loc Cert.InIdeal.main_v20_3)) (v4 : (c : Dev Cert.InIdeal.nD) → Buf (Elt Ideal) ((c.tc : Thread Cert.InIdeal.nD Cert.InIdeal.τ).loc Cert.InIdeal.main_v20_4)) (v5 : (c : Dev Cert.InIdeal.nD) → Buf (Elt Ideal) ((c.tc : Thread Cert.InIdeal.nD Cert.InIdeal.τ).loc Cert.InIdeal.main_v20_5)) (v6 : (c : Dev Cert.InIdeal.nD) → Buf (Elt Ideal) ((c.tc : Thread Cert.InIdeal.nD Cert.InIdeal.τ).loc Cert.InIdeal.main_v20_6)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v20_0) = v0 c
          ∧ r.2.mem ((c.tc : Thread Cert.InIdeal.nD Cert.InIdeal.τ).loc Cert.InIdeal.main_v20_1) = v1 c
          ∧ r.2.mem ((c.tc : Thread Cert.InIdeal.nD Cert.InIdeal.τ).loc Cert.InIdeal.main_v20_2) = v2 c
          ∧ r.2.mem ((c.tc : Thread Cert.InIdeal.nD Cert.InIdeal.τ).loc Cert.InIdeal.main_v20_3) = v3 c
          ∧ r.2.mem ((c.tc : Thread Cert.InIdeal.nD Cert.InIdeal.τ).loc Cert.InIdeal.main_v20_4) = v4 c
          ∧ r.2.mem ((c.tc : Thread Cert.InIdeal.nD Cert.InIdeal.τ).loc Cert.InIdeal.main_v20_5) = v5 c
          ∧ r.2.mem ((c.tc : Thread Cert.InIdeal.nD Cert.InIdeal.τ).loc Cert.InIdeal.main_v20_6) = v6 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4)
          ∧ r.2.mem ((c.tc : Thread Cert.InIdeal.nD Cert.InIdeal.τ).loc Cert.InIdeal.main_arg5) = m ((c.tc : Thread Cert.InIdeal.nD Cert.InIdeal.τ).loc Cert.InIdeal.main_arg5))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v74) = v0 c
          ∧ r.2.mem ((c.tc : Thread Cert.InRefIdeal.nD Cert.InRefIdeal.τ).loc Cert.InRefIdeal.main_v78) = v1 c
          ∧ r.2.mem ((c.tc : Thread Cert.InRefIdeal.nD Cert.InRefIdeal.τ).loc Cert.InRefIdeal.main_v82) = v2 c
          ∧ r.2.mem ((c.tc : Thread Cert.InRefIdeal.nD Cert.InRefIdeal.τ).loc Cert.InRefIdeal.main_v86) = v3 c
          ∧ r.2.mem ((c.tc : Thread Cert.InRefIdeal.nD Cert.InRefIdeal.τ).loc Cert.InRefIdeal.main_v90) = v4 c
          ∧ r.2.mem ((c.tc : Thread Cert.InRefIdeal.nD Cert.InRefIdeal.τ).loc Cert.InRefIdeal.main_v94) = v5 c
          ∧ r.2.mem ((c.tc : Thread Cert.InRefIdeal.nD Cert.InRefIdeal.τ).loc Cert.InRefIdeal.main_v70) = v6 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4)
          ∧ r.2.mem ((c.tc : Thread Cert.InRefIdeal.nD Cert.InRefIdeal.τ).loc Cert.InRefIdeal.main_arg5) = m' ((c.tc : Thread Cert.InRefIdeal.nD Cert.InRefIdeal.τ).loc Cert.InRefIdeal.main_arg5))

def preserves_Rot_RotIdeal : Prop :=
  True

def algebraic_RotIdeal_RotRefIdeal_pre_finite_sample [hRotIdeal : Cert.RotIdeal.Facts] [hRotRefIdeal : Cert.RotRefIdeal.Facts] [hPre_finite_sample : Cert.Pre_finite_sample.Facts] : Prop :=
  ∀ (m : (ℓ : Loc Cert.RotIdeal.nD Cert.RotIdeal.τ Cert.RotIdeal.sig) → Buf (Elt Ideal) ℓ) (g : Dev Cert.RotIdeal.nD → PrngReg)
    (m' : (ℓ : Loc Cert.RotRefIdeal.nD Cert.RotRefIdeal.τ Cert.RotRefIdeal.sig) → Buf (Elt Ideal) ℓ) (g' : Dev Cert.RotRefIdeal.nD → PrngReg), Pre_RotIdeal_finite_sample m →
    (∀ c : Dev Cert.RotIdeal.nD,
      m' ((c.tc : Thread Cert.RotRefIdeal.nD Cert.RotRefIdeal.τ).loc Cert.RotRefIdeal.main_arg0) = m ((c.tc : Thread Cert.RotIdeal.nD Cert.RotIdeal.τ).loc Cert.RotIdeal.main_arg0)
      ∧ m' ((c.tc : Thread Cert.RotRefIdeal.nD Cert.RotRefIdeal.τ).loc Cert.RotRefIdeal.main_arg1) = m ((c.tc : Thread Cert.RotIdeal.nD Cert.RotIdeal.τ).loc Cert.RotIdeal.main_arg1)
      ∧ m' ((c.tc : Thread Cert.RotRefIdeal.nD Cert.RotRefIdeal.τ).loc Cert.RotRefIdeal.main_arg2) = m ((c.tc : Thread Cert.RotIdeal.nD Cert.RotIdeal.τ).loc Cert.RotIdeal.main_arg2)
      ∧ m' ((c.tc : Thread Cert.RotRefIdeal.nD Cert.RotRefIdeal.τ).loc Cert.RotRefIdeal.main_arg3) = m ((c.tc : Thread Cert.RotIdeal.nD Cert.RotIdeal.τ).loc Cert.RotIdeal.main_arg3)
      ∧ m' ((c.tc : Thread Cert.RotRefIdeal.nD Cert.RotRefIdeal.τ).loc Cert.RotRefIdeal.main_arg4) = m ((c.tc : Thread Cert.RotIdeal.nD Cert.RotIdeal.τ).loc Cert.RotIdeal.main_arg4)
      ∧ m' ((c.tc : Thread Cert.RotRefIdeal.nD Cert.RotRefIdeal.τ).loc Cert.RotRefIdeal.main_arg5) = m ((c.tc : Thread Cert.RotIdeal.nD Cert.RotIdeal.τ).loc Cert.RotIdeal.main_arg5)
      ∧ m' ((c.tc : Thread Cert.RotRefIdeal.nD Cert.RotRefIdeal.τ).loc Cert.RotRefIdeal.main_arg6) = m ((c.tc : Thread Cert.RotIdeal.nD Cert.RotIdeal.τ).loc Cert.RotIdeal.main_arg6)
      ∧ m' ((c.tc : Thread Cert.RotRefIdeal.nD Cert.RotRefIdeal.τ).loc Cert.RotRefIdeal.main_arg7) = m ((c.tc : Thread Cert.RotIdeal.nD Cert.RotIdeal.τ).loc Cert.RotIdeal.main_arg7)) →
    ∃ (v0 : (c : Dev Cert.RotIdeal.nD) → Buf (Elt Ideal) ((c.tc : Thread Cert.RotIdeal.nD Cert.RotIdeal.τ).loc Cert.RotIdeal.main_v29_0)) (v1 : (c : Dev Cert.RotIdeal.nD) → Buf (Elt Ideal) ((c.tc : Thread Cert.RotIdeal.nD Cert.RotIdeal.τ).loc Cert.RotIdeal.main_v29_1)) (v2 : (c : Dev Cert.RotIdeal.nD) → Buf (Elt Ideal) ((c.tc : Thread Cert.RotIdeal.nD Cert.RotIdeal.τ).loc Cert.RotIdeal.main_v29_2)) (v3 : (c : Dev Cert.RotIdeal.nD) → Buf (Elt Ideal) ((c.tc : Thread Cert.RotIdeal.nD Cert.RotIdeal.τ).loc Cert.RotIdeal.main_v29_3)) (v4 : (c : Dev Cert.RotIdeal.nD) → Buf (Elt Ideal) ((c.tc : Thread Cert.RotIdeal.nD Cert.RotIdeal.τ).loc Cert.RotIdeal.main_v29_4)) (v5 : (c : Dev Cert.RotIdeal.nD) → Buf (Elt Ideal) ((c.tc : Thread Cert.RotIdeal.nD Cert.RotIdeal.τ).loc Cert.RotIdeal.main_v29_5)) (v6 : (c : Dev Cert.RotIdeal.nD) → Buf (Elt Ideal) ((c.tc : Thread Cert.RotIdeal.nD Cert.RotIdeal.τ).loc Cert.RotIdeal.main_v29_6)),
      θ_run (Cert.RotIdeal.defs (F := Ideal)) (onTc (τ := Cert.RotIdeal.τ) (Cert.RotIdeal.main (F := Ideal))) ⟨m, fun _ => 0, g⟩ (fun r => ∀ c : Dev Cert.RotIdeal.nD,
          r.2.mem ((c.tc : Thread Cert.RotIdeal.nD Cert.RotIdeal.τ).loc Cert.RotIdeal.main_v29_0) = v0 c
          ∧ r.2.mem ((c.tc : Thread Cert.RotIdeal.nD Cert.RotIdeal.τ).loc Cert.RotIdeal.main_v29_1) = v1 c
          ∧ r.2.mem ((c.tc : Thread Cert.RotIdeal.nD Cert.RotIdeal.τ).loc Cert.RotIdeal.main_v29_2) = v2 c
          ∧ r.2.mem ((c.tc : Thread Cert.RotIdeal.nD Cert.RotIdeal.τ).loc Cert.RotIdeal.main_v29_3) = v3 c
          ∧ r.2.mem ((c.tc : Thread Cert.RotIdeal.nD Cert.RotIdeal.τ).loc Cert.RotIdeal.main_v29_4) = v4 c
          ∧ r.2.mem ((c.tc : Thread Cert.RotIdeal.nD Cert.RotIdeal.τ).loc Cert.RotIdeal.main_v29_5) = v5 c
          ∧ r.2.mem ((c.tc : Thread Cert.RotIdeal.nD Cert.RotIdeal.τ).loc Cert.RotIdeal.main_v29_6) = v6 c
          ∧ r.2.mem ((c.tc : Thread Cert.RotIdeal.nD Cert.RotIdeal.τ).loc Cert.RotIdeal.main_arg0) = m ((c.tc : Thread Cert.RotIdeal.nD Cert.RotIdeal.τ).loc Cert.RotIdeal.main_arg0)
          ∧ r.2.mem ((c.tc : Thread Cert.RotIdeal.nD Cert.RotIdeal.τ).loc Cert.RotIdeal.main_arg1) = m ((c.tc : Thread Cert.RotIdeal.nD Cert.RotIdeal.τ).loc Cert.RotIdeal.main_arg1)
          ∧ r.2.mem ((c.tc : Thread Cert.RotIdeal.nD Cert.RotIdeal.τ).loc Cert.RotIdeal.main_arg2) = m ((c.tc : Thread Cert.RotIdeal.nD Cert.RotIdeal.τ).loc Cert.RotIdeal.main_arg2)
          ∧ r.2.mem ((c.tc : Thread Cert.RotIdeal.nD Cert.RotIdeal.τ).loc Cert.RotIdeal.main_arg3) = m ((c.tc : Thread Cert.RotIdeal.nD Cert.RotIdeal.τ).loc Cert.RotIdeal.main_arg3)
          ∧ r.2.mem ((c.tc : Thread Cert.RotIdeal.nD Cert.RotIdeal.τ).loc Cert.RotIdeal.main_arg4) = m ((c.tc : Thread Cert.RotIdeal.nD Cert.RotIdeal.τ).loc Cert.RotIdeal.main_arg4)
          ∧ r.2.mem ((c.tc : Thread Cert.RotIdeal.nD Cert.RotIdeal.τ).loc Cert.RotIdeal.main_arg5) = m ((c.tc : Thread Cert.RotIdeal.nD Cert.RotIdeal.τ).loc Cert.RotIdeal.main_arg5)
          ∧ r.2.mem ((c.tc : Thread Cert.RotIdeal.nD Cert.RotIdeal.τ).loc Cert.RotIdeal.main_arg6) = m ((c.tc : Thread Cert.RotIdeal.nD Cert.RotIdeal.τ).loc Cert.RotIdeal.main_arg6)
          ∧ r.2.mem ((c.tc : Thread Cert.RotIdeal.nD Cert.RotIdeal.τ).loc Cert.RotIdeal.main_arg7) = m ((c.tc : Thread Cert.RotIdeal.nD Cert.RotIdeal.τ).loc Cert.RotIdeal.main_arg7))
      ∧ θ_run (Cert.RotRefIdeal.defs (F := Ideal)) (onTc (τ := Cert.RotRefIdeal.τ) (Cert.RotRefIdeal.main (F := Ideal))) ⟨m', fun _ => 0, g'⟩ (fun r => ∀ c : Dev Cert.RotRefIdeal.nD,
          r.2.mem ((c.tc : Thread Cert.RotRefIdeal.nD Cert.RotRefIdeal.τ).loc Cert.RotRefIdeal.main_v135) = v0 c
          ∧ r.2.mem ((c.tc : Thread Cert.RotRefIdeal.nD Cert.RotRefIdeal.τ).loc Cert.RotRefIdeal.main_v139) = v1 c
          ∧ r.2.mem ((c.tc : Thread Cert.RotRefIdeal.nD Cert.RotRefIdeal.τ).loc Cert.RotRefIdeal.main_v143) = v2 c
          ∧ r.2.mem ((c.tc : Thread Cert.RotRefIdeal.nD Cert.RotRefIdeal.τ).loc Cert.RotRefIdeal.main_v147) = v3 c
          ∧ r.2.mem ((c.tc : Thread Cert.RotRefIdeal.nD Cert.RotRefIdeal.τ).loc Cert.RotRefIdeal.main_v151) = v4 c
          ∧ r.2.mem ((c.tc : Thread Cert.RotRefIdeal.nD Cert.RotRefIdeal.τ).loc Cert.RotRefIdeal.main_v155) = v5 c
          ∧ r.2.mem ((c.tc : Thread Cert.RotRefIdeal.nD Cert.RotRefIdeal.τ).loc Cert.RotRefIdeal.main_v131) = v6 c
          ∧ r.2.mem ((c.tc : Thread Cert.RotRefIdeal.nD Cert.RotRefIdeal.τ).loc Cert.RotRefIdeal.main_arg0) = m' ((c.tc : Thread Cert.RotRefIdeal.nD Cert.RotRefIdeal.τ).loc Cert.RotRefIdeal.main_arg0)
          ∧ r.2.mem ((c.tc : Thread Cert.RotRefIdeal.nD Cert.RotRefIdeal.τ).loc Cert.RotRefIdeal.main_arg1) = m' ((c.tc : Thread Cert.RotRefIdeal.nD Cert.RotRefIdeal.τ).loc Cert.RotRefIdeal.main_arg1)
          ∧ r.2.mem ((c.tc : Thread Cert.RotRefIdeal.nD Cert.RotRefIdeal.τ).loc Cert.RotRefIdeal.main_arg2) = m' ((c.tc : Thread Cert.RotRefIdeal.nD Cert.RotRefIdeal.τ).loc Cert.RotRefIdeal.main_arg2)
          ∧ r.2.mem ((c.tc : Thread Cert.RotRefIdeal.nD Cert.RotRefIdeal.τ).loc Cert.RotRefIdeal.main_arg3) = m' ((c.tc : Thread Cert.RotRefIdeal.nD Cert.RotRefIdeal.τ).loc Cert.RotRefIdeal.main_arg3)
          ∧ r.2.mem ((c.tc : Thread Cert.RotRefIdeal.nD Cert.RotRefIdeal.τ).loc Cert.RotRefIdeal.main_arg4) = m' ((c.tc : Thread Cert.RotRefIdeal.nD Cert.RotRefIdeal.τ).loc Cert.RotRefIdeal.main_arg4)
          ∧ r.2.mem ((c.tc : Thread Cert.RotRefIdeal.nD Cert.RotRefIdeal.τ).loc Cert.RotRefIdeal.main_arg5) = m' ((c.tc : Thread Cert.RotRefIdeal.nD Cert.RotRefIdeal.τ).loc Cert.RotRefIdeal.main_arg5)
          ∧ r.2.mem ((c.tc : Thread Cert.RotRefIdeal.nD Cert.RotRefIdeal.τ).loc Cert.RotRefIdeal.main_arg6) = m' ((c.tc : Thread Cert.RotRefIdeal.nD Cert.RotRefIdeal.τ).loc Cert.RotRefIdeal.main_arg6)
          ∧ r.2.mem ((c.tc : Thread Cert.RotRefIdeal.nD Cert.RotRefIdeal.τ).loc Cert.RotRefIdeal.main_arg7) = m' ((c.tc : Thread Cert.RotRefIdeal.nD Cert.RotRefIdeal.τ).loc Cert.RotRefIdeal.main_arg7))

def preserves_Win_WinIdeal : Prop :=
  IdealRules.named_const.Statement Cert.WinIdeal.κ "mask" .f32 0xF149F2CA#32 ⊥

def algebraic_WinIdeal_WinRefIdeal_pre_finite_scores_sink [hWinIdeal : Cert.WinIdeal.Facts] [hWinRefIdeal : Cert.WinRefIdeal.Facts] [hPre_finite_scores_sink : Cert.Pre_finite_scores_sink.Facts] : Prop :=
  ∀ (m : (ℓ : Loc Cert.WinIdeal.nD Cert.WinIdeal.τ Cert.WinIdeal.sig) → Buf (Elt Ideal) ℓ) (g : Dev Cert.WinIdeal.nD → PrngReg)
    (m' : (ℓ : Loc Cert.WinRefIdeal.nD Cert.WinRefIdeal.τ Cert.WinRefIdeal.sig) → Buf (Elt Ideal) ℓ) (g' : Dev Cert.WinRefIdeal.nD → PrngReg), Pre_WinIdeal_finite_scores_sink m →
    (∀ c : Dev Cert.WinIdeal.nD,
      m' ((c.tc : Thread Cert.WinRefIdeal.nD Cert.WinRefIdeal.τ).loc Cert.WinRefIdeal.main_arg0) = m ((c.tc : Thread Cert.WinIdeal.nD Cert.WinIdeal.τ).loc Cert.WinIdeal.main_arg0)
      ∧ m' ((c.tc : Thread Cert.WinRefIdeal.nD Cert.WinRefIdeal.τ).loc Cert.WinRefIdeal.main_arg1) = m ((c.tc : Thread Cert.WinIdeal.nD Cert.WinIdeal.τ).loc Cert.WinIdeal.main_arg1)
      ∧ m' ((c.tc : Thread Cert.WinRefIdeal.nD Cert.WinRefIdeal.τ).loc Cert.WinRefIdeal.main_arg2) = m ((c.tc : Thread Cert.WinIdeal.nD Cert.WinIdeal.τ).loc Cert.WinIdeal.main_arg2)
      ∧ m' ((c.tc : Thread Cert.WinRefIdeal.nD Cert.WinRefIdeal.τ).loc Cert.WinRefIdeal.main_arg3) = m ((c.tc : Thread Cert.WinIdeal.nD Cert.WinIdeal.τ).loc Cert.WinIdeal.main_arg3)
      ∧ m' ((c.tc : Thread Cert.WinRefIdeal.nD Cert.WinRefIdeal.τ).loc Cert.WinRefIdeal.main_arg4) = m ((c.tc : Thread Cert.WinIdeal.nD Cert.WinIdeal.τ).loc Cert.WinIdeal.main_arg4)
      ∧ m' ((c.tc : Thread Cert.WinRefIdeal.nD Cert.WinRefIdeal.τ).loc Cert.WinRefIdeal.main_arg5) = m ((c.tc : Thread Cert.WinIdeal.nD Cert.WinIdeal.τ).loc Cert.WinIdeal.main_arg5)) →
    ∃ (v0 : (c : Dev Cert.WinIdeal.nD) → Buf (Elt Ideal) ((c.tc : Thread Cert.WinIdeal.nD Cert.WinIdeal.τ).loc Cert.WinIdeal.main_v27)),
      θ_run (Cert.WinIdeal.defs (F := Ideal)) (onTc (τ := Cert.WinIdeal.τ) (Cert.WinIdeal.main (F := Ideal))) ⟨m, fun _ => 0, g⟩ (fun r => ∀ c : Dev Cert.WinIdeal.nD,
          r.2.mem ((c.tc : Thread Cert.WinIdeal.nD Cert.WinIdeal.τ).loc Cert.WinIdeal.main_v27) = v0 c
          ∧ r.2.mem ((c.tc : Thread Cert.WinIdeal.nD Cert.WinIdeal.τ).loc Cert.WinIdeal.main_arg0) = m ((c.tc : Thread Cert.WinIdeal.nD Cert.WinIdeal.τ).loc Cert.WinIdeal.main_arg0)
          ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
          ∧ r.2.mem ((c.tc : Thread Cert.WinIdeal.nD Cert.WinIdeal.τ).loc Cert.WinIdeal.main_arg2) = m ((c.tc : Thread Cert.WinIdeal.nD Cert.WinIdeal.τ).loc Cert.WinIdeal.main_arg2)
          ∧ r.2.mem ((c.tc : Thread Cert.WinIdeal.nD Cert.WinIdeal.τ).loc Cert.WinIdeal.main_arg3) = m ((c.tc : Thread Cert.WinIdeal.nD Cert.WinIdeal.τ).loc Cert.WinIdeal.main_arg3)
          ∧ r.2.mem ((c.tc : Thread Cert.WinIdeal.nD Cert.WinIdeal.τ).loc Cert.WinIdeal.main_arg4) = m ((c.tc : Thread Cert.WinIdeal.nD Cert.WinIdeal.τ).loc Cert.WinIdeal.main_arg4)
          ∧ r.2.mem ((c.tc : Thread Cert.WinIdeal.nD Cert.WinIdeal.τ).loc Cert.WinIdeal.main_arg5) = m ((c.tc : Thread Cert.WinIdeal.nD Cert.WinIdeal.τ).loc Cert.WinIdeal.main_arg5))
      ∧ θ_run (Cert.WinRefIdeal.defs (F := Ideal)) (onTc (τ := Cert.WinRefIdeal.τ) (Cert.WinRefIdeal.main (F := Ideal))) ⟨m', fun _ => 0, g'⟩ (fun r => ∀ c : Dev Cert.WinRefIdeal.nD,
          r.2.mem ((c.tc : Thread Cert.WinRefIdeal.nD Cert.WinRefIdeal.τ).loc Cert.WinRefIdeal.main_v46) = v0 c
          ∧ r.2.mem ((c.tc : Thread Cert.WinRefIdeal.nD Cert.WinRefIdeal.τ).loc Cert.WinRefIdeal.main_arg0) = m' ((c.tc : Thread Cert.WinRefIdeal.nD Cert.WinRefIdeal.τ).loc Cert.WinRefIdeal.main_arg0)
          ∧ r.2.mem ((c.tc : Thread Cert.WinRefIdeal.nD Cert.WinRefIdeal.τ).loc Cert.WinRefIdeal.main_arg1) = m' ((c.tc : Thread Cert.WinRefIdeal.nD Cert.WinRefIdeal.τ).loc Cert.WinRefIdeal.main_arg1)
          ∧ r.2.mem ((c.tc : Thread Cert.WinRefIdeal.nD Cert.WinRefIdeal.τ).loc Cert.WinRefIdeal.main_arg2) = m' ((c.tc : Thread Cert.WinRefIdeal.nD Cert.WinRefIdeal.τ).loc Cert.WinRefIdeal.main_arg2)
          ∧ r.2.mem ((c.tc : Thread Cert.WinRefIdeal.nD Cert.WinRefIdeal.τ).loc Cert.WinRefIdeal.main_arg3) = m' ((c.tc : Thread Cert.WinRefIdeal.nD Cert.WinRefIdeal.τ).loc Cert.WinRefIdeal.main_arg3)
          ∧ r.2.mem ((c.tc : Thread Cert.WinRefIdeal.nD Cert.WinRefIdeal.τ).loc Cert.WinRefIdeal.main_arg4) = m' ((c.tc : Thread Cert.WinRefIdeal.nD Cert.WinRefIdeal.τ).loc Cert.WinRefIdeal.main_arg4)
          ∧ r.2.mem ((c.tc : Thread Cert.WinRefIdeal.nD Cert.WinRefIdeal.τ).loc Cert.WinRefIdeal.main_arg5) = m' ((c.tc : Thread Cert.WinRefIdeal.nD Cert.WinRefIdeal.τ).loc Cert.WinRefIdeal.main_arg5))

def Claim : Prop :=
  ∃ (hFull : Cert.Full.Facts) (hFullIdeal : Cert.FullIdeal.Facts) (hFullRefIdeal : Cert.FullRefIdeal.Facts) (hOut : Cert.Out.Facts) (hOutIdeal : Cert.OutIdeal.Facts) (hOutRefIdeal : Cert.OutRefIdeal.Facts) (hIn : Cert.In.Facts) (hInIdeal : Cert.InIdeal.Facts) (hInRefIdeal : Cert.InRefIdeal.Facts) (hRot : Cert.Rot.Facts) (hRotIdeal : Cert.RotIdeal.Facts) (hRotRefIdeal : Cert.RotRefIdeal.Facts) (hWin : Cert.Win.Facts) (hWinIdeal : Cert.WinIdeal.Facts) (hWinRefIdeal : Cert.WinRefIdeal.Facts) (hPre_finite_scores : Cert.Pre_finite_scores.Facts) (hPre_finite_input : Cert.Pre_finite_input.Facts) (hPre_finite_sample : Cert.Pre_finite_sample.Facts) (hPre_finite_scores_sink : Cert.Pre_finite_scores_sink.Facts),
    quiescent_Full (hFull := hFull)
    ∧ quiescent_FullIdeal (hFullIdeal := hFullIdeal)
    ∧ quiescent_FullIdeal_pre_finite_scores (hFullIdeal := hFullIdeal) (hPre_finite_scores := hPre_finite_scores)
    ∧ quiescent_FullRefIdeal (hFullRefIdeal := hFullRefIdeal)
    ∧ quiescent_FullRefIdeal_pre_finite_scores (hFullRefIdeal := hFullRefIdeal) (hPre_finite_scores := hPre_finite_scores)
    ∧ quiescent_Out (hOut := hOut)
    ∧ quiescent_OutIdeal (hOutIdeal := hOutIdeal)
    ∧ quiescent_OutRefIdeal (hOutRefIdeal := hOutRefIdeal)
    ∧ quiescent_In (hIn := hIn)
    ∧ quiescent_InIdeal (hInIdeal := hInIdeal)
    ∧ quiescent_InIdeal_pre_finite_input (hInIdeal := hInIdeal) (hPre_finite_input := hPre_finite_input)
    ∧ quiescent_InRefIdeal (hInRefIdeal := hInRefIdeal)
    ∧ quiescent_InRefIdeal_pre_finite_input (hInRefIdeal := hInRefIdeal) (hPre_finite_input := hPre_finite_input)
    ∧ quiescent_Rot (hRot := hRot)
    ∧ quiescent_RotIdeal (hRotIdeal := hRotIdeal)
    ∧ quiescent_RotIdeal_pre_finite_sample (hRotIdeal := hRotIdeal) (hPre_finite_sample := hPre_finite_sample)
    ∧ quiescent_RotRefIdeal (hRotRefIdeal := hRotRefIdeal)
    ∧ quiescent_RotRefIdeal_pre_finite_sample (hRotRefIdeal := hRotRefIdeal) (hPre_finite_sample := hPre_finite_sample)
    ∧ quiescent_Win (hWin := hWin)
    ∧ quiescent_WinIdeal (hWinIdeal := hWinIdeal)
    ∧ quiescent_WinIdeal_pre_finite_scores_sink (hWinIdeal := hWinIdeal) (hPre_finite_scores_sink := hPre_finite_scores_sink)
    ∧ quiescent_WinRefIdeal (hWinRefIdeal := hWinRefIdeal)
    ∧ quiescent_WinRefIdeal_pre_finite_scores_sink (hWinRefIdeal := hWinRefIdeal) (hPre_finite_scores_sink := hPre_finite_scores_sink)
    ∧ preserves_Full_FullIdeal
    ∧ algebraic_FullIdeal_FullRefIdeal_pre_finite_scores (hFullIdeal := hFullIdeal) (hFullRefIdeal := hFullRefIdeal) (hPre_finite_scores := hPre_finite_scores)
    ∧ preserves_Out_OutIdeal
    ∧ algebraic_OutIdeal_OutRefIdeal (hOutIdeal := hOutIdeal) (hOutRefIdeal := hOutRefIdeal)
    ∧ preserves_In_InIdeal
    ∧ algebraic_InIdeal_InRefIdeal_pre_finite_input (hInIdeal := hInIdeal) (hInRefIdeal := hInRefIdeal) (hPre_finite_input := hPre_finite_input)
    ∧ preserves_Rot_RotIdeal
    ∧ algebraic_RotIdeal_RotRefIdeal_pre_finite_sample (hRotIdeal := hRotIdeal) (hRotRefIdeal := hRotRefIdeal) (hPre_finite_sample := hPre_finite_sample)
    ∧ preserves_Win_WinIdeal
    ∧ algebraic_WinIdeal_WinRefIdeal_pre_finite_scores_sink (hWinIdeal := hWinIdeal) (hWinRefIdeal := hWinRefIdeal) (hPre_finite_scores_sink := hPre_finite_scores_sink)
-- ==== Pre_finite_input.lean ====
abbrev S16x256x1024 : Shape := ⟨3, ![16, 256, 1024]⟩
abbrev S1x6x1024 : Shape := ⟨3, ![1, 6, 1024]⟩
abbrev S1024 : Shape := ⟨1, ![1024]⟩
abbrev S1024x7168 : Shape := ⟨2, ![1024, 7168]⟩
abbrev S64 : Shape := ⟨1, ![64]⟩
abbrev S_ : Shape := ⟨0, ![]⟩

class Facts : Prop where
  bcast_S_S16x256x1024 : S_.BroadcastsInDim S16x256x1024 (![] : Fin 0 → Fin S16x256x1024.rank)
  bcast_S_S1x6x1024 : S_.BroadcastsInDim S1x6x1024 (![] : Fin 0 → Fin S1x6x1024.rank)
  bcast_S_S1024 : S_.BroadcastsInDim S1024 (![] : Fin 0 → Fin S1024.rank)
  bcast_S_S1024x7168 : S_.BroadcastsInDim S1024x7168 (![] : Fin 0 → Fin S1024x7168.rank)

variable [Facts]

def fn {F : FTy → Type} [FloatOps F] (main_arg0 : FVec F S16x256x1024 .f32) (main_arg1 : FVec F S1x6x1024 .f32) (main_arg2 : FVec F S1024 .f32) (main_arg3 : FVec F S1024x7168 .f32) (main_arg4 : FVec F S64 .f32) (main_arg5 : FVec F S64 .f32) : IVec S16x256x1024 1 × IVec S1x6x1024 1 × IVec S1024 1 × IVec S1024x7168 1 :=
  let main_v0 : FVec F S16x256x1024 .f32 := Host.absf main_arg0
  let main_cst : FVec F S_ .f32 := constant S_ .f32 0x7F800000#32
  let main_v1 : FVec F S16x256x1024 .f32 := broadcastInDim S16x256x1024 ![] bcast_S_S16x256x1024 main_cst
  let main_v2 : IVec S16x256x1024 1 := cmpf .olt main_v0 main_v1
  let main_v3 : FVec F S1x6x1024 .f32 := Host.absf main_arg1
  let main_cst_0 : FVec F S_ .f32 := constant S_ .f32 0x7F800000#32
  let main_v4 : FVec F S1x6x1024 .f32 := broadcastInDim S1x6x1024 ![] bcast_S_S1x6x1024 main_cst_0
  let main_v5 : IVec S1x6x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x7168 .f32 := Host.absf main_arg3
  let main_cst_2 : FVec F S_ .f32 := constant S_ .f32 0x7F800000#32
  let main_v10 : FVec F S1024x7168 .f32 := broadcastInDim S1024x7168 ![] bcast_S_S1024x7168 main_cst_2
  let main_v11 : IVec S1024x7168 1 := cmpf .olt main_v9 main_v10
  (main_v2, main_v5, main_v8, main_v11)
-- ==== Pre_finite_sample.lean ====
abbrev S8x2048x1024 : Shape := ⟨3, ![8, 2048, 1024]⟩
abbrev S8x6x1024 : Shape := ⟨3, ![8, 6, 1024]⟩
abbrev S1024 : Shape := ⟨1, ![1024]⟩
abbrev S1024x7168 : Shape := ⟨2, ![1024, 7168]⟩
abbrev S64 : Shape := ⟨1, ![64]⟩
abbrev S2048x32 : Shape := ⟨2, ![2048, 32]⟩
abbrev S_ : Shape := ⟨0, ![]⟩

class Facts : Prop where
  bcast_S_S8x2048x1024 : S_.BroadcastsInDim S8x2048x1024 (![] : Fin 0 → Fin S8x2048x1024.rank)
  bcast_S_S8x6x1024 : S_.BroadcastsInDim S8x6x1024 (![] : Fin 0 → Fin S8x6x1024.rank)
  bcast_S_S1024 : S_.BroadcastsInDim S1024 (![] : Fin 0 → Fin S1024.rank)
  bcast_S_S1024x7168 : S_.BroadcastsInDim S1024x7168 (![] : Fin 0 → Fin S1024x7168.rank)

variable [Facts]

def fn {F : FTy → Type} [FloatOps F] (main_arg0 : FVec F S8x2048x1024 .f32) (main_arg1 : FVec F S8x6x1024 .f32) (main_arg2 : FVec F S1024 .f32) (main_arg3 : FVec F S1024x7168 .f32) (main_arg4 : FVec F S64 .f32) (main_arg5 : FVec F S64 .f32) (main_arg6 : FVec F S2048x32 .f32) (main_arg7 : FVec F S2048x32 .f32) : IVec S8x2048x1024 1 × IVec S8x6x1024 1 × IVec S1024 1 × IVec S1024x7168 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_v3 : FVec F S8x6x1024 .f32 := Host.absf main_arg1
  let main_cst_0 : FVec F S_ .f32 := constant S_ .f32 0x7F800000#32
  let main_v4 : FVec F S8x6x1024 .f32 := broadcastInDim S8x6x1024 ![] bcast_S_S8x6x1024 main_cst_0
  let main_v5 : IVec S8x6x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x7168 .f32 := Host.absf main_arg3
  let main_cst_2 : FVec F S_ .f32 := constant S_ .f32 0x7F800000#32
  let main_v10 : FVec F S1024x7168 .f32 := broadcastInDim S1024x7168 ![] bcast_S_S1024x7168 main_cst_2
  let main_v11 : IVec S1024x7168 1 := cmpf .olt main_v9 main_v10
  (main_v2, main_v5, main_v8, main_v11)
-- ==== Pre_finite_scores.lean ====
abbrev S16384x512 : Shape := ⟨2, ![16384, 512]⟩
abbrev S16384x128 : Shape := ⟨2, ![16384, 128]⟩
abbrev S4096x128 : Shape := ⟨2, ![4096, 128]⟩
abbrev S_ : Shape := ⟨0, ![]⟩

class Facts : Prop where
  bcast_S_S16384x512 : S_.BroadcastsInDim S16384x512 (![] : Fin 0 → Fin S16384x512.rank)
  bcast_S_S16384x128 : S_.BroadcastsInDim S16384x128 (![] : Fin 0 → Fin S16384x128.rank)
  bcast_S_S4096x128 : S_.BroadcastsInDim S4096x128 (![] : Fin 0 → Fin S4096x128.rank)

variable [Facts]

def fn {F : FTy → Type} [FloatOps F] (main_arg0 : FVec F S16384x512 .f32) (main_arg1 : FVec F S16384x128 .f32) (main_arg2 : FVec F S16384x128 .f32) (main_arg3 : FVec F S4096x128 .f32) (main_arg4 : FVec F S4096x128 .f32) : IVec S16384x512 1 × IVec S16384x128 1 × IVec S4096x128 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_v3 : FVec F S16384x128 .f32 := Host.absf main_arg1
  let main_cst_0 : FVec F S_ .f32 := constant S_ .f32 0x7F800000#32
  let main_v4 : FVec F S16384x128 .f32 := broadcastInDim S16384x128 ![] bcast_S_S16384x128 main_cst_0
  let main_v5 : IVec S16384x128 1 := cmpf .olt main_v3 main_v4
  let main_v6 : FVec F S4096x128 .f32 := Host.absf main_arg3
  let main_cst_1 : FVec F S_ .f32 := constant S_ .f32 0x7F800000#32
  let main_v7 : FVec F S4096x128 .f32 := broadcastInDim S4096x128 ![] bcast_S_S4096x128 main_cst_1
  let main_v8 : IVec S4096x128 1 := cmpf .olt main_v6 main_v7
  (main_v2, main_v5, main_v8)
-- ==== Pre_finite_scores_sink.lean ====
abbrev S16384x512 : Shape := ⟨2, ![16384, 512]⟩
abbrev S16384x128 : Shape := ⟨2, ![16384, 128]⟩
abbrev S4096x128 : Shape := ⟨2, ![4096, 128]⟩
abbrev S8 : Shape := ⟨1, ![8]⟩
abbrev S_ : Shape := ⟨0, ![]⟩

class Facts : Prop where
  bcast_S_S16384x512 : S_.BroadcastsInDim S16384x512 (![] : Fin 0 → Fin S16384x512.rank)
  bcast_S_S16384x128 : S_.BroadcastsInDim S16384x128 (![] : Fin 0 → Fin S16384x128.rank)
  bcast_S_S4096x128 : S_.BroadcastsInDim S4096x128 (![] : Fin 0 → Fin S4096x128.rank)
  bcast_S_S8 : S_.BroadcastsInDim S8 (![] : Fin 0 → Fin S8.rank)

variable [Facts]

def fn {F : FTy → Type} [FloatOps F] (main_arg0 : FVec F S16384x512 .f32) (main_arg1 : FVec F S16384x128 .f32) (main_arg2 : FVec F S16384x128 .f32) (main_arg3 : FVec F S4096x128 .f32) (main_arg4 : FVec F S4096x128 .f32) (main_arg5 : FVec F S8 .f32) : IVec S16384x512 1 × IVec S16384x128 1 × IVec S4096x128 1 × IVec S8 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_v3 : FVec F S16384x128 .f32 := Host.absf main_arg1
  let main_cst_0 : FVec F S_ .f32 := constant S_ .f32 0x7F800000#32
  let main_v4 : FVec F S16384x128 .f32 := broadcastInDim S16384x128 ![] bcast_S_S16384x128 main_cst_0
  let main_v5 : IVec S16384x128 1 := cmpf .olt main_v3 main_v4
  let main_v6 : FVec F S4096x128 .f32 := Host.absf main_arg3
  let main_cst_1 : FVec F S_ .f32 := constant S_ .f32 0x7F800000#32
  let main_v7 : FVec F S4096x128 .f32 := broadcastInDim S4096x128 ![] bcast_S_S4096x128 main_cst_1
  let main_v8 : IVec S4096x128 1 := cmpf .olt main_v6 main_v7
  let main_cst_2 : FVec F S_ .f32 := constant S_ .f32 0x7F800000#32
  let main_v9 : FVec F S8 .f32 := broadcastInDim S8 ![] bcast_S_S8 main_cst_2
  let main_v10 : IVec S8 1 := cmpf .olt main_arg5 main_v9
  (main_v2, main_v5, main_v8, main_v10)
-- ==== Full.lean ====
abbrev S16384x512 : Shape := ⟨2, ![16384, 512]⟩
abbrev S16384x128 : Shape := ⟨2, ![16384, 128]⟩
abbrev S4096x128 : Shape := ⟨2, ![4096, 128]⟩
abbrev S_ : Shape := ⟨0, ![]⟩
abbrev S8 : Shape := ⟨1, ![8]⟩
abbrev S16384x64 : Shape := ⟨2, ![16384, 64]⟩
abbrev S4096x64 : Shape := ⟨2, ![4096, 64]⟩
abbrev S4096x512 : Shape := ⟨2, ![4096, 512]⟩
abbrev S512x512 : Shape := ⟨2, ![512, 512]⟩
abbrev S2048x512 : Shape := ⟨2, ![2048, 512]⟩
abbrev S512x128 : Shape := ⟨2, ![512, 128]⟩
abbrev S2048x128 : Shape := ⟨2, ![2048, 128]⟩
abbrev S512x2048 : Shape := ⟨2, ![512, 2048]⟩
abbrev S1 : Shape := ⟨1, ![1]⟩
abbrev S512 : Shape := ⟨1, ![512]⟩
abbrev S512x1 : Shape := ⟨2, ![512, 1]⟩

abbrev nBuf : Space → Nat
  | .hbm => 40
  | .vmem => 12
  | .smem => 1
  | _ => 0

abbrev bufTy : (tb : Table) → Fin (tcTables nBuf tb) → BufTy
  | .hbm, ⟨0, _⟩ => ⟨S16384x512, .f32⟩
  | .hbm, ⟨1, _⟩ => ⟨S16384x128, .f32⟩
  | .hbm, ⟨2, _⟩ => ⟨S16384x128, .f32⟩
  | .hbm, ⟨3, _⟩ => ⟨S4096x128, .f32⟩
  | .hbm, ⟨4, _⟩ => ⟨S4096x128, .f32⟩
  | .hbm, ⟨5, _⟩ => ⟨S_, .f32⟩
  | .hbm, ⟨6, _⟩ => ⟨S16384x512, .f32⟩
  | .hbm, ⟨7, _⟩ => ⟨S16384x512, .f32⟩
  | .hbm, ⟨8, _⟩ => ⟨S16384x512, .bf16⟩
  | .hbm, ⟨9, _⟩ => ⟨S_, .f32⟩
  | .hbm, ⟨10, _⟩ => ⟨S8, .f32⟩
  | .hbm, ⟨11, _⟩ => ⟨S16384x64, .f32⟩
  | .hbm, ⟨12, _⟩ => ⟨S_, .f32⟩
  | .hbm, ⟨13, _⟩ => ⟨S16384x64, .f32⟩
  | .hbm, ⟨14, _⟩ => ⟨S16384x64, .f32⟩
  | .hbm, ⟨15, _⟩ => ⟨S16384x64, .f32⟩
  | .hbm, ⟨16, _⟩ => ⟨S16384x512, .f32⟩
  | .hbm, ⟨17, _⟩ => ⟨S16384x512, .bf16⟩
  | .hbm, ⟨18, _⟩ => ⟨S16384x64, .f32⟩
  | .hbm, ⟨19, _⟩ => ⟨S_, .f32⟩
  | .hbm, ⟨20, _⟩ => ⟨S16384x64, .f32⟩
  | .hbm, ⟨21, _⟩ => ⟨S16384x64, .f32⟩
  | .hbm, ⟨22, _⟩ => ⟨S16384x64, .f32⟩
  | .hbm, ⟨23, _⟩ => ⟨S16384x512, .f32⟩
  | .hbm, ⟨24, _⟩ => ⟨S16384x512, .bf16⟩
  | .hbm, ⟨25, _⟩ => ⟨S4096x64, .f32⟩
  | .hbm, ⟨26, _⟩ => ⟨S_, .f32⟩
  | .hbm, ⟨27, _⟩ => ⟨S4096x64, .f32⟩
  | .hbm, ⟨28, _⟩ => ⟨S4096x64, .f32⟩
  | .hbm, ⟨29, _⟩ => ⟨S4096x64, .f32⟩
  | .hbm, ⟨30, _⟩ => ⟨S4096x512, .f32⟩
  | .hbm, ⟨31, _⟩ => ⟨S4096x512, .bf16⟩
  | .hbm, ⟨32, _⟩ => ⟨S4096x64, .f32⟩
  | .hbm, ⟨33, _⟩ => ⟨S_, .f32⟩
  | .hbm, ⟨34, _⟩ => ⟨S4096x64, .f32⟩
  | .hbm, ⟨35, _⟩ => ⟨S4096x64, .f32⟩
  | .hbm, ⟨36, _⟩ => ⟨S4096x64, .f32⟩
  | .hbm, ⟨37, _⟩ => ⟨S4096x512, .f32⟩
  | .hbm, ⟨38, _⟩ => ⟨S4096x512, .bf16⟩
  | .hbm, ⟨39, _⟩ => ⟨S16384x512, .bf16⟩
  | .local _ .vmem, ⟨0, _⟩ => ⟨S512x512, .bf16⟩
  | .local _ .vmem, ⟨1, _⟩ => ⟨S512x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .smem, ⟨0, _⟩ => ⟨S8, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 4], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FullRefIdeal.lean ====
abbrev S16384x512 : Shape := ⟨2, ![16384, 512]⟩
abbrev S16384x128 : Shape := ⟨2, ![16384, 128]⟩
abbrev S4096x128 : Shape := ⟨2, ![4096, 128]⟩
abbrev S8x2048x2x4x64 : Shape := ⟨5, ![8, 2048, 2, 4, 64]⟩
abbrev S8x2048x2x64 : Shape := ⟨4, ![8, 2048, 2, 64]⟩
abbrev S8x512x2x64 : Shape := ⟨4, ![8, 512, 2, 64]⟩
abbrev S8x2560x2x64 : Shape := ⟨4, ![8, 2560, 2, 64]⟩
abbrev S8x2x2560x2048x4 : Shape := ⟨5, ![8, 2, 2560, 2048, 4]⟩
abbrev S8x2x4x2048x2560 : Shape := ⟨5, ![8, 2, 4, 2048, 2560]⟩
abbrev S_ : Shape := ⟨0, ![]⟩
abbrev S8x2x4x2048 : Shape := ⟨4, ![8, 2, 4, 2048]⟩
abbrev S8x2x4x2048x1 : Shape := ⟨5, ![8, 2, 4, 2048, 1]⟩
abbrev S8x2x64x4x2048 : Shape := ⟨5, ![8, 2, 64, 4, 2048]⟩

abbrev nBuf : Space → Nat
  | .hbm => 35
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x128, .f32⟩
  | .hbm, ⟨2, _⟩ => ⟨S16384x128, .f32⟩
  | .hbm, ⟨3, _⟩ => ⟨S4096x128, .f32⟩
  | .hbm, ⟨4, _⟩ => ⟨S4096x128, .f32⟩
  | .hbm, ⟨5, _⟩ => ⟨S8x2048x2x4x64, .f32⟩
  | .hbm, ⟨6, _⟩ => ⟨S8x2048x2x64, .f32⟩
  | .hbm, ⟨7, _⟩ => ⟨S8x2048x2x64, .f32⟩
  | .hbm, ⟨8, _⟩ => ⟨S8x512x2x64, .f32⟩
  | .hbm, ⟨9, _⟩ => ⟨S8x512x2x64, .f32⟩
  | .hbm, ⟨10, _⟩ => ⟨S8x2560x2x64, .f32⟩
  | .hbm, ⟨11, _⟩ => ⟨S8x2560x2x64, .f32⟩
  | .hbm, ⟨12, _⟩ => ⟨S8x2x2560x2048x4, .f32⟩
  | .hbm, ⟨13, _⟩ => ⟨S8x2x4x2048x2560, .f32⟩
  | .hbm, ⟨14, _⟩ => ⟨S_, .f32⟩
  | .hbm, ⟨15, _⟩ => ⟨S8x2x4x2048x2560, .f32⟩
  | .hbm, ⟨16, _⟩ => ⟨S8x2x4x2048x2560, .f32⟩
  | .hbm, ⟨17, _⟩ => ⟨S_, .f32⟩
  | .hbm, ⟨18, _⟩ => ⟨S8x2x4x2048, .f32⟩
  | .hbm, ⟨19, _⟩ => ⟨S_, .f32⟩
  | .hbm, ⟨20, _⟩ => ⟨S8x2x4x2048, .f32⟩
  | .hbm, ⟨21, _⟩ => ⟨S8x2x4x2048, .f32⟩
  | .hbm, ⟨22, _⟩ => ⟨S8x2x4x2048x1, .f32⟩
  | .hbm, ⟨23, _⟩ => ⟨S8x2x4x2048x2560, .f32⟩
  | .hbm, ⟨24, _⟩ => ⟨S8x2x4x2048x2560, .f32⟩
  | .hbm, ⟨25, _⟩ => ⟨S8x2x4x2048x2560, .f32⟩
  | .hbm, ⟨26, _⟩ => ⟨S_, .f32⟩
  | .hbm, ⟨27, _⟩ => ⟨S8x2x4x2048, .f32⟩
  | .hbm, ⟨28, _⟩ => ⟨S8x2x4x2048x1, .f32⟩
  | .hbm, ⟨29, _⟩ => ⟨S8x2x4x2048x2560, .f32⟩
  | .hbm, ⟨30, _⟩ => ⟨S8x2x4x2048x2560, .f32⟩
  | .hbm, ⟨31, _⟩ => ⟨S8x2x64x4x2048, .f32⟩
  | .hbm, ⟨32, _⟩ => ⟨S8x2048x2x4x64, .f32⟩
  | .hbm, ⟨33, _⟩ => ⟨S16384x512, .f32⟩
  | .hbm, ⟨34, _⟩ => ⟨S16384x512, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Out.lean ====
abbrev S16384x512 : Shape := ⟨2, ![16384, 512]⟩
abbrev S16384x1024 : Shape := ⟨2, ![16384, 1024]⟩
abbrev S8x6x1024 : Shape := ⟨3, ![8, 6, 1024]⟩
abbrev S4x1024 : Shape := ⟨2, ![4, 1024]⟩
abbrev S1024 : Shape := ⟨1, ![1024]⟩
abbrev S1024x7168 : Shape := ⟨2, ![1024, 7168]⟩
abbrev S512x1024 : Shape := ⟨2, ![512, 1024]⟩
abbrev S1024x1024 : Shape := ⟨2, ![1024, 1024]⟩
abbrev S1x1024 : Shape := ⟨2, ![1, 1024]⟩
abbrev S1024x16384 : Shape := ⟨2, ![1024, 16384]⟩
abbrev S256x512 : Shape := ⟨2, ![256, 512]⟩
abbrev S256x1024 : Shape := ⟨2, ![256, 1024]⟩
abbrev S1x6x1024 : Shape := ⟨3, ![1, 6, 1024]⟩
abbrev S1024x256 : Shape := ⟨2, ![1024, 256]⟩
abbrev S1x1x1024 : Shape := ⟨3, ![1, 1, 1024]⟩
abbrev S256 : Shape := ⟨1, ![256]⟩
abbrev S256x1 : Shape := ⟨2, ![256, 1]⟩

abbrev nBuf : Space → Nat
  | .hbm => 25
  | .vmem => 28
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x1024, .f32⟩
  | .hbm, ⟨5, _⟩ => ⟨S8x6x1024, .f32⟩
  | .hbm, ⟨6, _⟩ => ⟨S4x1024, .f32⟩
  | .hbm, ⟨7, _⟩ => ⟨S1024, .f32⟩
  | .hbm, ⟨8, _⟩ => ⟨S1024, .f32⟩
  | .hbm, ⟨9, _⟩ => ⟨S1024x7168, .f32⟩
  | .hbm, ⟨10, _⟩ => ⟨S512x1024, .f32⟩
  | .hbm, ⟨11, _⟩ => ⟨S512x1024, .f32⟩
  | .hbm, ⟨12, _⟩ => ⟨S512x1024, .f32⟩
  | .hbm, ⟨13, _⟩ => ⟨S512x1024, .f32⟩
  | .hbm, ⟨14, _⟩ => ⟨S1024x1024, .f32⟩
  | .hbm, ⟨15, _⟩ => ⟨S1x1024, .f32⟩
  | .hbm, ⟨16, _⟩ => ⟨S1x1024, .f32⟩
  | .hbm, ⟨17, _⟩ => ⟨S1024x7168, .bf16⟩
  | .hbm, ⟨18, _⟩ => ⟨S512x1024, .bf16⟩
  | .hbm, ⟨19, _⟩ => ⟨S512x1024, .bf16⟩
  | .hbm, ⟨20, _⟩ => ⟨S512x1024, .bf16⟩
  | .hbm, ⟨21, _⟩ => ⟨S512x1024, .bf16⟩
  | .hbm, ⟨22, _⟩ => ⟨S1024x1024, .bf16⟩
  | .hbm, ⟨23, _⟩ => ⟨S16384x1024, .f32⟩
  | .hbm, ⟨24, _⟩ => ⟨S1024x16384, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x1024, .f32⟩
  | .local _ .vmem, ⟨9, _⟩ => ⟨S256x1024, .f32⟩
  | .local _ .vmem, ⟨10, _⟩ => ⟨S1x6x1024, .f32⟩
  | .local _ .vmem, ⟨11, _⟩ => ⟨S1x6x1024, .f32⟩
  | .local _ .vmem, ⟨12, _⟩ => ⟨S4x1024, .f32⟩
  | .local _ .vmem, ⟨13, _⟩ => ⟨S1x1024, .f32⟩
  | .local _ .vmem, ⟨14, _⟩ => ⟨S1x1024, .f32⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S1024x1024, .bf16⟩
  | .local _ .vmem, ⟨24, _⟩ => ⟨S256x1024, .f32⟩
  | .local _ .vmem, ⟨25, _⟩ => ⟨S256x1024, .f32⟩
  | .local _ .vmem, ⟨26, _⟩ => ⟨S1024x256, .bf16⟩
  | .local _ .vmem, ⟨27, _⟩ => ⟨S1024x256, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8_0 : Ref sig .tc := ⟨.hbm, 23, rfl⟩
abbrev main_v8_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem18_1 : DmaSem sig := 25
abbrev cc0_sem19_0 : DmaSem sig := 26
abbrev cc0_sem19_1 : DmaSem sig := 27

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_10 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_11 (i : grid0.Coords) : Fin 2 → Nat :=
  let arg0 : BitVec 32 := BitVec.ofNat 32 (i 0).val
  let c0_i32 : BitVec 32 := 0#32
  let c5_i32 : BitVec 32 := 5#32
  let c0_i32_0 : BitVec 32 := 0#32
  ![c0_i32.toNat, c5_i32.toNat]

def cc0_transform_12 (i : grid0.Coords) : Fin 2 → Nat :=
  let arg0 : BitVec 32 := BitVec.ofNat 32 (i 0).val
  let c0_i32 : BitVec 32 := 0#32
  let c6_i32 : BitVec 32 := 6#32
  let c0_i32_0 : BitVec 32 := 0#32
  ![c0_i32.toNat, c6_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1024x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== OutRefIdeal.lean ====
abbrev S16384x512 : Shape := ⟨2, ![16384, 512]⟩
abbrev S16384x1024 : Shape := ⟨2, ![16384, 1024]⟩
abbrev S8x6x1024 : Shape := ⟨3, ![8, 6, 1024]⟩
abbrev S4x1024 : Shape := ⟨2, ![4, 1024]⟩
abbrev S1024 : Shape := ⟨1, ![1024]⟩
abbrev S1024x7168 : Shape := ⟨2, ![1024, 7168]⟩
abbrev S512x1024 : Shape := ⟨2, ![512, 1024]⟩
abbrev S1024x1024 : Shape := ⟨2, ![1024, 1024]⟩
abbrev S8x2048x1024 : Shape := ⟨3, ![8, 2048, 1024]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1024x4096 : Shape := ⟨2, ![1024, 4096]⟩
abbrev S8x2048x4096 : Shape := ⟨3, ![8, 2048, 4096]⟩
abbrev S8x2048x512 : Shape := ⟨3, ![8, 2048, 512]⟩
abbrev S8x2048x4x1024 : Shape := ⟨4, ![8, 2048, 4, 1024]⟩
abbrev S1x1x4x1024 : Shape := ⟨4, ![1, 1, 4, 1024]⟩
abbrev S8x2048x1x1024 : Shape := ⟨4, ![8, 2048, 1, 1024]⟩
abbrev S1024x16384 : Shape := ⟨2, ![1024, 16384]⟩

abbrev nBuf : Space → Nat
  | .hbm => 117
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x1024, .f32⟩
  | .hbm, ⟨5, _⟩ => ⟨S8x6x1024, .f32⟩
  | .hbm, ⟨6, _⟩ => ⟨S4x1024, .f32⟩
  | .hbm, ⟨7, _⟩ => ⟨S1024, .f32⟩
  | .hbm, ⟨8, _⟩ => ⟨S1024, .f32⟩
  | .hbm, ⟨9, _⟩ => ⟨S1024x7168, .f32⟩
  | .hbm, ⟨10, _⟩ => ⟨S512x1024, .f32⟩
  | .hbm, ⟨11, _⟩ => ⟨S512x1024, .f32⟩
  | .hbm, ⟨12, _⟩ => ⟨S512x1024, .f32⟩
  | .hbm, ⟨13, _⟩ => ⟨S512x1024, .f32⟩
  | .hbm, ⟨14, _⟩ => ⟨S1024x1024, .f32⟩
  | .hbm, ⟨15, _⟩ => ⟨S8x2048x1024, .f32⟩
  | .hbm, ⟨16, _⟩ => ⟨S8x1x1024, .f32⟩
  | .hbm, ⟨17, _⟩ => ⟨S8x1x1024, .f32⟩
  | .hbm, ⟨18, _⟩ => ⟨S8x1x1024, .f32⟩
  | .hbm, ⟨19, _⟩ => ⟨S8x1x1024, .f32⟩
  | .hbm, ⟨20, _⟩ => ⟨S8x1x1024, .f32⟩
  | .hbm, ⟨21, _⟩ => ⟨S8x1x1024, .f32⟩
  | .hbm, ⟨22, _⟩ => ⟨S8x2048x1024, .f32⟩
  | .hbm, ⟨23, _⟩ => ⟨S_, .f32⟩
  | .hbm, ⟨24, _⟩ => ⟨S8x2048, .f32⟩
  | .hbm, ⟨25, _⟩ => ⟨S8x2048x1, .f32⟩
  | .hbm, ⟨26, _⟩ => ⟨S_, .f32⟩
  | .hbm, ⟨27, _⟩ => ⟨S8x2048x1, .f32⟩
  | .hbm, ⟨28, _⟩ => ⟨S8x2048x1, .f32⟩
  | .hbm, ⟨29, _⟩ => ⟨S_, .f32⟩
  | .hbm, ⟨30, _⟩ => ⟨S8x2048x1, .f32⟩
  | .hbm, ⟨31, _⟩ => ⟨S8x2048x1, .f32⟩
  | .hbm, ⟨32, _⟩ => ⟨S8x2048x1, .f32⟩
  | .hbm, ⟨33, _⟩ => ⟨S8x2048x1024, .f32⟩
  | .hbm, ⟨34, _⟩ => ⟨S8x2048x1024, .f32⟩
  | .hbm, ⟨35, _⟩ => ⟨S1x1x1024, .f32⟩
  | .hbm, ⟨36, _⟩ => ⟨S8x2048x1024, .f32⟩
  | .hbm, ⟨37, _⟩ => ⟨S8x2048x1024, .f32⟩
  | .hbm, ⟨38, _⟩ => ⟨S_, .f32⟩
  | .hbm, ⟨39, _⟩ => ⟨S8x1x1024, .f32⟩
  | .hbm, ⟨40, _⟩ => ⟨S8x1x1024, .f32⟩
  | .hbm, ⟨41, _⟩ => ⟨S8x2048x1024, .f32⟩
  | .hbm, ⟨42, _⟩ => ⟨S8x2048x1024, .f32⟩
  | .hbm, ⟨43, _⟩ => ⟨S8x2048x1024, .f32⟩
  | .hbm, ⟨44, _⟩ => ⟨S8x2048x1024, .f32⟩
  | .hbm, ⟨45, _⟩ => ⟨S1024x4096, .f32⟩
  | .hbm, ⟨46, _⟩ => ⟨S8x2048x4096, .f32⟩
  | .hbm, ⟨47, _⟩ => ⟨S16384x512, .f32⟩
  | .hbm, ⟨48, _⟩ => ⟨S8x2048x512, .f32⟩
  | .hbm, ⟨49, _⟩ => ⟨S8x2048x1024, .f32⟩
  | .hbm, ⟨50, _⟩ => ⟨S16384x512, .f32⟩
  | .hbm, ⟨51, _⟩ => ⟨S8x2048x512, .f32⟩
  | .hbm, ⟨52, _⟩ => ⟨S8x2048x1024, .f32⟩
  | .hbm, ⟨53, _⟩ => ⟨S16384x512, .f32⟩
  | .hbm, ⟨54, _⟩ => ⟨S8x2048x512, .f32⟩
  | .hbm, ⟨55, _⟩ => ⟨S8x2048x1024, .f32⟩
  | .hbm, ⟨56, _⟩ => ⟨S16384x512, .f32⟩
  | .hbm, ⟨57, _⟩ => ⟨S8x2048x512, .f32⟩
  | .hbm, ⟨58, _⟩ => ⟨S8x2048x1024, .f32⟩
  | .hbm, ⟨59, _⟩ => ⟨S8x2048x4x1024, .f32⟩
  | .hbm, ⟨60, _⟩ => ⟨S1x1x4x1024, .f32⟩
  | .hbm, ⟨61, _⟩ => ⟨S8x2048x4x1024, .f32⟩
  | .hbm, ⟨62, _⟩ => ⟨S8x2048x4x1024, .f32⟩
  | .hbm, ⟨63, _⟩ => ⟨S8x2048x4x1024, .f32⟩
  | .hbm, ⟨64, _⟩ => ⟨S8x2048x4x1024, .f32⟩
  | .hbm, ⟨65, _⟩ => ⟨S_, .f32⟩
  | .hbm, ⟨66, _⟩ => ⟨S8x2048x4x1024, .f32⟩
  | .hbm, ⟨67, _⟩ => ⟨S8x2048x4x1024, .f32⟩
  | .hbm, ⟨68, _⟩ => ⟨S_, .f32⟩
  | .hbm, ⟨69, _⟩ => ⟨S8x2048x4x1024, .f32⟩
  | .hbm, ⟨70, _⟩ => ⟨S8x2048x4x1024, .f32⟩
  | .hbm, ⟨71, _⟩ => ⟨S8x2048x1x1024, .f32⟩
  | .hbm, ⟨72, _⟩ => ⟨S8x2048x1024, .f32⟩
  | .hbm, ⟨73, _⟩ => ⟨S8x2048x1024, .f32⟩
  | .hbm, ⟨74, _⟩ => ⟨S8x2048x1x1024, .f32⟩
  | .hbm, ⟨75, _⟩ => ⟨S8x2048x1024, .f32⟩
  | .hbm, ⟨76, _⟩ => ⟨S8x2048x1024, .f32⟩
  | .hbm, ⟨77, _⟩ => ⟨S8x2048x1024, .f32⟩
  | .hbm, ⟨78, _⟩ => ⟨S8x2048x1x1024, .f32⟩
  | .hbm, ⟨79, _⟩ => ⟨S8x2048x1024, .f32⟩
  | .hbm, ⟨80, _⟩ => ⟨S8x2048x1024, .f32⟩
  | .hbm, ⟨81, _⟩ => ⟨S8x2048x1024, .f32⟩
  | .hbm, ⟨82, _⟩ => ⟨S8x2048x1x1024, .f32⟩
  | .hbm, ⟨83, _⟩ => ⟨S8x2048x1024, .f32⟩
  | .hbm, ⟨84, _⟩ => ⟨S8x2048x1024, .f32⟩
  | .hbm, ⟨85, _⟩ => ⟨S8x2048x1024, .f32⟩
  | .hbm, ⟨86, _⟩ => ⟨S8x2048x1024, .f32⟩
  | .hbm, ⟨87, _⟩ => ⟨S8x2048x1024, .f32⟩
  | .hbm, ⟨88, _⟩ => ⟨S8x2048x1024, .f32⟩
  | .hbm, ⟨89, _⟩ => ⟨S8x2048x1024, .f32⟩
  | .hbm, ⟨90, _⟩ => ⟨S8x2048x1024, .f32⟩
  | .hbm, ⟨91, _⟩ => ⟨S_, .f32⟩
  | .hbm, ⟨92, _⟩ => ⟨S8x2048, .f32⟩
  | .hbm, ⟨93, _⟩ => ⟨S8x2048x1, .f32⟩
  | .hbm, ⟨94, _⟩ => ⟨S_, .f32⟩
  | .hbm, ⟨95, _⟩ => ⟨S8x2048x1, .f32⟩
  | .hbm, ⟨96, _⟩ => ⟨S8x2048x1, .f32⟩
  | .hbm, ⟨97, _⟩ => ⟨S_, .f32⟩
  | .hbm, ⟨98, _⟩ => ⟨S8x2048x1, .f32⟩
  | .hbm, ⟨99, _⟩ => ⟨S8x2048x1, .f32⟩
  | .hbm, ⟨100, _⟩ => ⟨S8x2048x1, .f32⟩
  | .hbm, ⟨101, _⟩ => ⟨S8x2048x1024, .f32⟩
  | .hbm, ⟨102, _⟩ => ⟨S8x2048x1024, .f32⟩
  | .hbm, ⟨103, _⟩ => ⟨S1x1x1024, .f32⟩
  | .hbm, ⟨104, _⟩ => ⟨S8x2048x1024, .f32⟩
  | .hbm, ⟨105, _⟩ => ⟨S8x2048x1024, .f32⟩
  | .hbm, ⟨106, _⟩ => ⟨S_, .f32⟩
  | .hbm, ⟨107, _⟩ => ⟨S8x1x1024, .f32⟩
  | .hbm, ⟨108, _⟩ => ⟨S8x1x1024, .f32⟩
  | .hbm, ⟨109, _⟩ => ⟨S8x2048x1024, .f32⟩
  | .hbm, ⟨110, _⟩ => ⟨S8x2048x1024, .f32⟩
  | .hbm, ⟨111, _⟩ => ⟨S8x2048x1024, .f32⟩
  | .hbm, ⟨112, _⟩ => ⟨S8x2048x1024, .f32⟩
  | .hbm, ⟨113, _⟩ => ⟨S16384x1024, .f32⟩
  | .hbm, ⟨114, _⟩ => ⟨S16384x1024, .f32⟩
  | .hbm, ⟨115, _⟩ => ⟨S1024x16384, .f32⟩
  | .hbm, ⟨116, _⟩ => ⟨S1024x16384, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_v9 : Ref sig .tc := ⟨.hbm, 25, rfl⟩
abbrev main_cst_0 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_3 : Ref sig .tc := ⟨.hbm, 65, rfl⟩
abbrev main_v46 : Ref sig .tc := ⟨.hbm, 66, rfl⟩
abbrev main_v47 : Ref sig .tc := ⟨.hbm, 67, rfl⟩
abbrev main_cst_4 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_5 : Ref sig .tc := ⟨.hbm, 91, rfl⟩
abbrev main_v70 : Ref sig .tc := ⟨.hbm, 92, rfl⟩
abbrev main_v71 : Ref sig .tc := ⟨.hbm, 93, rfl⟩
abbrev main_cst_6 : Ref sig .tc := ⟨.hbm, 94, rfl⟩
abbrev main_v72 : Ref sig .tc := ⟨.hbm, 95, rfl⟩
abbrev main_v73 : Ref sig .tc := ⟨.hbm, 96, rfl⟩
abbrev main_cst_7 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_cst_8 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩

abbrev nD : Nat := 1
abbrev τ : Topo := Topo.v7x

variable {F : FTy → Type} [FloatOps F]
-- ==== In.lean ====
abbrev S16x256x1024 : Shape := ⟨3, ![16, 256, 1024]⟩
abbrev S1x6x1024 : Shape := ⟨3, ![1, 6, 1024]⟩
abbrev S1024 : Shape := ⟨1, ![1024]⟩
abbrev S1024x7168 : Shape := ⟨2, ![1024, 7168]⟩
abbrev S64 : Shape := ⟨1, ![64]⟩
abbrev S8x8 : Shape := ⟨2, ![8, 8]⟩
abbrev S_ : Shape := ⟨0, ![]⟩
abbrev S64x64 : Shape := ⟨2, ![64, 64]⟩
abbrev S8x1x8x1 : Shape := ⟨4, ![8, 1, 8, 1]⟩
abbrev S1x64x1x64 : Shape := ⟨4, ![1, 64, 1, 64]⟩
abbrev S8x64x8x64 : Shape := ⟨4, ![8, 64, 8, 64]⟩
abbrev S512x512 : Shape := ⟨2, ![512, 512]⟩
abbrev S4096x1024 : Shape := ⟨2, ![4096, 1024]⟩
abbrev S1x1024 : Shape := ⟨2, ![1, 1024]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S2x64 : Shape := ⟨2, ![2, 64]⟩
abbrev S128 : Shape := ⟨1, ![128]⟩
abbrev S1x128 : Shape := ⟨2, ![1, 128]⟩
abbrev S4096x512 : Shape := ⟨2, ![4096, 512]⟩
abbrev S512x1024 : Shape := ⟨2, ![512, 1024]⟩
abbrev S1024x1536 : Shape := ⟨2, ![1024, 1536]⟩
abbrev S1x1x1024 : Shape := ⟨3, ![1, 1, 1024]⟩
abbrev S512x1 : Shape := ⟨2, ![512, 1]⟩
abbrev S512x1536 : Shape := ⟨2, ![512, 1536]⟩
abbrev S512x128 : Shape := ⟨2, ![512, 128]⟩
abbrev S128x128 : Shape := ⟨2, ![128, 128]⟩

abbrev nBuf : Space → Nat
  | .hbm => 40
  | .vmem => 22
  | .smem => 0
  | _ => 0

abbrev bufTy : (tb : Table) → Fin (tcTables nBuf tb) → BufTy
  | .hbm, ⟨0, _⟩ => ⟨S16x256x1024, .f32⟩
  | .hbm, ⟨1, _⟩ => ⟨S1x6x1024, .f32⟩
  | .hbm, ⟨2, _⟩ => ⟨S1024, .f32⟩
  | .hbm, ⟨3, _⟩ => ⟨S1024x7168, .f32⟩
  | .hbm, ⟨4, _⟩ => ⟨S64, .f32⟩
  | .hbm, ⟨5, _⟩ => ⟨S64, .f32⟩
  | .hbm, ⟨6, _⟩ => ⟨S8x8, .i32⟩
  | .hbm, ⟨7, _⟩ => ⟨S8x8, .i32⟩
  | .hbm, ⟨8, _⟩ => ⟨S_, .i32⟩
  | .hbm, ⟨9, _⟩ => ⟨S8x8, .i32⟩
  | .hbm, ⟨10, _⟩ => ⟨S8x8, .i32⟩
  | .hbm, ⟨11, _⟩ => ⟨S8x8, .i1⟩
  | .hbm, ⟨12, _⟩ => ⟨S8x8, .f32⟩
  | .hbm, ⟨13, _⟩ => ⟨S_, .f32⟩
  | .hbm, ⟨14, _⟩ => ⟨S64x64, .f32⟩
  | .hbm, ⟨15, _⟩ => ⟨S8x1x8x1, .f32⟩
  | .hbm, ⟨16, _⟩ => ⟨S1x64x1x64, .f32⟩
  | .hbm, ⟨17, _⟩ => ⟨S8x64x8x64, .f32⟩
  | .hbm, ⟨18, _⟩ => ⟨S8x64x8x64, .f32⟩
  | .hbm, ⟨19, _⟩ => ⟨S8x64x8x64, .f32⟩
  | .hbm, ⟨20, _⟩ => ⟨S512x512, .f32⟩
  | .hbm, ⟨21, _⟩ => ⟨S512x512, .bf16⟩
  | .hbm, ⟨22, _⟩ => ⟨S4096x1024, .f32⟩
  | .hbm, ⟨23, _⟩ => ⟨S1x1024, .f32⟩
  | .hbm, ⟨24, _⟩ => ⟨S1024x7168, .bf16⟩
  | .hbm, ⟨25, _⟩ => ⟨S1x64, .f32⟩
  | .hbm, ⟨26, _⟩ => ⟨S8x64, .f32⟩
  | .hbm, ⟨27, _⟩ => ⟨S512, .f32⟩
  | .hbm, ⟨28, _⟩ => ⟨S1x512, .f32⟩
  | .hbm, ⟨29, _⟩ => ⟨S1x64, .f32⟩
  | .hbm, ⟨30, _⟩ => ⟨S2x64, .f32⟩
  | .hbm, ⟨31, _⟩ => ⟨S128, .f32⟩
  | .hbm, ⟨32, _⟩ => ⟨S1x128, .f32⟩
  | .hbm, ⟨33, _⟩ => ⟨S4096x512, .bf16⟩
  | .hbm, ⟨34, _⟩ => ⟨S4096x512, .bf16⟩
  | .hbm, ⟨35, _⟩ => ⟨S4096x512, .bf16⟩
  | .hbm, ⟨36, _⟩ => ⟨S4096x512, .bf16⟩
  | .hbm, ⟨37, _⟩ => ⟨S4096x512, .bf16⟩
  | .hbm, ⟨38, _⟩ => ⟨S4096x512, .bf16⟩
  | .hbm, ⟨39, _⟩ => ⟨S4096x512, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x1024, .f32⟩
  | .local _ .vmem, ⟨4, _⟩ => ⟨S1024x1536, .bf16⟩
  | .local _ .vmem, ⟨5, _⟩ => ⟨S512x512, .bf16⟩
  | .local _ .vmem, ⟨6, _⟩ => ⟨S1x512, .f32⟩
  | .local _ .vmem, ⟨7, _⟩ => ⟨S1x128, .f32⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .f32⟩
  | .local _ .vmem, ⟨21, _⟩ => ⟨S512x512, .f32⟩
  | _, _ => ⟨S16x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20_0 : Ref sig .tc := ⟨.hbm, 33, rfl⟩
abbrev main_v20_1 : Ref sig .tc := ⟨.hbm, 34, rfl⟩
abbrev main_v20_2 : Ref sig .tc := ⟨.hbm, 35, rfl⟩
abbrev main_v20_3 : Ref sig .tc := ⟨.hbm, 36, rfl⟩
abbrev main_v20_4 : Ref sig .tc := ⟨.hbm, 37, rfl⟩
abbrev main_v20_5 : Ref sig .tc := ⟨.hbm, 38, rfl⟩
abbrev main_v20_6 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== InRefIdeal.lean ====
abbrev S16x256x1024 : Shape := ⟨3, ![16, 256, 1024]⟩
abbrev S1x6x1024 : Shape := ⟨3, ![1, 6, 1024]⟩
abbrev S1024 : Shape := ⟨1, ![1024]⟩
abbrev S1024x7168 : Shape := ⟨2, ![1024, 7168]⟩
abbrev S64 : Shape := ⟨1, ![64]⟩
abbrev S1x1x1024 : Shape := ⟨3, ![1, 1, 1024]⟩
abbrev S_ : Shape := ⟨0, ![]⟩
abbrev S16x256 : Shape := ⟨2, ![16, 256]⟩
abbrev S16x256x1 : Shape := ⟨3, ![16, 256, 1]⟩
abbrev S16x256x7168 : Shape := ⟨3, ![16, 256, 7168]⟩
abbrev S16x256x512 : Shape := ⟨3, ![16, 256, 512]⟩
abbrev S16x256x128 : Shape := ⟨3, ![16, 256, 128]⟩
abbrev S16x256x4096 : Shape := ⟨3, ![16, 256, 4096]⟩
abbrev S16x256x2x4x64 : Shape := ⟨5, ![16, 256, 2, 4, 64]⟩
abbrev S16x256x2x4 : Shape := ⟨4, ![16, 256, 2, 4]⟩
abbrev S16x256x2x4x1 : Shape := ⟨5, ![16, 256, 2, 4, 1]⟩
abbrev S1x1x1x1x64 : Shape := ⟨5, ![1, 1, 1, 1, 64]⟩
abbrev S16x256x2x64 : Shape := ⟨4, ![16, 256, 2, 64]⟩
abbrev S16x256x2 : Shape := ⟨3, ![16, 256, 2]⟩
abbrev S16x256x2x1 : Shape := ⟨4, ![16, 256, 2, 1]⟩
abbrev S1x1x1x64 : Shape := ⟨4, ![1, 1, 1, 64]⟩
abbrev S4096x128 : Shape := ⟨2, ![4096, 128]⟩
abbrev S4096x512 : Shape := ⟨2, ![4096, 512]⟩
abbrev S16x256x2x256 : Shape := ⟨4, ![16, 256, 2, 256]⟩

abbrev nBuf : Space → Nat
  | .hbm => 117
  | .vmem => 0
  | .smem => 0
  | _ => 0

abbrev bufTy : (tb : Table) → Fin (tcTables nBuf tb) → BufTy
  | .hbm, ⟨0, _⟩ => ⟨S16x256x1024, .f32⟩
  | .hbm, ⟨1, _⟩ => ⟨S1x6x1024, .f32⟩
  | .hbm, ⟨2, _⟩ => ⟨S1024, .f32⟩
  | .hbm, ⟨3, _⟩ => ⟨S1024x7168, .f32⟩
  | .hbm, ⟨4, _⟩ => ⟨S64, .f32⟩
  | .hbm, ⟨5, _⟩ => ⟨S64, .f32⟩
  | .hbm, ⟨6, _⟩ => ⟨S1x1x1024, .f32⟩
  | .hbm, ⟨7, _⟩ => ⟨S1x1x1024, .f32⟩
  | .hbm, ⟨8, _⟩ => ⟨S1x1x1024, .f32⟩
  | .hbm, ⟨9, _⟩ => ⟨S1x1x1024, .f32⟩
  | .hbm, ⟨10, _⟩ => ⟨S1x1x1024, .f32⟩
  | .hbm, ⟨11, _⟩ => ⟨S1x1x1024, .f32⟩
  | .hbm, ⟨12, _⟩ => ⟨S16x256x1024, .f32⟩
  | .hbm, ⟨13, _⟩ => ⟨S_, .f32⟩
  | .hbm, ⟨14, _⟩ => ⟨S16x256, .f32⟩
  | .hbm, ⟨15, _⟩ => ⟨S16x256x1, .f32⟩
  | .hbm, ⟨16, _⟩ => ⟨S_, .f32⟩
  | .hbm, ⟨17, _⟩ => ⟨S16x256x1, .f32⟩
  | .hbm, ⟨18, _⟩ => ⟨S16x256x1, .f32⟩
  | .hbm, ⟨19, _⟩ => ⟨S_, .f32⟩
  | .hbm, ⟨20, _⟩ => ⟨S16x256x1, .f32⟩
  | .hbm, ⟨21, _⟩ => ⟨S16x256x1, .f32⟩
  | .hbm, ⟨22, _⟩ => ⟨S16x256x1, .f32⟩
  | .hbm, ⟨23, _⟩ => ⟨S16x256x1024, .f32⟩
  | .hbm, ⟨24, _⟩ => ⟨S16x256x1024, .f32⟩
  | .hbm, ⟨25, _⟩ => ⟨S1x1x1024, .f32⟩
  | .hbm, ⟨26, _⟩ => ⟨S16x256x1024, .f32⟩
  | .hbm, ⟨27, _⟩ => ⟨S16x256x1024, .f32⟩
  | .hbm, ⟨28, _⟩ => ⟨S_, .f32⟩
  | .hbm, ⟨29, _⟩ => ⟨S1x1x1024, .f32⟩
  | .hbm, ⟨30, _⟩ => ⟨S1x1x1024, .f32⟩
  | .hbm, ⟨31, _⟩ => ⟨S16x256x1024, .f32⟩
  | .hbm, ⟨32, _⟩ => ⟨S16x256x1024, .f32⟩
  | .hbm, ⟨33, _⟩ => ⟨S16x256x1024, .f32⟩
  | .hbm, ⟨34, _⟩ => ⟨S16x256x1024, .f32⟩
  | .hbm, ⟨35, _⟩ => ⟨S16x256x7168, .f32⟩
  | .hbm, ⟨36, _⟩ => ⟨S16x256x512, .f32⟩
  | .hbm, ⟨37, _⟩ => ⟨S16x256x1024, .f32⟩
  | .hbm, ⟨38, _⟩ => ⟨S16x256x512, .f32⟩
  | .hbm, ⟨39, _⟩ => ⟨S16x256x128, .f32⟩
  | .hbm, ⟨40, _⟩ => ⟨S16x256x128, .f32⟩
  | .hbm, ⟨41, _⟩ => ⟨S16x256x512, .f32⟩
  | .hbm, ⟨42, _⟩ => ⟨S16x256x128, .f32⟩
  | .hbm, ⟨43, _⟩ => ⟨S16x256x128, .f32⟩
  | .hbm, ⟨44, _⟩ => ⟨S16x256x4096, .f32⟩
  | .hbm, ⟨45, _⟩ => ⟨S16x256x2x4x64, .f32⟩
  | .hbm, ⟨46, _⟩ => ⟨S16x256x2x4x64, .f32⟩
  | .hbm, ⟨47, _⟩ => ⟨S_, .f32⟩
  | .hbm, ⟨48, _⟩ => ⟨S16x256x2x4, .f32⟩
  | .hbm, ⟨49, _⟩ => ⟨S16x256x2x4x1, .f32⟩
  | .hbm, ⟨50, _⟩ => ⟨S_, .f32⟩
  | .hbm, ⟨51, _⟩ => ⟨S16x256x2x4x1, .f32⟩
  | .hbm, ⟨52, _⟩ => ⟨S16x256x2x4x1, .f32⟩
  | .hbm, ⟨53, _⟩ => ⟨S_, .f32⟩
  | .hbm, ⟨54, _⟩ => ⟨S16x256x2x4x1, .f32⟩
  | .hbm, ⟨55, _⟩ => ⟨S16x256x2x4x1, .f32⟩
  | .hbm, ⟨56, _⟩ => ⟨S16x256x2x4x1, .f32⟩
  | .hbm, ⟨57, _⟩ => ⟨S16x256x2x4x64, .f32⟩
  | .hbm, ⟨58, _⟩ => ⟨S16x256x2x4x64, .f32⟩
  | .hbm, ⟨59, _⟩ => ⟨S1x1x1x1x64, .f32⟩
  | .hbm, ⟨60, _⟩ => ⟨S16x256x2x4x64, .f32⟩
  | .hbm, ⟨61, _⟩ => ⟨S16x256x2x4x64, .f32⟩
  | .hbm, ⟨62, _⟩ => ⟨S16x256x2x64, .f32⟩
  | .hbm, ⟨63, _⟩ => ⟨S16x256x2x64, .f32⟩
  | .hbm, ⟨64, _⟩ => ⟨S_, .f32⟩
  | .hbm, ⟨65, _⟩ => ⟨S16x256x2, .f32⟩
  | .hbm, ⟨66, _⟩ => ⟨S16x256x2x1, .f32⟩
  | .hbm, ⟨67, _⟩ => ⟨S_, .f32⟩
  | .hbm, ⟨68, _⟩ => ⟨S16x256x2x1, .f32⟩
  | .hbm, ⟨69, _⟩ => ⟨S16x256x2x1, .f32⟩
  | .hbm, ⟨70, _⟩ => ⟨S_, .f32⟩
  | .hbm, ⟨71, _⟩ => ⟨S16x256x2x1, .f32⟩
  | .hbm, ⟨72, _⟩ => ⟨S16x256x2x1, .f32⟩
  | .hbm, ⟨73, _⟩ => ⟨S16x256x2x1, .f32⟩
  | .hbm, ⟨74, _⟩ => ⟨S16x256x2x64, .f32⟩
  | .hbm, ⟨75, _⟩ => ⟨S16x256x2x64, .f32⟩
  | .hbm, ⟨76, _⟩ => ⟨S1x1x1x64, .f32⟩
  | .hbm, ⟨77, _⟩ => ⟨S16x256x2x64, .f32⟩
  | .hbm, ⟨78, _⟩ => ⟨S16x256x2x64, .f32⟩
  | .hbm, ⟨79, _⟩ => ⟨S16x256x2x64, .f32⟩
  | .hbm, ⟨80, _⟩ => ⟨S16x256x2x64, .f32⟩
  | .hbm, ⟨81, _⟩ => ⟨S16x256x2x64, .f32⟩
  | .hbm, ⟨82, _⟩ => ⟨S4096x128, .f32⟩
  | .hbm, ⟨83, _⟩ => ⟨S4096x128, .f32⟩
  | .hbm, ⟨84, _⟩ => ⟨S4096x128, .f32⟩
  | .hbm, ⟨85, _⟩ => ⟨S4096x128, .f32⟩
  | .hbm, ⟨86, _⟩ => ⟨S4096x512, .f32⟩
  | .hbm, ⟨87, _⟩ => ⟨S4096x512, .f32⟩
  | .hbm, ⟨88, _⟩ => ⟨S_, .f32⟩
  | .hbm, ⟨89, _⟩ => ⟨S4096x512, .f32⟩
  | .hbm, ⟨90, _⟩ => ⟨S4096x512, .f32⟩
  | .hbm, ⟨91, _⟩ => ⟨S4096x512, .bf16⟩
  | .hbm, ⟨92, _⟩ => ⟨S4096x512, .f32⟩
  | .hbm, ⟨93, _⟩ => ⟨S_, .f32⟩
  | .hbm, ⟨94, _⟩ => ⟨S4096x512, .f32⟩
  | .hbm, ⟨95, _⟩ => ⟨S4096x512, .f32⟩
  | .hbm, ⟨96, _⟩ => ⟨S4096x512, .bf16⟩
  | .hbm, ⟨97, _⟩ => ⟨S_, .f32⟩
  | .hbm, ⟨98, _⟩ => ⟨S16x256x2x64, .f32⟩
  | .hbm, ⟨99, _⟩ => ⟨S16x256x2x256, .f32⟩
  | .hbm, ⟨100, _⟩ => ⟨S4096x512, .f32⟩
  | .hbm, ⟨101, _⟩ => ⟨S4096x512, .bf16⟩
  | .hbm, ⟨102, _⟩ => ⟨S_, .f32⟩
  | .hbm, ⟨103, _⟩ => ⟨S16x256x2x64, .f32⟩
  | .hbm, ⟨104, _⟩ => ⟨S16x256x2x256, .f32⟩
  | .hbm, ⟨105, _⟩ => ⟨S4096x512, .f32⟩
  | .hbm, ⟨106, _⟩ => ⟨S4096x512, .bf16⟩
  | .hbm, ⟨107, _⟩ => ⟨S_, .f32⟩
  | .hbm, ⟨108, _⟩ => ⟨S16x256x2x64, .f32⟩
  | .hbm, ⟨109, _⟩ => ⟨S16x256x2x256, .f32⟩
  | .hbm, ⟨110, _⟩ => ⟨S4096x512, .f32⟩
  | .hbm, ⟨111, _⟩ => ⟨S4096x512, .bf16⟩
  | .hbm, ⟨112, _⟩ => ⟨S_, .f32⟩
  | .hbm, ⟨113, _⟩ => ⟨S16x256x2x64, .f32⟩
  | .hbm, ⟨114, _⟩ => ⟨S16x256x2x256, .f32⟩
  | .hbm, ⟨115, _⟩ => ⟨S4096x512, .f32⟩
  | .hbm, ⟨116, _⟩ => ⟨S4096x512, .bf16⟩
  | _, _ => ⟨S16x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_3 : Ref sig .tc := ⟨.hbm, 47, rfl⟩
abbrev main_v37 : Ref sig .tc := ⟨.hbm, 48, rfl⟩
abbrev main_v38 : Ref sig .tc := ⟨.hbm, 49, rfl⟩
abbrev main_cst_4 : Ref sig .tc := ⟨.hbm, 50, rfl⟩
abbrev main_v39 : Ref sig .tc := ⟨.hbm, 51, rfl⟩
abbrev main_v40 : Ref sig .tc := ⟨.hbm, 52, rfl⟩
abbrev main_cst_5 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_6 : Ref sig .tc := ⟨.hbm, 64, rfl⟩
abbrev main_v51 : Ref sig .tc := ⟨.hbm, 65, rfl⟩
abbrev main_v52 : Ref sig .tc := ⟨.hbm, 66, rfl⟩
abbrev main_cst_7 : Ref sig .tc := ⟨.hbm, 67, rfl⟩
abbrev main_v53 : Ref sig .tc := ⟨.hbm, 68, rfl⟩
abbrev main_v54 : Ref sig .tc := ⟨.hbm, 69, rfl⟩
abbrev main_cst_8 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_cst_9 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_cst_10 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_cst_11 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_cst_12 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_cst_13 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_cst_14 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩

abbrev nD : Nat := 1
abbrev τ : Topo := Topo.v7x

variable {F : FTy → Type} [FloatOps F]
-- ==== Rot.lean ====
abbrev S8x2048x1024 : Shape := ⟨3, ![8, 2048, 1024]⟩
abbrev S8x6x1024 : Shape := ⟨3, ![8, 6, 1024]⟩
abbrev S1024 : Shape := ⟨1, ![1024]⟩
abbrev S1024x7168 : Shape := ⟨2, ![1024, 7168]⟩
abbrev S64 : Shape := ⟨1, ![64]⟩
abbrev S2048x32 : Shape := ⟨2, ![2048, 32]⟩
abbrev S8x8 : Shape := ⟨2, ![8, 8]⟩
abbrev S_ : Shape := ⟨0, ![]⟩
abbrev S64x64 : Shape := ⟨2, ![64, 64]⟩
abbrev S8x1x8x1 : Shape := ⟨4, ![8, 1, 8, 1]⟩
abbrev S1x64x1x64 : Shape := ⟨4, ![1, 64, 1, 64]⟩
abbrev S8x64x8x64 : Shape := ⟨4, ![8, 64, 8, 64]⟩
abbrev S512x512 : Shape := ⟨2, ![512, 512]⟩
abbrev S2048x64 : Shape := ⟨2, ![2048, 64]⟩
abbrev S1x2048x1x64 : Shape := ⟨4, ![1, 2048, 1, 64]⟩
abbrev S1x2048x8x64 : Shape := ⟨4, ![1, 2048, 8, 64]⟩
abbrev S2048x512 : Shape := ⟨2, ![2048, 512]⟩
abbrev S16384x1024 : Shape := ⟨2, ![16384, 1024]⟩
abbrev S1x1024 : Shape := ⟨2, ![1, 1024]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S2x64 : Shape := ⟨2, ![2, 64]⟩
abbrev S128 : Shape := ⟨1, ![128]⟩
abbrev S1x128 : Shape := ⟨2, ![1, 128]⟩
abbrev S16384x512 : Shape := ⟨2, ![16384, 512]⟩
abbrev S512x1024 : Shape := ⟨2, ![512, 1024]⟩
abbrev S1x6x1024 : Shape := ⟨3, ![1, 6, 1024]⟩
abbrev S1024x1536 : Shape := ⟨2, ![1024, 1536]⟩
abbrev S1x1x1024 : Shape := ⟨3, ![1, 1, 1024]⟩
abbrev S512x1 : Shape := ⟨2, ![512, 1]⟩
abbrev S512x1536 : Shape := ⟨2, ![512, 1536]⟩
abbrev S512x128 : Shape := ⟨2, ![512, 128]⟩
abbrev S128x128 : Shape := ⟨2, ![128, 128]⟩

abbrev nBuf : Space → Nat
  | .hbm => 51
  | .vmem => 27
  | .smem => 0
  | _ => 0

abbrev bufTy : (tb : Table) → Fin (tcTables nBuf tb) → BufTy
  | .hbm, ⟨0, _⟩ => ⟨S8x2048x1024, .f32⟩
  | .hbm, ⟨1, _⟩ => ⟨S8x6x1024, .f32⟩
  | .hbm, ⟨2, _⟩ => ⟨S1024, .f32⟩
  | .hbm, ⟨3, _⟩ => ⟨S1024x7168, .f32⟩
  | .hbm, ⟨4, _⟩ => ⟨S64, .f32⟩
  | .hbm, ⟨5, _⟩ => ⟨S64, .f32⟩
  | .hbm, ⟨6, _⟩ => ⟨S2048x32, .f32⟩
  | .hbm, ⟨7, _⟩ => ⟨S2048x32, .f32⟩
  | .hbm, ⟨8, _⟩ => ⟨S8x8, .i32⟩
  | .hbm, ⟨9, _⟩ => ⟨S8x8, .i32⟩
  | .hbm, ⟨10, _⟩ => ⟨S_, .i32⟩
  | .hbm, ⟨11, _⟩ => ⟨S8x8, .i32⟩
  | .hbm, ⟨12, _⟩ => ⟨S8x8, .i32⟩
  | .hbm, ⟨13, _⟩ => ⟨S8x8, .i1⟩
  | .hbm, ⟨14, _⟩ => ⟨S8x8, .f32⟩
  | .hbm, ⟨15, _⟩ => ⟨S_, .f32⟩
  | .hbm, ⟨16, _⟩ => ⟨S64x64, .f32⟩
  | .hbm, ⟨17, _⟩ => ⟨S8x1x8x1, .f32⟩
  | .hbm, ⟨18, _⟩ => ⟨S1x64x1x64, .f32⟩
  | .hbm, ⟨19, _⟩ => ⟨S8x64x8x64, .f32⟩
  | .hbm, ⟨20, _⟩ => ⟨S8x64x8x64, .f32⟩
  | .hbm, ⟨21, _⟩ => ⟨S8x64x8x64, .f32⟩
  | .hbm, ⟨22, _⟩ => ⟨S512x512, .f32⟩
  | .hbm, ⟨23, _⟩ => ⟨S512x512, .bf16⟩
  | .hbm, ⟨24, _⟩ => ⟨S2048x64, .f32⟩
  | .hbm, ⟨25, _⟩ => ⟨S1x2048x1x64, .f32⟩
  | .hbm, ⟨26, _⟩ => ⟨S1x2048x8x64, .f32⟩
  | .hbm, ⟨27, _⟩ => ⟨S2048x512, .f32⟩
  | .hbm, ⟨28, _⟩ => ⟨S2048x32, .f32⟩
  | .hbm, ⟨29, _⟩ => ⟨S2048x64, .f32⟩
  | .hbm, ⟨30, _⟩ => ⟨S1x2048x1x64, .f32⟩
  | .hbm, ⟨31, _⟩ => ⟨S1x2048x8x64, .f32⟩
  | .hbm, ⟨32, _⟩ => ⟨S2048x512, .f32⟩
  | .hbm, ⟨33, _⟩ => ⟨S16384x1024, .f32⟩
  | .hbm, ⟨34, _⟩ => ⟨S1x1024, .f32⟩
  | .hbm, ⟨35, _⟩ => ⟨S1024x7168, .bf16⟩
  | .hbm, ⟨36, _⟩ => ⟨S1x64, .f32⟩
  | .hbm, ⟨37, _⟩ => ⟨S8x64, .f32⟩
  | .hbm, ⟨38, _⟩ => ⟨S512, .f32⟩
  | .hbm, ⟨39, _⟩ => ⟨S1x512, .f32⟩
  | .hbm, ⟨40, _⟩ => ⟨S1x64, .f32⟩
  | .hbm, ⟨41, _⟩ => ⟨S2x64, .f32⟩
  | .hbm, ⟨42, _⟩ => ⟨S128, .f32⟩
  | .hbm, ⟨43, _⟩ => ⟨S1x128, .f32⟩
  | .hbm, ⟨44, _⟩ => ⟨S16384x512, .bf16⟩
  | .hbm, ⟨45, _⟩ => ⟨S16384x512, .bf16⟩
  | .hbm, ⟨46, _⟩ => ⟨S16384x512, .bf16⟩
  | .hbm, ⟨47, _⟩ => ⟨S16384x512, .bf16⟩
  | .hbm, ⟨48, _⟩ => ⟨S16384x512, .bf16⟩
  | .hbm, ⟨49, _⟩ => ⟨S16384x512, .bf16⟩
  | .hbm, ⟨50, _⟩ => ⟨S16384x512, .f32⟩
  | .local _ .vmem, ⟨0, _⟩ => ⟨S512x1024, .f32⟩
  | .local _ .vmem, ⟨1, _⟩ => ⟨S512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x1024, .f32⟩
  | .local _ .vmem, ⟨5, _⟩ => ⟨S1024x1536, .bf16⟩
  | .local _ .vmem, ⟨6, _⟩ => ⟨S512x512, .bf16⟩
  | .local _ .vmem, ⟨7, _⟩ => ⟨S1x512, .f32⟩
  | .local _ .vmem, ⟨8, _⟩ => ⟨S1x128, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x512, .f32⟩
  | .local _ .vmem, ⟨26, _⟩ => ⟨S512x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29_0 : Ref sig .tc := ⟨.hbm, 44, rfl⟩
abbrev main_v29_1 : Ref sig .tc := ⟨.hbm, 45, rfl⟩
abbrev main_v29_2 : Ref sig .tc := ⟨.hbm, 46, rfl⟩
abbrev main_v29_3 : Ref sig .tc := ⟨.hbm, 47, rfl⟩
abbrev main_v29_4 : Ref sig .tc := ⟨.hbm, 48, rfl⟩
abbrev main_v29_5 : Ref sig .tc := ⟨.hbm, 49, rfl⟩
abbrev main_v29_6 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== RotRefIdeal.lean ====
abbrev S8x2048x1024 : Shape := ⟨3, ![8, 2048, 1024]⟩
abbrev S8x6x1024 : Shape := ⟨3, ![8, 6, 1024]⟩
abbrev S1024 : Shape := ⟨1, ![1024]⟩
abbrev S1024x7168 : Shape := ⟨2, ![1024, 7168]⟩
abbrev S64 : Shape := ⟨1, ![64]⟩
abbrev S2048x32 : Shape := ⟨2, ![2048, 32]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x7168 : Shape := ⟨3, ![8, 2048, 7168]⟩
abbrev S8x2048x512 : Shape := ⟨3, ![8, 2048, 512]⟩
abbrev S8x2048x128 : Shape := ⟨3, ![8, 2048, 128]⟩
abbrev S8x2048x4096 : Shape := ⟨3, ![8, 2048, 4096]⟩
abbrev S8x2048x2x4x64 : Shape := ⟨5, ![8, 2048, 2, 4, 64]⟩
abbrev S8x2048x2x4 : Shape := ⟨4, ![8, 2048, 2, 4]⟩
abbrev S8x2048x2x4x1 : Shape := ⟨5, ![8, 2048, 2, 4, 1]⟩
abbrev S1x1x1x1x64 : Shape := ⟨5, ![1, 1, 1, 1, 64]⟩
abbrev S1x2048x1x1x32 : Shape := ⟨5, ![1, 2048, 1, 1, 32]⟩
abbrev S8x2048x2x4x32 : Shape := ⟨5, ![8, 2048, 2, 4, 32]⟩
abbrev S8x2048x2x64 : Shape := ⟨4, ![8, 2048, 2, 64]⟩
abbrev S8x2048x2 : Shape := ⟨3, ![8, 2048, 2]⟩
abbrev S8x2048x2x1 : Shape := ⟨4, ![8, 2048, 2, 1]⟩
abbrev S1x1x1x64 : Shape := ⟨4, ![1, 1, 1, 64]⟩
abbrev S1x2048x1x32 : Shape := ⟨4, ![1, 2048, 1, 32]⟩
abbrev S8x2048x2x32 : Shape := ⟨4, ![8, 2048, 2, 32]⟩
abbrev S16384x128 : Shape := ⟨2, ![16384, 128]⟩
abbrev S16384x512 : Shape := ⟨2, ![16384, 512]⟩
abbrev S8x2048x2x256 : Shape := ⟨4, ![8, 2048, 2, 256]⟩

abbrev nBuf : Space → Nat
  | .hbm => 180
  | .vmem => 0
  | .smem => 0
  | _ => 0

abbrev hbmTy0_0 (i : Nat) : BufTy := match i % 128 with
  | 0 => ⟨S8x2048x1024, .f32⟩
  | 1 => ⟨S8x6x1024, .f32⟩
  | 2 => ⟨S1024, .f32⟩
  | 3 => ⟨S1024x7168, .f32⟩
  | 4 => ⟨S64, .f32⟩
  | 5 => ⟨S64, .f32⟩
  | 6 => ⟨S2048x32, .f32⟩
  | 7 => ⟨S2048x32, .f32⟩
  | 8 => ⟨S8x1x1024, .f32⟩
  | 9 => ⟨S8x1x1024, .f32⟩
  | 10 => ⟨S8x1x1024, .f32⟩
  | 11 => ⟨S8x1x1024, .f32⟩
  | 12 => ⟨S8x1x1024, .f32⟩
  | 13 => ⟨S8x1x1024, .f32⟩
  | 14 => ⟨S8x2048x1024, .f32⟩
  | 15 => ⟨S_, .f32⟩
  | 16 => ⟨S8x2048, .f32⟩
  | 17 => ⟨S8x2048x1, .f32⟩
  | 18 => ⟨S_, .f32⟩
  | 19 => ⟨S8x2048x1, .f32⟩
  | 20 => ⟨S8x2048x1, .f32⟩
  | 21 => ⟨S_, .f32⟩
  | 22 => ⟨S8x2048x1, .f32⟩
  | 23 => ⟨S8x2048x1, .f32⟩
  | 24 => ⟨S8x2048x1, .f32⟩
  | 25 => ⟨S8x2048x1024, .f32⟩
  | 26 => ⟨S8x2048x1024, .f32⟩
  | 27 => ⟨S1x1x1024, .f32⟩
  | 28 => ⟨S8x2048x1024, .f32⟩
  | 29 => ⟨S8x2048x1024, .f32⟩
  | 30 => ⟨S_, .f32⟩
  | 31 => ⟨S8x1x1024, .f32⟩
  | 32 => ⟨S8x1x1024, .f32⟩
  | 33 => ⟨S8x2048x1024, .f32⟩
  | 34 => ⟨S8x2048x1024, .f32⟩
  | 35 => ⟨S8x2048x1024, .f32⟩
  | 36 => ⟨S8x2048x1024, .f32⟩
  | 37 => ⟨S8x2048x7168, .f32⟩
  | 38 => ⟨S8x2048x512, .f32⟩
  | 39 => ⟨S8x2048x1024, .f32⟩
  | 40 => ⟨S8x2048x512, .f32⟩
  | 41 => ⟨S8x2048x128, .f32⟩
  | 42 => ⟨S8x2048x128, .f32⟩
  | 43 => ⟨S8x2048x512, .f32⟩
  | 44 => ⟨S8x2048x128, .f32⟩
  | 45 => ⟨S8x2048x128, .f32⟩
  | 46 => ⟨S8x2048x4096, .f32⟩
  | 47 => ⟨S8x2048x2x4x64, .f32⟩
  | 48 => ⟨S8x2048x2x4x64, .f32⟩
  | 49 => ⟨S_, .f32⟩
  | 50 => ⟨S8x2048x2x4, .f32⟩
  | 51 => ⟨S8x2048x2x4x1, .f32⟩
  | 52 => ⟨S_, .f32⟩
  | 53 => ⟨S8x2048x2x4x1, .f32⟩
  | 54 => ⟨S8x2048x2x4x1, .f32⟩
  | 55 => ⟨S_, .f32⟩
  | 56 => ⟨S8x2048x2x4x1, .f32⟩
  | 57 => ⟨S8x2048x2x4x1, .f32⟩
  | 58 => ⟨S8x2048x2x4x1, .f32⟩
  | 59 => ⟨S8x2048x2x4x64, .f32⟩
  | 60 => ⟨S8x2048x2x4x64, .f32⟩
  | 61 => ⟨S1x1x1x1x64, .f32⟩
  | 62 => ⟨S8x2048x2x4x64, .f32⟩
  | 63 => ⟨S8x2048x2x4x64, .f32⟩
  | 64 => ⟨S1x2048x1x1x32, .f32⟩
  | 65 => ⟨S1x2048x1x1x32, .f32⟩
  | 66 => ⟨S8x2048x2x4x32, .f32⟩
  | 67 => ⟨S8x2048x2x4x32, .f32⟩
  | 68 => ⟨S8x2048x2x4x32, .f32⟩
  | 69 => ⟨S8x2048x2x4x32, .f32⟩
  | 70 => ⟨S8x2048x2x4x32, .f32⟩
  | 71 => ⟨S8x2048x2x4x32, .f32⟩
  | 72 => ⟨S8x2048x2x4x32, .f32⟩
  | 73 => ⟨S8x2048x2x4x32, .f32⟩
  | 74 => ⟨S8x2048x2x4x32, .f32⟩
  | 75 => ⟨S8x2048x2x4x32, .f32⟩
  | 76 => ⟨S8x2048x2x4x32, .f32⟩
  | 77 => ⟨S8x2048x2x4x32, .f32⟩
  | 78 => ⟨S8x2048x2x4x64, .f32⟩
  | 79 => ⟨S8x2048x2x64, .f32⟩
  | 80 => ⟨S8x2048x2x64, .f32⟩
  | 81 => ⟨S_, .f32⟩
  | 82 => ⟨S8x2048x2, .f32⟩
  | 83 => ⟨S8x2048x2x1, .f32⟩
  | 84 => ⟨S_, .f32⟩
  | 85 => ⟨S8x2048x2x1, .f32⟩
  | 86 => ⟨S8x2048x2x1, .f32⟩
  | 87 => ⟨S_, .f32⟩
  | 88 => ⟨S8x2048x2x1, .f32⟩
  | 89 => ⟨S8x2048x2x1, .f32⟩
  | 90 => ⟨S8x2048x2x1, .f32⟩
  | 91 => ⟨S8x2048x2x64, .f32⟩
  | 92 => ⟨S8x2048x2x64, .f32⟩
  | 93 => ⟨S1x1x1x64, .f32⟩
  | 94 => ⟨S8x2048x2x64, .f32⟩
  | 95 => ⟨S8x2048x2x64, .f32⟩
  | 96 => ⟨S1x2048x1x32, .f32⟩
  | 97 => ⟨S1x2048x1x32, .f32⟩
  | 98 => ⟨S8x2048x2x32, .f32⟩
  | 99 => ⟨S8x2048x2x32, .f32⟩
  | 100 => ⟨S8x2048x2x32, .f32⟩
  | 101 => ⟨S8x2048x2x32, .f32⟩
  | 102 => ⟨S8x2048x2x32, .f32⟩
  | 103 => ⟨S8x2048x2x32, .f32⟩
  | 104 => ⟨S8x2048x2x32, .f32⟩
  | 105 => ⟨S8x2048x2x32, .f32⟩
  | 106 => ⟨S8x2048x2x32, .f32⟩
  | 107 => ⟨S8x2048x2x32, .f32⟩
  | 108 => ⟨S8x2048x2x32, .f32⟩
  | 109 => ⟨S8x2048x2x32, .f32⟩
  | 110 => ⟨S8x2048x2x64, .f32⟩
  | 111 => ⟨S8x2048x2x64, .f32⟩
  | 112 => ⟨S8x2048x2x4x64, .f32⟩
  | 113 => ⟨S1x2048x1x1x32, .f32⟩
  | 114 => ⟨S1x2048x1x1x32, .f32⟩
  | 115 => ⟨S8x2048x2x4x32, .f32⟩
  | 116 => ⟨S8x2048x2x4x32, .f32⟩
  | 117 => ⟨S8x2048x2x4x32, .f32⟩
  | 118 => ⟨S8x2048x2x4x32, .f32⟩
  | 119 => ⟨S8x2048x2x4x32, .f32⟩
  | 120 => ⟨S8x2048x2x4x32, .f32⟩
  | 121 => ⟨S8x2048x2x4x32, .f32⟩
  | 122 => ⟨S8x2048x2x4x32, .f32⟩
  | 123 => ⟨S8x2048x2x4x32, .f32⟩
  | 124 => ⟨S8x2048x2x4x32, .f32⟩
  | 125 => ⟨S8x2048x2x4x32, .f32⟩
  | 126 => ⟨S8x2048x2x4x32, .f32⟩
  | 127 => ⟨S8x2048x2x4x64, .f32⟩
  | _ => ⟨S8x2048x1024, .f32⟩

abbrev hbmTy0_1 (i : Nat) : BufTy := match i % 128 with
  | 0 => ⟨S8x2048x2x64, .f32⟩
  | 1 => ⟨S1x2048x1x32, .f32⟩
  | 2 => ⟨S1x2048x1x32, .f32⟩
  | 3 => ⟨S8x2048x2x32, .f32⟩
  | 4 => ⟨S8x2048x2x32, .f32⟩
  | 5 => ⟨S8x2048x2x32, .f32⟩
  | 6 => ⟨S8x2048x2x32, .f32⟩
  | 7 => ⟨S8x2048x2x32, .f32⟩
  | 8 => ⟨S8x2048x2x32, .f32⟩
  | 9 => ⟨S8x2048x2x32, .f32⟩
  | 10 => ⟨S8x2048x2x32, .f32⟩
  | 11 => ⟨S8x2048x2x32, .f32⟩
  | 12 => ⟨S8x2048x2x32, .f32⟩
  | 13 => ⟨S8x2048x2x32, .f32⟩
  | 14 => ⟨S8x2048x2x32, .f32⟩
  | 15 => ⟨S8x2048x2x64, .f32⟩
  | 16 => ⟨S8x2048x2x64, .f32⟩
  | 17 => ⟨S16384x128, .f32⟩
  | 18 => ⟨S16384x128, .f32⟩
  | 19 => ⟨S16384x128, .f32⟩
  | 20 => ⟨S16384x128, .f32⟩
  | 21 => ⟨S16384x512, .f32⟩
  | 22 => ⟨S16384x512, .f32⟩
  | 23 => ⟨S_, .f32⟩
  | 24 => ⟨S16384x512, .f32⟩
  | 25 => ⟨S16384x512, .f32⟩
  | 26 => ⟨S16384x512, .bf16⟩
  | 27 => ⟨S16384x512, .f32⟩
  | 28 => ⟨S_, .f32⟩
  | 29 => ⟨S16384x512, .f32⟩
  | 30 => ⟨S16384x512, .f32⟩
  | 31 => ⟨S16384x512, .bf16⟩
  | 32 => ⟨S_, .f32⟩
  | 33 => ⟨S8x2048x2x64, .f32⟩
  | 34 => ⟨S8x2048x2x256, .f32⟩
  | 35 => ⟨S16384x512, .f32⟩
  | 36 => ⟨S16384x512, .bf16⟩
  | 37 => ⟨S_, .f32⟩
  | 38 => ⟨S8x2048x2x64, .f32⟩
  | 39 => ⟨S8x2048x2x256, .f32⟩
  | 40 => ⟨S16384x512, .f32⟩
  | 41 => ⟨S16384x512, .bf16⟩
  | 42 => ⟨S_, .f32⟩
  | 43 => ⟨S8x2048x2x64, .f32⟩
  | 44 => ⟨S8x2048x2x256, .f32⟩
  | 45 => ⟨S16384x512, .f32⟩
  | 46 => ⟨S16384x512, .bf16⟩
  | 47 => ⟨S_, .f32⟩
  | 48 => ⟨S8x2048x2x64, .f32⟩
  | 49 => ⟨S8x2048x2x256, .f32⟩
  | 50 => ⟨S16384x512, .f32⟩
  | 51 => ⟨S16384x512, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_3 : Ref sig .tc := ⟨.hbm, 49, rfl⟩
abbrev main_v37 : Ref sig .tc := ⟨.hbm, 50, rfl⟩
abbrev main_v38 : Ref sig .tc := ⟨.hbm, 51, rfl⟩
abbrev main_cst_4 : Ref sig .tc := ⟨.hbm, 52, rfl⟩
abbrev main_v39 : Ref sig .tc := ⟨.hbm, 53, rfl⟩
abbrev main_v40 : Ref sig .tc := ⟨.hbm, 54, rfl⟩
abbrev main_cst_5 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_cst_6 : Ref sig .tc := ⟨.hbm, 81, rfl⟩
abbrev main_v66 : Ref sig .tc := ⟨.hbm, 82, rfl⟩
abbrev main_v67 : Ref sig .tc := ⟨.hbm, 83, rfl⟩
abbrev main_cst_7 : Ref sig .tc := ⟨.hbm, 84, rfl⟩
abbrev main_v68 : Ref sig .tc := ⟨.hbm, 85, rfl⟩
abbrev main_v69 : Ref sig .tc := ⟨.hbm, 86, rfl⟩
abbrev main_cst_8 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_cst_9 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_cst_10 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_cst_11 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_cst_12 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_cst_13 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_cst_14 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_v155 : Ref sig .tc := ⟨.hbm, 179, rfl⟩

abbrev nD : Nat := 1
abbrev τ : Topo := Topo.v7x

variable {F : FTy → Type} [FloatOps F]
-- ==== Win.lean ====
abbrev S16384x512 : Shape := ⟨2, ![16384, 512]⟩
abbrev S16384x128 : Shape := ⟨2, ![16384, 128]⟩
abbrev S4096x128 : Shape := ⟨2, ![4096, 128]⟩
abbrev S8 : Shape := ⟨1, ![8]⟩
abbrev S_ : Shape := ⟨0, ![]⟩
abbrev S16384x64 : Shape := ⟨2, ![16384, 64]⟩
abbrev S4096x64 : Shape := ⟨2, ![4096, 64]⟩
abbrev S4096x512 : Shape := ⟨2, ![4096, 512]⟩
abbrev S512x512 : Shape := ⟨2, ![512, 512]⟩
abbrev S2048x512 : Shape := ⟨2, ![2048, 512]⟩
abbrev S512x768 : Shape := ⟨2, ![512, 768]⟩
abbrev S512x128 : Shape := ⟨2, ![512, 128]⟩
abbrev S768x128 : Shape := ⟨2, ![768, 128]⟩
abbrev S1 : Shape := ⟨1, ![1]⟩
abbrev S512 : Shape := ⟨1, ![512]⟩
abbrev S512x1 : Shape := ⟨2, ![512, 1]⟩

abbrev nBuf : Space → Nat
  | .hbm => 39
  | .vmem => 12
  | .smem => 1
  | _ => 0

abbrev bufTy : (tb : Table) → Fin (tcTables nBuf tb) → BufTy
  | .hbm, ⟨0, _⟩ => ⟨S16384x512, .f32⟩
  | .hbm, ⟨1, _⟩ => ⟨S16384x128, .f32⟩
  | .hbm, ⟨2, _⟩ => ⟨S16384x128, .f32⟩
  | .hbm, ⟨3, _⟩ => ⟨S4096x128, .f32⟩
  | .hbm, ⟨4, _⟩ => ⟨S4096x128, .f32⟩
  | .hbm, ⟨5, _⟩ => ⟨S8, .f32⟩
  | .hbm, ⟨6, _⟩ => ⟨S_, .f32⟩
  | .hbm, ⟨7, _⟩ => ⟨S16384x512, .f32⟩
  | .hbm, ⟨8, _⟩ => ⟨S16384x512, .f32⟩
  | .hbm, ⟨9, _⟩ => ⟨S16384x512, .bf16⟩
  | .hbm, ⟨10, _⟩ => ⟨S16384x64, .f32⟩
  | .hbm, ⟨11, _⟩ => ⟨S_, .f32⟩
  | .hbm, ⟨12, _⟩ => ⟨S16384x64, .f32⟩
  | .hbm, ⟨13, _⟩ => ⟨S16384x64, .f32⟩
  | .hbm, ⟨14, _⟩ => ⟨S16384x64, .f32⟩
  | .hbm, ⟨15, _⟩ => ⟨S16384x512, .f32⟩
  | .hbm, ⟨16, _⟩ => ⟨S16384x512, .bf16⟩
  | .hbm, ⟨17, _⟩ => ⟨S16384x64, .f32⟩
  | .hbm, ⟨18, _⟩ => ⟨S_, .f32⟩
  | .hbm, ⟨19, _⟩ => ⟨S16384x64, .f32⟩
  | .hbm, ⟨20, _⟩ => ⟨S16384x64, .f32⟩
  | .hbm, ⟨21, _⟩ => ⟨S16384x64, .f32⟩
  | .hbm, ⟨22, _⟩ => ⟨S16384x512, .f32⟩
  | .hbm, ⟨23, _⟩ => ⟨S16384x512, .bf16⟩
  | .hbm, ⟨24, _⟩ => ⟨S4096x64, .f32⟩
  | .hbm, ⟨25, _⟩ => ⟨S_, .f32⟩
  | .hbm, ⟨26, _⟩ => ⟨S4096x64, .f32⟩
  | .hbm, ⟨27, _⟩ => ⟨S4096x64, .f32⟩
  | .hbm, ⟨28, _⟩ => ⟨S4096x64, .f32⟩
  | .hbm, ⟨29, _⟩ => ⟨S4096x512, .f32⟩
  | .hbm, ⟨30, _⟩ => ⟨S4096x512, .bf16⟩
  | .hbm, ⟨31, _⟩ => ⟨S4096x64, .f32⟩
  | .hbm, ⟨32, _⟩ => ⟨S_, .f32⟩
  | .hbm, ⟨33, _⟩ => ⟨S4096x64, .f32⟩
  | .hbm, ⟨34, _⟩ => ⟨S4096x64, .f32⟩
  | .hbm, ⟨35, _⟩ => ⟨S4096x64, .f32⟩
  | .hbm, ⟨36, _⟩ => ⟨S4096x512, .f32⟩
  | .hbm, ⟨37, _⟩ => ⟨S4096x512, .bf16⟩
  | .hbm, ⟨38, _⟩ => ⟨S16384x512, .bf16⟩
  | .local _ .vmem, ⟨0, _⟩ => ⟨S512x512, .bf16⟩
  | .local _ .vmem, ⟨1, _⟩ => ⟨S512x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .smem, ⟨0, _⟩ => ⟨S8, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let c1280_i32 : BitVec 32 := 1280#32
  let c0_i32 : BitVec 32 := 0#32
  let arg1 : BitVec 32 := BitVec.ofNat 32 (i 1).val
  let c512_i32 : BitVec 32 := 512#32
  let v0 : BitVec 32 := Scalar.muli arg1 c512_i32
  let c128_i32 : BitVec 32 := 128#32
  let v1 : BitVec 32 := Scalar.subi v0 c128_i32
  let v2 : BitVec 32 := Scalar.maxsi c0_i32 v1
  let v3 : BitVec 32 := Scalar.minsi c1280_i32 v2
  v3
def k0_off1 (i : grid0.Coords) : Fin 2 → Nat :=
  let c1280_i32 : BitVec 32 := 1280#32
  let c0_i32 : BitVec 32 := 0#32
  let arg1 : BitVec 32 := BitVec.ofNat 32 (i 1).val
  let c512_i32 : BitVec 32 := 512#32
  let v0 : BitVec 32 := Scalar.muli arg1 c512_i32
  let c128_i32 : BitVec 32 := 128#32
  let v1 : BitVec 32 := Scalar.subi v0 c128_i32
  let v2 : BitVec 32 := Scalar.maxsi c0_i32 v1
  let v3 : BitVec 32 := Scalar.minsi c1280_i32 v2
  let v4 : BitVec 32 := v3
  let v18 : Index := Scalar.indexCast v4
  let c0_3 : Index := 0#32
  ![v18.toNat, 0]
def k0_off2 (i : grid0.Coords) : Fin 2 → Nat :=
  let c1280_i32 : BitVec 32 := 1280#32
  let c0_i32 : BitVec 32 := 0#32
  let arg1 : BitVec 32 := BitVec.ofNat 32 (i 1).val
  let c512_i32 : BitVec 32 := 512#32
  let v0 : BitVec 32 := Scalar.muli arg1 c512_i32
  let c128_i32 : BitVec 32 := 128#32
  let v1 : BitVec 32 := Scalar.subi v0 c128_i32
  let v2 : BitVec 32 := Scalar.maxsi c0_i32 v1
  let v3 : BitVec 32 := Scalar.minsi c1280_i32 v2
  let v4 : BitVec 32 := v3
  let v62 : Index := Scalar.indexCast v4
  let c128 : Index := 128#32
  ![v62.toNat, 128]
def k0_off3 (i : grid0.Coords) : Fin 2 → Nat :=
  let c1280_i32 : BitVec 32 := 1280#32
  let c0_i32 : BitVec 32 := 0#32
  let arg1 : BitVec 32 := BitVec.ofNat 32 (i 1).val
  let c512_i32 : BitVec 32 := 512#32
  let v0 : BitVec 32 := Scalar.muli arg1 c512_i32
  let c128_i32 : BitVec 32 := 128#32
  let v1 : BitVec 32 := Scalar.subi v0 c128_i32
  let v2 : BitVec 32 := Scalar.maxsi c0_i32 v1
  let v3 : BitVec 32 := Scalar.minsi c1280_i32 v2
  let v4 : BitVec 32 := v3
  let v204 : Index := Scalar.indexCast v4
  let c256_69 : Index := 256#32
  ![v204.toNat, 256]
def k0_off4 (i : grid0.Coords) : Fin 2 → Nat :=
  let c1280_i32 : BitVec 32 := 1280#32
  let c0_i32 : BitVec 32 := 0#32
  let arg1 : BitVec 32 := BitVec.ofNat 32 (i 1).val
  let c512_i32 : BitVec 32 := 512#32
  let v0 : BitVec 32 := Scalar.muli arg1 c512_i32
  let c128_i32 : BitVec 32 := 128#32
  let v1 : BitVec 32 := Scalar.subi v0 c128_i32
  let v2 : BitVec 32 := Scalar.maxsi c0_i32 v1
  let v3 : BitVec 32 := Scalar.minsi c1280_i32 v2
  let v4 : BitVec 32 := v3
  let v248 : Index := Scalar.indexCast v4
  let c384 : Index := 384#32
  ![v248.toNat, 384]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== WinIdeal.lean ====
variable {F : FTy → Type} [FloatOps F] [Named F]
def κ : String → Option EReal := fun
  | "mask" => some ⊥
  | _ => none
-- ==== WinRefIdeal.lean ====
abbrev S16384x512 : Shape := ⟨2, ![16384, 512]⟩
abbrev S16384x128 : Shape := ⟨2, ![16384, 128]⟩
abbrev S4096x128 : Shape := ⟨2, ![4096, 128]⟩
abbrev S8 : Shape := ⟨1, ![8]⟩
abbrev S8x2048x2x4x64 : Shape := ⟨5, ![8, 2048, 2, 4, 64]⟩
abbrev S8x2048x2x64 : Shape := ⟨4, ![8, 2048, 2, 64]⟩
abbrev S8x512x2x64 : Shape := ⟨4, ![8, 512, 2, 64]⟩
abbrev S2x4 : Shape := ⟨2, ![2, 4]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S8x2x2048x2048x4 : Shape := ⟨5, ![8, 2, 2048, 2048, 4]⟩
abbrev S8x2x4x2048x2048 : Shape := ⟨5, ![8, 2, 4, 2048, 2048]⟩
abbrev S8x2x512x2048x4 : Shape := ⟨5, ![8, 2, 512, 2048, 4]⟩
abbrev S8x2x4x2048x512 : Shape := ⟨5, ![8, 2, 4, 2048, 512]⟩
abbrev S1x2x4x1x1 : Shape := ⟨5, ![1, 2, 4, 1, 1]⟩
abbrev S8x2x4x2048x1 : Shape := ⟨5, ![8, 2, 4, 2048, 1]⟩
abbrev S8x2x4x2048x2561 : Shape := ⟨5, ![8, 2, 4, 2048, 2561]⟩
abbrev S8x2x4x2048 : Shape := ⟨4, ![8, 2, 4, 2048]⟩
abbrev S8x2x64x4x2048 : Shape := ⟨5, ![8, 2, 64, 4, 2048]⟩

abbrev nBuf : Space → Nat
  | .hbm => 63
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x128, .f32⟩
  | .hbm, ⟨2, _⟩ => ⟨S16384x128, .f32⟩
  | .hbm, ⟨3, _⟩ => ⟨S4096x128, .f32⟩
  | .hbm, ⟨4, _⟩ => ⟨S4096x128, .f32⟩
  | .hbm, ⟨5, _⟩ => ⟨S8, .f32⟩
  | .hbm, ⟨6, _⟩ => ⟨S8x2048x2x4x64, .f32⟩
  | .hbm, ⟨7, _⟩ => ⟨S8x2048x2x64, .f32⟩
  | .hbm, ⟨8, _⟩ => ⟨S8x2048x2x64, .f32⟩
  | .hbm, ⟨9, _⟩ => ⟨S8x512x2x64, .f32⟩
  | .hbm, ⟨10, _⟩ => ⟨S8x512x2x64, .f32⟩
  | .hbm, ⟨11, _⟩ => ⟨S2x4, .f32⟩
  | .hbm, ⟨12, _⟩ => ⟨S2048, .i32⟩
  | .hbm, ⟨13, _⟩ => ⟨S1x2048, .i32⟩
  | .hbm, ⟨14, _⟩ => ⟨S2048x1, .i32⟩
  | .hbm, ⟨15, _⟩ => ⟨S2048x2048, .i32⟩
  | .hbm, ⟨16, _⟩ => ⟨S2048x2048, .i32⟩
  | .hbm, ⟨17, _⟩ => ⟨S2048x2048, .i32⟩
  | .hbm, ⟨18, _⟩ => ⟨S2048x2048, .i32⟩
  | .hbm, ⟨19, _⟩ => ⟨S_, .i32⟩
  | .hbm, ⟨20, _⟩ => ⟨S2048x2048, .i32⟩
  | .hbm, ⟨21, _⟩ => ⟨S2048x2048, .i1⟩
  | .hbm, ⟨22, _⟩ => ⟨S8x2x2048x2048x4, .f32⟩
  | .hbm, ⟨23, _⟩ => ⟨S8x2x4x2048x2048, .f32⟩
  | .hbm, ⟨24, _⟩ => ⟨S_, .f32⟩
  | .hbm, ⟨25, _⟩ => ⟨S8x2x4x2048x2048, .f32⟩
  | .hbm, ⟨26, _⟩ => ⟨S8x2x4x2048x2048, .f32⟩
  | .hbm, ⟨27, _⟩ => ⟨S_, .f32⟩
  | .hbm, ⟨28, _⟩ => ⟨S_, .f32⟩
  | .hbm, ⟨29, _⟩ => ⟨S8x2x4x2048x2048, .i1⟩
  | .hbm, ⟨30, _⟩ => ⟨S8x2x4x2048x2048, .f32⟩
  | .hbm, ⟨31, _⟩ => ⟨S8x2x4x2048x2048, .f32⟩
  | .hbm, ⟨32, _⟩ => ⟨S8x2x512x2048x4, .f32⟩
  | .hbm, ⟨33, _⟩ => ⟨S8x2x4x2048x512, .f32⟩
  | .hbm, ⟨34, _⟩ => ⟨S_, .f32⟩
  | .hbm, ⟨35, _⟩ => ⟨S8x2x4x2048x512, .f32⟩
  | .hbm, ⟨36, _⟩ => ⟨S8x2x4x2048x512, .f32⟩
  | .hbm, ⟨37, _⟩ => ⟨S1x2x4x1x1, .f32⟩
  | .hbm, ⟨38, _⟩ => ⟨S8x2x4x2048x1, .f32⟩
  | .hbm, ⟨39, _⟩ => ⟨S8x2x4x2048x2561, .f32⟩
  | .hbm, ⟨40, _⟩ => ⟨S_, .f32⟩
  | .hbm, ⟨41, _⟩ => ⟨S8x2x4x2048, .f32⟩
  | .hbm, ⟨42, _⟩ => ⟨S_, .f32⟩
  | .hbm, ⟨43, _⟩ => ⟨S8x2x4x2048, .f32⟩
  | .hbm, ⟨44, _⟩ => ⟨S8x2x4x2048, .f32⟩
  | .hbm, ⟨45, _⟩ => ⟨S8x2x4x2048x1, .f32⟩
  | .hbm, ⟨46, _⟩ => ⟨S8x2x4x2048x2561, .f32⟩
  | .hbm, ⟨47, _⟩ => ⟨S8x2x4x2048x2561, .f32⟩
  | .hbm, ⟨48, _⟩ => ⟨S8x2x4x2048x2561, .f32⟩
  | .hbm, ⟨49, _⟩ => ⟨S_, .f32⟩
  | .hbm, ⟨50, _⟩ => ⟨S8x2x4x2048, .f32⟩
  | .hbm, ⟨51, _⟩ => ⟨S8x2x4x2048x1, .f32⟩
  | .hbm, ⟨52, _⟩ => ⟨S8x2x4x2048x2561, .f32⟩
  | .hbm, ⟨53, _⟩ => ⟨S8x2x4x2048x2561, .f32⟩
  | .hbm, ⟨54, _⟩ => ⟨S8x2x4x2048x2048, .f32⟩
  | .hbm, ⟨55, _⟩ => ⟨S8x2x64x4x2048, .f32⟩
  | .hbm, ⟨56, _⟩ => ⟨S8x2048x2x4x64, .f32⟩
  | .hbm, ⟨57, _⟩ => ⟨S8x2x4x2048x512, .f32⟩
  | .hbm, ⟨58, _⟩ => ⟨S8x2x64x4x2048, .f32⟩
  | .hbm, ⟨59, _⟩ => ⟨S8x2048x2x4x64, .f32⟩
  | .hbm, ⟨60, _⟩ => ⟨S8x2048x2x4x64, .f32⟩
  | .hbm, ⟨61, _⟩ => ⟨S16384x512, .f32⟩
  | .hbm, ⟨62, _⟩ => ⟨S16384x512, .bf16⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_1 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_2 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]
-- ==== Proof.Softmax.lean ====
/- Hand-written, untrusted: the softmax average of weights over finitely many scores, as extended reals (`soft`), and its
   three laws. Scores of `⊥` may be left out (`soft_comp`); the average of the quotients is the quotient of the averages
   where the scores are below `⊤` and one is above `⊥` (`sum_div_eq_soft`); the average of zeros is zero there
   (`soft_zero`). -/
module

public import Idealize.ShloMosaic.PureOps.Ideal

@[expose] public section

noncomputable section

namespace Cert.Proof.Softmax

open Idealize.ShloMosaic

variable {κ κ' : Type*} [Fintype κ] [Fintype κ']

/-- The largest score. -/
def top (t : κ → EReal) : EReal := Finset.univ.sup t

/-- The weights' softmax average: the exponentials of the scores' distances from the largest, weighted, over their sum. -/
def soft (t w : κ → EReal) : EReal :=
  Ideal.div (∑ k, Ideal.exp (t k - top t) * w k) (∑ k, Ideal.exp (t k - top t))

theorem bot_sub' (x : EReal) : (⊥ : EReal) - x = ⊥ := by
  rw [sub_eq_add_neg, EReal.bot_add]

theorem exp_bot_sub (x : EReal) : Ideal.exp (⊥ - x) = 0 := by rw [bot_sub']; rfl

theorem top_comp (f : κ → κ') (hf : Function.Injective f) (t : κ' → EReal) (h : ∀ k, k ∉ Set.range f → t k = ⊥) :
    top (t ∘ f) = top t := by
  unfold top
  apply le_antisymm
  · exact Finset.sup_le fun k _ => Finset.le_sup (f := t) (Finset.mem_univ (f k))
  · refine Finset.sup_le fun k _ => ?_
    by_cases hk : k ∈ Set.range f
    · obtain ⟨j, rfl⟩ := hk
      exact Finset.le_sup (f := t ∘ f) (Finset.mem_univ j)
    · rw [h k hk]; exact bot_le

/-- Scores of `⊥` may be left out of the average. -/
theorem soft_comp (f : κ → κ') (hf : Function.Injective f) (t w : κ' → EReal) (h : ∀ k, k ∉ Set.range f → t k = ⊥) :
    soft (t ∘ f) (w ∘ f) = soft t w := by
  unfold soft
  rw [top_comp f hf t h]
  congr 1
  · exact Fintype.sum_of_injective f hf _ _ (fun k hk => by rw [h k hk, exp_bot_sub, zero_mul]) fun _ => rfl
  · exact Fintype.sum_of_injective f hf _ _ (fun k hk => by rw [h k hk, exp_bot_sub]) fun _ => rfl

/-- A factor that is a nonnegative real goes into a sum. -/
theorem sum_mul_coe {ι : Type*} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

/-- A finite sum of reals is that sum of reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

section Regular

variable {t : κ → EReal} (h : ∀ k, t k ≠ ⊤) (h' : ∃ k, t k ≠ ⊥)
include h h'

/-- The largest score is then real. -/
theorem top_real : ∃ r : ℝ, top t = r := by
  obtain ⟨k, hk⟩ := h'
  have hlt : top t < ⊤ := (Finset.sup_lt_iff bot_lt_top).2 fun j _ => lt_top_iff_ne_top.2 (h j)
  have hgt : ⊥ < top t := lt_of_lt_of_le (bot_lt_iff_ne_bot.2 hk) (Finset.le_sup (f := t) (Finset.mem_univ k))
  exact ⟨(top t).toReal, (EReal.coe_toReal hlt.ne hgt.ne').symm⟩

/-- And the sum of the exponentials is a positive real. -/
theorem den_real : ∃ r : ℝ, 0 < r ∧ ∑ k, Ideal.exp (t k - top t) = (r : EReal) := by
  obtain ⟨M, hM⟩ := top_real h h'
  have hx : ∀ k, ∃ x : ℝ, 0 ≤ x ∧ (t k ≠ ⊥ → 0 < x) ∧ Ideal.exp (t k - top t) = (x : EReal) := by
    intro k
    rw [hM]
    by_cases hb : t k = ⊥
    · exact ⟨0, le_rfl, fun hn => absurd hb hn, by rw [hb, exp_bot_sub]; rfl⟩
    · refine ⟨Real.exp ((t k).toReal - M), (Real.exp_pos _).le, fun _ => Real.exp_pos _, ?_⟩
      conv_lhs => rw [← EReal.coe_toReal (h k) hb]
      rw [← EReal.coe_sub, Ideal.exp_coe]
  choose x hx0 hxp hxe using hx
  obtain ⟨k, hk⟩ := h'
  refine ⟨∑ k, x k, Finset.sum_pos' (fun j _ => hx0 j) ⟨k, Finset.mem_univ k, hxp k hk⟩, ?_⟩
  rw [coe_sum]
  exact Finset.sum_congr rfl fun j _ => hxe j

theorem div_den {r : ℝ} (hr : 0 < r) (x : EReal) : Ideal.div x (r : EReal) = x * ((r⁻¹ : ℝ) : EReal) := by
  unfold Ideal.div
  rw [if_neg (by exact_mod_cast hr.ne'), EReal.coe_inv]

/-- The average of the quotients is the quotient of the averages. -/
theorem sum_div_eq_soft (w : κ → EReal) :
    ∑ k, w k * Ideal.div (Ideal.exp (t k - top t)) (∑ j, Ideal.exp (t j - top t)) = soft t w := by
  obtain ⟨r, hr, hL⟩ := den_real h h'
  unfold soft
  rw [hL, div_den h h' hr, sum_mul_coe _ _ (inv_pos.2 hr).le]
  refine Finset.sum_congr rfl fun k _ => ?_
  rw [div_den h h' hr, mul_comm, mul_assoc, mul_assoc, mul_comm (w k)]

/-- The average of zeros is zero. -/
theorem soft_zero (w : κ → EReal) (hw : ∀ k, w k = 0) : soft t w = 0 := by
  obtain ⟨r, hr, hL⟩ := den_real h h'
  unfold soft
  rw [hL, div_den h h' hr]
  simp [hw]

end Regular

theorem fold_eq_top (t : κ → EReal) : Finset.univ.fold max ⊥ t = top t := rfl

theorem top_sum {ι : Type*} [Fintype ι] (s : κ → EReal) (c : ι → EReal) : top (Sum.elim s c) = max (top s) (top c) := by
  unfold top
  rw [← Finset.univ_disjSum_univ, Finset.sup_disjSum]; rfl

theorem top_unit (x : EReal) : top (fun _ : Unit => x) = x := by
  unfold top; simp

/-- The average over two families of scores and one lone score, written with its sums and its maximum apart. -/
theorem soft_parts {ι : Type*} [Fintype ι] (s v : κ → EReal) (c vc : ι → EReal) (sink m : EReal)
    (hm : m = max (max (top s) sink) (top c)) :
    Ideal.div (∑ k, Ideal.exp (s k - m) * v k + ∑ k, Ideal.exp (c k - m) * vc k)
      (∑ k, Ideal.exp (s k - m) + Ideal.exp (sink - m) + ∑ k, Ideal.exp (c k - m))
    = soft (Sum.elim s (Sum.elim c fun _ : Unit => sink)) (Sum.elim v (Sum.elim vc fun _ : Unit => 0)) := by
  have hT : top (Sum.elim s (Sum.elim c fun _ : Unit => sink)) = m := by
    rw [hm, top_sum, top_sum, top_unit, max_assoc, max_comm sink]
  unfold soft
  rw [hT]
  simp only [Fintype.sum_sum_type, Sum.elim_inl, Sum.elim_inr, Finset.univ_unique, Finset.sum_singleton, mul_zero, add_zero]
  rw [add_assoc, add_comm (Ideal.exp (sink - m))]

/-- One head's output at one lane: the softmax average, with a lone score that only joins the sum, of the values at that
    lane of two families of keys. -/
def att {ι : Type*} [Fintype ι] {n : ℕ} (q : Fin n → EReal) (k : κ → Fin n → EReal) (v : κ → EReal)
    (kc : ι → Fin n → EReal) (vc : ι → EReal) (sink : EReal) : EReal :=
  soft (Sum.elim (fun j => ∑ x, q x * k j x) (Sum.elim (fun j => ∑ x, q x * kc j x) fun _ : Unit => sink))
    (Sum.elim v (Sum.elim vc fun _ : Unit => 0))

theorem ofBits_neg_inf : Ideal.ofBits .f32 0xFF800000#32 = ⊥ := by
  simp [Ideal.ofBits, Ideal.ieee]

end Cert.Proof.Softmax
-- ==== Proof.FullHead.lean ====
/- Hand-written, untrusted: one head's output of the body at an index is the softmax average `Softmax.att`. -/
module

public import proofs.«01_k».proof.Proof.Gen.FullIdeal.Value
public import proofs.«01_k».proof.Proof.Softmax
public import Idealize.ShloMosaic.Lib.Pointwise

@[expose] public section

set_option maxRecDepth 16384

noncomputable section

namespace Cert.Proof.FullHead

open Cert.FullIdeal Cert.FullIdeal.Gen Idealize.ShloMosaic Idealize.ShloMosaic.TcCoe Idealize.SL.Sem
open Cert.Proof.Softmax

/-- A head's output at row `r` and lane `l` of its block of columns. -/
theorem head_apply (q : FVec Ideal S512x128 .bf16) (k v : Vec Ideal S2048x128 .bf16) (sink : Elt Ideal .f32)
    (kc vc : Vec Ideal S512x128 .bf16) (r : Fin 512) (l : Fin 128) :
    k0_pay12 q k v sink kc vc (ix2 r l)
      = att (fun x => q (ix2 r x)) (fun j x => k (ix2 j x)) (fun j => v (ix2 j l)) (fun j x => kc (ix2 j x))
          (fun j => vc (ix2 j l)) sink := by
  unfold k0_pay12
  pointwise []
  rw [ofBits_neg_inf]
  exact soft_parts _ _ _ _ _ _ rfl

end Cert.Proof.FullHead
-- ==== Proof.Spec.lean ====
/- Hand-written, untrusted: the attention of a query row over its sequence's keys and its context's, at one output lane,
   as a function of the arrays (`spec`); and how 128-lane column blocks whose other half is zero compute it: a dot with such a
   block is a dot with its half (`sum_pad`), and of two heads that share the lanes of a block only one adds to a lane
   (`soft_halves`). -/
module

public import proofs.«01_k».proof.Proof.Softmax

@[expose] public section

noncomputable section

namespace Cert.Proof.Spec

open Idealize.ShloMosaic Cert.Proof.Softmax

/-- The scale of the scores, 1/8. -/
def eighth : EReal := Ideal.ofBits .f32 0x3E000000#32

theorem eighth_eq : eighth = ((1 / 8 : ℝ) : EReal) := by
  unfold eighth
  simp [Ideal.ofBits, Ideal.ieee, -EReal.coe_mul]
  norm_num

/-- Column `d` of head `h`, of 8 heads side by side. -/
def hcol (h : Fin 8) (d : Fin 64) : Fin 512 := ⟨64 * h.val + d.val, by omega⟩

/-- Column `d` of the keys and values of head `h`, of 2 side by side. -/
def gcol (h : Fin 8) (d : Fin 64) : Fin 128 := ⟨64 * (h.val / 4) + d.val, by omega⟩

/-- Row `j` of the sequence that query row `t` is in; row `j` of its context. -/
def krow (t : Fin 16384) (j : Fin 2048) : Fin 16384 := ⟨2048 * (t.val / 2048) + j.val, by omega⟩
def crow (t : Fin 16384) (j : Fin 512) : Fin 4096 := ⟨512 * (t.val / 2048) + j.val, by omega⟩

/-- The score of query row `t` with key row `r` in head `h`. -/
def score {R : ℕ} (q : Fin 16384 → Fin 512 → EReal) (k : Fin R → Fin 128 → EReal) (t : Fin 16384) (r : Fin R) (h : Fin 8) :
    EReal := ∑ d, q t (hcol h d) * eighth * k r (gcol h d)

/-- The scores of query row `t` in head `h`: its sequence's keys where `near`, its context's keys, the sink. -/
def scores (near : Fin 16384 → Fin 2048 → Prop) [∀ t j, Decidable (near t j)] (q : Fin 16384 → Fin 512 → EReal)
    (k : Fin 16384 → Fin 128 → EReal) (kc : Fin 4096 → Fin 128 → EReal) (sink : Fin 8 → EReal) (t : Fin 16384) (h : Fin 8) :
    Fin 2048 ⊕ Fin 512 ⊕ Unit → EReal :=
  Sum.elim (fun j => if near t j then score q k t (krow t j) h else ⊥)
    (Sum.elim (fun j => score q kc t (crow t j) h) fun _ => sink h)

/-- The values it averages, at lane `d`. -/
def vals (v : Fin 16384 → Fin 128 → EReal) (vc : Fin 4096 → Fin 128 → EReal) (t : Fin 16384) (h : Fin 8) (d : Fin 64) :
    Fin 2048 ⊕ Fin 512 ⊕ Unit → EReal :=
  Sum.elim (fun j => v (krow t j) (gcol h d)) (Sum.elim (fun j => vc (crow t j) (gcol h d)) fun _ => 0)

/-- The attention at row `t`, head `h`, lane `d`. -/
def spec (near : Fin 16384 → Fin 2048 → Prop) [∀ t j, Decidable (near t j)] (q : Fin 16384 → Fin 512 → EReal)
    (k v : Fin 16384 → Fin 128 → EReal) (kc vc : Fin 4096 → Fin 128 → EReal) (sink : Fin 8 → EReal)
    (t : Fin 16384) (h : Fin 8) (d : Fin 64) : EReal :=
  soft (scores near q k kc sink t h) (vals v vc t h d)

/-! ## Real scores -/

section Real

variable (qr : Fin 16384 → Fin 512 → ℝ)

theorem score_coe {R : ℕ} (kr : Fin R → Fin 128 → ℝ) (t : Fin 16384) (r : Fin R) (h : Fin 8) :
    score (fun t x => (qr t x : EReal)) (fun t x => (kr t x : EReal)) t r h
      = ((∑ d, qr t (hcol h d) * (1 / 8) * kr r (gcol h d) : ℝ) : EReal) := by
  unfold score
  rw [coe_sum, eighth_eq]
  simp only [EReal.coe_mul]

/-- The same with the scale taken after the sum. -/
theorem score_swap {R : ℕ} (kr : Fin R → Fin 128 → ℝ) (t : Fin 16384) (r : Fin R) (h : Fin 8) :
    (∑ d, (kr r (gcol h d) : EReal) * (qr t (hcol h d) : EReal)) * eighth
      = score (fun t x => (qr t x : EReal)) (fun t x => (kr t x : EReal)) t r h := by
  rw [score_coe, eighth_eq]
  simp only [← EReal.coe_mul]
  rw [← coe_sum, ← EReal.coe_mul, Finset.sum_mul]
  congr 1
  exact Finset.sum_congr rfl fun d _ => by ring

theorem scores_ne_top (near : Fin 16384 → Fin 2048 → Prop) [∀ t j, Decidable (near t j)] (kr : Fin 16384 → Fin 128 → ℝ)
    (kcr : Fin 4096 → Fin 128 → ℝ) (sink : Fin 8 → EReal) (hs : ∀ h, sink h ≠ ⊤) (t : Fin 16384) (h : Fin 8)
    (x : Fin 2048 ⊕ Fin 512 ⊕ Unit) :
    scores near (fun t x => (qr t x : EReal)) (fun t x => (kr t x : EReal)) (fun t x => (kcr t x : EReal)) sink t h x ≠ ⊤ := by
  unfold scores
  rcases x with j | j | j
  · show (if near t j then _ else ⊥) ≠ (⊤ : EReal)
    split
    · rw [score_coe]; exact EReal.coe_ne_top _
    · exact bot_ne_top
  · show score (fun t x => (qr t x : EReal)) (fun t x => (kcr t x : EReal)) t (crow t j) h ≠ ⊤
    rw [score_coe]; exact EReal.coe_ne_top _
  · exact hs h

theorem scores_ne_bot (near : Fin 16384 → Fin 2048 → Prop) [∀ t j, Decidable (near t j)] (kr : Fin 16384 → Fin 128 → ℝ)
    (kcr : Fin 4096 → Fin 128 → ℝ) (sink : Fin 8 → EReal) (t : Fin 16384) (h : Fin 8) :
    ∃ x, scores near (fun t x => (qr t x : EReal)) (fun t x => (kr t x : EReal)) (fun t x => (kcr t x : EReal)) sink t h x ≠ ⊥ :=
  ⟨Sum.inr (Sum.inl 0), by
    show score (fun t x => (qr t x : EReal)) (fun t x => (kcr t x : EReal)) t (crow t 0) h ≠ ⊥
    rw [score_coe]; exact EReal.coe_ne_bot _⟩

end Real

/-! ## Column blocks with a zero half -/

/-- 64 lanes in half `e` of 128, zeros in the other. -/
def pad (e : Fin 2) (f : Fin 64 → EReal) (x : Fin 128) : EReal :=
  if x.val / 64 = e.val then f ⟨x.val % 64, by omega⟩ else 0

/-- Lane `d` of half `e`. -/
def half (e : Fin 2) (d : Fin 64) : Fin 128 := ⟨64 * e.val + d.val, by omega⟩

theorem sum_pad (q : Fin 128 → EReal) (e : Fin 2) (f : Fin 64 → EReal) :
    ∑ x, q x * pad e f x = ∑ d, q (half e d) * f d := by
  symm
  refine Fintype.sum_of_injective (half e) (fun a b h => Fin.ext (by have := congrArg Fin.val h; simp only [half] at this; omega)) _ _ ?_ ?_
  · intro x hx
    unfold pad
    rw [if_neg, mul_zero]
    intro h
    exact hx ⟨⟨x.val % 64, by omega⟩, Fin.ext (by simp only [half]; omega)⟩
  · intro d
    have h1 : (half e d).val / 64 = e.val := by simp only [half]; omega
    have h2 : (⟨(half e d).val % 64, by omega⟩ : Fin 64) = d := Fin.ext (by simp only [half]; omega)
    unfold pad
    rw [if_pos h1, h2]

/-- Of the two heads that share a column block, lane `d` of half `e` receives head `e`'s average alone. -/
theorem soft_halves {κ : Type*} [Fintype κ] (S : Fin 2 → κ → EReal) (h : ∀ e k, S e k ≠ ⊤) (h' : ∀ e, ∃ k, S e k ≠ ⊥)
    (w : κ → Fin 64 → EReal) (e : Fin 2) (d : Fin 64) :
    soft (S 0) (fun k => pad 0 (w k) (half e d)) + soft (S 1) (fun k => pad 1 (w k) (half e d)) = soft (S e) fun k => w k d := by
  have hon : ∀ k, pad e (w k) (half e d) = w k d := fun k => by
    have h1 : (half e d).val / 64 = e.val := by simp only [half]; omega
    have h2 : (⟨(half e d).val % 64, by omega⟩ : Fin 64) = d := Fin.ext (by simp only [half]; omega)
    unfold pad
    rw [if_pos h1, h2]
  have hoff : ∀ e' : Fin 2, e' ≠ e → ∀ k, pad e' (w k) (half e d) = 0 := fun e' he k => by
    unfold pad
    rw [if_neg]
    intro h1
    simp only [half] at h1
    exact he (Fin.ext (by omega))
  match e, hon, hoff with
  | 0, hon, hoff => rw [funext hon, soft_zero (h 1) (h' 1) _ (hoff 1 (by decide)), add_zero]
  | 1, hon, hoff => rw [funext hon, soft_zero (h 0) (h' 0) _ (hoff 0 (by decide)), zero_add]

/-- Lane `x` of column block `b`. -/
def lane (b : Fin 4) (x : Fin 128) : Fin 512 := ⟨128 * b.val + x.val, by omega⟩

/-- The column block that pads the keys and values of head `2 b + e`. -/
def kvb (b : Fin 4) (e : Fin 2) : Fin 4 := ⟨b.val / 2 * 2 + e.val, by omega⟩

/-- Head `e` of the two in column block `b`. -/
def hd (b : Fin 4) (e : Fin 2) : Fin 8 := ⟨2 * b.val + e.val, by omega⟩

theorem lane_half (b : Fin 4) (e : Fin 2) (d : Fin 64) : lane b (half e d) = hcol (hd b e) d :=
  Fin.ext (by simp only [lane, half, hcol, hd]; omega)

/-- Every column is a lane of a half of a column block. -/
theorem lane_surj (x : Fin 512) : ∃ b e d, x = lane b (half e d) :=
  ⟨⟨x.val / 128, by omega⟩, ⟨x.val % 128 / 64, by omega⟩, ⟨x.val % 64, by omega⟩, Fin.ext (by simp only [lane, half]; omega)⟩

/-- Eight pieces of 64 columns side by side, four of them zero: the padded column blocks. -/
theorem ladder_pad (f : Fin 128 → EReal) (b : Fin 4) (e : Fin 2) (y : Fin 128) (x : ℕ) (hx : x = (lane (kvb b e) y).val) :
    (if h : x < 64 then f ⟨x, by omega⟩
      else if h : x - 64 < 64 then 0
      else if h : x - 64 - 64 < 64 then 0
      else if h : x - 64 - 64 - 64 < 64 then f ⟨x - 64 - 64 - 64, by omega⟩
      else if h : x - 64 - 64 - 64 - 64 < 64 then f ⟨64 + (x - 64 - 64 - 64 - 64), by omega⟩
      else if h : x - 64 - 64 - 64 - 64 - 64 < 64 then 0
      else if h : x - 64 - 64 - 64 - 64 - 64 - 64 < 64 then 0
      else f ⟨64 + (x - 64 - 64 - 64 - 64 - 64 - 64 - 64), by have := (lane (kvb b e) y).isLt; omega⟩)
      = pad e (fun d => f (gcol (hd b e) d)) y := by
  simp only [lane, kvb] at hx
  unfold pad
  simp only [gcol, hd]
  split_ifs <;> first
    | rfl
    | (exfalso; omega)
    | (refine congrArg f (Fin.ext ?_); show _ = _; dsimp only; omega)

/-- A dot of 128 lanes, scaled queries with a padded column block, is head `2 b + e`'s of 64. -/
theorem dot_pad (Q : Fin 512 → EReal) (K : Fin 128 → EReal) (b : Fin 4) (e : Fin 2) (f g : Fin 128 → EReal)
    (hf : ∀ x, f x = Q (lane b x) * eighth) (hg : ∀ x, g x = pad e (fun d => K (gcol (hd b e) d)) x) :
    ∑ x, f x * g x = ∑ d, Q (hcol (hd b e) d) * eighth * K (gcol (hd b e) d) := by
  rw [Finset.sum_congr rfl fun x _ => congrArg₂ (· * ·) (hf x) (hg x)]
  rw [sum_pad (fun x => Q (lane b x) * eighth) e]
  simp only [lane_half]

end Cert.Proof.Spec
-- ==== Proof.FullBlock.lean ====
/- Hand-written, untrusted: what the body leaves in its output block is one function `G` of the input blocks (`out_eq`): each
   of the four stores holds the sum of two heads, each head the softmax average of FullHead.lean. -/
module

public import proofs.«01_k».proof.Proof.FullHead
public import proofs.«01_k».proof.Proof.Spec
public import Idealize.ShloMosaic.Lib.Pipeline.CanonAppend

@[expose] public section

set_option maxRecDepth 16384

noncomputable section

namespace Cert.Proof.FullBlock

open Cert.FullIdeal Cert.FullIdeal.Gen Idealize.ShloMosaic Idealize.ShloMosaic.TcCoe Idealize.SL.Sem
open Cert.Proof.Softmax Cert.Proof.FullHead Cert.Proof.Spec

/-- Head `2 b + e` at row `r` and lane `l` of its column block, over whole blocks. -/
def headG (x0 : Vec Ideal S8 .f32) (x1 : Vec Ideal S512x512 .bf16) (x2 x3 : Vec Ideal S2048x512 .bf16)
    (x4 x5 : Vec Ideal S512x512 .bf16) (b : Fin 4) (e : Fin 2) (r : Fin 512) (l : Fin 128) : EReal :=
  att (fun x => x1 (ix2 r (lane b x))) (fun j x => x2 (ix2 j (lane (kvb b e) x))) (fun j => x3 (ix2 j (lane (kvb b e) l)))
    (fun j x => x4 (ix2 j (lane (kvb b e) x))) (fun j => x5 (ix2 j (lane (kvb b e) l))) (x0 (ix1 (hd b e)))

def G (x0 : Vec Ideal S8 .f32) (x1 : Vec Ideal S512x512 .bf16) (x2 x3 : Vec Ideal S2048x512 .bf16)
    (x4 x5 : Vec Ideal S512x512 .bf16) : Vec Ideal S512x512 .bf16 := fun i =>
  have h1 : (i 1).val < 512 := (i 1).isLt
  headG x0 x1 x2 x3 x4 x5 ⟨(i 1).val / 128, by omega⟩ 0 (i 0) ⟨(i 1).val % 128, by omega⟩
    + headG x0 x1 x2 x3 x4 x5 ⟨(i 1).val / 128, by omega⟩ 1 (i 0) ⟨(i 1).val % 128, by omega⟩

theorem G_lane (x0 : Vec Ideal S8 .f32) (x1 : Vec Ideal S512x512 .bf16) (x2 x3 : Vec Ideal S2048x512 .bf16)
    (x4 x5 : Vec Ideal S512x512 .bf16) (b : Fin 4) (r : Fin 512) (l : Fin 128) :
    G x0 x1 x2 x3 x4 x5 (ix2 r (lane b l)) = headG x0 x1 x2 x3 x4 x5 b 0 r l + headG x0 x1 x2 x3 x4 x5 b 1 r l := by
  have hb : (⟨(lane b l).val / 128, by have := (lane b l).isLt; omega⟩ : Fin 4) = b := Fin.ext (by show (128 * b.val + l.val) / 128 = b.val; omega)
  have hl : (⟨(lane b l).val % 128, by omega⟩ : Fin 128) = l := Fin.ext (by show (128 * b.val + l.val) % 128 = l.val; omega)
  show headG x0 x1 x2 x3 x4 x5 ⟨(lane b l).val / 128, _⟩ 0 r ⟨(lane b l).val % 128, _⟩ + headG x0 x1 x2 x3 x4 x5 ⟨(lane b l).val / 128, _⟩ 1 r ⟨(lane b l).val % 128, _⟩ = _
  rw [hb, hl]

/-- A load of 128 columns from column `o`, at an index. -/
theorem ld_apply {R o : ℕ} {e : EltTy} (X : Vec Ideal (⟨2, ![R, 512]⟩ : Shape) e)
    (inb : ∀ a, (![0, o] : Fin 2 → ℕ) a + (⟨2, ![R, 128]⟩ : Shape).size a ≤ (⟨2, ![R, 512]⟩ : Shape).size a)
    (b : Fin 4) (hb : o = 128 * b.val) (r : Fin R) (x : Fin 128) :
    View.ld X (Rect.unit ![0, o] (⟨2, ![R, 128]⟩ : Shape).size inb) (ix2 r x) = X (ix2 r (lane b x)) := by
  subst hb
  refine congrArg X (funext fun a => Fin.ext ?_)
  match a with
  | ⟨0, _⟩ => show 0 + 1 * r.val = r.val; omega
  | ⟨1, _⟩ => show 128 * b.val + 1 * x.val = 128 * b.val + x.val; omega

/-- A head over loads of the whole blocks. -/
theorem head_ld (x0 : Vec Ideal S8 .f32) (x1 : Vec Ideal S512x512 .bf16) (x2 x3 : Vec Ideal S2048x512 .bf16)
    (x4 x5 : Vec Ideal S512x512 .bf16) (b : Fin 4) (e : Fin 2) {o p : ℕ}
    (i1 : ∀ a, (![0, o] : Fin 2 → ℕ) a + S512x128.size a ≤ S512x512.size a)
    (i2 : ∀ a, (![0, p] : Fin 2 → ℕ) a + S2048x128.size a ≤ S2048x512.size a)
    (i4 : ∀ a, (![0, p] : Fin 2 → ℕ) a + S512x128.size a ≤ S512x512.size a)
    (ho : o = 128 * b.val) (hp : p = 128 * (kvb b e).val) (r : Fin 512) (l : Fin 128) :
    k0_pay12 (k0_pay2 (View.ld x1 (Rect.unit ![0, o] S512x128.size i1))) (View.ld x2 (Rect.unit ![0, p] S2048x128.size i2))
      (View.ld x3 (Rect.unit ![0, p] S2048x128.size i2)) (x0 (ix1 (hd b e)))
      (View.ld x4 (Rect.unit ![0, p] S512x128.size i4)) (View.ld x5 (Rect.unit ![0, p] S512x128.size i4)) (ix2 r l)
      = headG x0 x1 x2 x3 x4 x5 b e r l := by
  have hq : k0_pay2 (View.ld x1 (Rect.unit ![0, o] S512x128.size i1)) = View.ld x1 (Rect.unit ![0, o] S512x128.size i1) := by
    unfold k0_pay2; exact shapeCast_self _ _
  rw [hq, head_apply]
  unfold headG
  rw [funext fun x => ld_apply x1 i1 b ho r x, funext fun j => funext fun x => ld_apply x2 i2 (kvb b e) hp j x,
    funext fun j => ld_apply x3 i2 (kvb b e) hp j l, funext fun j => funext fun x => ld_apply x4 i4 (kvb b e) hp j x,
    funext fun j => ld_apply x5 i4 (kvb b e) hp j l]

set_option maxHeartbeats 4000000 in
/-- What the body leaves in its output block. -/
theorem out_eq (c : Dev nD) (i : grid0.Coords) (arg2 : Memref sig .tc .smem S8 .f32) (harg2 : arg2.IsWhole) (arg3 : Memref sig .tc .vmem S512x512 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole)
    (x0 : Vec Ideal S8 .f32) (x1 : Vec Ideal S512x512 .bf16) (x2 : Vec Ideal S2048x512 .bf16) (x3 : Vec Ideal S2048x512 .bf16) (x4 : Vec Ideal S512x512 .bf16) (x5 : Vec Ideal S512x512 .bf16) :
    out0_A_6 c i arg2 harg2 arg3 harg3 arg4 harg4 arg5 harg5 arg6 harg6 arg7 harg7 arg8 harg8 x0 x1 x2 x3 x4 x5
      = G x0 x1 x2 x3 x4 x5 := by
  funext y
  have hc := cover0_A_6 c i arg2 harg2 arg3 harg3 arg4 harg4 arg5 harg5 arg6 harg6 arg7 harg7 arg8 harg8 x0 x1 x2 x3 x4 x5 y
  unfold out0_A_6
  rw [View.read_writes_junk_eq_canon]
  revert hc
  have e2 := harg2.read_unread x0
  have e3 := harg3.read_unread x1
  have e4 := harg4.read_unread x2
  have e5 := harg5.read_unread x3
  have e6 := harg6.read_unread x4
  have e7 := harg7.read_unread x5
  unfold kernelRun0_A
  dsimp only
  sl_unfold_words
  simp only [View.readAt_eq_ld, e2, e3, e4, e5, e6, e7]
  intro hc
  rw [← List.append_nil (_ :: _)]
  refine View.canon_append_of_pieces _ [] _ ?_ y hc
  refine List.forall_mem_cons.2 ⟨?_, List.forall_mem_cons.2 ⟨?_, List.forall_mem_cons.2 ⟨?_, List.forall_mem_cons.2 ⟨?_, fun _ h => absurd h List.not_mem_nil⟩⟩⟩⟩
  · intro x
    obtain ⟨r, l, rfl⟩ : ∃ (r : Fin 512) (l : Fin 128), x = ix2 r l := ⟨x 0, x 1, eq_ix2 x⟩
    have he : (Rect.unit (s := S512x512) ![0, 384] ![512, 128] inb_S512x512_S512x128_0_384).emb (ix2 r l) = ix2 r (lane 3 l) := by
      funext a; apply Fin.ext
      match a with
      | ⟨0, _⟩ => show 0 + 1 * r.val = r.val; omega
      | ⟨1, _⟩ => show 384 + 1 * l.val = 128 * 3 + l.val; omega
    refine Eq.trans ?_ (congrArg (G x0 x1 x2 x3 x4 x5) he.symm)
    rw [G_lane, ← head_ld x0 x1 x2 x3 x4 x5 3 0 inb_S512x512_S512x128_0_384 inb_S2048x512_S2048x128_0_256 inb_S512x512_S512x128_0_256 rfl rfl,
      ← head_ld x0 x1 x2 x3 x4 x5 3 1 inb_S512x512_S512x128_0_384 inb_S2048x512_S2048x128_0_384 inb_S512x512_S512x128_0_384 rfl rfl,
      show ix1 (hd 3 0) = (Rect.unit (s := S8) ![6] S1.size inb_S8_S1_6).emb (Shape.Idx.first (by decide)) from funext fun a => by match a with | ⟨0, _⟩ => rfl,
      show ix1 (hd 3 1) = (Rect.unit (s := S8) ![7] S1.size inb_S8_S1_7).emb (Shape.Idx.first (by decide)) from funext fun a => by match a with | ⟨0, _⟩ => rfl]
    rfl
  · intro x
    obtain ⟨r, l, rfl⟩ : ∃ (r : Fin 512) (l : Fin 128), x = ix2 r l := ⟨x 0, x 1, eq_ix2 x⟩
    have he : (Rect.unit (s := S512x512) ![0, 256] ![512, 128] inb_S512x512_S512x128_0_256).emb (ix2 r l) = ix2 r (lane 2 l) := by
      funext a; apply Fin.ext
      match a with
      | ⟨0, _⟩ => show 0 + 1 * r.val = r.val; omega
      | ⟨1, _⟩ => show 256 + 1 * l.val = 128 * 2 + l.val; omega
    refine Eq.trans ?_ (congrArg (G x0 x1 x2 x3 x4 x5) he.symm)
    rw [G_lane, ← head_ld x0 x1 x2 x3 x4 x5 2 0 inb_S512x512_S512x128_0_256 inb_S2048x512_S2048x128_0_256 inb_S512x512_S512x128_0_256 rfl rfl,
      ← head_ld x0 x1 x2 x3 x4 x5 2 1 inb_S512x512_S512x128_0_256 inb_S2048x512_S2048x128_0_384 inb_S512x512_S512x128_0_384 rfl rfl,
      show ix1 (hd 2 0) = (Rect.unit (s := S8) ![4] S1.size inb_S8_S1_4).emb (Shape.Idx.first (by decide)) from funext fun a => by match a with | ⟨0, _⟩ => rfl,
      show ix1 (hd 2 1) = (Rect.unit (s := S8) ![5] S1.size inb_S8_S1_5).emb (Shape.Idx.first (by decide)) from funext fun a => by match a with | ⟨0, _⟩ => rfl]
    rfl
  · intro x
    obtain ⟨r, l, rfl⟩ : ∃ (r : Fin 512) (l : Fin 128), x = ix2 r l := ⟨x 0, x 1, eq_ix2 x⟩
    have he : (Rect.unit (s := S512x512) ![0, 128] ![512, 128] inb_S512x512_S512x128_0_128).emb (ix2 r l) = ix2 r (lane 1 l) := by
      funext a; apply Fin.ext
      match a with
      | ⟨0, _⟩ => show 0 + 1 * r.val = r.val; omega
      | ⟨1, _⟩ => show 128 + 1 * l.val = 128 * 1 + l.val; omega
    refine Eq.trans ?_ (congrArg (G x0 x1 x2 x3 x4 x5) he.symm)
    rw [G_lane, ← head_ld x0 x1 x2 x3 x4 x5 1 0 inb_S512x512_S512x128_0_128 inb_S2048x512_S2048x128_0_0 inb_S512x512_S512x128_0_0 rfl rfl,
      ← head_ld x0 x1 x2 x3 x4 x5 1 1 inb_S512x512_S512x128_0_128 inb_S2048x512_S2048x128_0_128 inb_S512x512_S512x128_0_128 rfl rfl,
      show ix1 (hd 1 0) = (Rect.unit (s := S8) ![2] S1.size inb_S8_S1_2).emb (Shape.Idx.first (by decide)) from funext fun a => by match a with | ⟨0, _⟩ => rfl,
      show ix1 (hd 1 1) = (Rect.unit (s := S8) ![3] S1.size inb_S8_S1_3).emb (Shape.Idx.first (by decide)) from funext fun a => by match a with | ⟨0, _⟩ => rfl]
    rfl
  · intro x
    obtain ⟨r, l, rfl⟩ : ∃ (r : Fin 512) (l : Fin 128), x = ix2 r l := ⟨x 0, x 1, eq_ix2 x⟩
    have he : (Rect.unit (s := S512x512) ![0, 0] ![512, 128] inb_S512x512_S512x128_0_0).emb (ix2 r l) = ix2 r (lane 0 l) := by
      funext a; apply Fin.ext
      match a with
      | ⟨0, _⟩ => show 0 + 1 * r.val = r.val; omega
      | ⟨1, _⟩ => show 0 + 1 * l.val = 128 * 0 + l.val; omega
    refine Eq.trans ?_ (congrArg (G x0 x1 x2 x3 x4 x5) he.symm)
    rw [G_lane, ← head_ld x0 x1 x2 x3 x4 x5 0 0 inb_S512x512_S512x128_0_0 inb_S2048x512_S2048x128_0_0 inb_S512x512_S512x128_0_0 rfl rfl,
      ← head_ld x0 x1 x2 x3 x4 x5 0 1 inb_S512x512_S512x128_0_0 inb_S2048x512_S2048x128_0_128 inb_S512x512_S512x128_0_128 rfl rfl,
      show ix1 (hd 0 0) = (Rect.unit (s := S8) ![0] S1.size inb_S8_S1_0).emb (Shape.Idx.first (by decide)) from funext fun a => by match a with | ⟨0, _⟩ => rfl,
      show ix1 (hd 0 1) = (Rect.unit (s := S8) ![1] S1.size inb_S8_S1_1).emb (Shape.Idx.first (by decide)) from funext fun a => by match a with | ⟨0, _⟩ => rfl]
    rfl

/-- A head is the average of its own scores, its values in its half of the lanes, where the blocks hold a sequence's scaled
    queries, padded keys and values. -/
theorem head_spec (x0 : Vec Ideal S8 .f32) (x1 : Vec Ideal S512x512 .bf16) (x2 x3 : Vec Ideal S2048x512 .bf16)
    (x4 x5 : Vec Ideal S512x512 .bf16) (q : Fin 16384 → Fin 512 → EReal) (k v : Fin 16384 → Fin 128 → EReal)
    (kc vc : Fin 4096 → Fin 128 → EReal) (t : Fin 16384) (b : Fin 4) (e : Fin 2) (r : Fin 512) (l : Fin 128)
    (h0 : x0 (ix1 (hd b e)) = (⊥ : EReal)) (h1 : ∀ x, x1 (ix2 r (lane b x)) = q t (lane b x) * eighth)
    (h2 : ∀ j y, x2 (ix2 j (lane (kvb b e) y)) = Spec.pad e (fun d => k (krow t j) (gcol (hd b e) d)) y)
    (h3 : ∀ j y, x3 (ix2 j (lane (kvb b e) y)) = Spec.pad e (fun d => v (krow t j) (gcol (hd b e) d)) y)
    (h4 : ∀ j y, x4 (ix2 j (lane (kvb b e) y)) = Spec.pad e (fun d => kc (crow t j) (gcol (hd b e) d)) y)
    (h5 : ∀ j y, x5 (ix2 j (lane (kvb b e) y)) = Spec.pad e (fun d => vc (crow t j) (gcol (hd b e) d)) y) :
    headG x0 x1 x2 x3 x4 x5 b e r l
      = soft (scores (fun _ _ => True) q k kc (fun _ => ⊥) t (hd b e)) fun x => Spec.pad e (fun d => vals v vc t (hd b e) d x) l := by
  unfold headG att
  refine congrArg₂ soft (funext fun x => ?_) (funext fun x => ?_)
  · rcases x with j | j | j
    · exact (dot_pad (q t) (k (krow t j)) b e _ _ h1 (h2 j)).trans (if_pos (c := True) (e := (⊥ : EReal)) trivial).symm
    · exact dot_pad (q t) (kc (crow t j)) b e _ _ h1 (h4 j)
    · exact h0
  · rcases x with j | j | j
    · exact h3 j l
    · exact h5 j l
    · show (0 : EReal) = Spec.pad e (fun _ => 0) l
      unfold Spec.pad; split <;> rfl

end Cert.Proof.FullBlock
-- ==== Proof.FullHost.lean ====
/- Hand-written, untrusted: what the full attention's kernel reads: the host's padded column blocks (`V_…`) and the blocks of
   them that a grid point sees (`iblk…_at`). -/
module

public import proofs.«01_k».proof.Proof.FullBlock
public import proofs.«01_k».proof.Proof.Gen.FullIdeal.Value
public import Idealize.ShloMosaic.Lib.StableHlo.ReadAt

@[expose] public section

set_option maxRecDepth 16384

noncomputable section

namespace Cert.Proof.FullHost

open Cert.FullIdeal Cert.FullIdeal.Gen Cert.FullIdeal.Value Idealize.ShloMosaic Idealize.ShloMosaic.TcCoe Idealize.SL.Sem
open Cert.Proof.Softmax Cert.Proof.Spec Cert.Proof.FullBlock

variable (m : (ℓ : Loc nD τ sig) → Buf (Elt Ideal) ℓ) (ρ : Dev nD → PrngReg)

/-- The argument arrays by row and column. -/
def q (c : Dev nD) (t : Fin 16384) (x : Fin 512) : EReal := m ((c : Thread nD τ).loc main_arg0) (ix2 t x)
def k (c : Dev nD) (t : Fin 16384) (x : Fin 128) : EReal := m ((c : Thread nD τ).loc main_arg1) (ix2 t x)
def v (c : Dev nD) (t : Fin 16384) (x : Fin 128) : EReal := m ((c : Thread nD τ).loc main_arg2) (ix2 t x)
def kc (c : Dev nD) (t : Fin 4096) (x : Fin 128) : EReal := m ((c : Thread nD τ).loc main_arg3) (ix2 t x)
def vc (c : Dev nD) (t : Fin 4096) (x : Fin 128) : EReal := m ((c : Thread nD τ).loc main_arg4) (ix2 t x)

/-! ## The host's arrays before the call -/

theorem V_q (c : Dev nD) (r : Fin 16384) (x : Fin 512) : V m c main_v2 (ix2 r x) = q m c r x * eighth := by
  unfold V
  after_reads_at
  rfl

theorem V_sink (c : Dev nD) (h : Fin 8) : V m c main_v3 (ix1 h) = (⊥ : EReal) := by
  unfold V
  after_reads_at
  exact ofBits_neg_inf

theorem V_k (c : Dev nD) (r : Fin 16384) (b : Fin 4) (e : Fin 2) (y : Fin 128) :
    V m c main_v9 (ix2 r (lane (kvb b e) y)) = pad e (fun d => k m c r (gcol (hd b e) d)) y := by
  unfold V
  after_reads_at
  after_reads_at
  exact ladder_pad (k m c r) b e y _ rfl

theorem V_v (c : Dev nD) (r : Fin 16384) (b : Fin 4) (e : Fin 2) (y : Fin 128) :
    V m c main_v15 (ix2 r (lane (kvb b e) y)) = pad e (fun d => v m c r (gcol (hd b e) d)) y := by
  unfold V
  after_reads_at
  after_reads_at
  exact ladder_pad (v m c r) b e y _ rfl

theorem V_kc (c : Dev nD) (r : Fin 4096) (b : Fin 4) (e : Fin 2) (y : Fin 128) :
    V m c main_v21 (ix2 r (lane (kvb b e) y)) = pad e (fun d => kc m c r (gcol (hd b e) d)) y := by
  unfold V
  after_reads_at
  after_reads_at
  exact ladder_pad (kc m c r) b e y _ rfl

theorem V_vc (c : Dev nD) (r : Fin 4096) (b : Fin 4) (e : Fin 2) (y : Fin 128) :
    V m c main_v27 (ix2 r (lane (kvb b e) y)) = pad e (fun d => vc m c r (gcol (hd b e) d)) y := by
  unfold V
  after_reads_at
  after_reads_at
  exact ladder_pad (vc m c r) b e y _ rfl

/-! ## The blocks of a grid point -/

theorem idx0 : ∀ t : Fin cfg0.N, win0_0.index t (0 : Fin 1) = 0 := (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val / 4 ∧ win0_2.index t (1 : Fin 2) = 0 :=
  (by decide +kernel : ∀ t : Fin grid0.N, _)
theorem idx3 : ∀ t : Fin cfg0.N, win0_3.index t (0 : Fin 2) = t.val / 4 ∧ win0_3.index t (1 : Fin 2) = 0 :=
  (by decide +kernel : ∀ t : Fin grid0.N, _)
theorem idx4 : ∀ t : Fin cfg0.N, win0_4.index t (0 : Fin 2) = t.val / 4 ∧ win0_4.index t (1 : Fin 2) = 0 :=
  (by decide +kernel : ∀ t : Fin grid0.N, _)
theorem idx5 : ∀ t : Fin cfg0.N, win0_5.index t (0 : Fin 2) = t.val / 4 ∧ win0_5.index t (1 : Fin 2) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)

theorem tlt (t : Fin cfg0.N) : t.val < 32 := t.isLt

/-- Row `r` of the query block of point `t`. -/
def qrow (t : Fin cfg0.N) (r : Fin 512) : Fin 16384 := ⟨512 * t.val + r.val, by have := tlt t; omega⟩

theorem iblk0_at (c : Dev nD) (t : Fin cfg0.N) (h : Fin 8) : iblk m c 0 t (ix1 h) = V m c main_v3 (ix1 h) := by
  have e0 := idx0 t
  show V m c main_v3 (((cfg0.win 0).blk t).view.emb (ix1 h)) = _
  refine congrArg (V m c main_v3) (funext fun a => Fin.ext ?_)
  match a with
  | ⟨0, _⟩ => show win0_0.index t (0 : Fin 1) * 8 + 1 * h.val = h.val; omega

theorem iblk1_at (c : Dev nD) (t : Fin cfg0.N) (r : Fin 512) (x : Fin 512) :
    iblk m c 1 t (ix2 r x) = V m c main_v2 (ix2 (qrow t r) x) := by
  obtain ⟨e0, e1⟩ := idx1 t
  show V m c main_v2 (((cfg0.win 1).blk t).view.emb (ix2 r x)) = _
  refine congrArg (V m c main_v2) (funext fun a => Fin.ext ?_)
  match a with
  | ⟨0, _⟩ => show win0_1.index t (0 : Fin 2) * 512 + 1 * r.val = 512 * t.val + r.val; omega
  | ⟨1, _⟩ => show win0_1.index t (1 : Fin 2) * 512 + 1 * x.val = x.val; omega

theorem iblk2_at (c : Dev nD) (t : Fin cfg0.N) (r : Fin 512) (j : Fin 2048) (x : Fin 512) :
    iblk m c 2 t (ix2 j x) = V m c main_v9 (ix2 (krow (qrow t r) j) x) := by
  obtain ⟨e0, e1⟩ := idx2 t
  show V m c main_v9 (((cfg0.win 2).blk t).view.emb (ix2 j x)) = _
  refine congrArg (V m c main_v9) (funext fun a => Fin.ext ?_)
  match a with
  | ⟨0, _⟩ => show win0_2.index t (0 : Fin 2) * 2048 + 1 * j.val = 2048 * ((512 * t.val + r.val) / 2048) + j.val; omega
  | ⟨1, _⟩ => show win0_2.index t (1 : Fin 2) * 512 + 1 * x.val = x.val; omega

theorem iblk3_at (c : Dev nD) (t : Fin cfg0.N) (r : Fin 512) (j : Fin 2048) (x : Fin 512) :
    iblk m c 3 t (ix2 j x) = V m c main_v15 (ix2 (krow (qrow t r) j) x) := by
  obtain ⟨e0, e1⟩ := idx3 t
  show V m c main_v15 (((cfg0.win 3).blk t).view.emb (ix2 j x)) = _
  refine congrArg (V m c main_v15) (funext fun a => Fin.ext ?_)
  match a with
  | ⟨0, _⟩ => show win0_3.index t (0 : Fin 2) * 2048 + 1 * j.val = 2048 * ((512 * t.val + r.val) / 2048) + j.val; omega
  | ⟨1, _⟩ => show win0_3.index t (1 : Fin 2) * 512 + 1 * x.val = x.val; omega

theorem iblk4_at (c : Dev nD) (t : Fin cfg0.N) (r : Fin 512) (j : Fin 512) (x : Fin 512) :
    iblk m c 4 t (ix2 j x) = V m c main_v21 (ix2 (crow (qrow t r) j) x) := by
  obtain ⟨e0, e1⟩ := idx4 t
  show V m c main_v21 (((cfg0.win 4).blk t).view.emb (ix2 j x)) = _
  refine congrArg (V m c main_v21) (funext fun a => Fin.ext ?_)
  match a with
  | ⟨0, _⟩ => show win0_4.index t (0 : Fin 2) * 512 + 1 * j.val = 512 * ((512 * t.val + r.val) / 2048) + j.val; omega
  | ⟨1, _⟩ => show win0_4.index t (1 : Fin 2) * 512 + 1 * x.val = x.val; omega

theorem iblk5_at (c : Dev nD) (t : Fin cfg0.N) (r : Fin 512) (j : Fin 512) (x : Fin 512) :
    iblk m c 5 t (ix2 j x) = V m c main_v27 (ix2 (crow (qrow t r) j) x) := by
  obtain ⟨e0, e1⟩ := idx5 t
  show V m c main_v27 (((cfg0.win 5).blk t).view.emb (ix2 j x)) = _
  refine congrArg (V m c main_v27) (funext fun a => Fin.ext ?_)
  match a with
  | ⟨0, _⟩ => show win0_5.index t (0 : Fin 2) * 512 + 1 * j.val = 512 * ((512 * t.val + r.val) / 2048) + j.val; omega
  | ⟨1, _⟩ => show win0_5.index t (1 : Fin 2) * 512 + 1 * x.val = x.val; omega

theorem emb6 (t : Fin cfg0.N) (r : Fin 512) (x : Fin 512) :
    ((cfg0.win 6).blk t).view.emb (ix2 r x) = ix2 (qrow t r) x := by
  obtain ⟨e0, e1⟩ := idx6 t
  refine funext fun a => Fin.ext ?_
  match a with
  | ⟨0, _⟩ => show win0_6.index t (0 : Fin 2) * 512 + 1 * r.val = 512 * t.val + r.val; omega
  | ⟨1, _⟩ => show win0_6.index t (1 : Fin 2) * 512 + 1 * x.val = x.val; omega

/-! ## The result -/

/-- The scores of head `h` at row `t`. -/
abbrev sc (c : Dev nD) (t : Fin 16384) (h : Fin 8) : Fin 2048 ⊕ Fin 512 ⊕ Unit → EReal :=
  scores (fun _ _ => True) (q m c) (k m c) (kc m c) (fun _ => ⊥) t h

/-- The result array as a function of the argument arrays. -/
def GA (c : Dev nD) : Vec Ideal S16384x512 .bf16 := fun i =>
  have h1 : (i 1).val < 512 := (i 1).isLt
  spec (fun _ _ => True) (q m c) (k m c) (v m c) (kc m c) (vc m c) (fun _ => ⊥) (i 0)
    ⟨(i 1).val / 64, by omega⟩ ⟨(i 1).val % 64, by omega⟩

theorem GA_at (c : Dev nD) (t : Fin 16384) (h : Fin 8) (d : Fin 64) :
    GA m c (ix2 t (hcol h d)) = spec (fun _ _ => True) (q m c) (k m c) (v m c) (kc m c) (vc m c) (fun _ => ⊥) t h d := by
  have h1 : (⟨(hcol h d).val / 64, by have := (hcol h d).isLt; omega⟩ : Fin 8) = h := Fin.ext (by simp only [hcol]; omega)
  have h2 : (⟨(hcol h d).val % 64, by omega⟩ : Fin 64) = d := Fin.ext (by simp only [hcol]; omega)
  show spec _ _ _ _ _ _ _ t ⟨(hcol h d).val / 64, _⟩ ⟨(hcol h d).val % 64, _⟩ = _
  rw [h1, h2]

end Cert.Proof.FullHost
-- ==== Proof.FullArray.lean ====
/- Hand-written, untrusted: the result array of the full attention's kernel is `spec` of the argument arrays, at real queries
   and keys: what a grid point writes back (`flushed_eq`), the array after the run (`final`). -/
module

public import proofs.«01_k».proof.Proof.FullHost

@[expose] public section

set_option maxRecDepth 16384

noncomputable section

namespace Cert.Proof.FullArray

open Cert.FullIdeal Cert.FullIdeal.Gen Cert.FullIdeal.Value Idealize.ShloMosaic Idealize.ShloMosaic.TcCoe Idealize.SL.Sem
open Cert.Proof.Softmax Cert.Proof.Spec Cert.Proof.FullBlock Cert.Proof.FullHost

variable (m : (ℓ : Loc nD τ sig) → Buf (Elt Ideal) ℓ) (ρ : Dev nD → PrngReg)

/-- A head of the block is the average of its own scores, its values in its half of the lanes. -/
theorem head_eq (c : Dev nD) (t : Fin cfg0.N) (b : Fin 4) (e : Fin 2) (r : Fin 512) (l : Fin 128) :
    headG (iblk m c 0 t) (iblk m c 1 t) (iblk m c 2 t) (iblk m c 3 t) (iblk m c 4 t) (iblk m c 5 t) b e r l
      = soft (sc m c (qrow t r) (hd b e)) fun x => Spec.pad e (fun d => vals (v m c) (vc m c) (qrow t r) (hd b e) d x) l := by
  exact head_spec _ _ _ _ _ _ (q m c) (k m c) (v m c) (kc m c) (vc m c) (qrow t r) b e r l
    ((iblk0_at m c t (hd b e)).trans (V_sink m c (hd b e)))
    (fun x => (iblk1_at m c t r (lane b x)).trans (V_q m c _ _))
    (fun j y => (iblk2_at m c t r j _).trans (V_k m c _ b e y))
    (fun j y => (iblk3_at m c t r j _).trans (V_v m c _ b e y))
    (fun j y => (iblk4_at m c t r j _).trans (V_kc m c _ b e y))
    (fun j y => (iblk5_at m c t r j _).trans (V_vc m c _ b e y))

/-- The queries and keys are real. -/
structure Reals (c : Dev nD) : Prop where
  q : ∃ f : Fin 16384 → Fin 512 → ℝ, q m c = fun t x => (f t x : EReal)
  k : ∃ f : Fin 16384 → Fin 128 → ℝ, k m c = fun t x => (f t x : EReal)
  kc : ∃ f : Fin 4096 → Fin 128 → ℝ, kc m c = fun t x => (f t x : EReal)

theorem block_eq (c : Dev nD) (hr : Reals m c) (t : Fin cfg0.N) (r : Fin 512) (x : Fin 512) :
    G (iblk m c 0 t) (iblk m c 1 t) (iblk m c 2 t) (iblk m c 3 t) (iblk m c 4 t) (iblk m c 5 t) (ix2 r x)
      = GA m c (ix2 (qrow t r) x) := by
  obtain ⟨b, e, d, rfl⟩ := lane_surj x
  rw [G_lane, head_eq, head_eq, lane_half, GA_at]
  obtain ⟨⟨fq, hq⟩, ⟨fk, hk⟩, ⟨fkc, hkc⟩⟩ := hr
  have hv : ∀ e' : Fin 2, (vals (v m c) (vc m c) (qrow t r) (hd b e')) = vals (v m c) (vc m c) (qrow t r) (hd b e) := by
    intro e'
    have hg : ∀ d, gcol (hd b e') d = gcol (hd b e) d := fun d => Fin.ext (by simp only [gcol, hd]; omega)
    unfold vals
    simp only [hg]
  rw [hv 0, hv 1]
  exact soft_halves (fun e' => sc m c (qrow t r) (hd b e'))
    (fun e' x => by rw [sc, hq, hk, hkc]; exact scores_ne_top fq _ fk fkc _ (fun _ => bot_ne_top) _ _ x)
    (fun e' => by rw [sc, hq, hk, hkc]; exact scores_ne_bot fq _ fk fkc _ _ _)
    (fun x d => vals (v m c) (vc m c) (qrow t r) (hd b e) d x) e d

theorem flushed_eq (c : Dev nD) (hr : Reals m c) (t : Fin cfg0.N) :
    (dats m 0 c).flushed 6 t = ((cfg0.win 6).blk t).view.read (Elt Ideal) (GA m c) := by
  rw [flushed6_A, out_eq]
  funext j
  show G _ _ _ _ _ _ j = GA m c (((cfg0.win 6).blk t).view.emb j)
  obtain ⟨r, x, rfl⟩ : ∃ (r : Fin 512) (x : Fin 512), j = ix2 r x :=
    ⟨j 0, j 1, funext fun a => by match a with | ⟨0, _⟩ => rfl | ⟨1, _⟩ => rfl⟩
  rw [emb6]
  exact block_eq m c hr t r x

theorem covered (i : S16384x512.Idx) :
    ∃ t : Fin cfg0.N, (cfg0.win 6).flush t = true ∧ i ∈ ((cfg0.win 6).blk t).view.set := by
  have h0 : (i 0).val < 16384 := (i 0).isLt
  obtain ⟨t, ht⟩ : ∃ t : Fin cfg0.N, t.val = (i 0).val / 512 := ⟨⟨(i 0).val / 512, (by omega : (i 0).val / 512 < 32)⟩, rfl⟩
  obtain ⟨r, hr⟩ : ∃ r : Fin 512, r.val = (i 0).val % 512 := ⟨⟨(i 0).val % 512, by omega⟩, rfl⟩
  obtain ⟨x, hx⟩ : ∃ x : Fin 512, x.val = (i 1).val := ⟨i 1, rfl⟩
  have e : ix2 (qrow t r) x = i := funext fun a => by
    match a with
    | ⟨0, _⟩ => exact Fin.ext (show 512 * t.val + r.val = (i 0).val by omega)
    | ⟨1, _⟩ => exact Fin.ext hx
  refine ⟨t, flush0_6 t, ?_⟩
  have h := ((cfg0.win 6).blk t).view.emb_mem_set (ix2 r x)
  rw [emb6, e] at h
  exact h

theorem final (c : Dev nD) (hr : Reals m c) : (dats m 0 c).arrAt 6 cfg0.N = GA m c :=
  (dats m 0 c).arrAt_eq_of_cover 6 (GA m c) (fun t _ => flushed_eq m c hr t) covered

end Cert.Proof.FullArray
-- ==== Proof.RefMax.lean ====
/- Hand-written, untrusted: the host's maximum over the last axis of the scores, from −∞, is `top` of the row. -/
module

public import proofs.«01_k».proof.Proof.Spec
public import Idealize.ShloMosaic.Lib.Pointwise

@[expose] public section

noncomputable section

namespace Cert.Proof.RefMax

open Idealize.ShloMosaic Cert.Proof.Softmax

theorem reduce_max {N : ℕ} (s : Vec Ideal (⟨5, ![8, 2, 4, 2048, N]⟩ : Shape) .f32) (c : Vec Ideal (⟨0, ![]⟩ : Shape) .f32)
    (hc : ∀ x, c x = (⊥ : EReal)) (h : (⟨5, ![8, 2, 4, 2048, N]⟩ : Shape).ReducesTo [4] (⟨4, ![8, 2, 4, 2048]⟩ : Shape))
    (hu : 0 < (⟨0, ![]⟩ : Shape).numel) (b : Fin 8) (g : Fin 2) (p : Fin 4) (i : Fin 2048) :
    Host.reduce (FloatOps.maximumf : Ideal .f32 → Ideal .f32 → Ideal .f32) s c h hu (ix4 b g p i)
      = top fun j => s (ix5 b g p i j) := by
  have h' : (⟨5, ![8, 2, 4, 2048, N]⟩ : Shape).Reduces [4] (⟨4, ![8, 2, 4, 2048]⟩ : Shape) := ⟨h.1, by decide, h.2⟩
  refine (Host.reduce_eq_fold_single (max : EReal → EReal → EReal) s c h h' hu (ix4 b g p i)).trans ?_
  rw [hc]
  have hf : (s ∘ h'.lift (ix4 b g p i)) = fun j : Fin N => s (ix5 b g p i j) := funext fun j => by
    refine congrArg s (funext fun a => ?_)
    match a with
    | ⟨0, _⟩ => rfl
    | ⟨1, _⟩ => rfl
    | ⟨2, _⟩ => rfl
    | ⟨3, _⟩ => rfl
    | ⟨4, _⟩ => rfl
  rw [hf]
  exact fold_eq_top _

theorem ofBits_zero : Ideal.ofBits .f32 0x00000000#32 = 0 := by
  simp [Ideal.ofBits, Ideal.ieee]

end Cert.Proof.RefMax
-- ==== Proof.FullRef.lean ====
/- Hand-written, untrusted: the reference of the full attention at an index is `spec` of its arguments, at real queries and
   keys (`ref_at`). -/
module

public import proofs.«01_k».proof.Proof.RefMax
public import proofs.«01_k».proof.Proof.Gen.FullRefIdeal.Read

@[expose] public section

set_option maxRecDepth 16384

noncomputable section

namespace Cert.Proof.FullRef

open Cert.FullRefIdeal Cert.FullRefIdeal.Gen Cert.FullRefIdeal.Read Idealize.ShloMosaic Idealize.ShloMosaic.TcCoe Idealize.SL.Sem
open Cert.Proof.Softmax Cert.Proof.Spec Cert.Proof.RefMax

variable (x0 : Vec Ideal S16384x512 .f32) (x1 x2 : Vec Ideal S16384x128 .f32) (x3 x4 : Vec Ideal S4096x128 .f32)

/-- Query row `i` of sequence `b`; head `p` of group `g`. -/
def qr (b : Fin 8) (i : Fin 2048) : Fin 16384 := ⟨2048 * b.val + i.val, by omega⟩
def hg (g : Fin 2) (p : Fin 4) : Fin 8 := ⟨4 * g.val + p.val, by omega⟩

/-- The keys in the reference's order, the sequence's then the context's, among the kernel's, where a sink comes last. -/
def pos (j : Fin 2560) : Fin 2048 ⊕ Fin 512 ⊕ Unit :=
  if h : j.val < 2048 then Sum.inl ⟨j.val, h⟩ else Sum.inr (Sum.inl ⟨j.val - 2048, by omega⟩)

theorem pos_injective : Function.Injective pos := by
  intro a b h
  unfold pos at h
  apply Fin.ext
  split at h <;> split at h
  · have := congrArg Fin.val (Sum.inl.inj h); exact this
  · cases h
  · cases h
  · have := congrArg Fin.val (Sum.inl.inj (Sum.inr.inj h)); dsimp only at this; omega

theorem pos_range (x : Fin 2048 ⊕ Fin 512 ⊕ Unit) (h : x ∉ Set.range pos) : x = Sum.inr (Sum.inr ()) := by
  rcases x with j | j | j
  · exact absurd ⟨⟨j.val, by omega⟩, by unfold pos; rw [dif_pos j.isLt]⟩ h
  · refine absurd ⟨⟨2048 + j.val, by omega⟩, ?_⟩ h
    unfold pos
    rw [dif_neg (by simp)]
    exact congrArg (fun z => Sum.inr (Sum.inl z)) (Fin.ext (by dsimp only; omega))
  · rfl

/-- The values at an index. -/
theorem v6_at (b : Fin 8) (g : Fin 2) (p : Fin 4) (d : Fin 64) (i : Fin 2048) (j : Fin 2560) :
    val_main_v6 (F := Ideal) x2 x4 (ix4 b j g d)
      = vals (fun t x => x2 (ix2 t x)) (fun t x => x4 (ix2 t x)) (qr b i) (hg g p) d (pos j) := by
  unfold val_main_v6 val_main_v2 val_main_v4 pos
  pointwise []
  split
  · refine congrArg x2 (congrArg₂ ix2 (Fin.ext ?_) (Fin.ext ?_))
    · show b.val * 2048 + j.val = 2048 * ((2048 * b.val + i.val) / 2048) + j.val; omega
    · show g.val * 64 + d.val = 64 * ((4 * g.val + p.val) / 4) + d.val; omega
  · refine congrArg x4 (congrArg₂ ix2 (Fin.ext ?_) (Fin.ext ?_))
    · show b.val * 512 + (j.val - 2048) = 512 * ((2048 * b.val + i.val) / 2048) + (j.val - 2048); omega
    · show g.val * 64 + d.val = 64 * ((4 * g.val + p.val) / 4) + d.val; omega

/-- The scaled scores at an index. -/
theorem v10_at (fq : Fin 16384 → Fin 512 → ℝ) (fk : Fin 16384 → Fin 128 → ℝ) (fkc : Fin 4096 → Fin 128 → ℝ)
    (hq : ∀ t x, x0 (ix2 t x) = (fq t x : EReal)) (hk : ∀ t x, x1 (ix2 t x) = (fk t x : EReal))
    (hkc : ∀ t x, x3 (ix2 t x) = (fkc t x : EReal)) (b : Fin 8) (g : Fin 2) (p : Fin 4) (i : Fin 2048) (j : Fin 2560) :
    val_main_v10 (F := Ideal) x0 x1 x3 (ix5 b g p i j)
      = scores (fun _ _ => True) (fun t x => (fq t x : EReal)) (fun t x => (fk t x : EReal)) (fun t x => (fkc t x : EReal))
          (fun _ => ⊥) (qr b i) (hg g p) (pos j) := by
  unfold val_main_v10 val_main_v9 val_main_cst val_main_v8 val_main_v7 val_main_v5 val_main_v0 val_main_v1 val_main_v3 pos
  pointwise []
  split
  · refine Eq.trans ?_ ((score_swap fq fk (qr b i) (krow (qr b i) ⟨j.val, _⟩) (hg g p)).trans
      (if_pos (c := True) (e := (⊥ : EReal)) trivial).symm)
    refine congrArg (· * eighth) (Finset.sum_congr rfl fun d _ => ?_)
    rw [hk, hq]
    refine congrArg₂ (· * ·) (congrArg _ (congrArg₂ fk (Fin.ext ?_) (Fin.ext ?_))) (congrArg _ (congrArg₂ fq (Fin.ext ?_) (Fin.ext ?_)))
    · show b.val * 2048 + j.val = 2048 * ((2048 * b.val + i.val) / 2048) + j.val; omega
    · show g.val * 64 + d.val = 64 * ((4 * g.val + p.val) / 4) + d.val; omega
    · show b.val * 2048 + i.val = 2048 * b.val + i.val; omega
    · show g.val * 256 + p.val * 64 + d.val = 64 * (4 * g.val + p.val) + d.val; omega
  · refine Eq.trans ?_ (score_swap fq fkc (qr b i) (crow (qr b i) ⟨j.val - 2048, _⟩) (hg g p))
    refine congrArg (· * eighth) (Finset.sum_congr rfl fun d _ => ?_)
    rw [hkc, hq]
    refine congrArg₂ (· * ·) (congrArg _ (congrArg₂ fkc (Fin.ext ?_) (Fin.ext ?_))) (congrArg _ (congrArg₂ fq (Fin.ext ?_) (Fin.ext ?_)))
    · show b.val * 512 + (j.val - 2048) = 512 * ((2048 * b.val + i.val) / 2048) + (j.val - 2048); omega
    · show g.val * 64 + d.val = 64 * ((4 * g.val + p.val) / 4) + d.val; omega
    · show b.val * 2048 + i.val = 2048 * b.val + i.val; omega
    · show g.val * 256 + p.val * 64 + d.val = 64 * (4 * g.val + p.val) + d.val; omega

/-! ## The softmax -/

section Soft

variable (b : Fin 8) (g : Fin 2) (p : Fin 4) (i : Fin 2048) (S : Fin 2560 → EReal)
  (hS : ∀ j, val_main_v10 (F := Ideal) x0 x1 x3 (ix5 b g p i j) = S j)
include hS

theorem v13_at : val_main_v13 (F := Ideal) x0 x1 x3 (ix4 b g p i) = top S := by
  rw [val_main_v13_apply]
  have h : val_main_v11 (F := Ideal) x0 x1 x3 (ix4 b g p i) = top S := by
    unfold val_main_v11
    rw [← funext hS]
    exact reduce_max _ _ (fun _ => ofBits_neg_inf) _ _ b g p i
  rw [h, val_main_v12_apply, val_main_cst_1_apply]
  show max (Ideal.ofBits .f32 0xFF800000#32) (top S) = top S
  rw [ofBits_neg_inf]
  exact max_eq_right bot_le

theorem v17_at (j : Fin 2560) : val_main_v17 (F := Ideal) x0 x1 x3 (ix5 b g p i j) = Ideal.exp (S j - top S) := by
  rw [val_main_v17_apply, val_main_v16_apply, val_main_v15_apply, val_main_v14_apply]
  have h : idx_main_v14 (idx_main_v15 (ix5 b g p i j)) = ix4 b g p i := funext fun a => by
    match a with | ⟨0, _⟩ => rfl | ⟨1, _⟩ => rfl | ⟨2, _⟩ => rfl | ⟨3, _⟩ => rfl
  rw [h, v13_at x0 x1 x3 b g p i S hS, hS]
  rfl

theorem v18_at : val_main_v18 (F := Ideal) x0 x1 x3 (ix4 b g p i) = ∑ j, Ideal.exp (S j - top S) := by
  rw [val_main_v18_apply, val_main_cst_2_apply]
  have h : ∀ k, idx_main_v18 (ix4 b g p i) k = ix5 b g p i k := fun k => funext fun a => by
    match a with | ⟨0, _⟩ => rfl | ⟨1, _⟩ => rfl | ⟨2, _⟩ => rfl | ⟨3, _⟩ => rfl | ⟨4, _⟩ => rfl
  rw [Finset.sum_congr rfl fun k _ => (congrArg _ (h k)).trans (v17_at x0 x1 x3 b g p i S hS k)]
  show Ideal.ofBits .f32 0x00000000#32 + _ = _
  rw [ofBits_zero, zero_add]

theorem v21_at (j : Fin 2560) : val_main_v21 (F := Ideal) x0 x1 x3 (ix5 b g p i j)
    = Ideal.div (Ideal.exp (S j - top S)) (∑ j, Ideal.exp (S j - top S)) := by
  rw [val_main_v21_apply, v17_at x0 x1 x3 b g p i S hS, val_main_v20_apply, val_main_v19_apply]
  have h : idx_main_v19 (idx_main_v20 (ix5 b g p i j)) = ix4 b g p i := funext fun a => by
    match a with | ⟨0, _⟩ => rfl | ⟨1, _⟩ => rfl | ⟨2, _⟩ => rfl | ⟨3, _⟩ => rfl
  rw [h, v18_at x0 x1 x3 b g p i S hS]
  rfl

theorem v22_at (d : Fin 64) (W : Fin 2560 → EReal) (hW : ∀ j, val_main_v6 (F := Ideal) x2 x4 (ix4 b j g d) = W j) :
    val_main_v22 (F := Ideal) x0 x1 x2 x3 x4 (ix5 b g d p i)
      = ∑ j, W j * Ideal.div (Ideal.exp (S j - top S)) (∑ j, Ideal.exp (S j - top S)) := by
  rw [val_main_v22_apply]
  refine Finset.sum_congr rfl fun j _ => congrArg₂ (· * ·) ?_ ?_
  · exact (congrArg _ (funext fun a => by
      match a with | ⟨0, _⟩ => rfl | ⟨1, _⟩ => rfl | ⟨2, _⟩ => rfl | ⟨3, _⟩ => rfl)).trans (hW j)
  · exact (congrArg _ (funext fun a => by
      match a with | ⟨0, _⟩ => rfl | ⟨1, _⟩ => rfl | ⟨2, _⟩ => rfl | ⟨3, _⟩ => rfl | ⟨4, _⟩ => rfl)).trans (v21_at x0 x1 x3 b g p i S hS j)

end Soft

/-- The reference at row `t`, head `h`, lane `d`. -/
theorem ref_at (fq : Fin 16384 → Fin 512 → ℝ) (fk : Fin 16384 → Fin 128 → ℝ) (fkc : Fin 4096 → Fin 128 → ℝ)
    (hq : ∀ t x, x0 (ix2 t x) = (fq t x : EReal)) (hk : ∀ t x, x1 (ix2 t x) = (fk t x : EReal))
    (hkc : ∀ t x, x3 (ix2 t x) = (fkc t x : EReal)) (t : Fin 16384) (h : Fin 8) (d : Fin 64) :
    val_main_v25 (F := Ideal) x0 x1 x2 x3 x4 (ix2 t (hcol h d))
      = spec (fun _ _ => True) (fun t x => (fq t x : EReal)) (fun t x => (fk t x : EReal)) (fun t x => x2 (ix2 t x))
          (fun t x => (fkc t x : EReal)) (fun t x => x4 (ix2 t x)) (fun _ => ⊥) t h d := by
  obtain ⟨b, i, rfl⟩ : ∃ b i, t = qr b i := ⟨⟨t.val / 2048, by omega⟩, ⟨t.val % 2048, by omega⟩, Fin.ext (by simp only [qr]; omega)⟩
  obtain ⟨g, p, rfl⟩ : ∃ g p, h = hg g p := ⟨⟨h.val / 4, by omega⟩, ⟨h.val % 4, by omega⟩, Fin.ext (by simp only [hg]; omega)⟩
  have e : val_main_v25 (F := Ideal) x0 x1 x2 x3 x4 (ix2 (qr b i) (hcol (hg g p) d))
      = val_main_v22 (F := Ideal) x0 x1 x2 x3 x4 (ix5 b g d p i) := by
    unfold val_main_v25 val_main_v24 val_main_v23
    generalize val_main_v22 (F := Ideal) x0 x1 x2 x3 x4 = s
    pointwise []
    refine congrArg s (funext fun a => Fin.ext ?_)
    match a with
    | ⟨0, _⟩ => show (2048 * b.val + i.val) / 2048 = b.val; omega
    | ⟨1, _⟩ => show (64 * (4 * g.val + p.val) + d.val) / 256 = g.val; omega
    | ⟨2, _⟩ => show (64 * (4 * g.val + p.val) + d.val) % 64 = d.val; omega
    | ⟨3, _⟩ => show (64 * (4 * g.val + p.val) + d.val) / 64 % 4 = p.val; omega
    | ⟨4, _⟩ => show (2048 * b.val + i.val) % 2048 = i.val; omega
  rw [e, v22_at x0 x1 x2 x3 x4 b g p i _ (v10_at x0 x1 x3 fq fk fkc hq hk hkc b g p i) d _ (v6_at x2 x4 b g p d i)]
  have ht : ∀ j, scores (fun _ _ => True) (fun t x => (fq t x : EReal)) (fun t x => (fk t x : EReal))
      (fun t x => (fkc t x : EReal)) (fun _ => ⊥) (qr b i) (hg g p) (pos j) ≠ ⊤ := fun j =>
    scores_ne_top fq _ fk fkc _ (fun _ => bot_ne_top) _ _ _
  have hb : ∃ j, scores (fun _ _ => True) (fun t x => (fq t x : EReal)) (fun t x => (fk t x : EReal))
      (fun t x => (fkc t x : EReal)) (fun _ => ⊥) (qr b i) (hg g p) (pos j) ≠ ⊥ := ⟨⟨2048, by omega⟩, by
    show score (fun t x => (fq t x : EReal)) (fun t x => (fkc t x : EReal)) _ _ _ ≠ ⊥
    rw [score_coe]; exact EReal.coe_ne_bot _⟩
  refine (sum_div_eq_soft ht hb _).trans ?_
  refine soft_comp pos pos_injective _ _ fun x hx => ?_
  rw [pos_range x hx]
  rfl

end Cert.Proof.FullRef
-- ==== Proof.Real.lean ====
/- Hand-written, untrusted: an array whose absolute values are below +∞ holds reals. -/
module

public import Idealize.ShloMosaic.PureOps.Ideal
public import Idealize.ShloMosaic.Lib.StableHlo

@[expose] public section

noncomputable section

namespace Cert.Proof.Real

open Idealize.ShloMosaic

theorem ofBits_inf : Ideal.ofBits .f32 0x7F800000#32 = ⊤ := by
  simp [Ideal.ofBits, Ideal.ieee]

theorem lt_of_pre {x y : EReal} (h : Ideal.cmp .olt x y = 1#1) : x < y := by
  unfold Ideal.cmp at h
  by_contra hn
  simp [hn] at h

theorem real_of_abs {x : EReal} (h : max x (-x) < ⊤) : ∃ r : ℝ, x = (r : EReal) := by
  have h1 : x ≠ ⊤ := ne_top_of_lt (lt_of_le_of_lt (le_max_left _ _) h)
  have h2 : x ≠ ⊥ := by
    rintro rfl
    exact absurd h (by simp)
  exact ⟨x.toReal, (EReal.coe_toReal h1 h2).symm⟩

theorem real_of_pre {s : Shape} (x : FVec Ideal s .f32) (hb : (⟨0, ![]⟩ : Shape).BroadcastsInDim s (![] : Fin 0 → Fin s.rank))
    (h : cmpf .olt (Host.absf x) (broadcastInDim s ![] hb (constant (F := Ideal) (⟨0, ![]⟩ : Shape) .f32 0x7F800000#32)) = fun _ => 1#1)
    (i : s.Idx) : ∃ r : ℝ, x i = (r : EReal) := by
  have h1 := congrFun h i
  have h2 : Ideal.cmp .olt (max (x i) (-(x i))) (Ideal.ofBits .f32 0x7F800000#32) = 1#1 := h1
  rw [ofBits_inf] at h2
  exact real_of_abs (lt_of_pre h2)

end Cert.Proof.Real
-- ==== Proof.FullClaim.lean ====
/- Hand-written, untrusted: the claims of the full attention. -/
module

public import proofs.«01_k».proof.Defs
public import proofs.«01_k».proof.Proof.FullArray
public import proofs.«01_k».proof.Proof.FullRef
public import proofs.«01_k».proof.Proof.Real
public import proofs.«01_k».proof.Proof.Gen.Full
public import proofs.«01_k».proof.Proof.Gen.Full.Frame

@[expose] public section

noncomputable section

namespace Cert.Proof.FullClaim

open Idealize.ShloMosaic Idealize.ShloMosaic.TcCoe Idealize.SL.Sem Cert.Proof.Spec

theorem pre_facts : Cert.Pre_finite_scores.Facts := ⟨by decide, by decide, by decide⟩

theorem frame_p : Cert.quiescent_Full := fun m ρ _ => Cert.Full.Gen.frame m ρ

theorem frame_pi : Cert.quiescent_FullIdeal := fun m ρ _ => Cert.FullIdeal.Gen.frame m ρ

theorem frame_pi_pre : Cert.quiescent_FullIdeal_pre_finite_scores (hPre_finite_scores := pre_facts) :=
  fun m ρ _ => Cert.FullIdeal.Gen.frame m ρ

theorem frame_ri : Cert.quiescent_FullRefIdeal := fun m ρ _ =>
  (θ_run Cert.FullRefIdeal.defs _ _).mono (fun r h => ⟨fun c => (h c).2, sem_eq_zero_of_no_sems (by decide) r.2⟩)
    (Cert.FullRefIdeal.Value.run (F := Ideal) m ρ)

theorem frame_ri_pre : Cert.quiescent_FullRefIdeal_pre_finite_scores (hPre_finite_scores := pre_facts) := fun m ρ _ =>
  (θ_run Cert.FullRefIdeal.defs _ _).mono (fun r h => ⟨fun c => (h c).2, sem_eq_zero_of_no_sems (by decide) r.2⟩)
    (Cert.FullRefIdeal.Value.run (F := Ideal) m ρ)

theorem preserves : Cert.preserves_Full_FullIdeal := trivial

theorem reals (m : (ℓ : Loc Cert.FullIdeal.nD Cert.FullIdeal.τ Cert.FullIdeal.sig) → Buf (Elt Ideal) ℓ)
    (h : Cert.Pre_FullIdeal_finite_scores (hPre_finite_scores := pre_facts) m) (c : Dev Cert.FullIdeal.nD) :
    FullArray.Reals m c := by
  obtain ⟨h0, h1, h2⟩ := h c
  have r0 := Real.real_of_pre _ _ h0
  have r1 := Real.real_of_pre _ _ h1
  have r2 := Real.real_of_pre _ _ h2
  choose f0 e0 using r0
  choose f1 e1 using r1
  choose f2 e2 using r2
  exact ⟨⟨fun t x => f0 (ix2 t x), funext fun t => funext fun x => e0 (ix2 t x)⟩,
    ⟨fun t x => f1 (ix2 t x), funext fun t => funext fun x => e1 (ix2 t x)⟩,
    ⟨fun t x => f2 (ix2 t x), funext fun t => funext fun x => e2 (ix2 t x)⟩⟩

/-- The reference's result is the kernel's. -/
theorem ref_eq (m : (ℓ : Loc Cert.FullIdeal.nD Cert.FullIdeal.τ Cert.FullIdeal.sig) → Buf (Elt Ideal) ℓ)
    (c : Dev Cert.FullIdeal.nD) (hr : FullArray.Reals m c)
    (x0 : Vec Ideal Cert.FullRefIdeal.S16384x512 .f32) (x1 x2 : Vec Ideal Cert.FullRefIdeal.S16384x128 .f32)
    (x3 x4 : Vec Ideal Cert.FullRefIdeal.S4096x128 .f32)
    (h0 : x0 = m ((c.tc : Thread Cert.FullIdeal.nD Cert.FullIdeal.τ).loc Cert.FullIdeal.main_arg0))
    (h1 : x1 = m ((c.tc : Thread Cert.FullIdeal.nD Cert.FullIdeal.τ).loc Cert.FullIdeal.main_arg1))
    (h2 : x2 = m ((c.tc : Thread Cert.FullIdeal.nD Cert.FullIdeal.τ).loc Cert.FullIdeal.main_arg2))
    (h3 : x3 = m ((c.tc : Thread Cert.FullIdeal.nD Cert.FullIdeal.τ).loc Cert.FullIdeal.main_arg3))
    (h4 : x4 = m ((c.tc : Thread Cert.FullIdeal.nD Cert.FullIdeal.τ).loc Cert.FullIdeal.main_arg4)) :
    Cert.FullRefIdeal.Read.val_main_v25 (F := Ideal) x0 x1 x2 x3 x4 = FullHost.GA m c := by
  funext i
  obtain ⟨t, x, rfl⟩ : ∃ (t : Fin 16384) (x : Fin 512), i = ix2 t x :=
    ⟨i 0, i 1, funext fun a => by match a with | ⟨0, _⟩ => rfl | ⟨1, _⟩ => rfl⟩
  obtain ⟨b, e, d, rfl⟩ := lane_surj x
  obtain ⟨⟨fq, hq⟩, ⟨fk, hk⟩, ⟨fkc, hkc⟩⟩ := hr
  rw [lane_half, FullHost.GA_at, hq, hk, hkc]
  refine (FullRef.ref_at x0 x1 x2 x3 x4 fq fk fkc (fun t x => ?_) (fun t x => ?_) (fun t x => ?_) t (hd b e) d).trans ?_
  · rw [h0]; exact congrFun (congrFun hq t) x
  · rw [h1]; exact congrFun (congrFun hk t) x
  · rw [h3]; exact congrFun (congrFun hkc t) x
  · rw [h2, h4]; rfl

theorem algebraic : Cert.algebraic_FullIdeal_FullRefIdeal_pre_finite_scores (hPre_finite_scores := pre_facts) := by
  intro m g m' g' hpre hargs
  refine ⟨fun c => FullHost.GA m c, ?_, ?_⟩
  · exact (θ_run Cert.FullIdeal.defs _ _).mono
      (fun r h c => ⟨(h c).1.trans (FullArray.final m c (reals m hpre c)), (h c).2⟩) (Cert.FullIdeal.Value.run_blocks m g)
  · refine (θ_run Cert.FullRefIdeal.defs _ _).mono (fun r h c => ⟨(h c).1.trans ?_, (h c).2⟩)
      (Cert.FullRefIdeal.Value.run (F := Ideal) m' g')
    obtain ⟨h0, h1, h2, h3, h4⟩ := hargs c
    exact (Cert.FullRefIdeal.Read.val_main_v25_eq m' c).trans (ref_eq m c (reals m hpre c) _ _ _ _ _ h0 h1 h2 h3 h4)

end Cert.Proof.FullClaim
-- ==== Proof.OutSpec.lean ====
/- Hand-written, untrusted: the output projection at one token, as a function of the token's rows and the weights. -/
module

public import Idealize.ShloMosaic.PureOps.Ideal

@[expose] public section

noncomputable section

namespace Cert.Proof.OutSpec

open Idealize.ShloMosaic

/-- The root-mean-square norm of a row, scaled and shifted by the modulation. -/
def norm (x g sc sh : Fin 1024 → EReal) (d : Fin 1024) : EReal :=
  x d * Ideal.rsqrt (Ideal.div (∑ k, x k * x k) (Ideal.ofBits .f32 0x44800000#32) + Ideal.ofBits .f32 0x358637BD#32) * g d
    * (1 + sc d) + sh d

/-- One branch: its projection, times the gate that the normalised row gives. -/
def branch (h g : Fin 1024 → EReal) (b : EReal) (y w : Fin 512 → EReal) : EReal :=
  Ideal.logistic (∑ k, h k * g k + b) * ∑ k, y k * w k

/-- What the projection of one token reads: the four branches' rows `y`, the layer's input row `x`, the token's modulation, the
    gates' biases `b` and weights `g`, the norms' gains, the branches' weights `w`, the output weights `o`. -/
@[ext] structure Row where
  y : Fin 4 → Fin 512 → EReal
  x : Fin 1024 → EReal
  mod : Fin 6 → Fin 1024 → EReal
  b : Fin 4 → Fin 1024 → EReal
  n1 : Fin 1024 → EReal
  n2 : Fin 1024 → EReal
  g : Fin 4 → Fin 1024 → Fin 1024 → EReal
  w : Fin 4 → Fin 512 → Fin 1024 → EReal
  o : Fin 1024 → Fin 1024 → EReal

namespace Row

variable (R : Row)

def h1 : Fin 1024 → EReal := norm R.x R.n1 (R.mod 1) (R.mod 0)

def br (i : Fin 4) (e : Fin 1024) : EReal := branch R.h1 (fun k => R.g i k e) (R.b i e) (R.y i) fun k => R.w i k e

def merged (e : Fin 1024) : EReal := R.br 0 e + R.br 1 e + R.br 2 e + R.br 3 e

/-- The token after the gated residual. -/
def x1 (d : Fin 1024) : EReal := R.x d + R.mod 2 d * ∑ e, R.merged e * R.o e d

/-- The second norm of it. -/
def h2 : Fin 1024 → EReal := norm R.x1 R.n2 (R.mod 4) (R.mod 3)

end Row

/-- The sequence of token `t`. -/
def seq (t : Fin 16384) : Fin 8 := ⟨t.val / 2048, by have := t.isLt; omega⟩

/-- The column of gate `i` in the layer's input weights. -/
def gcolumn (i : Fin 4) (e : Fin 1024) : Fin 7168 := ⟨3072 + 1024 * i.val + e.val, by have := i.isLt; have := e.isLt; omega⟩

/-- Token `t` of the whole arrays. -/
def trow (y : Fin 4 → Fin 16384 → Fin 512 → EReal) (x : Fin 16384 → Fin 1024 → EReal) (mod : Fin 8 → Fin 6 → Fin 1024 → EReal)
    (b : Fin 4 → Fin 1024 → EReal) (n1 n2 : Fin 1024 → EReal) (wi : Fin 1024 → Fin 7168 → EReal)
    (w : Fin 4 → Fin 512 → Fin 1024 → EReal) (o : Fin 1024 → Fin 1024 → EReal) (t : Fin 16384) : Row where
  y i := y i t
  x := x t
  mod := mod (seq t)
  b := b
  n1 := n1
  n2 := n2
  g i k e := wi k (gcolumn i e)
  w := w
  o := o

end Cert.Proof.OutSpec
-- ==== Proof.OutBody.lean ====
/- Hand-written, untrusted: the two blocks that the output projection's body leaves are `Row.x1` and `Row.h2` of the rows of its
   input blocks (`x1_at`, `h2_at`). -/
module

public import proofs.«01_k».proof.Proof.OutSpec
public import proofs.«01_k».proof.Proof.Gen.OutIdeal.Frame
public import Idealize.ShloMosaic.Lib.Pointwise
public import Idealize.ShloMosaic.Lib.Pipeline.Value

@[expose] public section

set_option maxRecDepth 16384

noncomputable section

namespace Cert.Proof.OutBody

open Cert.OutIdeal Cert.OutIdeal.Gen Idealize.ShloMosaic Idealize.ShloMosaic.TcCoe Idealize.SL.Sem
open Cert.Proof.OutSpec

/-! ## The payloads at an index -/

theorem norm1_at (v0 : Vec Ideal S256x1024 .f32) (v1 : Vec Ideal S1x1024 .f32) (v3 v5 : Vec Ideal S1x1x1024 .f32)
    (r : Fin 256) (d : Fin 1024) :
    k0_pay2 v0 v1 v3 v5 (ix2 r d)
      = norm (fun k => v0 (ix2 r k)) (fun k => v1 (ix2 0 k)) (fun k => v3 (ix3 0 0 k)) (fun k => v5 (ix3 0 0 k)) d := by
  unfold k0_pay2
  pointwise []
  rfl

theorem proj_at (v26 : Vec Ideal S256x512 .bf16) (v27 : Vec Ideal S512x1024 .bf16) (r : Fin 256) (d : Fin 1024) :
    k0_pay3 v26 v27 (ix2 r d) = ∑ k, v26 (ix2 r k) * v27 (ix2 k d) := by
  unfold k0_pay3
  pointwise []

theorem gate_at (v0 : Vec Ideal S256x1024 .f32) (v1 : Vec Ideal S1x1024 .f32) (v3 v5 : Vec Ideal S1x1x1024 .f32)
    (v30 : Vec Ideal S1024x1024 .bf16) (r : Fin 256) (d : Fin 1024) :
    k0_pay4 v0 v1 v3 v5 v30 (ix2 r d) = ∑ k, k0_pay2 v0 v1 v3 v5 (ix2 r k) * v30 (ix2 k d) := by
  unfold k0_pay4
  generalize k0_pay2 v0 v1 v3 v5 = h
  pointwise []

theorem bias_at (v33 : Vec Ideal S1x1024 .f32) (r : Fin 256) (d : Fin 1024) :
    k0_pay5 (F := Ideal) v33 (ix2 r d) = v33 (ix2 0 d) := by
  unfold k0_pay5
  pointwise []

theorem three_at (v25 : FVec Ideal S256x1024 .bf16) (v29 v32 v34 : FVec Ideal S256x1024 .f32) (v38 : Vec Ideal S256x512 .bf16)
    (v39 : Vec Ideal S512x1024 .bf16) (v42 : Vec Ideal S1024x1024 .bf16) (v45 : Vec Ideal S1x1024 .f32)
    (v51 : Vec Ideal S256x512 .bf16) (v52 : Vec Ideal S512x1024 .bf16) (v55 : Vec Ideal S1024x1024 .bf16)
    (v58 : Vec Ideal S1x1024 .f32) (r : Fin 256) (d : Fin 1024) :
    k0_pay6 v25 v29 v32 v34 v38 v39 v42 v45 v51 v52 v55 v58 (ix2 r d)
      = Ideal.logistic (v32 (ix2 r d) + v34 (ix2 r d)) * v29 (ix2 r d)
        + branch (fun k => v25 (ix2 r k)) (fun k => v42 (ix2 k d)) (v45 (ix2 0 d)) (fun k => v38 (ix2 r k)) (fun k => v39 (ix2 k d))
        + branch (fun k => v25 (ix2 r k)) (fun k => v55 (ix2 k d)) (v58 (ix2 0 d)) (fun k => v51 (ix2 r k)) (fun k => v52 (ix2 k d)) := by
  unfold k0_pay6
  pointwise []
  rfl

theorem last_at (v64 : Vec Ideal S256x512 .bf16) (v65 : Vec Ideal S512x1024 .bf16) (r : Fin 256) (d : Fin 1024) :
    k0_pay7 v64 v65 (ix2 r d) = ∑ k, v64 (ix2 r k) * v65 (ix2 k d) := by
  unfold k0_pay7
  pointwise []

theorem res_at (v0 : Vec Ideal S256x1024 .f32) (v25 : FVec Ideal S256x1024 .bf16) (v63 v67 : FVec Ideal S256x1024 .f32)
    (v68 : Vec Ideal S1024x1024 .bf16) (v71 : Vec Ideal S1x1024 .f32) (v78 : Vec Ideal S1024x1024 .bf16)
    (v81 : Vec Ideal S1x1x1024 .f32) (r : Fin 256) (d : Fin 1024) :
    k0_pay8 v0 v25 v63 v67 v68 v71 v78 v81 (ix2 r d)
      = v0 (ix2 r d) + v81 (ix3 0 0 d) * ∑ e, (v63 (ix2 r e)
          + Ideal.logistic (∑ k, v25 (ix2 r k) * v68 (ix2 k e) + v71 (ix2 0 e)) * v67 (ix2 r e)) * v78 (ix2 e d) := by
  unfold k0_pay8
  pointwise []

theorem norm2_at (v0 : Vec Ideal S256x1024 .f32) (v25 : FVec Ideal S256x1024 .bf16) (v63 v67 : FVec Ideal S256x1024 .f32)
    (v68 : Vec Ideal S1024x1024 .bf16) (v71 : Vec Ideal S1x1024 .f32) (v78 : Vec Ideal S1024x1024 .bf16)
    (v81 : Vec Ideal S1x1x1024 .f32) (v87 : Vec Ideal S1x1024 .f32) (v89 v91 : Vec Ideal S1x1x1024 .f32) (r : Fin 256) (d : Fin 1024) :
    k0_pay1 (k0_pay9 v89) (k0_pay10 v91) (k0_pay11 v0 v25 v63 v67 v68 v71 v78 v81 v87) (ix2 d r)
      = norm (fun k => k0_pay8 v0 v25 v63 v67 v68 v71 v78 v81 (ix2 r k)) (fun k => v87 (ix2 0 k)) (fun k => v89 (ix3 0 0 k))
          (fun k => v91 (ix3 0 0 k)) d := by
  unfold k0_pay1 k0_pay9 k0_pay10 k0_pay11
  generalize k0_pay8 v0 v25 v63 v67 v68 v71 v78 v81 = x
  pointwise []
  rfl

/-! ## The loads -/

theorem full2 {a b : ℕ} {e : EltTy} (X : Vec Ideal (⟨2, ![a, b]⟩ : Shape) e)
    (inb : ∀ i, (![0, 0] : Fin 2 → ℕ) i + (⟨2, ![a, b]⟩ : Shape).size i ≤ (⟨2, ![a, b]⟩ : Shape).size i) :
    View.ld X (Rect.unit ![0, 0] (⟨2, ![a, b]⟩ : Shape).size inb) = X :=
  View.ld_unit_zero (funext fun i => by match i with | ⟨0, _⟩ => rfl | ⟨1, _⟩ => rfl) inb X

theorem mod_at (X : Vec Ideal S1x6x1024 .f32) (i : Fin 6) {o : ℕ} (ho : o = i.val)
    (inb : ∀ a, (![0, o, 0] : Fin 3 → ℕ) a + S1x1x1024.size a ≤ S1x6x1024.size a) (k : Fin 1024) :
    View.ld X (Rect.unit ![0, o, 0] S1x1x1024.size inb) (ix3 0 0 k) = X (ix3 0 i k) := by
  subst ho
  refine congrArg X (funext fun a => Fin.ext ?_)
  match a with
  | ⟨0, _⟩ => rfl
  | ⟨1, _⟩ => show i.val + 1 * 0 = i.val; omega
  | ⟨2, _⟩ => show 0 + 1 * k.val = k.val; omega

theorem row_at (X : Vec Ideal S4x1024 .f32) (i : Fin 4) {o : ℕ} (ho : o = i.val)
    (inb : ∀ a, (![o, 0] : Fin 2 → ℕ) a + S1x1024.size a ≤ S4x1024.size a) (k : Fin 1024) :
    View.ld X (Rect.unit ![o, 0] S1x1024.size inb) (ix2 0 k) = X (ix2 i k) := by
  subst ho
  refine congrArg X (funext fun a => Fin.ext ?_)
  match a with
  | ⟨0, _⟩ => show i.val + 1 * 0 = i.val; omega
  | ⟨1, _⟩ => show 0 + 1 * k.val = k.val; omega

theorem ld0 (X : Vec Ideal S256x1024 .f32) : View.ld X r0_0 = X := full2 X _
theorem ld1 (X : Vec Ideal S1x1024 .f32) : View.ld X r0_1 = X := full2 X _
theorem ld4 (X : Vec Ideal S256x512 .bf16) : View.ld X r0_4 = X := full2 X _
theorem ld5 (X : Vec Ideal S512x1024 .bf16) : View.ld X r0_5 = X := full2 X _
theorem ld6 (X : Vec Ideal S1024x1024 .bf16) : View.ld X r0_6 = X := full2 X _

theorem ld2 (X : Vec Ideal S1x6x1024 .f32) (k : Fin 1024) : (View.ld X r0_2 : Vec Ideal S1x1x1024 .f32) (ix3 0 0 k) = X (ix3 0 1 k) := mod_at X 1 rfl _ k
theorem ld3 (X : Vec Ideal S1x6x1024 .f32) (k : Fin 1024) : (View.ld X r0_3 : Vec Ideal S1x1x1024 .f32) (ix3 0 0 k) = X (ix3 0 0 k) := mod_at X 0 rfl _ k
theorem ld11 (X : Vec Ideal S1x6x1024 .f32) (k : Fin 1024) : (View.ld X r0_11 : Vec Ideal S1x1x1024 .f32) (ix3 0 0 k) = X (ix3 0 2 k) := mod_at X 2 rfl _ k
theorem ld12 (X : Vec Ideal S1x6x1024 .f32) (k : Fin 1024) : (View.ld X r0_12 : Vec Ideal S1x1x1024 .f32) (ix3 0 0 k) = X (ix3 0 4 k) := mod_at X 4 rfl _ k
theorem ld13 (X : Vec Ideal S1x6x1024 .f32) (k : Fin 1024) : (View.ld X r0_13 : Vec Ideal S1x1x1024 .f32) (ix3 0 0 k) = X (ix3 0 3 k) := mod_at X 3 rfl _ k

theorem ld7 (X : Vec Ideal S4x1024 .f32) (k : Fin 1024) : (View.ld X r0_7 : Vec Ideal S1x1024 .f32) (ix2 0 k) = X (ix2 0 k) := row_at X 0 rfl _ k
theorem ld8 (X : Vec Ideal S4x1024 .f32) (k : Fin 1024) : (View.ld X r0_8 : Vec Ideal S1x1024 .f32) (ix2 0 k) = X (ix2 1 k) := row_at X 1 rfl _ k
theorem ld9 (X : Vec Ideal S4x1024 .f32) (k : Fin 1024) : (View.ld X r0_9 : Vec Ideal S1x1024 .f32) (ix2 0 k) = X (ix2 2 k) := row_at X 2 rfl _ k
theorem ld10 (X : Vec Ideal S4x1024 .f32) (k : Fin 1024) : (View.ld X r0_10 : Vec Ideal S1x1024 .f32) (ix2 0 k) = X (ix2 3 k) := row_at X 3 rfl _ k

/-! ## The blocks -/

section

variable (x0 x1 x2 x3 : Vec Ideal S256x512 .bf16) (x4 : Vec Ideal S256x1024 .f32) (x5 : Vec Ideal S1x6x1024 .f32)
  (x6 : Vec Ideal S4x1024 .f32) (x7 x8 : Vec Ideal S1x1024 .f32) (x9 x10 x11 x12 : Vec Ideal S1024x1024 .bf16)
  (x13 x14 x15 x16 : Vec Ideal S512x1024 .bf16) (x17 : Vec Ideal S1024x1024 .bf16)

/-- What row `r` of the blocks says of its token. -/
def brow (r : Fin 256) : Row where
  y i k := (![x0, x1, x2, x3] i) (ix2 r k)
  x k := x4 (ix2 r k)
  mod i k := x5 (ix3 0 i k)
  b i k := x6 (ix2 i k)
  n1 k := x7 (ix2 0 k)
  n2 k := x8 (ix2 0 k)
  g i k e := (![x9, x10, x11, x12] i) (ix2 k e)
  w i k e := (![x13, x14, x15, x16] i) (ix2 k e)
  o e d := x17 (ix2 e d)

theorem brow_of (R : Row) (r : Fin 256) (h0 : ∀ k, x0 (ix2 r k) = R.y 0 k) (h1 : ∀ k, x1 (ix2 r k) = R.y 1 k)
    (h2 : ∀ k, x2 (ix2 r k) = R.y 2 k) (h3 : ∀ k, x3 (ix2 r k) = R.y 3 k) (h4 : ∀ k, x4 (ix2 r k) = R.x k)
    (h5 : ∀ i k, x5 (ix3 0 i k) = R.mod i k) (h6 : ∀ i k, x6 (ix2 i k) = R.b i k) (h7 : ∀ k, x7 (ix2 0 k) = R.n1 k)
    (h8 : ∀ k, x8 (ix2 0 k) = R.n2 k) (h9 : ∀ k e, x9 (ix2 k e) = R.g 0 k e) (h10 : ∀ k e, x10 (ix2 k e) = R.g 1 k e)
    (h11 : ∀ k e, x11 (ix2 k e) = R.g 2 k e) (h12 : ∀ k e, x12 (ix2 k e) = R.g 3 k e)
    (h13 : ∀ k e, x13 (ix2 k e) = R.w 0 k e) (h14 : ∀ k e, x14 (ix2 k e) = R.w 1 k e)
    (h15 : ∀ k e, x15 (ix2 k e) = R.w 2 k e) (h16 : ∀ k e, x16 (ix2 k e) = R.w 3 k e) (h17 : ∀ k e, x17 (ix2 k e) = R.o k e) :
    brow x0 x1 x2 x3 x4 x5 x6 x7 x8 x9 x10 x11 x12 x13 x14 x15 x16 x17 r = R := by
  refine Row.ext ?_ (funext h4) (funext fun i => funext (h5 i)) (funext fun i => funext (h6 i)) (funext h7) (funext h8) ?_ ?_
    (funext fun k => funext (h17 k))
  · funext i k
    match i with
    | ⟨0, _⟩ => exact h0 k
    | ⟨1, _⟩ => exact h1 k
    | ⟨2, _⟩ => exact h2 k
    | ⟨3, _⟩ => exact h3 k
  · funext i k e
    match i with
    | ⟨0, _⟩ => exact h9 k e
    | ⟨1, _⟩ => exact h10 k e
    | ⟨2, _⟩ => exact h11 k e
    | ⟨3, _⟩ => exact h12 k e
  · funext i k e
    match i with
    | ⟨0, _⟩ => exact h13 k e
    | ⟨1, _⟩ => exact h14 k e
    | ⟨2, _⟩ => exact h15 k e
    | ⟨3, _⟩ => exact h16 k e

theorem h1_eq (r : Fin 256) (d : Fin 1024) :
    k0_pay12 x0 x1 x2 x3 x4 x5 x6 x7 x8 x9 x10 x11 x12 x13 x14 x15 x16 x17 (ix2 r d)
      = (brow x0 x1 x2 x3 x4 x5 x6 x7 x8 x9 x10 x11 x12 x13 x14 x15 x16 x17 r).h1 d := by
  unfold k0_pay12
  simp only [ld0, ld1]
  exact (norm1_at _ _ _ _ r d).trans (congrArg₂ (fun a b => norm _ _ a b d) (funext (ld2 x5)) (funext (ld3 x5)))

theorem three_eq (r : Fin 256) (d : Fin 1024) :
    k0_pay13 x0 x1 x2 x3 x4 x5 x6 x7 x8 x9 x10 x11 x12 x13 x14 x15 x16 x17 (ix2 r d)
      = (brow x0 x1 x2 x3 x4 x5 x6 x7 x8 x9 x10 x11 x12 x13 x14 x15 x16 x17 r).br 0 d
        + (brow x0 x1 x2 x3 x4 x5 x6 x7 x8 x9 x10 x11 x12 x13 x14 x15 x16 x17 r).br 1 d
        + (brow x0 x1 x2 x3 x4 x5 x6 x7 x8 x9 x10 x11 x12 x13 x14 x15 x16 x17 r).br 2 d := by
  have hh := funext (h1_eq x0 x1 x2 x3 x4 x5 x6 x7 x8 x9 x10 x11 x12 x13 x14 x15 x16 x17 r)
  unfold k0_pay13
  rw [three_at, hh, gate_at, bias_at, proj_at, ld4 x0, ld4 x1, ld4 x2, ld5 x13, ld5 x14, ld5 x15, ld6 x9, ld6 x10, ld6 x11]
  refine congrArg₂ (· + ·) (congrArg₂ (· + ·) ?_ ?_) ?_
  · exact congrArg₂ (fun a b => Ideal.logistic (a + b) * _) (Finset.sum_congr rfl fun k _ => congrArg (· * _) (congrFun hh k)) (ld7 x6 d)
  · exact congrArg (fun b => branch _ _ b _ _) (ld8 x6 d)
  · exact congrArg (fun b => branch _ _ b _ _) (ld9 x6 d)

theorem x1_pay (r : Fin 256) (d : Fin 1024) :
    k0_pay8 (View.ld x4 r0_0) (k0_pay12 x0 x1 x2 x3 x4 x5 x6 x7 x8 x9 x10 x11 x12 x13 x14 x15 x16 x17)
      (k0_pay13 x0 x1 x2 x3 x4 x5 x6 x7 x8 x9 x10 x11 x12 x13 x14 x15 x16 x17)
      (k0_pay14 x0 x1 x2 x3 x4 x5 x6 x7 x8 x9 x10 x11 x12 x13 x14 x15 x16 x17) (View.ld x12 r0_6) (View.ld x6 r0_10)
      (View.ld x17 r0_6) (View.ld x5 r0_11) (ix2 r d)
      = (brow x0 x1 x2 x3 x4 x5 x6 x7 x8 x9 x10 x11 x12 x13 x14 x15 x16 x17 r).x1 d := by
  rw [ld0, ld6 x12, ld6 x17, res_at]
  unfold Row.x1 Row.merged
  refine congrArg₂ (· + ·) rfl (congrArg₂ (· * ·) (ld11 x5 d)
    (Finset.sum_congr rfl fun e _ => congrArg₂ (· * ·) (congrArg₂ (· + ·) ?_ ?_) rfl))
  · exact three_eq x0 x1 x2 x3 x4 x5 x6 x7 x8 x9 x10 x11 x12 x13 x14 x15 x16 x17 r e
  · unfold k0_pay14
    rw [ld4, ld5, last_at]
    exact congrArg₂ (fun a b => Ideal.logistic (a + b) * _)
      (Finset.sum_congr rfl fun k _ => congrArg (· * _) (h1_eq x0 x1 x2 x3 x4 x5 x6 x7 x8 x9 x10 x11 x12 x13 x14 x15 x16 x17 r k))
      (ld10 x6 e)

theorem x1_at (r : Fin 256) (d : Fin 1024) :
    out0_18 x0 x1 x2 x3 x4 x5 x6 x7 x8 x9 x10 x11 x12 x13 x14 x15 x16 x17 (ix2 r d)
      = (brow x0 x1 x2 x3 x4 x5 x6 x7 x8 x9 x10 x11 x12 x13 x14 x15 x16 x17 r).x1 d := by
  unfold out0_18
  rw [View.canon_cons_unit_zero (funext fun i => by match i with | ⟨0, _⟩ => rfl | ⟨1, _⟩ => rfl)]
  exact x1_pay x0 x1 x2 x3 x4 x5 x6 x7 x8 x9 x10 x11 x12 x13 x14 x15 x16 x17 r d

theorem h2_at (r : Fin 256) (d : Fin 1024) :
    out0_19 x0 x1 x2 x3 x4 x5 x6 x7 x8 x9 x10 x11 x12 x13 x14 x15 x16 x17 (ix2 d r)
      = (brow x0 x1 x2 x3 x4 x5 x6 x7 x8 x9 x10 x11 x12 x13 x14 x15 x16 x17 r).h2 d := by
  unfold out0_19
  rw [View.canon_cons_unit_zero (funext fun i => by match i with | ⟨0, _⟩ => rfl | ⟨1, _⟩ => rfl), ld1 x8, norm2_at,
    funext (x1_pay x0 x1 x2 x3 x4 x5 x6 x7 x8 x9 x10 x11 x12 x13 x14 x15 x16 x17 r)]
  exact congrArg₂ (fun a b => norm _ _ a b d) (funext (ld12 x5)) (funext (ld13 x5))

end

end Cert.Proof.OutBody
-- ==== Proof.OutHost.lean ====
/- Hand-written, untrusted: what the output projection's kernel reads: the host's casts of the weights (`V_…`), the blocks of the
   arrays that a grid point sees (`iblk…_at`), and so the rows of the blocks as rows of the argument arrays (`brow_eq`). -/
module

public import proofs.«01_k».proof.Proof.OutBody
public import proofs.«01_k».proof.Proof.Gen.OutIdeal.Value
public import Idealize.ShloMosaic.Lib.StableHlo.ReadAt

@[expose] public section

set_option maxRecDepth 16384

noncomputable section

namespace Cert.Proof.OutHost

open Cert.OutIdeal Cert.OutIdeal.Gen Cert.OutIdeal.Value Idealize.ShloMosaic Idealize.ShloMosaic.TcCoe Idealize.SL.Sem
open Cert.Proof.OutSpec Cert.Proof.OutBody

variable (m : (ℓ : Loc nD τ sig) → Buf (Elt Ideal) ℓ) (ρ : Dev nD → PrngReg)

/-- Token `t` of the argument arrays. -/
def arow (c : Dev nD) : Fin 16384 → Row :=
  trow
    ![fun t k => m ((c : Thread nD τ).loc main_arg0) (ix2 t k), fun t k => m ((c : Thread nD τ).loc main_arg1) (ix2 t k),
      fun t k => m ((c : Thread nD τ).loc main_arg2) (ix2 t k), fun t k => m ((c : Thread nD τ).loc main_arg3) (ix2 t k)]
    (fun t k => m ((c : Thread nD τ).loc main_arg4) (ix2 t k))
    (fun s i k => m ((c : Thread nD τ).loc main_arg5) (ix3 s i k))
    (fun i k => m ((c : Thread nD τ).loc main_arg6) (ix2 i k))
    (fun k => m ((c : Thread nD τ).loc main_arg7) (ix1 k))
    (fun k => m ((c : Thread nD τ).loc main_arg8) (ix1 k))
    (fun k e => m ((c : Thread nD τ).loc main_arg9) (ix2 k e))
    ![fun k e => m ((c : Thread nD τ).loc main_arg10) (ix2 k e), fun k e => m ((c : Thread nD τ).loc main_arg11) (ix2 k e),
      fun k e => m ((c : Thread nD τ).loc main_arg12) (ix2 k e), fun k e => m ((c : Thread nD τ).loc main_arg13) (ix2 k e)]
    (fun k e => m ((c : Thread nD τ).loc main_arg14) (ix2 k e))

/-! ## The host's arrays before the call -/

theorem V_v0 (c : Dev nD) (k : Fin 1024) :
    V m c main_v0 (ix2 0 k) = m ((c : Thread nD τ).loc main_arg7) (ix1 k) := by
  unfold V
  after_reads_at

theorem V_v1 (c : Dev nD) (k : Fin 1024) :
    V m c main_v1 (ix2 0 k) = m ((c : Thread nD τ).loc main_arg8) (ix1 k) := by
  unfold V
  after_reads_at

theorem V_v2 (c : Dev nD) (k : Fin 1024) (e : Fin 7168) :
    V m c main_v2 (ix2 k e) = m ((c : Thread nD τ).loc main_arg9) (ix2 k e) := by
  unfold V
  after_reads_at

theorem V_v3 (c : Dev nD) (k : Fin 512) (e : Fin 1024) :
    V m c main_v3 (ix2 k e) = m ((c : Thread nD τ).loc main_arg10) (ix2 k e) := by
  unfold V
  after_reads_at

theorem V_v4 (c : Dev nD) (k : Fin 512) (e : Fin 1024) :
    V m c main_v4 (ix2 k e) = m ((c : Thread nD τ).loc main_arg11) (ix2 k e) := by
  unfold V
  after_reads_at

theorem V_v5 (c : Dev nD) (k : Fin 512) (e : Fin 1024) :
    V m c main_v5 (ix2 k e) = m ((c : Thread nD τ).loc main_arg12) (ix2 k e) := by
  unfold V
  after_reads_at

theorem V_v6 (c : Dev nD) (k : Fin 512) (e : Fin 1024) :
    V m c main_v6 (ix2 k e) = m ((c : Thread nD τ).loc main_arg13) (ix2 k e) := by
  unfold V
  after_reads_at

theorem V_v7 (c : Dev nD) (k : Fin 1024) (e : Fin 1024) :
    V m c main_v7 (ix2 k e) = m ((c : Thread nD τ).loc main_arg14) (ix2 k e) := by
  unfold V
  after_reads_at

theorem V_a0 (c : Dev nD) (k : Fin 16384) (e : Fin 512) :
    V m c main_arg0 (ix2 k e) = m ((c : Thread nD τ).loc main_arg0) (ix2 k e) := by
  unfold V
  after_reads_at

theorem V_a1 (c : Dev nD) (k : Fin 16384) (e : Fin 512) :
    V m c main_arg1 (ix2 k e) = m ((c : Thread nD τ).loc main_arg1) (ix2 k e) := by
  unfold V
  after_reads_at

theorem V_a2 (c : Dev nD) (k : Fin 16384) (e : Fin 512) :
    V m c main_arg2 (ix2 k e) = m ((c : Thread nD τ).loc main_arg2) (ix2 k e) := by
  unfold V
  after_reads_at

theorem V_a3 (c : Dev nD) (k : Fin 16384) (e : Fin 512) :
    V m c main_arg3 (ix2 k e) = m ((c : Thread nD τ).loc main_arg3) (ix2 k e) := by
  unfold V
  after_reads_at

theorem V_a4 (c : Dev nD) (k : Fin 16384) (e : Fin 1024) :
    V m c main_arg4 (ix2 k e) = m ((c : Thread nD τ).loc main_arg4) (ix2 k e) := by
  unfold V
  after_reads_at

theorem V_a6 (c : Dev nD) (k : Fin 4) (e : Fin 1024) :
    V m c main_arg6 (ix2 k e) = m ((c : Thread nD τ).loc main_arg6) (ix2 k e) := by
  unfold V
  after_reads_at

theorem V_a5 (c : Dev nD) (s : Fin 8) (i : Fin 6) (k : Fin 1024) :
    V m c main_arg5 (ix3 s i k) = m ((c : Thread nD τ).loc main_arg5) (ix3 s i k) := by
  unfold V
  after_reads_at

/-! ## The blocks of a grid point -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 3) = t.val / 8 ∧ win0_5.index t (1 : Fin 3) = 0 ∧ win0_5.index t (2 : Fin 3) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 3 :=
  (by decide +kernel : ∀ t : Fin grid0.N, _)
theorem idx10 : ∀ t : Fin cfg0.N, win0_10.index t (0 : Fin 2) = 0 ∧ win0_10.index t (1 : Fin 2) = 4 :=
  (by decide +kernel : ∀ t : Fin grid0.N, _)
theorem idx11 : ∀ t : Fin cfg0.N, win0_11.index t (0 : Fin 2) = 0 ∧ win0_11.index t (1 : Fin 2) = 5 :=
  (by decide +kernel : ∀ t : Fin grid0.N, _)
theorem idx12 : ∀ t : Fin cfg0.N, win0_12.index t (0 : Fin 2) = 0 ∧ win0_12.index t (1 : Fin 2) = 6 :=
  (by decide +kernel : ∀ t : Fin grid0.N, _)
theorem idx13 : ∀ t : Fin cfg0.N, win0_13.index t (0 : Fin 2) = 0 ∧ win0_13.index t (1 : Fin 2) = 0 :=
  (by decide +kernel : ∀ t : Fin grid0.N, _)
theorem idx14 : ∀ t : Fin cfg0.N, win0_14.index t (0 : Fin 2) = 0 ∧ win0_14.index t (1 : Fin 2) = 0 :=
  (by decide +kernel : ∀ t : Fin grid0.N, _)
theorem idx15 : ∀ t : Fin cfg0.N, win0_15.index t (0 : Fin 2) = 0 ∧ win0_15.index t (1 : Fin 2) = 0 :=
  (by decide +kernel : ∀ t : Fin grid0.N, _)
theorem idx16 : ∀ t : Fin cfg0.N, win0_16.index t (0 : Fin 2) = 0 ∧ win0_16.index t (1 : Fin 2) = 0 :=
  (by decide +kernel : ∀ t : Fin grid0.N, _)
theorem idx17 : ∀ t : Fin cfg0.N, win0_17.index t (0 : Fin 2) = 0 ∧ win0_17.index t (1 : Fin 2) = 0 :=
  (by decide +kernel : ∀ t : Fin grid0.N, _)
theorem idx18 : ∀ t : Fin cfg0.N, win0_18.index t (0 : Fin 2) = t.val ∧ win0_18.index t (1 : Fin 2) = 0 :=
  (by decide +kernel : ∀ t : Fin grid0.N, _)
theorem idx19 : ∀ t : Fin cfg0.N, win0_19.index t (0 : Fin 2) = 0 ∧ win0_19.index t (1 : Fin 2) = t.val :=
  (by decide +kernel : ∀ t : Fin grid0.N, _)

theorem tlt (t : Fin cfg0.N) : t.val < 64 := t.isLt

/-- Row `r` of the block of point `t`. -/
def qrow (t : Fin cfg0.N) (r : Fin 256) : Fin 16384 := ⟨256 * t.val + r.val, by have := tlt t; omega⟩

theorem iblk0_at (c : Dev nD) (t : Fin cfg0.N) (r : Fin 256) (k : Fin 512) :
    iblk m c 0 t (ix2 r k) = V m c main_arg0 (ix2 (qrow t r) k) := by
  obtain ⟨e0, e1⟩ := idx0 t
  show V m c main_arg0 (((cfg0.win 0).blk t).view.emb (ix2 r k)) = _
  refine congrArg (V m c main_arg0) (funext fun a => Fin.ext ?_)
  match a with
  | ⟨0, _⟩ => show win0_0.index t (0 : Fin 2) * 256 + 1 * r.val = 256 * t.val + r.val; omega
  | ⟨1, _⟩ => show win0_0.index t (1 : Fin 2) * 512 + 1 * k.val = k.val; omega

theorem iblk1_at (c : Dev nD) (t : Fin cfg0.N) (r : Fin 256) (k : Fin 512) :
    iblk m c 1 t (ix2 r k) = V m c main_arg1 (ix2 (qrow t r) k) := by
  obtain ⟨e0, e1⟩ := idx1 t
  show V m c main_arg1 (((cfg0.win 1).blk t).view.emb (ix2 r k)) = _
  refine congrArg (V m c main_arg1) (funext fun a => Fin.ext ?_)
  match a with
  | ⟨0, _⟩ => show win0_1.index t (0 : Fin 2) * 256 + 1 * r.val = 256 * t.val + r.val; omega
  | ⟨1, _⟩ => show win0_1.index t (1 : Fin 2) * 512 + 1 * k.val = k.val; omega

theorem iblk2_at (c : Dev nD) (t : Fin cfg0.N) (r : Fin 256) (k : Fin 512) :
    iblk m c 2 t (ix2 r k) = V m c main_arg2 (ix2 (qrow t r) k) := by
  obtain ⟨e0, e1⟩ := idx2 t
  show V m c main_arg2 (((cfg0.win 2).blk t).view.emb (ix2 r k)) = _
  refine congrArg (V m c main_arg2) (funext fun a => Fin.ext ?_)
  match a with
  | ⟨0, _⟩ => show win0_2.index t (0 : Fin 2) * 256 + 1 * r.val = 256 * t.val + r.val; omega
  | ⟨1, _⟩ => show win0_2.index t (1 : Fin 2) * 512 + 1 * k.val = k.val; omega

theorem iblk3_at (c : Dev nD) (t : Fin cfg0.N) (r : Fin 256) (k : Fin 512) :
    iblk m c 3 t (ix2 r k) = V m c main_arg3 (ix2 (qrow t r) k) := by
  obtain ⟨e0, e1⟩ := idx3 t
  show V m c main_arg3 (((cfg0.win 3).blk t).view.emb (ix2 r k)) = _
  refine congrArg (V m c main_arg3) (funext fun a => Fin.ext ?_)
  match a with
  | ⟨0, _⟩ => show win0_3.index t (0 : Fin 2) * 256 + 1 * r.val = 256 * t.val + r.val; omega
  | ⟨1, _⟩ => show win0_3.index t (1 : Fin 2) * 512 + 1 * k.val = k.val; omega

theorem iblk4_at (c : Dev nD) (t : Fin cfg0.N) (r : Fin 256) (k : Fin 1024) :
    iblk m c 4 t (ix2 r k) = V m c main_arg4 (ix2 (qrow t r) k) := by
  obtain ⟨e0, e1⟩ := idx4 t
  show V m c main_arg4 (((cfg0.win 4).blk t).view.emb (ix2 r k)) = _
  refine congrArg (V m c main_arg4) (funext fun a => Fin.ext ?_)
  match a with
  | ⟨0, _⟩ => show win0_4.index t (0 : Fin 2) * 256 + 1 * r.val = 256 * t.val + r.val; omega
  | ⟨1, _⟩ => show win0_4.index t (1 : Fin 2) * 1024 + 1 * k.val = k.val; omega

theorem iblk5_at (c : Dev nD) (t : Fin cfg0.N) (r : Fin 256) (i : Fin 6) (k : Fin 1024) :
    iblk m c 5 t (ix3 0 i k) = V m c main_arg5 (ix3 (seq (qrow t r)) i k) := by
  obtain ⟨e0, e1, e2⟩ := idx5 t
  have hr := r.isLt
  show V m c main_arg5 (((cfg0.win 5).blk t).view.emb (ix3 0 i k)) = _
  refine congrArg (V m c main_arg5) (funext fun a => Fin.ext ?_)
  match a with
  | ⟨0, _⟩ => show win0_5.index t (0 : Fin 3) * 1 + 1 * 0 = (256 * t.val + r.val) / 2048; omega
  | ⟨1, _⟩ => show win0_5.index t (1 : Fin 3) * 6 + 1 * i.val = i.val; omega
  | ⟨2, _⟩ => show win0_5.index t (2 : Fin 3) * 1024 + 1 * k.val = k.val; omega

theorem iblk6_at (c : Dev nD) (t : Fin cfg0.N) (r : Fin 4) (k : Fin 1024) :
    iblk m c 6 t (ix2 r k) = V m c main_arg6 (ix2 r k) := by
  obtain ⟨e0, e1⟩ := idx6 t
  show V m c main_arg6 (((cfg0.win 6).blk t).view.emb (ix2 r k)) = _
  refine congrArg (V m c main_arg6) (funext fun a => Fin.ext ?_)
  match a with
  | ⟨0, _⟩ => show win0_6.index t (0 : Fin 2) * 4 + 1 * r.val = r.val; omega
  | ⟨1, _⟩ => show win0_6.index t (1 : Fin 2) * 1024 + 1 * k.val = k.val; omega

theorem iblk7_at (c : Dev nD) (t : Fin cfg0.N) (k : Fin 1024) :
    iblk m c 7 t (ix2 0 k) = V m c main_v0 (ix2 0 k) := by
  obtain ⟨e0, e1⟩ := idx7 t
  show V m c main_v0 (((cfg0.win 7).blk t).view.emb (ix2 0 k)) = _
  refine congrArg (V m c main_v0) (funext fun a => Fin.ext ?_)
  match a with
  | ⟨0, _⟩ => show win0_7.index t (0 : Fin 2) * 1 + 1 * 0 = 0; omega
  | ⟨1, _⟩ => show win0_7.index t (1 : Fin 2) * 1024 + 1 * k.val = k.val; omega

theorem iblk8_at (c : Dev nD) (t : Fin cfg0.N) (k : Fin 1024) :
    iblk m c 8 t (ix2 0 k) = V m c main_v1 (ix2 0 k) := by
  obtain ⟨e0, e1⟩ := idx8 t
  show V m c main_v1 (((cfg0.win 8).blk t).view.emb (ix2 0 k)) = _
  refine congrArg (V m c main_v1) (funext fun a => Fin.ext ?_)
  match a with
  | ⟨0, _⟩ => show win0_8.index t (0 : Fin 2) * 1 + 1 * 0 = 0; omega
  | ⟨1, _⟩ => show win0_8.index t (1 : Fin 2) * 1024 + 1 * k.val = k.val; omega

theorem iblk9_at (c : Dev nD) (t : Fin cfg0.N) (r : Fin 1024) (k : Fin 1024) :
    iblk m c 9 t (ix2 r k) = V m c main_v2 (ix2 r (gcolumn 0 k)) := by
  obtain ⟨e0, e1⟩ := idx9 t
  show V m c main_v2 (((cfg0.win 9).blk t).view.emb (ix2 r k)) = _
  refine congrArg (V m c main_v2) (funext fun a => Fin.ext ?_)
  match a with
  | ⟨0, _⟩ => show win0_9.index t (0 : Fin 2) * 1024 + 1 * r.val = r.val; omega
  | ⟨1, _⟩ => show win0_9.index t (1 : Fin 2) * 1024 + 1 * k.val = 3072 + 1024 * 0 + k.val; omega

theorem iblk10_at (c : Dev nD) (t : Fin cfg0.N) (r : Fin 1024) (k : Fin 1024) :
    iblk m c 10 t (ix2 r k) = V m c main_v2 (ix2 r (gcolumn 1 k)) := by
  obtain ⟨e0, e1⟩ := idx10 t
  show V m c main_v2 (((cfg0.win 10).blk t).view.emb (ix2 r k)) = _
  refine congrArg (V m c main_v2) (funext fun a => Fin.ext ?_)
  match a with
  | ⟨0, _⟩ => show win0_10.index t (0 : Fin 2) * 1024 + 1 * r.val = r.val; omega
  | ⟨1, _⟩ => show win0_10.index t (1 : Fin 2) * 1024 + 1 * k.val = 3072 + 1024 * 1 + k.val; omega

theorem iblk11_at (c : Dev nD) (t : Fin cfg0.N) (r : Fin 1024) (k : Fin 1024) :
    iblk m c 11 t (ix2 r k) = V m c main_v2 (ix2 r (gcolumn 2 k)) := by
  obtain ⟨e0, e1⟩ := idx11 t
  show V m c main_v2 (((cfg0.win 11).blk t).view.emb (ix2 r k)) = _
  refine congrArg (V m c main_v2) (funext fun a => Fin.ext ?_)
  match a with
  | ⟨0, _⟩ => show win0_11.index t (0 : Fin 2) * 1024 + 1 * r.val = r.val; omega
  | ⟨1, _⟩ => show win0_11.index t (1 : Fin 2) * 1024 + 1 * k.val = 3072 + 1024 * 2 + k.val; omega

theorem iblk12_at (c : Dev nD) (t : Fin cfg0.N) (r : Fin 1024) (k : Fin 1024) :
    iblk m c 12 t (ix2 r k) = V m c main_v2 (ix2 r (gcolumn 3 k)) := by
  obtain ⟨e0, e1⟩ := idx12 t
  show V m c main_v2 (((cfg0.win 12).blk t).view.emb (ix2 r k)) = _
  refine congrArg (V m c main_v2) (funext fun a => Fin.ext ?_)
  match a with
  | ⟨0, _⟩ => show win0_12.index t (0 : Fin 2) * 1024 + 1 * r.val = r.val; omega
  | ⟨1, _⟩ => show win0_12.index t (1 : Fin 2) * 1024 + 1 * k.val = 3072 + 1024 * 3 + k.val; omega

theorem iblk13_at (c : Dev nD) (t : Fin cfg0.N) (r : Fin 512) (k : Fin 1024) :
    iblk m c 13 t (ix2 r k) = V m c main_v3 (ix2 r k) := by
  obtain ⟨e0, e1⟩ := idx13 t
  show V m c main_v3 (((cfg0.win 13).blk t).view.emb (ix2 r k)) = _
  refine congrArg (V m c main_v3) (funext fun a => Fin.ext ?_)
  match a with
  | ⟨0, _⟩ => show win0_13.index t (0 : Fin 2) * 512 + 1 * r.val = r.val; omega
  | ⟨1, _⟩ => show win0_13.index t (1 : Fin 2) * 1024 + 1 * k.val = k.val; omega

theorem iblk14_at (c : Dev nD) (t : Fin cfg0.N) (r : Fin 512) (k : Fin 1024) :
    iblk m c 14 t (ix2 r k) = V m c main_v4 (ix2 r k) := by
  obtain ⟨e0, e1⟩ := idx14 t
  show V m c main_v4 (((cfg0.win 14).blk t).view.emb (ix2 r k)) = _
  refine congrArg (V m c main_v4) (funext fun a => Fin.ext ?_)
  match a with
  | ⟨0, _⟩ => show win0_14.index t (0 : Fin 2) * 512 + 1 * r.val = r.val; omega
  | ⟨1, _⟩ => show win0_14.index t (1 : Fin 2) * 1024 + 1 * k.val = k.val; omega

theorem iblk15_at (c : Dev nD) (t : Fin cfg0.N) (r : Fin 512) (k : Fin 1024) :
    iblk m c 15 t (ix2 r k) = V m c main_v5 (ix2 r k) := by
  obtain ⟨e0, e1⟩ := idx15 t
  show V m c main_v5 (((cfg0.win 15).blk t).view.emb (ix2 r k)) = _
  refine congrArg (V m c main_v5) (funext fun a => Fin.ext ?_)
  match a with
  | ⟨0, _⟩ => show win0_15.index t (0 : Fin 2) * 512 + 1 * r.val = r.val; omega
  | ⟨1, _⟩ => show win0_15.index t (1 : Fin 2) * 1024 + 1 * k.val = k.val; omega

theorem iblk16_at (c : Dev nD) (t : Fin cfg0.N) (r : Fin 512) (k : Fin 1024) :
    iblk m c 16 t (ix2 r k) = V m c main_v6 (ix2 r k) := by
  obtain ⟨e0, e1⟩ := idx16 t
  show V m c main_v6 (((cfg0.win 16).blk t).view.emb (ix2 r k)) = _
  refine congrArg (V m c main_v6) (funext fun a => Fin.ext ?_)
  match a with
  | ⟨0, _⟩ => show win0_16.index t (0 : Fin 2) * 512 + 1 * r.val = r.val; omega
  | ⟨1, _⟩ => show win0_16.index t (1 : Fin 2) * 1024 + 1 * k.val = k.val; omega

theorem iblk17_at (c : Dev nD) (t : Fin cfg0.N) (r : Fin 1024) (k : Fin 1024) :
    iblk m c 17 t (ix2 r k) = V m c main_v7 (ix2 r k) := by
  obtain ⟨e0, e1⟩ := idx17 t
  show V m c main_v7 (((cfg0.win 17).blk t).view.emb (ix2 r k)) = _
  refine congrArg (V m c main_v7) (funext fun a => Fin.ext ?_)
  match a with
  | ⟨0, _⟩ => show win0_17.index t (0 : Fin 2) * 1024 + 1 * r.val = r.val; omega
  | ⟨1, _⟩ => show win0_17.index t (1 : Fin 2) * 1024 + 1 * k.val = k.val; omega

theorem emb18 (t : Fin cfg0.N) (r : Fin 256) (k : Fin 1024) :
    ((cfg0.win 18).blk t).view.emb (ix2 r k) = ix2 (qrow t r) k := by
  obtain ⟨e0, e1⟩ := idx18 t
  refine funext fun a => Fin.ext ?_
  match a with
  | ⟨0, _⟩ => show win0_18.index t (0 : Fin 2) * 256 + 1 * r.val = 256 * t.val + r.val; omega
  | ⟨1, _⟩ => show win0_18.index t (1 : Fin 2) * 1024 + 1 * k.val = k.val; omega

theorem emb19 (t : Fin cfg0.N) (r : Fin 256) (k : Fin 1024) :
    ((cfg0.win 19).blk t).view.emb (ix2 k r) = ix2 k (qrow t r) := by
  obtain ⟨e0, e1⟩ := idx19 t
  refine funext fun a => Fin.ext ?_
  match a with
  | ⟨0, _⟩ => show win0_19.index t (0 : Fin 2) * 1024 + 1 * k.val = k.val; omega
  | ⟨1, _⟩ => show win0_19.index t (1 : Fin 2) * 256 + 1 * r.val = 256 * t.val + r.val; omega

/-- A row of the blocks of a grid point is a token of the argument arrays. -/
theorem brow_eq (c : Dev nD) (t : Fin cfg0.N) (r : Fin 256) :
    brow (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) r
      = arow m c (qrow t r) :=
  brow_of _ _ _ _ _ _ _ _ _ _ _ _ _ _ _ _ _ _ (arow m c (qrow t r)) r
    (fun k => (iblk0_at m c t r k).trans (V_a0 m c _ _)) (fun k => (iblk1_at m c t r k).trans (V_a1 m c _ _))
    (fun k => (iblk2_at m c t r k).trans (V_a2 m c _ _)) (fun k => (iblk3_at m c t r k).trans (V_a3 m c _ _))
    (fun k => (iblk4_at m c t r k).trans (V_a4 m c _ _)) (fun i k => (iblk5_at m c t r i k).trans (V_a5 m c _ _ _))
    (fun i k => (iblk6_at m c t i k).trans (V_a6 m c _ _)) (fun k => (iblk7_at m c t k).trans (V_v0 m c _))
    (fun k => (iblk8_at m c t k).trans (V_v1 m c _))
    (fun k e => (iblk9_at m c t k e).trans (V_v2 m c _ _)) (fun k e => (iblk10_at m c t k e).trans (V_v2 m c _ _))
    (fun k e => (iblk11_at m c t k e).trans (V_v2 m c _ _)) (fun k e => (iblk12_at m c t k e).trans (V_v2 m c _ _))
    (fun k e => (iblk13_at m c t k e).trans (V_v3 m c _ _)) (fun k e => (iblk14_at m c t k e).trans (V_v4 m c _ _))
    (fun k e => (iblk15_at m c t k e).trans (V_v5 m c _ _)) (fun k e => (iblk16_at m c t k e).trans (V_v6 m c _ _))
    (fun k e => (iblk17_at m c t k e).trans (V_v7 m c _ _))

end Cert.Proof.OutHost
-- ==== Proof.OutArray.lean ====
/- Hand-written, untrusted: the two result arrays of the output projection's kernel are `Row.x1` and `Row.h2` of the tokens of the
   argument arrays, the second transposed: what a grid point writes back (`flushed…_eq`), the arrays after the run (`final…`). -/
module

public import proofs.«01_k».proof.Proof.OutHost

@[expose] public section

set_option maxRecDepth 16384

noncomputable section

namespace Cert.Proof.OutArray

open Cert.OutIdeal Cert.OutIdeal.Gen Cert.OutIdeal.Value Idealize.ShloMosaic Idealize.ShloMosaic.TcCoe Idealize.SL.Sem
open Cert.Proof.OutSpec Cert.Proof.OutBody Cert.Proof.OutHost

variable (m : (ℓ : Loc nD τ sig) → Buf (Elt Ideal) ℓ) (ρ : Dev nD → PrngReg)

/-- The two result arrays. -/
def X1 (c : Dev nD) : Vec Ideal S16384x1024 .f32 := fun i => (arow m c (i 0)).x1 (i 1)
def H2 (c : Dev nD) : Vec Ideal S1024x16384 .bf16 := fun i => (arow m c (i 1)).h2 (i 0)

theorem flushed18_eq (c : Dev nD) (t : Fin cfg0.N) :
    (dats m 0 c).flushed 18 t = ((cfg0.win 18).blk t).view.read (Elt Ideal) (X1 m c) := by
  rw [flushed18]
  funext j
  obtain ⟨r, x, rfl⟩ : ∃ (r : Fin 256) (x : Fin 1024), j = ix2 r x :=
    ⟨j 0, j 1, funext fun a => by match a with | ⟨0, _⟩ => rfl | ⟨1, _⟩ => rfl⟩
  show out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (ix2 r x)
    = X1 m c (((cfg0.win 18).blk t).view.emb (ix2 r x))
  rw [emb18, x1_at, brow_eq]
  rfl

theorem flushed19_eq (c : Dev nD) (t : Fin cfg0.N) :
    (dats m 0 c).flushed 19 t = ((cfg0.win 19).blk t).view.read (Elt Ideal) (H2 m c) := by
  rw [flushed19]
  funext j
  obtain ⟨x, r, rfl⟩ : ∃ (x : Fin 1024) (r : Fin 256), j = ix2 x r :=
    ⟨j 0, j 1, funext fun a => by match a with | ⟨0, _⟩ => rfl | ⟨1, _⟩ => rfl⟩
  show out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (ix2 x r)
    = H2 m c (((cfg0.win 19).blk t).view.emb (ix2 x r))
  rw [emb19, h2_at, brow_eq]
  rfl

theorem covered18 (i : S16384x1024.Idx) :
    ∃ t : Fin cfg0.N, (cfg0.win 18).flush t = true ∧ i ∈ ((cfg0.win 18).blk t).view.set := by
  have h0 : (i 0).val < 16384 := (i 0).isLt
  obtain ⟨t, ht⟩ : ∃ t : Fin cfg0.N, t.val = (i 0).val / 256 := ⟨⟨(i 0).val / 256, (by omega : (i 0).val / 256 < 64)⟩, rfl⟩
  obtain ⟨r, hr⟩ : ∃ r : Fin 256, r.val = (i 0).val % 256 := ⟨⟨(i 0).val % 256, by omega⟩, rfl⟩
  obtain ⟨x, hx⟩ : ∃ x : Fin 1024, x.val = (i 1).val := ⟨i 1, rfl⟩
  have e : ix2 (qrow t r) x = i := funext fun a => by
    match a with
    | ⟨0, _⟩ => exact Fin.ext (show 256 * t.val + r.val = (i 0).val by omega)
    | ⟨1, _⟩ => exact Fin.ext hx
  refine ⟨t, flush0_18 t, ?_⟩
  have h := ((cfg0.win 18).blk t).view.emb_mem_set (ix2 r x)
  rw [emb18, e] at h
  exact h

theorem covered19 (i : S1024x16384.Idx) :
    ∃ t : Fin cfg0.N, (cfg0.win 19).flush t = true ∧ i ∈ ((cfg0.win 19).blk t).view.set := by
  have h0 : (i 1).val < 16384 := (i 1).isLt
  obtain ⟨t, ht⟩ : ∃ t : Fin cfg0.N, t.val = (i 1).val / 256 := ⟨⟨(i 1).val / 256, (by omega : (i 1).val / 256 < 64)⟩, rfl⟩
  obtain ⟨r, hr⟩ : ∃ r : Fin 256, r.val = (i 1).val % 256 := ⟨⟨(i 1).val % 256, by omega⟩, rfl⟩
  obtain ⟨x, hx⟩ : ∃ x : Fin 1024, x.val = (i 0).val := ⟨i 0, rfl⟩
  have e : ix2 x (qrow t r) = i := funext fun a => by
    match a with
    | ⟨0, _⟩ => exact Fin.ext hx
    | ⟨1, _⟩ => exact Fin.ext (show 256 * t.val + r.val = (i 1).val by omega)
  refine ⟨t, flush0_19 t, ?_⟩
  have h := ((cfg0.win 19).blk t).view.emb_mem_set (ix2 x r)
  rw [emb19, e] at h
  exact h

theorem final18 (c : Dev nD) : (dats m 0 c).arrAt 18 cfg0.N = X1 m c :=
  (dats m 0 c).arrAt_eq_of_cover 18 (X1 m c) (fun t _ => flushed18_eq m c t) covered18

theorem final19 (c : Dev nD) : (dats m 0 c).arrAt 19 cfg0.N = H2 m c :=
  (dats m 0 c).arrAt_eq_of_cover 19 (H2 m c) (fun t _ => flushed19_eq m c t) covered19

end Cert.Proof.OutArray
-- ==== Proof.OutRef.lean ====
/- Hand-written, untrusted: the two results of the output projection's reference at an index are `Row.x1` and `Row.h2` of the token
   of its arguments (`v88_at`, `v91_at`). -/
module

public import proofs.«01_k».proof.Proof.OutSpec
public import proofs.«01_k».proof.Proof.Gen.OutRefIdeal.Read
public import Idealize.ShloMosaic.Lib.Pointwise

@[expose] public section

set_option maxRecDepth 16384

noncomputable section

namespace Cert.Proof.OutRef

open Cert.OutRefIdeal Cert.OutRefIdeal.Gen Cert.OutRefIdeal.Read Idealize.ShloMosaic Idealize.ShloMosaic.TcCoe Idealize.SL.Sem
open Cert.Proof.OutSpec

variable (x0 x1 x2 x3 : Vec Ideal S16384x512 .bf16) (x4 : Vec Ideal S16384x1024 .f32) (x5 : Vec Ideal S8x6x1024 .f32)
  (x6 : Vec Ideal S4x1024 .f32) (x7 x8 : Vec Ideal S1024 .f32) (x9 : Vec Ideal S1024x7168 .f32)
  (x10 x11 x12 x13 : Vec Ideal S512x1024 .f32) (x14 : Vec Ideal S1024x1024 .f32)

/-- Token `t` of the arguments. -/
def rrow : Fin 16384 → Row :=
  trow ![fun t k => x0 (ix2 t k), fun t k => x1 (ix2 t k), fun t k => x2 (ix2 t k), fun t k => x3 (ix2 t k)]
    (fun t k => x4 (ix2 t k)) (fun s i k => x5 (ix3 s i k)) (fun i k => x6 (ix2 i k)) (fun k => x7 (ix1 k)) (fun k => x8 (ix1 k))
    (fun k e => x9 (ix2 k e))
    ![fun k e => x10 (ix2 k e), fun k e => x11 (ix2 k e), fun k e => x12 (ix2 k e), fun k e => x13 (ix2 k e)]
    (fun k e => x14 (ix2 k e))

/-- Token `i` of sequence `b`. -/
def qr (b : Fin 8) (i : Fin 2048) : Fin 16384 := ⟨b.val * 2048 + i.val, by omega⟩

theorem seq_qr (b : Fin 8) (i : Fin 2048) : seq (qr b i) = b := Fin.ext (by show (b.val * 2048 + i.val) / 2048 = b.val; omega)

theorem v0_at (b : Fin 8) (i : Fin 2048) (d : Fin 1024) : val_main_v0 (F := Ideal) x4 (ix3 b i d) = x4 (ix2 (qr b i) d) := by
  unfold val_main_v0
  pointwise []
  rfl

theorem zero_add_sum (f : Fin 1024 → EReal) : Ideal.ofBits .f32 0x00000000#32 + ∑ k, f k = ∑ k, f k := by
  rw [Ideal.ofBits_zero, zero_add]

theorem v8_at (b : Fin 8) (i : Fin 2048) :
    val_main_v8 (F := Ideal) x4 (ix2 b i) = ∑ k, x4 (ix2 (qr b i) k) * x4 (ix2 (qr b i) k) := by
  rw [val_main_v8_apply]
  refine (zero_add_sum _).trans (Finset.sum_congr rfl fun k _ => ?_)
  rw [← v0_at x4 b i k]
  rw [show idx_main_v8 (ix2 b i) k = ix3 b i k from funext fun a => by match a with | ⟨0, _⟩ => rfl | ⟨1, _⟩ => rfl | ⟨2, _⟩ => rfl]
  rfl

theorem v25_at (b : Fin 8) (i : Fin 2048) (d : Fin 1024) :
    val_main_v25 (F := Ideal) x4 x5 x7 (ix3 b i d) = (rrow x0 x1 x2 x3 x4 x5 x6 x7 x8 x9 x10 x11 x12 x13 x14 (qr b i)).h1 d := by
  unfold val_main_v25 val_main_v24 val_main_v23 val_main_v22 val_main_v21 val_main_v20 val_main_cst_2 val_main_v19 val_main_v18
    val_main_v17 val_main_v16 val_main_v15 val_main_v14 val_main_v13 val_main_v12 val_main_cst_1 val_main_v11 val_main_v10
    val_main_cst_0 val_main_v9 val_main_v2 val_main_v1
  have e0 := v0_at x4 b i d
  have e8 := v8_at x4 b i
  generalize val_main_v8 (F := Ideal) x4 = s at *
  generalize val_main_v0 (F := Ideal) x4 = x at *
  pointwise []
  rw [e0, e8]
  unfold Row.h1 OutSpec.norm
  show _ = x4 (ix2 (qr b i) d) * _ * _ * (1 + x5 (ix3 (seq (qr b i)) 1 d)) + x5 (ix3 (seq (qr b i)) 0 d)
  rw [seq_qr]
  rfl

theorem v49_at (b : Fin 8) (i : Fin 2048) (p : Fin 4) (d : Fin 1024) :
    val_main_v49 (F := Ideal) x4 x5 x6 x7 x9 (ix4 b i p d)
      = Ideal.logistic (∑ k, (rrow x0 x1 x2 x3 x4 x5 x6 x7 x8 x9 x10 x11 x12 x13 x14 (qr b i)).h1 k * (rrow x0 x1 x2 x3 x4 x5 x6 x7 x8 x9 x10 x11 x12 x13 x14 (qr b i)).g p k d + (rrow x0 x1 x2 x3 x4 x5 x6 x7 x8 x9 x10 x11 x12 x13 x14 (qr b i)).b p d) := by
  unfold val_main_v49 val_main_v48 val_main_v47 val_main_v46 val_main_v45 val_main_v44 val_main_v43 val_main_v42 val_main_v41
    val_main_v40 val_main_cst_3 val_main_cst_4 val_main_v27 val_main_v26
  have e := fun k => v25_at x0 x1 x2 x3 x4 x5 x6 x7 x8 x9 x10 x11 x12 x13 x14 b i k
  generalize val_main_v25 (F := Ideal) x4 x5 x7 = h at *
  pointwise []
  simp only [e]
  show _ = Ideal.div 1 (1 + Ideal.exp (-(_ + x6 (ix2 p d))))
  refine congrArg (fun z => Ideal.div 1 (1 + Ideal.exp (-(z + x6 (ix2 p d))))) (Finset.sum_congr rfl fun k _ => congrArg₂ (· * ·) rfl ?_)
  refine congrArg (fun z => x9 (ix2 k z)) (Fin.ext ?_)
  show 3072 + (p.val * 1024 + d.val) = 3072 + 1024 * p.val + d.val
  omega

theorem v68_at (b : Fin 8) (i : Fin 2048) (d : Fin 1024) :
    val_main_v68 (F := Ideal) x0 x1 x2 x3 x4 x5 x6 x7 x9 x10 x11 x12 x13 x14 (ix3 b i d) = (rrow x0 x1 x2 x3 x4 x5 x6 x7 x8 x9 x10 x11 x12 x13 x14 (qr b i)).x1 d := by
  unfold val_main_v68 val_main_v67 val_main_v66 val_main_v65 val_main_v64 val_main_v63 val_main_v62 val_main_v61 val_main_v60
    val_main_v59 val_main_v58 val_main_v57 val_main_v56 val_main_v55 val_main_v54 val_main_v53 val_main_v52 val_main_v51 val_main_v50
    val_main_v39 val_main_v38 val_main_v37 val_main_v36 val_main_v35 val_main_v34 val_main_v33 val_main_v32 val_main_v31 val_main_v30
    val_main_v29 val_main_v28 val_main_v3
  have e := fun p k => v49_at x0 x1 x2 x3 x4 x5 x6 x7 x8 x9 x10 x11 x12 x13 x14 b i p k
  have e0 := v0_at x4 b i d
  generalize val_main_v49 (F := Ideal) x4 x5 x6 x7 x9 = g at *
  generalize val_main_v0 (F := Ideal) x4 = x at *
  pointwise []
  rw [e0]
  simp only [e]
  unfold Row.x1 Row.merged Row.br branch
  show _ = x4 (ix2 (qr b i) d) + x5 (ix3 (seq (qr b i)) 2 d) * _
  rw [seq_qr]
  rfl

theorem v70_at (b : Fin 8) (i : Fin 2048) :
    val_main_v70 (F := Ideal) x0 x1 x2 x3 x4 x5 x6 x7 x9 x10 x11 x12 x13 x14 (ix2 b i) = ∑ k, (rrow x0 x1 x2 x3 x4 x5 x6 x7 x8 x9 x10 x11 x12 x13 x14 (qr b i)).x1 k * (rrow x0 x1 x2 x3 x4 x5 x6 x7 x8 x9 x10 x11 x12 x13 x14 (qr b i)).x1 k := by
  rw [val_main_v70_apply]
  refine (zero_add_sum _).trans (Finset.sum_congr rfl fun k _ => ?_)
  rw [← v68_at x0 x1 x2 x3 x4 x5 x6 x7 x8 x9 x10 x11 x12 x13 x14 b i k]
  rw [show idx_main_v70 (ix2 b i) k = ix3 b i k from funext fun a => by match a with | ⟨0, _⟩ => rfl | ⟨1, _⟩ => rfl | ⟨2, _⟩ => rfl]
  rfl

theorem v87_at (b : Fin 8) (i : Fin 2048) (d : Fin 1024) :
    val_main_v87 (F := Ideal) x0 x1 x2 x3 x4 x5 x6 x7 x8 x9 x10 x11 x12 x13 x14 (ix3 b i d) = (rrow x0 x1 x2 x3 x4 x5 x6 x7 x8 x9 x10 x11 x12 x13 x14 (qr b i)).h2 d := by
  unfold val_main_v87 val_main_v86 val_main_v85 val_main_v84 val_main_v83 val_main_v82 val_main_cst_8 val_main_v81 val_main_v80
    val_main_v79 val_main_v78 val_main_v77 val_main_v76 val_main_v75 val_main_v74 val_main_cst_7 val_main_v73 val_main_v72
    val_main_cst_6 val_main_v71 val_main_v5 val_main_v4
  have e0 := v68_at x0 x1 x2 x3 x4 x5 x6 x7 x8 x9 x10 x11 x12 x13 x14 b i d
  have e8 := v70_at x0 x1 x2 x3 x4 x5 x6 x7 x8 x9 x10 x11 x12 x13 x14 b i
  generalize val_main_v70 (F := Ideal) x0 x1 x2 x3 x4 x5 x6 x7 x9 x10 x11 x12 x13 x14 = s at *
  generalize val_main_v68 (F := Ideal) x0 x1 x2 x3 x4 x5 x6 x7 x9 x10 x11 x12 x13 x14 = x at *
  pointwise []
  rw [e0, e8]
  unfold Row.h2 OutSpec.norm
  show _ = _ * _ * _ * (1 + x5 (ix3 (seq (qr b i)) 4 d)) + x5 (ix3 (seq (qr b i)) 3 d)
  rw [seq_qr]
  rfl

theorem qr_surj (t : Fin 16384) : ∃ b i, t = qr b i :=
  ⟨⟨t.val / 2048, by omega⟩, ⟨t.val % 2048, by omega⟩, Fin.ext (by show t.val = t.val / 2048 * 2048 + t.val % 2048; omega)⟩

theorem v88_at (t : Fin 16384) (d : Fin 1024) :
    val_main_v88 (F := Ideal) x0 x1 x2 x3 x4 x5 x6 x7 x9 x10 x11 x12 x13 x14 (ix2 t d)
      = (rrow x0 x1 x2 x3 x4 x5 x6 x7 x8 x9 x10 x11 x12 x13 x14 t).x1 d := by
  obtain ⟨b, i, rfl⟩ := qr_surj t
  rw [← v68_at x0 x1 x2 x3 x4 x5 x6 x7 x8 x9 x10 x11 x12 x13 x14 b i d, val_main_v88_apply]
  refine congrArg (val_main_v68 (F := Ideal) x0 x1 x2 x3 x4 x5 x6 x7 x9 x10 x11 x12 x13 x14) (funext fun a => Fin.ext ?_)
  match a with
  | ⟨0, _⟩ => show ((b.val * 2048 + i.val) * 1024 + d.val) / 2097152 = b.val; omega
  | ⟨1, _⟩ => show ((b.val * 2048 + i.val) * 1024 + d.val) / 1024 % 2048 = i.val; omega
  | ⟨2, _⟩ => show ((b.val * 2048 + i.val) * 1024 + d.val) % 1024 = d.val; omega

theorem v91_at (t : Fin 16384) (d : Fin 1024) :
    val_main_v91 (F := Ideal) x0 x1 x2 x3 x4 x5 x6 x7 x8 x9 x10 x11 x12 x13 x14 (ix2 d t)
      = (rrow x0 x1 x2 x3 x4 x5 x6 x7 x8 x9 x10 x11 x12 x13 x14 t).h2 d := by
  obtain ⟨b, i, rfl⟩ := qr_surj t
  rw [← v87_at x0 x1 x2 x3 x4 x5 x6 x7 x8 x9 x10 x11 x12 x13 x14 b i d, val_main_v91_apply, val_main_v90_apply, val_main_v89_apply]
  refine congrArg (val_main_v87 (F := Ideal) x0 x1 x2 x3 x4 x5 x6 x7 x8 x9 x10 x11 x12 x13 x14) (funext fun a => Fin.ext ?_)
  match a with
  | ⟨0, _⟩ => show ((b.val * 2048 + i.val) * 1024 + d.val) / 2097152 = b.val; omega
  | ⟨1, _⟩ => show ((b.val * 2048 + i.val) * 1024 + d.val) / 1024 % 2048 = i.val; omega
  | ⟨2, _⟩ => show ((b.val * 2048 + i.val) * 1024 + d.val) % 1024 = d.val; omega

end Cert.Proof.OutRef
-- ==== Proof.OutClaim.lean ====
/- Hand-written, untrusted: the claims of the output projection. -/
module

public import proofs.«01_k».proof.Defs
public import proofs.«01_k».proof.Proof.OutArray
public import proofs.«01_k».proof.Proof.OutRef
public import proofs.«01_k».proof.Proof.Gen.Out
public import proofs.«01_k».proof.Proof.Gen.Out.Frame

@[expose] public section

noncomputable section

namespace Cert.Proof.OutClaim

open Idealize.ShloMosaic Idealize.ShloMosaic.TcCoe Idealize.SL.Sem Cert.Proof.OutSpec

theorem frame_p : Cert.quiescent_Out := fun m ρ _ => Cert.Out.Gen.frame m ρ

theorem frame_pi : Cert.quiescent_OutIdeal := fun m ρ _ => Cert.OutIdeal.Gen.frame m ρ

theorem frame_ri : Cert.quiescent_OutRefIdeal := fun m ρ _ =>
  (θ_run Cert.OutRefIdeal.defs _ _).mono (fun r h => ⟨fun c => (h c).2.2, sem_eq_zero_of_no_sems (by decide) r.2⟩)
    (Cert.OutRefIdeal.Value.run (F := Ideal) m ρ)

theorem preserves : Cert.preserves_Out_OutIdeal := trivial

section

variable (m : (ℓ : Loc Cert.OutIdeal.nD Cert.OutIdeal.τ Cert.OutIdeal.sig) → Buf (Elt Ideal) ℓ) (c : Dev Cert.OutIdeal.nD)
  (x0 x1 x2 x3 : Vec Ideal Cert.OutRefIdeal.S16384x512 .bf16) (x4 : Vec Ideal Cert.OutRefIdeal.S16384x1024 .f32)
  (x5 : Vec Ideal Cert.OutRefIdeal.S8x6x1024 .f32) (x6 : Vec Ideal Cert.OutRefIdeal.S4x1024 .f32)
  (x7 x8 : Vec Ideal Cert.OutRefIdeal.S1024 .f32) (x9 : Vec Ideal Cert.OutRefIdeal.S1024x7168 .f32)
  (x10 x11 x12 x13 : Vec Ideal Cert.OutRefIdeal.S512x1024 .f32) (x14 : Vec Ideal Cert.OutRefIdeal.S1024x1024 .f32)

/-- From equal arguments, the tokens are equal. -/
theorem row_eq
    (h0 : x0 = m ((c.tc : Thread Cert.OutIdeal.nD Cert.OutIdeal.τ).loc Cert.OutIdeal.main_arg0))
    (h1 : x1 = m ((c.tc : Thread Cert.OutIdeal.nD Cert.OutIdeal.τ).loc Cert.OutIdeal.main_arg1))
    (h2 : x2 = m ((c.tc : Thread Cert.OutIdeal.nD Cert.OutIdeal.τ).loc Cert.OutIdeal.main_arg2))
    (h3 : x3 = m ((c.tc : Thread Cert.OutIdeal.nD Cert.OutIdeal.τ).loc Cert.OutIdeal.main_arg3))
    (h4 : x4 = m ((c.tc : Thread Cert.OutIdeal.nD Cert.OutIdeal.τ).loc Cert.OutIdeal.main_arg4))
    (h5 : x5 = m ((c.tc : Thread Cert.OutIdeal.nD Cert.OutIdeal.τ).loc Cert.OutIdeal.main_arg5))
    (h6 : x6 = m ((c.tc : Thread Cert.OutIdeal.nD Cert.OutIdeal.τ).loc Cert.OutIdeal.main_arg6))
    (h7 : x7 = m ((c.tc : Thread Cert.OutIdeal.nD Cert.OutIdeal.τ).loc Cert.OutIdeal.main_arg7))
    (h8 : x8 = m ((c.tc : Thread Cert.OutIdeal.nD Cert.OutIdeal.τ).loc Cert.OutIdeal.main_arg8))
    (h9 : x9 = m ((c.tc : Thread Cert.OutIdeal.nD Cert.OutIdeal.τ).loc Cert.OutIdeal.main_arg9))
    (h10 : x10 = m ((c.tc : Thread Cert.OutIdeal.nD Cert.OutIdeal.τ).loc Cert.OutIdeal.main_arg10))
    (h11 : x11 = m ((c.tc : Thread Cert.OutIdeal.nD Cert.OutIdeal.τ).loc Cert.OutIdeal.main_arg11))
    (h12 : x12 = m ((c.tc : Thread Cert.OutIdeal.nD Cert.OutIdeal.τ).loc Cert.OutIdeal.main_arg12))
    (h13 : x13 = m ((c.tc : Thread Cert.OutIdeal.nD Cert.OutIdeal.τ).loc Cert.OutIdeal.main_arg13))
    (h14 : x14 = m ((c.tc : Thread Cert.OutIdeal.nD Cert.OutIdeal.τ).loc Cert.OutIdeal.main_arg14)) :
    OutRef.rrow x0 x1 x2 x3 x4 x5 x6 x7 x8 x9 x10 x11 x12 x13 x14 = OutHost.arow m c := by
  rw [h0, h1, h2, h3, h4, h5, h6, h7, h8, h9, h10, h11, h12, h13, h14]
  rfl

theorem ref88_eq (h : OutRef.rrow x0 x1 x2 x3 x4 x5 x6 x7 x8 x9 x10 x11 x12 x13 x14 = OutHost.arow m c) :
    Cert.OutRefIdeal.Read.val_main_v88 (F := Ideal) x0 x1 x2 x3 x4 x5 x6 x7 x9 x10 x11 x12 x13 x14 = OutArray.X1 m c := by
  funext i
  obtain ⟨t, x, rfl⟩ : ∃ (t : Fin 16384) (x : Fin 1024), i = ix2 t x :=
    ⟨i 0, i 1, funext fun a => by match a with | ⟨0, _⟩ => rfl | ⟨1, _⟩ => rfl⟩
  exact (OutRef.v88_at x0 x1 x2 x3 x4 x5 x6 x7 x8 x9 x10 x11 x12 x13 x14 t x).trans (congrFun (congrArg Row.x1 (congrFun h t)) x)

theorem ref91_eq (h : OutRef.rrow x0 x1 x2 x3 x4 x5 x6 x7 x8 x9 x10 x11 x12 x13 x14 = OutHost.arow m c) :
    Cert.OutRefIdeal.Read.val_main_v91 (F := Ideal) x0 x1 x2 x3 x4 x5 x6 x7 x8 x9 x10 x11 x12 x13 x14 = OutArray.H2 m c := by
  funext i
  obtain ⟨x, t, rfl⟩ : ∃ (x : Fin 1024) (t : Fin 16384), i = ix2 x t :=
    ⟨i 0, i 1, funext fun a => by match a with | ⟨0, _⟩ => rfl | ⟨1, _⟩ => rfl⟩
  exact (OutRef.v91_at x0 x1 x2 x3 x4 x5 x6 x7 x8 x9 x10 x11 x12 x13 x14 t x).trans (congrFun (congrArg Row.h2 (congrFun h t)) x)

end

theorem algebraic : Cert.algebraic_OutIdeal_OutRefIdeal := by
  intro m g m' g' _ hargs
  refine ⟨fun c => OutArray.X1 m c, fun c => OutArray.H2 m c, ?_, ?_⟩
  · exact (θ_run Cert.OutIdeal.defs _ _).mono
      (fun r h c => ⟨(h c).1.trans (OutArray.final18 m c), (h c).2.1.trans (OutArray.final19 m c), (h c).2.2⟩)
      (Cert.OutIdeal.Value.run_blocks m g)
  · refine (θ_run Cert.OutRefIdeal.defs _ _).mono (fun r h c => ?_) (Cert.OutRefIdeal.Value.run (F := Ideal) m' g')
    obtain ⟨h0, h1, h2, h3, h4, h5, h6, h7, h8, h9, h10, h11, h12, h13, h14⟩ := hargs c
    have hrow := row_eq m c _ _ _ _ _ _ _ _ _ _ _ _ _ _ _ h0 h1 h2 h3 h4 h5 h6 h7 h8 h9 h10 h11 h12 h13 h14
    exact ⟨(h c).1.trans ((Cert.OutRefIdeal.Read.val_main_v88_eq m' c).trans (ref88_eq m c _ _ _ _ _ _ _ _ _ _ _ _ _ _ _ hrow)),
      (h c).2.1.trans ((Cert.OutRefIdeal.Read.val_main_v91_eq m' c).trans (ref91_eq m c _ _ _ _ _ _ _ _ _ _ _ _ _ _ _ hrow)),
      (h c).2.2⟩

end Cert.Proof.OutClaim
-- ==== Proof.InSpec.lean ====
/- Hand-written, untrusted: the attention inputs at one token, as a function of the token's row and the weights. -/
module

public import proofs.«01_k».proof.Proof.OutSpec

@[expose] public section

noncomputable section

namespace Cert.Proof.InSpec

open Idealize.ShloMosaic Cert.Proof.OutSpec

/-- Lane `k` of the head that holds lane `l`. -/
def inHead {n : ℕ} (hn : 64 ∣ n) (l : Fin n) (k : Fin 64) : Fin n :=
  ⟨64 * (l.val / 64) + k.val, by obtain ⟨m, rfl⟩ := hn; have := l.isLt; have := k.isLt; omega⟩

/-- The root-mean-square norm of each head's 64 lanes. -/
def heads {n : ℕ} (hn : 64 ∣ n) (a g : Fin n → EReal) (l : Fin n) : EReal :=
  a l * Ideal.rsqrt (Ideal.div (∑ k, a (inHead hn l k) * a (inHead hn l k)) (Ideal.ofBits .f32 0x42800000#32)
    + Ideal.ofBits .f32 0x358637BD#32) * g l

/-- Each of the two heads twice, once before 64 zeros and once after. -/
def beside (k : Fin 128 → EReal) (l : Fin 512) : EReal :=
  if l.val / 64 % 4 = 0 ∨ l.val / 64 % 4 = 3 then k ⟨64 * (l.val / 256) + l.val % 64, by have := l.isLt; omega⟩ else 0

/-- What the input projection of one token reads: its row `x` of the layer's input, the first norm's gain and modulation, the
    projection's columns `w`, and the gains of the two norms over heads. -/
@[ext] structure Row where
  x : Fin 1024 → EReal
  n1 : Fin 1024 → EReal
  sc : Fin 1024 → EReal
  sh : Fin 1024 → EReal
  w : Fin 1024 → Fin 1536 → EReal
  qg : Fin 512 → EReal
  kg : Fin 128 → EReal

namespace Row

variable (R : Row)

/-- Column `c` of the projection. -/
def acc (c : Fin 1536) : EReal := ∑ k, norm R.x R.n1 R.sc R.sh k * R.w k c

/-- `n` columns of it, from column `o`. -/
def part (o n : ℕ) (h : o + n ≤ 1536) (l : Fin n) : EReal := R.acc ⟨o + l.val, by have := l.isLt; omega⟩

def ka : Fin 128 → EReal := heads (by decide) (R.part 512 128 (by decide)) R.kg
def va : Fin 128 → EReal := R.part 640 128 (by decide)
def kw : Fin 128 → EReal := R.part 1280 128 (by decide)
def vw : Fin 128 → EReal := R.part 1408 128 (by decide)

/-- The queries of the full attention, scaled. -/
def qa (l : Fin 512) : EReal := heads (by decide) (R.part 0 512 (by decide)) R.qg l * Ideal.ofBits .f32 0x3E000000#32

/-- The queries of the windowed attention, scaled. -/
def qw (l : Fin 512) : EReal := R.part 768 512 (by decide) l * Ideal.ofBits .f32 0x3E000000#32

/-- The four rows of keys and values, side by side. -/
def kv (l : Fin 512) : EReal :=
  (![R.ka, R.va, R.kw, R.vw] ⟨l.val / 128, by have := l.isLt; omega⟩) ⟨l.val % 128, by omega⟩

end Row

/-- Token `t` of the whole arrays. -/
def trow (x : Fin 4096 → Fin 1024 → EReal) (mod : Fin 6 → Fin 1024 → EReal) (n1 : Fin 1024 → EReal)
    (wi : Fin 1024 → Fin 7168 → EReal) (qg kg : Fin 64 → EReal) (t : Fin 4096) : Row where
  x := x t
  n1 := n1
  sc := mod 1
  sh := mod 0
  w k c := wi k ⟨1536 + c.val, by have := c.isLt; omega⟩
  qg l := qg ⟨l.val % 64, by omega⟩
  kg l := kg ⟨l.val % 64, by omega⟩

end Cert.Proof.InSpec
-- ==== Proof.InSum.lean ====
/- Hand-written, untrusted: a row against the block-diagonal matrix of ones gives the sums over heads, the second of the two
   products vanishes on reals, and the projection of real rows is real. -/
module

public import proofs.«01_k».proof.Proof.InSpec
public import Idealize.ShloMosaic.Lib.IdealHost

@[expose] public section

noncomputable section

namespace Cert.Proof.InSum

open Idealize.ShloMosaic Cert.Proof.InSpec
open Cert.Proof.OutSpec (norm)

theorem sum_heads {n : ℕ} (hn : 64 ∣ n) (s : Fin n → EReal) (b : Fin n → EReal) (l : Fin n)
    (hb : ∀ k : Fin n, b k = if k.val / 64 = l.val / 64 then 1 else 0) : ∑ k, s k * b k = ∑ k, s (inHead hn l k) := by
  have h1 : ∀ k, s k * b k = if k.val / 64 = l.val / 64 then s k else 0 := fun k => by
    rw [hb k]; split <;> simp
  rw [Finset.sum_congr rfl fun k _ => h1 k, ← Finset.sum_filter]
  symm
  refine Finset.sum_bij (fun k _ => inHead hn l k) ?_ ?_ ?_ ?_
  · intro k _
    refine Finset.mem_filter.2 ⟨Finset.mem_univ _, ?_⟩
    show (64 * (l.val / 64) + k.val) / 64 = l.val / 64
    have := k.isLt
    omega
  · intro k _ k' _ h
    have h2 : 64 * (l.val / 64) + k.val = 64 * (l.val / 64) + k'.val := congrArg Fin.val h
    exact Fin.ext (by omega)
  · intro k hk
    have h2 := (Finset.mem_filter.1 hk).2
    refine ⟨⟨k.val % 64, by omega⟩, Finset.mem_univ _, Fin.ext ?_⟩
    show 64 * (l.val / 64) + k.val % 64 = k.val
    omega
  · intro _ _
    rfl

theorem ofBits_64 : Ideal.ofBits .f32 0x42800000#32 = ((64 : ℝ) : EReal) := by
  simp [Ideal.ofBits, Ideal.ieee]
  rw [← EReal.coe_mul]
  norm_num

theorem ofBits_64th : Ideal.ofBits .f32 0x3C800000#32 = ((1 / 64 : ℝ) : EReal) := by
  simp [Ideal.ofBits, Ideal.ieee]
  rw [← EReal.coe_mul]
  norm_num

theorem div64 (x : EReal) : Ideal.div x (Ideal.ofBits .f32 0x42800000#32) = x * Ideal.ofBits .f32 0x3C800000#32 := by
  rw [ofBits_64, ofBits_64th, Ideal.div_coe (by norm_num)]

/-- A real, as an extended real. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {ι : Type} (s : Finset ι) {f : ι → EReal} (h : ∀ i, IsReal (f i)) : IsReal (∑ i ∈ s, f i) := by
  classical
  induction s using Finset.induction with
  | empty => exact ⟨0, by simp⟩
  | insert i s hi ih => rw [Finset.sum_insert hi]; exact (h i).add ih

theorem IsReal.sub_self {x : EReal} (hx : IsReal x) : x - x = 0 := by
  obtain ⟨a, rfl⟩ := hx
  rw [← EReal.coe_sub, _root_.sub_self]
  rfl

/-- A row of reals against anything: the rounding remainder of its squares is zero. -/
theorem rest_zero {n : ℕ} (a b : Fin n → EReal) (h : ∀ k, IsReal (a k)) : ∑ k, (a k * a k - a k * a k) * b k = 0 := by
  refine Finset.sum_eq_zero fun k _ => ?_
  rw [((h k).mul (h k)).sub_self, zero_mul]

/-- The kernel's norm over heads, written with the matrix `b`, is `heads`. -/
theorem heads_eq {n : ℕ} (hn : 64 ∣ n) (a g b : Fin n → EReal) (l : Fin n) (h : ∀ k, IsReal (a k))
    (hb : ∀ k : Fin n, b k = if k.val / 64 = l.val / 64 then 1 else 0) :
    a l * Ideal.rsqrt ((∑ k, a k * a k * b k + ∑ k, (a k * a k - a k * a k) * b k) * Ideal.ofBits .f32 0x3C800000#32
      + Ideal.ofBits .f32 0x358637BD#32) * g l = heads hn a g l := by
  rw [rest_zero a b h, add_zero, sum_heads hn (fun k => a k * a k) b l hb, ← div64]
  rfl

theorem ofBits_eps : ∃ r : ℝ, 0 < r ∧ Ideal.ofBits .f32 0x358637BD#32 = (r : EReal) := by
  refine ⟨8796093 * (2 ^ 43)⁻¹, by positivity, ?_⟩
  simp [Ideal.ofBits, Ideal.ieee]

theorem ofBits_1024 : Ideal.ofBits .f32 0x44800000#32 = ((1024 : ℝ) : EReal) := by
  simp [Ideal.ofBits, Ideal.ieee]
  rw [← EReal.coe_mul]
  norm_num

/-- The norm of a row of reals is real. -/
theorem norm_real {x g sc sh : Fin 1024 → EReal} (hx : ∀ k, IsReal (x k)) (hg : ∀ k, IsReal (g k)) (hc : ∀ k, IsReal (sc k))
    (hs : ∀ k, IsReal (sh k)) (d : Fin 1024) : IsReal (norm x g sc sh d) := by
  obtain ⟨e, he, hee⟩ := ofBits_eps
  have hq : ∃ r : ℝ, 0 ≤ r ∧ ∑ k, x k * x k = (r : EReal) := by
    choose y hy using hx
    refine ⟨∑ k, y k * y k, Finset.sum_nonneg fun k _ => mul_self_nonneg _, ?_⟩
    rw [Finset.sum_congr rfl fun k _ => (by rw [hy k, EReal.coe_mul] : x k * x k = ((y k * y k : ℝ) : EReal))]
    exact (map_sum (⟨⟨Real.toEReal, rfl⟩, EReal.coe_add⟩ : ℝ →+ EReal) (fun k => y k * y k) Finset.univ).symm
  obtain ⟨q, hq0, hq⟩ := hq
  have hr : IsReal (Ideal.rsqrt (Ideal.div (∑ k, x k * x k) (Ideal.ofBits .f32 0x44800000#32) + Ideal.ofBits .f32 0x358637BD#32)) := by
    rw [hq, hee, ofBits_1024, Ideal.div_coe (by norm_num), ← EReal.coe_mul, ← EReal.coe_add, Ideal.rsqrt_coe]
    have hp : 0 < q * (1 / 1024) + e := by positivity
    rw [if_neg (not_lt.2 hp.le), if_neg hp.ne']
    exact ⟨_, rfl⟩
  exact ((((hx d).mul hr).mul (hg d)).mul (IsReal.add ⟨1, rfl⟩ (hc d))).add (hs d)

/-- Real rows and weights give real columns. -/
theorem acc_real (R : Row) (hx : ∀ k, IsReal (R.x k)) (hg : ∀ k, IsReal (R.n1 k)) (hc : ∀ k, IsReal (R.sc k))
    (hs : ∀ k, IsReal (R.sh k)) (hw : ∀ k c, IsReal (R.w k c)) (c : Fin 1536) : IsReal (R.acc c) :=
  IsReal.sum _ fun k => (norm_real hx hg hc hs k).mul (hw k c)

end Cert.Proof.InSum
-- ==== Proof.InPay.lean ====
/- Hand-written, untrusted: the payloads of the attention inputs' body are the parts of `Row` of the rows of its input blocks. -/
module

public import proofs.«01_k».proof.Proof.InSum
public import proofs.«01_k».proof.Proof.Gen.InIdeal.Frame
public import Idealize.ShloMosaic.Lib.Pointwise
public import Idealize.ShloMosaic.Lib.Pipeline.Value

@[expose] public section

set_option maxRecDepth 16384

noncomputable section

namespace Cert.Proof.InPay

open Cert.InIdeal Cert.InIdeal.Gen Idealize.ShloMosaic Idealize.ShloMosaic.TcCoe Idealize.SL.Sem
open Cert.Proof.InSpec Cert.Proof.InSum
open Cert.Proof.OutSpec (norm)

/-! ## The payloads at an index -/

theorem acc_at (v0 : Vec Ideal S512x1024 .f32) (v2 : Vec Ideal S1x1024 .f32) (v4 v6 : Vec Ideal S1x1x1024 .f32)
    (v27 : Vec Ideal S1024x1536 .bf16) (r : Fin 512) (c : Fin 1536) :
    k0_pay3 v0 v2 v4 v6 v27 (ix2 r c)
      = ∑ k, norm (fun k => v0 (ix2 r k)) (fun k => v2 (ix2 0 k)) (fun k => v4 (ix3 0 0 k)) (fun k => v6 (ix3 0 0 k)) k * v27 (ix2 k c) := by
  unfold k0_pay3
  pointwise []
  rfl

theorem ka_at (v31 : FVec Ideal S512x128 .f32) (v36 : Vec Ideal S512x512 .bf16) (v70 : Vec Ideal S1x128 .f32) (r : Fin 512) (l : Fin 128) :
    k0_pay13 v31 (k0_pay10 v36) v70 (ix2 r l)
      = v31 (ix2 r l) * Ideal.rsqrt ((∑ k : Fin 128, v31 (ix2 r k) * v31 (ix2 r k) * v36 (ix2 (k.castLE (by decide)) (l.castLE (by decide)))
          + ∑ k : Fin 128, (v31 (ix2 r k) * v31 (ix2 r k) - v31 (ix2 r k) * v31 (ix2 r k)) * v36 (ix2 (k.castLE (by decide)) (l.castLE (by decide))))
            * Ideal.ofBits .f32 0x3C800000#32 + Ideal.ofBits .f32 0x358637BD#32) * v70 (ix2 0 l) := by
  unfold k0_pay13 k0_pay10
  pointwise []
  rfl

theorem qa_at (v0 : Vec Ideal S512x1024 .f32) (v2 : Vec Ideal S1x1024 .f32) (v4 v6 : Vec Ideal S1x1x1024 .f32)
    (v27 : Vec Ideal S1024x1536 .bf16) (v36 : Vec Ideal S512x512 .bf16) (v51 : Vec Ideal S1x512 .f32) (r : Fin 512) (l : Fin 512) :
    k0_pay14 (k0_pay4 v0 v2 v4 v6 v27) (k0_pay10 v36) (k0_pay11 v0 v2 v4 v6 v27) (k0_pay12 v0 v2 v4 v6 v27) v51 (ix2 r l)
      = k0_pay4 v0 v2 v4 v6 v27 (ix2 r l) * Ideal.rsqrt ((∑ k : Fin 512, k0_pay4 v0 v2 v4 v6 v27 (ix2 r k) * k0_pay4 v0 v2 v4 v6 v27 (ix2 r k) * v36 (ix2 k l)
          + ∑ k : Fin 512, (k0_pay4 v0 v2 v4 v6 v27 (ix2 r k) * k0_pay4 v0 v2 v4 v6 v27 (ix2 r k)
              - k0_pay4 v0 v2 v4 v6 v27 (ix2 r k) * k0_pay4 v0 v2 v4 v6 v27 (ix2 r k)) * v36 (ix2 k l))
            * Ideal.ofBits .f32 0x3C800000#32 + Ideal.ofBits .f32 0x358637BD#32) * v51 (ix2 0 l) * Ideal.ofBits .f32 0x3E000000#32 := by
  unfold k0_pay14 k0_pay12 k0_pay11 k0_pay10
  generalize k0_pay4 v0 v2 v4 v6 v27 = a
  pointwise []

theorem qw_at (v33 : FVec Ideal S512x512 .f32) (r : Fin 512) (l : Fin 512) :
    k0_pay15 v33 (ix2 r l) = v33 (ix2 r l) * Ideal.ofBits .f32 0x3E000000#32 := by
  unfold k0_pay15
  pointwise []

theorem part3_at (v0 : Vec Ideal S512x1024 .f32) (v2 : Vec Ideal S1x1024 .f32) (v4 v6 : Vec Ideal S1x1x1024 .f32)
    (v27 : Vec Ideal S1024x1536 .bf16) (r : Fin 512) (l : Fin 512) :
    k0_pay4 v0 v2 v4 v6 v27 (ix2 r l) = k0_pay3 v0 v2 v4 v6 v27 (ix2 r ⟨0 + l.val, by have := l.isLt; omega⟩) := by
  unfold k0_pay4
  generalize k0_pay3 v0 v2 v4 v6 v27 = a
  pointwise []
  try rfl

theorem part4_at (v0 : Vec Ideal S512x1024 .f32) (v2 : Vec Ideal S1x1024 .f32) (v4 v6 : Vec Ideal S1x1x1024 .f32)
    (v27 : Vec Ideal S1024x1536 .bf16) (r : Fin 512) (l : Fin 128) :
    k0_pay5 v0 v2 v4 v6 v27 (ix2 r l) = k0_pay3 v0 v2 v4 v6 v27 (ix2 r ⟨512 + l.val, by have := l.isLt; omega⟩) := by
  unfold k0_pay5
  generalize k0_pay3 v0 v2 v4 v6 v27 = a
  pointwise []
  try rfl

theorem part5_at (v0 : Vec Ideal S512x1024 .f32) (v2 : Vec Ideal S1x1024 .f32) (v4 v6 : Vec Ideal S1x1x1024 .f32)
    (v27 : Vec Ideal S1024x1536 .bf16) (r : Fin 512) (l : Fin 128) :
    k0_pay6 v0 v2 v4 v6 v27 (ix2 r l) = k0_pay3 v0 v2 v4 v6 v27 (ix2 r ⟨640 + l.val, by have := l.isLt; omega⟩) := by
  unfold k0_pay6
  generalize k0_pay3 v0 v2 v4 v6 v27 = a
  pointwise []
  try rfl

theorem part6_at (v0 : Vec Ideal S512x1024 .f32) (v2 : Vec Ideal S1x1024 .f32) (v4 v6 : Vec Ideal S1x1x1024 .f32)
    (v27 : Vec Ideal S1024x1536 .bf16) (r : Fin 512) (l : Fin 512) :
    k0_pay7 v0 v2 v4 v6 v27 (ix2 r l) = k0_pay3 v0 v2 v4 v6 v27 (ix2 r ⟨768 + l.val, by have := l.isLt; omega⟩) := by
  unfold k0_pay7
  generalize k0_pay3 v0 v2 v4 v6 v27 = a
  pointwise []
  try rfl

theorem part7_at (v0 : Vec Ideal S512x1024 .f32) (v2 : Vec Ideal S1x1024 .f32) (v4 v6 : Vec Ideal S1x1x1024 .f32)
    (v27 : Vec Ideal S1024x1536 .bf16) (r : Fin 512) (l : Fin 128) :
    k0_pay8 v0 v2 v4 v6 v27 (ix2 r l) = k0_pay3 v0 v2 v4 v6 v27 (ix2 r ⟨1280 + l.val, by have := l.isLt; omega⟩) := by
  unfold k0_pay8
  generalize k0_pay3 v0 v2 v4 v6 v27 = a
  pointwise []
  try rfl

theorem part8_at (v0 : Vec Ideal S512x1024 .f32) (v2 : Vec Ideal S1x1024 .f32) (v4 v6 : Vec Ideal S1x1x1024 .f32)
    (v27 : Vec Ideal S1024x1536 .bf16) (r : Fin 512) (l : Fin 128) :
    k0_pay9 v0 v2 v4 v6 v27 (ix2 r l) = k0_pay3 v0 v2 v4 v6 v27 (ix2 r ⟨1408 + l.val, by have := l.isLt; omega⟩) := by
  unfold k0_pay9
  generalize k0_pay3 v0 v2 v4 v6 v27 = a
  pointwise []
  try rfl

/-! ## Heads beside zeros -/

/-- Column `l` of 128-column block `b`. -/
def lane (b : Fin 4) (l : Fin 128) : Fin 512 := ⟨128 * b.val + l.val, by have := b.isLt; have := l.isLt; omega⟩

theorem mask_at (r : Fin 512) (l : Fin 128) : k0_pay17 (ix2 r l) = if l.val < 64 then 1#1 else 0#1 := by
  unfold k0_pay17
  pointwise []
  revert l
  decide +kernel

theorem rot_at (v : FVec Ideal S512x128 .f32) (r : Fin 512) (l : Fin 128) :
    k0_pay16 v (ix2 r l) = v (ix2 r ⟨(l.val + 64) % 128, by omega⟩) := by
  unfold k0_pay16
  refine congrArg v (funext fun a => Fin.ext ?_)
  match a with
  | ⟨0, _⟩ => rfl
  | ⟨1, _⟩ =>
    show (l.val + 128 - (64 + 0) % 128) % 128 = (l.val + 64) % 128
    omega

theorem pad0_at (v : FVec Ideal S512x128 .f32) (K : Fin 128 → EReal) (r : Fin 512) (hv : ∀ m, v (ix2 r m) = K m) (l : Fin 128) :
    k0_pay19 v (ix2 r l) = beside K (lane 0 l) := by
  have hl := l.isLt
  have h1 : k0_pay19 v (ix2 r l) = Scalar.select (k0_pay17 (ix2 r l)) (v (ix2 r l)) (k0_pay18 (F := Ideal) (ix2 r l)) := rfl
  rw [h1, mask_at]
  unfold beside
  by_cases h : l.val < 64
  · have h2 : ((lane 0 l).val / 64 % 4 = 0 ∨ (lane 0 l).val / 64 % 4 = 3) := by
      show ((128 * 0 + l.val) / 64 % 4 = 0 ∨ (128 * 0 + l.val) / 64 % 4 = 3)
      omega
    rw [if_pos h, if_pos h2]
    show v (ix2 r l) = _
    rw [hv]
    exact congrArg K (Fin.ext (by show l.val = 64 * ((128 * 0 + l.val) / 256) + (128 * 0 + l.val) % 64; omega))
  · have h2 : ¬((lane 0 l).val / 64 % 4 = 0 ∨ (lane 0 l).val / 64 % 4 = 3) := by
      show ¬((128 * 0 + l.val) / 64 % 4 = 0 ∨ (128 * 0 + l.val) / 64 % 4 = 3)
      omega
    rw [if_neg h, if_neg h2]
    exact Ideal.ofBits_zero_f32

theorem pad1_at (v : FVec Ideal S512x128 .f32) (K : Fin 128 → EReal) (r : Fin 512) (hv : ∀ m, v (ix2 r m) = K m) (l : Fin 128) :
    k0_pay20 v (ix2 r l) = beside K (lane 1 l) := by
  have hl := l.isLt
  have h1 : k0_pay20 v (ix2 r l) = Scalar.select (k0_pay17 (ix2 r l)) (k0_pay18 (F := Ideal) (ix2 r l)) (k0_pay16 v (ix2 r l)) := rfl
  rw [h1, mask_at]
  unfold beside
  by_cases h : l.val < 64
  · have h2 : ¬((lane 1 l).val / 64 % 4 = 0 ∨ (lane 1 l).val / 64 % 4 = 3) := by
      show ¬((128 * 1 + l.val) / 64 % 4 = 0 ∨ (128 * 1 + l.val) / 64 % 4 = 3)
      omega
    rw [if_pos h, if_neg h2]
    exact Ideal.ofBits_zero_f32
  · have h2 : ((lane 1 l).val / 64 % 4 = 0 ∨ (lane 1 l).val / 64 % 4 = 3) := by
      show ((128 * 1 + l.val) / 64 % 4 = 0 ∨ (128 * 1 + l.val) / 64 % 4 = 3)
      omega
    rw [if_neg h, if_pos h2]
    show k0_pay16 v (ix2 r l) = _
    rw [rot_at, hv]
    exact congrArg K (Fin.ext (by show (l.val + 64) % 128 = 64 * ((128 * 1 + l.val) / 256) + (128 * 1 + l.val) % 64; omega))

theorem pad2_at (v : FVec Ideal S512x128 .f32) (K : Fin 128 → EReal) (r : Fin 512) (hv : ∀ m, v (ix2 r m) = K m) (l : Fin 128) :
    k0_pay21 v (ix2 r l) = beside K (lane 2 l) := by
  have hl := l.isLt
  have h1 : k0_pay21 v (ix2 r l) = Scalar.select (k0_pay17 (ix2 r l)) (k0_pay16 v (ix2 r l)) (k0_pay18 (F := Ideal) (ix2 r l)) := rfl
  rw [h1, mask_at]
  unfold beside
  by_cases h : l.val < 64
  · have h2 : ((lane 2 l).val / 64 % 4 = 0 ∨ (lane 2 l).val / 64 % 4 = 3) := by
      show ((128 * 2 + l.val) / 64 % 4 = 0 ∨ (128 * 2 + l.val) / 64 % 4 = 3)
      omega
    rw [if_pos h, if_pos h2]
    show k0_pay16 v (ix2 r l) = _
    rw [rot_at, hv]
    exact congrArg K (Fin.ext (by show (l.val + 64) % 128 = 64 * ((128 * 2 + l.val) / 256) + (128 * 2 + l.val) % 64; omega))
  · have h2 : ¬((lane 2 l).val / 64 % 4 = 0 ∨ (lane 2 l).val / 64 % 4 = 3) := by
      show ¬((128 * 2 + l.val) / 64 % 4 = 0 ∨ (128 * 2 + l.val) / 64 % 4 = 3)
      omega
    rw [if_neg h, if_neg h2]
    exact Ideal.ofBits_zero_f32

theorem pad3_at (v : FVec Ideal S512x128 .f32) (K : Fin 128 → EReal) (r : Fin 512) (hv : ∀ m, v (ix2 r m) = K m) (l : Fin 128) :
    k0_pay22 v (ix2 r l) = beside K (lane 3 l) := by
  have hl := l.isLt
  have h1 : k0_pay22 v (ix2 r l) = Scalar.select (k0_pay17 (ix2 r l)) (k0_pay18 (F := Ideal) (ix2 r l)) (v (ix2 r l)) := rfl
  rw [h1, mask_at]
  unfold beside
  by_cases h : l.val < 64
  · have h2 : ¬((lane 3 l).val / 64 % 4 = 0 ∨ (lane 3 l).val / 64 % 4 = 3) := by
      show ¬((128 * 3 + l.val) / 64 % 4 = 0 ∨ (128 * 3 + l.val) / 64 % 4 = 3)
      omega
    rw [if_pos h, if_neg h2]
    exact Ideal.ofBits_zero_f32
  · have h2 : ((lane 3 l).val / 64 % 4 = 0 ∨ (lane 3 l).val / 64 % 4 = 3) := by
      show ((128 * 3 + l.val) / 64 % 4 = 0 ∨ (128 * 3 + l.val) / 64 % 4 = 3)
      omega
    rw [if_neg h, if_pos h2]
    show v (ix2 r l) = _
    rw [hv]
    exact congrArg K (Fin.ext (by show l.val = 64 * ((128 * 3 + l.val) / 256) + (128 * 3 + l.val) % 64; omega))

theorem p25 (v : FVec Ideal S512x128 .f32) : k0_pay26 v = k0_pay19 v := rfl
theorem p26 (v : FVec Ideal S512x128 .f32) : k0_pay27 v = k0_pay20 v := rfl
theorem p27 (v : FVec Ideal S512x128 .f32) : k0_pay28 v = k0_pay21 v := rfl
theorem p32 (v : FVec Ideal S512x128 .f32) : k0_pay33 v = k0_pay19 v := rfl
theorem p33 (v : FVec Ideal S512x128 .f32) : k0_pay34 v = k0_pay20 v := rfl
theorem p34 (v : FVec Ideal S512x128 .f32) : k0_pay35 v = k0_pay21 v := rfl
theorem p35 (v : FVec Ideal S512x128 .f32) : k0_pay36 v = k0_pay22 v := rfl
theorem p39 (v : FVec Ideal S512x128 .f32) : k0_pay40 v = k0_pay19 v := rfl
theorem p40 (v : FVec Ideal S512x128 .f32) : k0_pay41 v = k0_pay20 v := rfl
theorem p41 (v : FVec Ideal S512x128 .f32) : k0_pay1 (k0_pay42 v) = k0_pay21 v := rfl
theorem p28 (v : FVec Ideal S512x128 .f32) : k0_pay29 v k0_pay24 (k0_pay25 (F := Ideal)) = k0_pay22 v := rfl
theorem p1 (v : FVec Ideal S512x128 .f32) : k0_pay2 v k0_pay38 (k0_pay39 (F := Ideal)) = k0_pay22 v := rfl

end Cert.Proof.InPay
-- ==== Proof.InBody.lean ====
/- Hand-written, untrusted: what the body leaves in its seven output blocks is the parts of `Row` of the rows of its input blocks. -/
module

public import proofs.«01_k».proof.Proof.InPay
public import Idealize.ShloMosaic.Lib.Pipeline.CanonAppend

@[expose] public section

set_option maxRecDepth 16384

noncomputable section

namespace Cert.Proof.InBody

open Cert.InIdeal Cert.InIdeal.Gen Idealize.ShloMosaic Idealize.ShloMosaic.TcCoe Idealize.SL.Sem
open Cert.Proof.InSpec Cert.Proof.InSum Cert.Proof.InPay
open Cert.Proof.OutSpec (norm)

/-! ## The loads -/

theorem full2 {a b : ℕ} {e : EltTy} (X : Vec Ideal (⟨2, ![a, b]⟩ : Shape) e)
    (inb : ∀ i, (![0, 0] : Fin 2 → ℕ) i + (⟨2, ![a, b]⟩ : Shape).size i ≤ (⟨2, ![a, b]⟩ : Shape).size i) :
    View.ld X (Rect.unit ![0, 0] (⟨2, ![a, b]⟩ : Shape).size inb) = X :=
  View.ld_unit_zero (funext fun i => by match i with | ⟨0, _⟩ => rfl | ⟨1, _⟩ => rfl) inb X

theorem mod_at (X : Vec Ideal S1x6x1024 .f32) (i : Fin 6) {o : ℕ} (ho : o = i.val)
    (inb : ∀ a, (![0, o, 0] : Fin 3 → ℕ) a + S1x1x1024.size a ≤ S1x6x1024.size a) (k : Fin 1024) :
    View.ld X (Rect.unit ![0, o, 0] S1x1x1024.size inb) (ix3 0 0 k) = X (ix3 0 i k) := by
  subst ho
  refine congrArg X (funext fun a => Fin.ext ?_)
  match a with
  | ⟨0, _⟩ => rfl
  | ⟨1, _⟩ => show i.val + 1 * 0 = i.val; omega
  | ⟨2, _⟩ => show 0 + 1 * k.val = k.val; omega

/-- The loads of the modulation's scale and shift. -/
abbrev scale (x1 : Vec Ideal S1x6x1024 .f32) : Vec Ideal S1x1x1024 .f32 := View.ld x1 (Rect.unit (s := S1x6x1024) ![0, 1, 0] S1x1x1024.size inb_S1x6x1024_S1x1x1024_0_1_0)
abbrev shift (x1 : Vec Ideal S1x6x1024 .f32) : Vec Ideal S1x1x1024 .f32 := View.ld x1 (Rect.unit (s := S1x6x1024) ![0, 0, 0] S1x1x1024.size inb_S1x6x1024_S1x1x1024_0_0_0)

/-! ## The blocks -/

/-- A block from its rows. -/
def ofRows {e : EltTy} (f : Fin 512 → Fin 512 → Elt Ideal e) : Vec Ideal S512x512 e := fun i => f (i 0) (i 1)

section

variable (x0 : Vec Ideal S512x1024 .f32) (x1 : Vec Ideal S1x6x1024 .f32) (x2 : Vec Ideal S1x1024 .f32) (x3 : Vec Ideal S1024x1536 .bf16)
  (x4 : Vec Ideal S512x512 .bf16) (x5 : Vec Ideal S1x512 .f32) (x6 : Vec Ideal S1x128 .f32)

/-- What row `r` of the blocks says of its token. -/
def brow (r : Fin 512) : Row where
  x k := x0 (ix2 r k)
  n1 k := x2 (ix2 0 k)
  sc k := x1 (ix3 0 1 k)
  sh k := x1 (ix3 0 0 k)
  w k c := x3 (ix2 k c)
  qg l := x5 (ix2 0 l)
  kg l := x6 (ix2 0 l)

theorem brow_of (R : Row) (r : Fin 512) (h0 : ∀ k, x0 (ix2 r k) = R.x k) (h1 : ∀ k, x1 (ix3 0 1 k) = R.sc k)
    (h1' : ∀ k, x1 (ix3 0 0 k) = R.sh k) (h2 : ∀ k, x2 (ix2 0 k) = R.n1 k) (h3 : ∀ k c, x3 (ix2 k c) = R.w k c)
    (h5 : ∀ l, x5 (ix2 0 l) = R.qg l) (h6 : ∀ l, x6 (ix2 0 l) = R.kg l) : brow x0 x1 x2 x3 x5 x6 r = R :=
  Row.ext (funext h0) (funext h2) (funext h1) (funext h1') (funext fun k => funext (h3 k)) (funext h5) (funext h6)

theorem acc_eq (r : Fin 512) (c : Fin 1536) :
    k0_pay3 x0 x2 (scale x1) (shift x1) x3 (ix2 r c) = (brow x0 x1 x2 x3 x5 x6 r).acc c := by
  rw [acc_at]
  exact Finset.sum_congr rfl fun k _ => congrArg₂ (· * ·)
    (congrArg₂ (fun a b => norm _ _ a b k) (funext (mod_at x1 1 rfl _)) (funext (mod_at x1 0 rfl _))) rfl

theorem kaBlock (h4 : ∀ k l, x4 (ix2 k l) = if k.val / 64 = l.val / 64 then 1 else 0)
    (r : Fin 512) (hr : ∀ c, IsReal ((brow x0 x1 x2 x3 x5 x6 r).acc c)) (l : Fin 128) :
    k0_pay13 (k0_pay5 x0 x2 (scale x1) (shift x1) x3) (k0_pay10 x4) x6 (ix2 r l) = (brow x0 x1 x2 x3 x5 x6 r).ka l := by
  have e : ∀ k, k0_pay5 x0 x2 (scale x1) (shift x1) x3 (ix2 r k) = (brow x0 x1 x2 x3 x5 x6 r).part 512 128 (by decide) k := fun k =>
    (part4_at _ _ _ _ _ r k).trans (acc_eq x0 x1 x2 x3 x5 x6 r _)
  rw [ka_at]
  simp only [e]
  exact heads_eq (by decide) _ (fun l => x6 (ix2 0 l)) (fun k => x4 (ix2 (k.castLE (by decide)) (l.castLE (by decide)))) l
    (fun k => hr _) (fun k => h4 _ _)

theorem qaBlock (h4 : ∀ k l, x4 (ix2 k l) = if k.val / 64 = l.val / 64 then 1 else 0)
    (r : Fin 512) (hr : ∀ c, IsReal ((brow x0 x1 x2 x3 x5 x6 r).acc c)) (l : Fin 512) :
    k0_pay14 (k0_pay4 x0 x2 (scale x1) (shift x1) x3) (k0_pay10 x4) (k0_pay11 x0 x2 (scale x1) (shift x1) x3)
      (k0_pay12 x0 x2 (scale x1) (shift x1) x3) x5 (ix2 r l)
      = (brow x0 x1 x2 x3 x5 x6 r).qa l := by
  have e : ∀ k, k0_pay4 x0 x2 (scale x1) (shift x1) x3 (ix2 r k) = (brow x0 x1 x2 x3 x5 x6 r).part 0 512 (by decide) k := fun k =>
    (part3_at _ _ _ _ _ r k).trans (acc_eq x0 x1 x2 x3 x5 x6 r _)
  rw [qa_at]
  simp only [e]
  exact congrArg (fun z => z * Ideal.ofBits .f32 0x3E000000#32)
    (heads_eq (by decide) _ (fun l => x5 (ix2 0 l)) (fun k => x4 (ix2 k l)) l (fun k => hr _) (fun k => h4 _ _))

theorem qwBlock (r : Fin 512) (l : Fin 512) :
    k0_pay15 (k0_pay7 x0 x2 (scale x1) (shift x1) x3) (ix2 r l) = (brow x0 x1 x2 x3 x5 x6 r).qw l := by
  rw [qw_at]
  exact congrArg (fun z => z * Ideal.ofBits .f32 0x3E000000#32) ((part6_at _ _ _ _ _ r l).trans (acc_eq x0 x1 x2 x3 x5 x6 r _))

theorem vaBlock (r : Fin 512) (l : Fin 128) : k0_pay6 x0 x2 (scale x1) (shift x1) x3 (ix2 r l) = (brow x0 x1 x2 x3 x5 x6 r).va l :=
  (part5_at _ _ _ _ _ r l).trans (acc_eq x0 x1 x2 x3 x5 x6 r _)

theorem kwBlock (r : Fin 512) (l : Fin 128) : k0_pay8 x0 x2 (scale x1) (shift x1) x3 (ix2 r l) = (brow x0 x1 x2 x3 x5 x6 r).kw l :=
  (part7_at _ _ _ _ _ r l).trans (acc_eq x0 x1 x2 x3 x5 x6 r _)

theorem vwBlock (r : Fin 512) (l : Fin 128) : k0_pay9 x0 x2 (scale x1) (shift x1) x3 (ix2 r l) = (brow x0 x1 x2 x3 x5 x6 r).vw l :=
  (part8_at _ _ _ _ _ r l).trans (acc_eq x0 x1 x2 x3 x5 x6 r _)

/-! ## Where the stores go -/

theorem emb0 (b : Fin 4) {o : ℕ} (ho : o = 128 * b.val) (inb : ∀ a, (![0, o] : Fin 2 → ℕ) a + S512x128.size a ≤ S512x512.size a)
    (r : Fin 512) (l : Fin 128) : (Rect.unit (s := S512x512) ![0, o] S512x128.size inb).emb (ix2 r l) = ix2 r (lane b l) := by
  subst ho
  funext a; apply Fin.ext
  match a with
  | ⟨0, _⟩ => show 0 + 1 * r.val = r.val; omega
  | ⟨1, _⟩ => show 128 * b.val + 1 * l.val = 128 * b.val + l.val; omega

theorem embAll (inb : ∀ a, (![0, 0] : Fin 2 → ℕ) a + S512x512.size a ≤ S512x512.size a)
    (r : Fin 512) (l : Fin 512) : (Rect.unit (s := S512x512) ![0, 0] S512x512.size inb).emb (ix2 r l) = ix2 r l := by
  funext a; apply Fin.ext
  match a with
  | ⟨0, _⟩ => show 0 + 1 * r.val = r.val; omega
  | ⟨1, _⟩ => show 0 + 1 * l.val = l.val; omega

theorem kv_lane (R : Row) (b : Fin 4) (l : Fin 128) : R.kv (lane b l) = (![R.ka, R.va, R.kw, R.vw] b) l := by
  have hb : (⟨(lane b l).val / 128, by have := (lane b l).isLt; omega⟩ : Fin 4) = b := Fin.ext (by show (128 * b.val + l.val) / 128 = b.val; omega)
  have hl : (⟨(lane b l).val % 128, by omega⟩ : Fin 128) = l := Fin.ext (by show (128 * b.val + l.val) % 128 = l.val; omega)
  show (![R.ka, R.va, R.kw, R.vw] ⟨(lane b l).val / 128, _⟩) ⟨(lane b l).val % 128, _⟩ = _
  rw [hb, hl]

end

end Cert.Proof.InBody
-- ==== Proof.InBlocks.lean ====
/- Hand-written, untrusted: each of the body's seven output blocks is the parts of `Row` of the rows of its input blocks. -/
module

public import proofs.«01_k».proof.Proof.InBody

@[expose] public section

set_option maxRecDepth 16384

noncomputable section

namespace Cert.Proof.InBlocks

open Cert.InIdeal Cert.InIdeal.Gen Idealize.ShloMosaic Idealize.ShloMosaic.TcCoe Idealize.SL.Sem
open Cert.Proof.InSpec Cert.Proof.InSum Cert.Proof.InPay Cert.Proof.InBody
open Cert.Proof.OutSpec (norm)

set_option maxHeartbeats 4000000 in
/-- Output block 7. -/
theorem out7 (c : Dev nD) (i : grid0.Coords) (arg1 : Memref sig .tc .vmem S512x1024 .f32) (harg1 : arg1.IsWhole) (arg2 : Memref sig .tc .vmem S1x6x1024 .f32) (harg2 : arg2.IsWhole) (arg3 : Memref sig .tc .vmem S1x1024 .f32) (harg3 : arg3.IsWhole) (arg4 : Memref sig .tc .vmem S1024x1536 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x128 .f32) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x512 .f32) (harg14 : arg14.IsWhole)
    (x0 : Vec Ideal S512x1024 .f32) (x1 : Vec Ideal S1x6x1024 .f32) (x2 : Vec Ideal S1x1024 .f32) (x3 : Vec Ideal S1024x1536 .bf16)
    (x4 : Vec Ideal S512x512 .bf16) (x5 : Vec Ideal S1x512 .f32) (x6 : Vec Ideal S1x128 .f32)
    (h4 : ∀ k l, x4 (ix2 k l) = if k.val / 64 = l.val / 64 then 1 else 0) (hr : ∀ r c, IsReal ((brow x0 x1 x2 x3 x5 x6 r).acc c)) :
    out0_A_7 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6
      = ofRows (fun r => (brow x0 x1 x2 x3 x5 x6 r).qa) := by
  funext y
  have hc := cover0_A_7 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 y
  unfold out0_A_7
  rw [View.read_writes_junk_eq_canon]
  revert hc
  have e0 := harg1.read_unread x0
  have e1 := harg2.read_unread x1
  have e2 := harg3.read_unread x2
  have e3 := harg4.read_unread x3
  have e4 := harg5.read_unread x4
  have e5 := harg6.read_unread x5
  have e6 := harg7.read_unread x6
  have l0 : View.ld x0 (Rect.unit (s := S512x1024) ![0, 0] S512x1024.size inb_S512x1024_S512x1024_0_0) = x0 := full2 _ _
  have l2 : View.ld x2 (Rect.unit (s := S1x1024) ![0, 0] S1x1024.size inb_S1x1024_S1x1024_0_0) = x2 := full2 _ _
  have l3 : View.ld x3 (Rect.unit (s := S1024x1536) ![0, 0] S1024x1536.size inb_S1024x1536_S1024x1536_0_0) = x3 := full2 _ _
  have l4 : View.ld x4 (Rect.unit (s := S512x512) ![0, 0] S512x512.size inb_S512x512_S512x512_0_0) = x4 := full2 _ _
  have l5 : View.ld x5 (Rect.unit (s := S1x512) ![0, 0] S1x512.size inb_S1x512_S1x512_0_0) = x5 := full2 _ _
  have l6 : View.ld x6 (Rect.unit (s := S1x128) ![0, 0] S1x128.size inb_S1x128_S1x128_0_0) = x6 := full2 _ _
  unfold kernelRun0_A
  dsimp only
  sl_unfold_words
  simp only [View.readAt_eq_ld, e0, e1, e2, e3, e4, e5, e6, l0, l2, l3, l4, l5, l6]
  intro hc
  rw [← List.append_nil (_ :: _)]
  refine View.canon_append_of_pieces _ [] _ ?_ y hc
  refine List.forall_mem_cons.2 ⟨?_, fun _ h => absurd h List.not_mem_nil⟩
  intro x
  obtain ⟨r, l, rfl⟩ : ∃ (r : Fin 512) (l : Fin 512), x = ix2 r l := ⟨x 0, x 1, eq_ix2 x⟩
  refine Eq.trans ?_ (congrArg (ofRows _) (embAll inb_S512x512_S512x512_0_0 r l).symm)
  exact qaBlock x0 x1 x2 x3 x4 x5 x6 h4 r (hr r) l

set_option maxHeartbeats 4000000 in
/-- Output block 8. -/
theorem out8 (c : Dev nD) (i : grid0.Coords) (arg1 : Memref sig .tc .vmem S512x1024 .f32) (harg1 : arg1.IsWhole) (arg2 : Memref sig .tc .vmem S1x6x1024 .f32) (harg2 : arg2.IsWhole) (arg3 : Memref sig .tc .vmem S1x1024 .f32) (harg3 : arg3.IsWhole) (arg4 : Memref sig .tc .vmem S1024x1536 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x128 .f32) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x512 .f32) (harg14 : arg14.IsWhole)
    (x0 : Vec Ideal S512x1024 .f32) (x1 : Vec Ideal S1x6x1024 .f32) (x2 : Vec Ideal S1x1024 .f32) (x3 : Vec Ideal S1024x1536 .bf16)
    (x4 : Vec Ideal S512x512 .bf16) (x5 : Vec Ideal S1x512 .f32) (x6 : Vec Ideal S1x128 .f32) :
    out0_A_8 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6
      = ofRows (fun r => (brow x0 x1 x2 x3 x5 x6 r).qw) := by
  funext y
  have hc := cover0_A_8 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 y
  unfold out0_A_8
  rw [View.read_writes_junk_eq_canon]
  revert hc
  have e0 := harg1.read_unread x0
  have e1 := harg2.read_unread x1
  have e2 := harg3.read_unread x2
  have e3 := harg4.read_unread x3
  have e4 := harg5.read_unread x4
  have e5 := harg6.read_unread x5
  have e6 := harg7.read_unread x6
  have l0 : View.ld x0 (Rect.unit (s := S512x1024) ![0, 0] S512x1024.size inb_S512x1024_S512x1024_0_0) = x0 := full2 _ _
  have l2 : View.ld x2 (Rect.unit (s := S1x1024) ![0, 0] S1x1024.size inb_S1x1024_S1x1024_0_0) = x2 := full2 _ _
  have l3 : View.ld x3 (Rect.unit (s := S1024x1536) ![0, 0] S1024x1536.size inb_S1024x1536_S1024x1536_0_0) = x3 := full2 _ _
  have l4 : View.ld x4 (Rect.unit (s := S512x512) ![0, 0] S512x512.size inb_S512x512_S512x512_0_0) = x4 := full2 _ _
  have l5 : View.ld x5 (Rect.unit (s := S1x512) ![0, 0] S1x512.size inb_S1x512_S1x512_0_0) = x5 := full2 _ _
  have l6 : View.ld x6 (Rect.unit (s := S1x128) ![0, 0] S1x128.size inb_S1x128_S1x128_0_0) = x6 := full2 _ _
  unfold kernelRun0_A
  dsimp only
  sl_unfold_words
  simp only [View.readAt_eq_ld, e0, e1, e2, e3, e4, e5, e6, l0, l2, l3, l4, l5, l6]
  intro hc
  rw [← List.append_nil (_ :: _)]
  refine View.canon_append_of_pieces _ [] _ ?_ y hc
  refine List.forall_mem_cons.2 ⟨?_, fun _ h => absurd h List.not_mem_nil⟩
  intro x
  obtain ⟨r, l, rfl⟩ : ∃ (r : Fin 512) (l : Fin 512), x = ix2 r l := ⟨x 0, x 1, eq_ix2 x⟩
  refine Eq.trans ?_ (congrArg (ofRows _) (embAll inb_S512x512_S512x512_0_0 r l).symm)
  exact qwBlock x0 x1 x2 x3 x5 x6 r l

set_option maxHeartbeats 4000000 in
/-- Output block 9. -/
theorem out9 (c : Dev nD) (i : grid0.Coords) (arg1 : Memref sig .tc .vmem S512x1024 .f32) (harg1 : arg1.IsWhole) (arg2 : Memref sig .tc .vmem S1x6x1024 .f32) (harg2 : arg2.IsWhole) (arg3 : Memref sig .tc .vmem S1x1024 .f32) (harg3 : arg3.IsWhole) (arg4 : Memref sig .tc .vmem S1024x1536 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x128 .f32) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x512 .f32) (harg14 : arg14.IsWhole)
    (x0 : Vec Ideal S512x1024 .f32) (x1 : Vec Ideal S1x6x1024 .f32) (x2 : Vec Ideal S1x1024 .f32) (x3 : Vec Ideal S1024x1536 .bf16)
    (x4 : Vec Ideal S512x512 .bf16) (x5 : Vec Ideal S1x512 .f32) (x6 : Vec Ideal S1x128 .f32)
    (h4 : ∀ k l, x4 (ix2 k l) = if k.val / 64 = l.val / 64 then 1 else 0) (hr : ∀ r c, IsReal ((brow x0 x1 x2 x3 x5 x6 r).acc c)) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6
      = ofRows (fun r => beside (brow x0 x1 x2 x3 x5 x6 r).ka) := by
  funext y
  have hc := cover0_A_9 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 y
  unfold out0_A_9
  rw [View.read_writes_junk_eq_canon]
  revert hc
  have e0 := harg1.read_unread x0
  have e1 := harg2.read_unread x1
  have e2 := harg3.read_unread x2
  have e3 := harg4.read_unread x3
  have e4 := harg5.read_unread x4
  have e5 := harg6.read_unread x5
  have e6 := harg7.read_unread x6
  have l0 : View.ld x0 (Rect.unit (s := S512x1024) ![0, 0] S512x1024.size inb_S512x1024_S512x1024_0_0) = x0 := full2 _ _
  have l2 : View.ld x2 (Rect.unit (s := S1x1024) ![0, 0] S1x1024.size inb_S1x1024_S1x1024_0_0) = x2 := full2 _ _
  have l3 : View.ld x3 (Rect.unit (s := S1024x1536) ![0, 0] S1024x1536.size inb_S1024x1536_S1024x1536_0_0) = x3 := full2 _ _
  have l4 : View.ld x4 (Rect.unit (s := S512x512) ![0, 0] S512x512.size inb_S512x512_S512x512_0_0) = x4 := full2 _ _
  have l5 : View.ld x5 (Rect.unit (s := S1x512) ![0, 0] S1x512.size inb_S1x512_S1x512_0_0) = x5 := full2 _ _
  have l6 : View.ld x6 (Rect.unit (s := S1x128) ![0, 0] S1x128.size inb_S1x128_S1x128_0_0) = x6 := full2 _ _
  unfold kernelRun0_A
  dsimp only
  sl_unfold_words
  simp only [View.readAt_eq_ld, e0, e1, e2, e3, e4, e5, e6, l0, l2, l3, l4, l5, l6]
  intro hc
  rw [← List.append_nil (_ :: _)]
  refine View.canon_append_of_pieces _ [] _ ?_ y hc
  refine List.forall_mem_cons.2 ⟨?_, List.forall_mem_cons.2 ⟨?_, List.forall_mem_cons.2 ⟨?_, List.forall_mem_cons.2 ⟨?_, fun _ h => absurd h List.not_mem_nil⟩⟩⟩⟩
  · intro x
    obtain ⟨r, l, rfl⟩ : ∃ (r : Fin 512) (l : Fin 128), x = ix2 r l := ⟨x 0, x 1, eq_ix2 x⟩
    refine Eq.trans ?_ (congrArg (ofRows _) (emb0 3 rfl inb_S512x512_S512x128_0_384 r l).symm)
    exact pad3_at _ _ r (kaBlock x0 x1 x2 x3 x4 x5 x6 h4 r (hr r)) l
  · intro x
    obtain ⟨r, l, rfl⟩ : ∃ (r : Fin 512) (l : Fin 128), x = ix2 r l := ⟨x 0, x 1, eq_ix2 x⟩
    refine Eq.trans ?_ (congrArg (ofRows _) (emb0 2 rfl inb_S512x512_S512x128_0_256 r l).symm)
    exact pad2_at _ _ r (kaBlock x0 x1 x2 x3 x4 x5 x6 h4 r (hr r)) l
  · intro x
    obtain ⟨r, l, rfl⟩ : ∃ (r : Fin 512) (l : Fin 128), x = ix2 r l := ⟨x 0, x 1, eq_ix2 x⟩
    refine Eq.trans ?_ (congrArg (ofRows _) (emb0 1 rfl inb_S512x512_S512x128_0_128 r l).symm)
    exact pad1_at _ _ r (kaBlock x0 x1 x2 x3 x4 x5 x6 h4 r (hr r)) l
  · intro x
    obtain ⟨r, l, rfl⟩ : ∃ (r : Fin 512) (l : Fin 128), x = ix2 r l := ⟨x 0, x 1, eq_ix2 x⟩
    refine Eq.trans ?_ (congrArg (ofRows _) (emb0 0 rfl inb_S512x512_S512x128_0_0 r l).symm)
    exact pad0_at _ _ r (kaBlock x0 x1 x2 x3 x4 x5 x6 h4 r (hr r)) l

set_option maxHeartbeats 4000000 in
/-- Output block 10. -/
theorem out10 (c : Dev nD) (i : grid0.Coords) (arg1 : Memref sig .tc .vmem S512x1024 .f32) (harg1 : arg1.IsWhole) (arg2 : Memref sig .tc .vmem S1x6x1024 .f32) (harg2 : arg2.IsWhole) (arg3 : Memref sig .tc .vmem S1x1024 .f32) (harg3 : arg3.IsWhole) (arg4 : Memref sig .tc .vmem S1024x1536 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x128 .f32) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x512 .f32) (harg14 : arg14.IsWhole)
    (x0 : Vec Ideal S512x1024 .f32) (x1 : Vec Ideal S1x6x1024 .f32) (x2 : Vec Ideal S1x1024 .f32) (x3 : Vec Ideal S1024x1536 .bf16)
    (x4 : Vec Ideal S512x512 .bf16) (x5 : Vec Ideal S1x512 .f32) (x6 : Vec Ideal S1x128 .f32) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6
      = ofRows (fun r => beside (brow x0 x1 x2 x3 x5 x6 r).va) := by
  funext y
  have hc := cover0_A_10 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 y
  unfold out0_A_10
  rw [View.read_writes_junk_eq_canon]
  revert hc
  have e0 := harg1.read_unread x0
  have e1 := harg2.read_unread x1
  have e2 := harg3.read_unread x2
  have e3 := harg4.read_unread x3
  have e4 := harg5.read_unread x4
  have e5 := harg6.read_unread x5
  have e6 := harg7.read_unread x6
  have l0 : View.ld x0 (Rect.unit (s := S512x1024) ![0, 0] S512x1024.size inb_S512x1024_S512x1024_0_0) = x0 := full2 _ _
  have l2 : View.ld x2 (Rect.unit (s := S1x1024) ![0, 0] S1x1024.size inb_S1x1024_S1x1024_0_0) = x2 := full2 _ _
  have l3 : View.ld x3 (Rect.unit (s := S1024x1536) ![0, 0] S1024x1536.size inb_S1024x1536_S1024x1536_0_0) = x3 := full2 _ _
  have l4 : View.ld x4 (Rect.unit (s := S512x512) ![0, 0] S512x512.size inb_S512x512_S512x512_0_0) = x4 := full2 _ _
  have l5 : View.ld x5 (Rect.unit (s := S1x512) ![0, 0] S1x512.size inb_S1x512_S1x512_0_0) = x5 := full2 _ _
  have l6 : View.ld x6 (Rect.unit (s := S1x128) ![0, 0] S1x128.size inb_S1x128_S1x128_0_0) = x6 := full2 _ _
  unfold kernelRun0_A
  dsimp only
  sl_unfold_words
  simp only [View.readAt_eq_ld, e0, e1, e2, e3, e4, e5, e6, l0, l2, l3, l4, l5, l6]
  intro hc
  rw [← List.append_nil (_ :: _)]
  refine View.canon_append_of_pieces _ [] _ ?_ y hc
  refine List.forall_mem_cons.2 ⟨?_, List.forall_mem_cons.2 ⟨?_, List.forall_mem_cons.2 ⟨?_, List.forall_mem_cons.2 ⟨?_, fun _ h => absurd h List.not_mem_nil⟩⟩⟩⟩
  · intro x
    obtain ⟨r, l, rfl⟩ : ∃ (r : Fin 512) (l : Fin 128), x = ix2 r l := ⟨x 0, x 1, eq_ix2 x⟩
    refine Eq.trans ?_ (congrArg (ofRows _) (emb0 3 rfl inb_S512x512_S512x128_0_384 r l).symm)
    exact pad3_at _ _ r (vaBlock x0 x1 x2 x3 x5 x6 r) l
  · intro x
    obtain ⟨r, l, rfl⟩ : ∃ (r : Fin 512) (l : Fin 128), x = ix2 r l := ⟨x 0, x 1, eq_ix2 x⟩
    refine Eq.trans ?_ (congrArg (ofRows _) (emb0 2 rfl inb_S512x512_S512x128_0_256 r l).symm)
    exact pad2_at _ _ r (vaBlock x0 x1 x2 x3 x5 x6 r) l
  · intro x
    obtain ⟨r, l, rfl⟩ : ∃ (r : Fin 512) (l : Fin 128), x = ix2 r l := ⟨x 0, x 1, eq_ix2 x⟩
    refine Eq.trans ?_ (congrArg (ofRows _) (emb0 1 rfl inb_S512x512_S512x128_0_128 r l).symm)
    exact pad1_at _ _ r (vaBlock x0 x1 x2 x3 x5 x6 r) l
  · intro x
    obtain ⟨r, l, rfl⟩ : ∃ (r : Fin 512) (l : Fin 128), x = ix2 r l := ⟨x 0, x 1, eq_ix2 x⟩
    refine Eq.trans ?_ (congrArg (ofRows _) (emb0 0 rfl inb_S512x512_S512x128_0_0 r l).symm)
    exact pad0_at _ _ r (vaBlock x0 x1 x2 x3 x5 x6 r) l

set_option maxHeartbeats 4000000 in
/-- Output block 11. -/
theorem out11 (c : Dev nD) (i : grid0.Coords) (arg1 : Memref sig .tc .vmem S512x1024 .f32) (harg1 : arg1.IsWhole) (arg2 : Memref sig .tc .vmem S1x6x1024 .f32) (harg2 : arg2.IsWhole) (arg3 : Memref sig .tc .vmem S1x1024 .f32) (harg3 : arg3.IsWhole) (arg4 : Memref sig .tc .vmem S1024x1536 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x128 .f32) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x512 .f32) (harg14 : arg14.IsWhole)
    (x0 : Vec Ideal S512x1024 .f32) (x1 : Vec Ideal S1x6x1024 .f32) (x2 : Vec Ideal S1x1024 .f32) (x3 : Vec Ideal S1024x1536 .bf16)
    (x4 : Vec Ideal S512x512 .bf16) (x5 : Vec Ideal S1x512 .f32) (x6 : Vec Ideal S1x128 .f32) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6
      = ofRows (fun r => beside (brow x0 x1 x2 x3 x5 x6 r).kw) := by
  funext y
  have hc := cover0_A_11 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 y
  unfold out0_A_11
  rw [View.read_writes_junk_eq_canon]
  revert hc
  have e0 := harg1.read_unread x0
  have e1 := harg2.read_unread x1
  have e2 := harg3.read_unread x2
  have e3 := harg4.read_unread x3
  have e4 := harg5.read_unread x4
  have e5 := harg6.read_unread x5
  have e6 := harg7.read_unread x6
  have l0 : View.ld x0 (Rect.unit (s := S512x1024) ![0, 0] S512x1024.size inb_S512x1024_S512x1024_0_0) = x0 := full2 _ _
  have l2 : View.ld x2 (Rect.unit (s := S1x1024) ![0, 0] S1x1024.size inb_S1x1024_S1x1024_0_0) = x2 := full2 _ _
  have l3 : View.ld x3 (Rect.unit (s := S1024x1536) ![0, 0] S1024x1536.size inb_S1024x1536_S1024x1536_0_0) = x3 := full2 _ _
  have l4 : View.ld x4 (Rect.unit (s := S512x512) ![0, 0] S512x512.size inb_S512x512_S512x512_0_0) = x4 := full2 _ _
  have l5 : View.ld x5 (Rect.unit (s := S1x512) ![0, 0] S1x512.size inb_S1x512_S1x512_0_0) = x5 := full2 _ _
  have l6 : View.ld x6 (Rect.unit (s := S1x128) ![0, 0] S1x128.size inb_S1x128_S1x128_0_0) = x6 := full2 _ _
  unfold kernelRun0_A
  dsimp only
  sl_unfold_words
  simp only [View.readAt_eq_ld, e0, e1, e2, e3, e4, e5, e6, l0, l2, l3, l4, l5, l6]
  intro hc
  rw [← List.append_nil (_ :: _)]
  refine View.canon_append_of_pieces _ [] _ ?_ y hc
  refine List.forall_mem_cons.2 ⟨?_, List.forall_mem_cons.2 ⟨?_, List.forall_mem_cons.2 ⟨?_, List.forall_mem_cons.2 ⟨?_, fun _ h => absurd h List.not_mem_nil⟩⟩⟩⟩
  · intro x
    obtain ⟨r, l, rfl⟩ : ∃ (r : Fin 512) (l : Fin 128), x = ix2 r l := ⟨x 0, x 1, eq_ix2 x⟩
    refine Eq.trans ?_ (congrArg (ofRows _) (emb0 3 rfl inb_S512x512_S512x128_0_384 r l).symm)
    exact pad3_at _ _ r (kwBlock x0 x1 x2 x3 x5 x6 r) l
  · intro x
    obtain ⟨r, l, rfl⟩ : ∃ (r : Fin 512) (l : Fin 128), x = ix2 r l := ⟨x 0, x 1, eq_ix2 x⟩
    refine Eq.trans ?_ (congrArg (ofRows _) (emb0 2 rfl inb_S512x512_S512x128_0_256 r l).symm)
    exact pad2_at _ _ r (kwBlock x0 x1 x2 x3 x5 x6 r) l
  · intro x
    obtain ⟨r, l, rfl⟩ : ∃ (r : Fin 512) (l : Fin 128), x = ix2 r l := ⟨x 0, x 1, eq_ix2 x⟩
    refine Eq.trans ?_ (congrArg (ofRows _) (emb0 1 rfl inb_S512x512_S512x128_0_128 r l).symm)
    exact pad1_at _ _ r (kwBlock x0 x1 x2 x3 x5 x6 r) l
  · intro x
    obtain ⟨r, l, rfl⟩ : ∃ (r : Fin 512) (l : Fin 128), x = ix2 r l := ⟨x 0, x 1, eq_ix2 x⟩
    refine Eq.trans ?_ (congrArg (ofRows _) (emb0 0 rfl inb_S512x512_S512x128_0_0 r l).symm)
    exact pad0_at _ _ r (kwBlock x0 x1 x2 x3 x5 x6 r) l

set_option maxHeartbeats 4000000 in
/-- Output block 12. -/
theorem out12 (c : Dev nD) (i : grid0.Coords) (arg1 : Memref sig .tc .vmem S512x1024 .f32) (harg1 : arg1.IsWhole) (arg2 : Memref sig .tc .vmem S1x6x1024 .f32) (harg2 : arg2.IsWhole) (arg3 : Memref sig .tc .vmem S1x1024 .f32) (harg3 : arg3.IsWhole) (arg4 : Memref sig .tc .vmem S1024x1536 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x128 .f32) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x512 .f32) (harg14 : arg14.IsWhole)
    (x0 : Vec Ideal S512x1024 .f32) (x1 : Vec Ideal S1x6x1024 .f32) (x2 : Vec Ideal S1x1024 .f32) (x3 : Vec Ideal S1024x1536 .bf16)
    (x4 : Vec Ideal S512x512 .bf16) (x5 : Vec Ideal S1x512 .f32) (x6 : Vec Ideal S1x128 .f32) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6
      = ofRows (fun r => beside (brow x0 x1 x2 x3 x5 x6 r).vw) := by
  funext y
  have hc := cover0_A_12 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 y
  unfold out0_A_12
  rw [View.read_writes_junk_eq_canon]
  revert hc
  have e0 := harg1.read_unread x0
  have e1 := harg2.read_unread x1
  have e2 := harg3.read_unread x2
  have e3 := harg4.read_unread x3
  have e4 := harg5.read_unread x4
  have e5 := harg6.read_unread x5
  have e6 := harg7.read_unread x6
  have l0 : View.ld x0 (Rect.unit (s := S512x1024) ![0, 0] S512x1024.size inb_S512x1024_S512x1024_0_0) = x0 := full2 _ _
  have l2 : View.ld x2 (Rect.unit (s := S1x1024) ![0, 0] S1x1024.size inb_S1x1024_S1x1024_0_0) = x2 := full2 _ _
  have l3 : View.ld x3 (Rect.unit (s := S1024x1536) ![0, 0] S1024x1536.size inb_S1024x1536_S1024x1536_0_0) = x3 := full2 _ _
  have l4 : View.ld x4 (Rect.unit (s := S512x512) ![0, 0] S512x512.size inb_S512x512_S512x512_0_0) = x4 := full2 _ _
  have l5 : View.ld x5 (Rect.unit (s := S1x512) ![0, 0] S1x512.size inb_S1x512_S1x512_0_0) = x5 := full2 _ _
  have l6 : View.ld x6 (Rect.unit (s := S1x128) ![0, 0] S1x128.size inb_S1x128_S1x128_0_0) = x6 := full2 _ _
  unfold kernelRun0_A
  dsimp only
  sl_unfold_words
  simp only [View.readAt_eq_ld, e0, e1, e2, e3, e4, e5, e6, l0, l2, l3, l4, l5, l6]
  intro hc
  rw [← List.append_nil (_ :: _)]
  refine View.canon_append_of_pieces _ [] _ ?_ y hc
  refine List.forall_mem_cons.2 ⟨?_, List.forall_mem_cons.2 ⟨?_, List.forall_mem_cons.2 ⟨?_, List.forall_mem_cons.2 ⟨?_, fun _ h => absurd h List.not_mem_nil⟩⟩⟩⟩
  · intro x
    obtain ⟨r, l, rfl⟩ : ∃ (r : Fin 512) (l : Fin 128), x = ix2 r l := ⟨x 0, x 1, eq_ix2 x⟩
    refine Eq.trans ?_ (congrArg (ofRows _) (emb0 3 rfl inb_S512x512_S512x128_0_384 r l).symm)
    exact pad3_at _ _ r (vwBlock x0 x1 x2 x3 x5 x6 r) l
  · intro x
    obtain ⟨r, l, rfl⟩ : ∃ (r : Fin 512) (l : Fin 128), x = ix2 r l := ⟨x 0, x 1, eq_ix2 x⟩
    refine Eq.trans ?_ (congrArg (ofRows _) (emb0 2 rfl inb_S512x512_S512x128_0_256 r l).symm)
    exact pad2_at _ _ r (vwBlock x0 x1 x2 x3 x5 x6 r) l
  · intro x
    obtain ⟨r, l, rfl⟩ : ∃ (r : Fin 512) (l : Fin 128), x = ix2 r l := ⟨x 0, x 1, eq_ix2 x⟩
    refine Eq.trans ?_ (congrArg (ofRows _) (emb0 1 rfl inb_S512x512_S512x128_0_128 r l).symm)
    exact pad1_at _ _ r (vwBlock x0 x1 x2 x3 x5 x6 r) l
  · intro x
    obtain ⟨r, l, rfl⟩ : ∃ (r : Fin 512) (l : Fin 128), x = ix2 r l := ⟨x 0, x 1, eq_ix2 x⟩
    refine Eq.trans ?_ (congrArg (ofRows _) (emb0 0 rfl inb_S512x512_S512x128_0_0 r l).symm)
    exact pad0_at _ _ r (vwBlock x0 x1 x2 x3 x5 x6 r) l

set_option maxHeartbeats 4000000 in
/-- Output block 13. -/
theorem out13 (c : Dev nD) (i : grid0.Coords) (arg1 : Memref sig .tc .vmem S512x1024 .f32) (harg1 : arg1.IsWhole) (arg2 : Memref sig .tc .vmem S1x6x1024 .f32) (harg2 : arg2.IsWhole) (arg3 : Memref sig .tc .vmem S1x1024 .f32) (harg3 : arg3.IsWhole) (arg4 : Memref sig .tc .vmem S1024x1536 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x128 .f32) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x512 .f32) (harg14 : arg14.IsWhole)
    (x0 : Vec Ideal S512x1024 .f32) (x1 : Vec Ideal S1x6x1024 .f32) (x2 : Vec Ideal S1x1024 .f32) (x3 : Vec Ideal S1024x1536 .bf16)
    (x4 : Vec Ideal S512x512 .bf16) (x5 : Vec Ideal S1x512 .f32) (x6 : Vec Ideal S1x128 .f32)
    (h4 : ∀ k l, x4 (ix2 k l) = if k.val / 64 = l.val / 64 then 1 else 0) (hr : ∀ r c, IsReal ((brow x0 x1 x2 x3 x5 x6 r).acc c)) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6
      = ofRows (fun r => (brow x0 x1 x2 x3 x5 x6 r).kv) := by
  funext y
  have hc := cover0_A_13 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 y
  unfold out0_A_13
  rw [View.read_writes_junk_eq_canon]
  revert hc
  have e0 := harg1.read_unread x0
  have e1 := harg2.read_unread x1
  have e2 := harg3.read_unread x2
  have e3 := harg4.read_unread x3
  have e4 := harg5.read_unread x4
  have e5 := harg6.read_unread x5
  have e6 := harg7.read_unread x6
  have l0 : View.ld x0 (Rect.unit (s := S512x1024) ![0, 0] S512x1024.size inb_S512x1024_S512x1024_0_0) = x0 := full2 _ _
  have l2 : View.ld x2 (Rect.unit (s := S1x1024) ![0, 0] S1x1024.size inb_S1x1024_S1x1024_0_0) = x2 := full2 _ _
  have l3 : View.ld x3 (Rect.unit (s := S1024x1536) ![0, 0] S1024x1536.size inb_S1024x1536_S1024x1536_0_0) = x3 := full2 _ _
  have l4 : View.ld x4 (Rect.unit (s := S512x512) ![0, 0] S512x512.size inb_S512x512_S512x512_0_0) = x4 := full2 _ _
  have l5 : View.ld x5 (Rect.unit (s := S1x512) ![0, 0] S1x512.size inb_S1x512_S1x512_0_0) = x5 := full2 _ _
  have l6 : View.ld x6 (Rect.unit (s := S1x128) ![0, 0] S1x128.size inb_S1x128_S1x128_0_0) = x6 := full2 _ _
  unfold kernelRun0_A
  dsimp only
  sl_unfold_words
  simp only [View.readAt_eq_ld, e0, e1, e2, e3, e4, e5, e6, l0, l2, l3, l4, l5, l6]
  intro hc
  rw [← List.append_nil (_ :: _)]
  refine View.canon_append_of_pieces _ [] _ ?_ y hc
  refine List.forall_mem_cons.2 ⟨?_, List.forall_mem_cons.2 ⟨?_, List.forall_mem_cons.2 ⟨?_, List.forall_mem_cons.2 ⟨?_, fun _ h => absurd h List.not_mem_nil⟩⟩⟩⟩
  · intro x
    obtain ⟨r, l, rfl⟩ : ∃ (r : Fin 512) (l : Fin 128), x = ix2 r l := ⟨x 0, x 1, eq_ix2 x⟩
    refine Eq.trans ?_ (congrArg (ofRows _) (emb0 3 rfl inb_S512x512_S512x128_0_384 r l).symm)
    exact (vwBlock x0 x1 x2 x3 x5 x6 r l).trans (kv_lane _ 3 l).symm
  · intro x
    obtain ⟨r, l, rfl⟩ : ∃ (r : Fin 512) (l : Fin 128), x = ix2 r l := ⟨x 0, x 1, eq_ix2 x⟩
    refine Eq.trans ?_ (congrArg (ofRows _) (emb0 2 rfl inb_S512x512_S512x128_0_256 r l).symm)
    exact (kwBlock x0 x1 x2 x3 x5 x6 r l).trans (kv_lane _ 2 l).symm
  · intro x
    obtain ⟨r, l, rfl⟩ : ∃ (r : Fin 512) (l : Fin 128), x = ix2 r l := ⟨x 0, x 1, eq_ix2 x⟩
    refine Eq.trans ?_ (congrArg (ofRows _) (emb0 1 rfl inb_S512x512_S512x128_0_128 r l).symm)
    exact (vaBlock x0 x1 x2 x3 x5 x6 r l).trans (kv_lane _ 1 l).symm
  · intro x
    obtain ⟨r, l, rfl⟩ : ∃ (r : Fin 512) (l : Fin 128), x = ix2 r l := ⟨x 0, x 1, eq_ix2 x⟩
    refine Eq.trans ?_ (congrArg (ofRows _) (emb0 0 rfl inb_S512x512_S512x128_0_0 r l).symm)
    exact (kaBlock x0 x1 x2 x3 x4 x5 x6 h4 r (hr r) l).trans (kv_lane _ 0 l).symm

end Cert.Proof.InBlocks
-- ==== Proof.InHost.lean ====
/- Hand-written, untrusted: what the attention inputs' kernel reads: the host's arrays (`V_…`), the blocks of the arrays that a grid
   point sees (`iblk…_at`), and so the rows of the blocks as rows of the argument arrays (`brow_eq`). -/
module

public import proofs.«01_k».proof.Proof.InBlocks
public import proofs.«01_k».proof.Proof.Gen.InIdeal.Value
public import Idealize.ShloMosaic.Lib.StableHlo.ReadAt

@[expose] public section

set_option maxRecDepth 16384

noncomputable section

namespace Cert.Proof.InHost

open Cert.InIdeal Cert.InIdeal.Gen Cert.InIdeal.Value Idealize.ShloMosaic Idealize.ShloMosaic.TcCoe Idealize.SL.Sem
open Cert.Proof.InSpec Cert.Proof.InBody

variable (m : (ℓ : Loc nD τ sig) → Buf (Elt Ideal) ℓ) (ρ : Dev nD → PrngReg)

/-- The sequence and the place in it of token `t`. -/
def sq (t : Fin 4096) : Fin 16 := ⟨t.val / 256, by have := t.isLt; omega⟩
def pl (t : Fin 4096) : Fin 256 := ⟨t.val % 256, by omega⟩

/-- Token `t` of the argument arrays. -/
def arow (c : Dev nD) : Fin 4096 → Row :=
  trow (fun t k => (m ((c : Thread nD τ).loc main_arg0)) (ix3 (sq t) (pl t) k)) (fun i k => (m ((c : Thread nD τ).loc main_arg1)) (ix3 0 i k)) (fun k => (m ((c : Thread nD τ).loc main_arg2)) (ix1 k)) (fun k e => (m ((c : Thread nD τ).loc main_arg3)) (ix2 k e))
    (fun l => (m ((c : Thread nD τ).loc main_arg4)) (ix1 l)) (fun l => (m ((c : Thread nD τ).loc main_arg5)) (ix1 l))

/-! ## The host's arrays before the call -/

/-- The identity's comparison of a row's number with a column's. -/
theorem eye_at : ∀ a b : Fin 8, IntOp.cmpi CmpIPredicate.eq (IntOp.addi (BitVec.ofNat 32 a.val) 0#32) (BitVec.ofNat 32 b.val)
    = if a.val = b.val then 1#1 else 0#1 := by
  decide +kernel

theorem V_v8 (c : Dev nD) (k l : Fin 512) :
    V m c main_v8 (ix2 k l) = (if k.val / 64 = l.val / 64 then 1 else 0 : EReal) := by
  unfold V
  after_reads_at
  have e := eye_at ⟨k.val / 64, by have := k.isLt; omega⟩ ⟨l.val / 64, by have := l.isLt; omega⟩
  refine (congrArg (fun b => (FloatOps.uitofp FTy.f32 b : Ideal .f32)) e).trans ?_
  by_cases h : k.val / 64 = l.val / 64
  · rw [if_pos h, if_pos h]
    show (((1#1).toNat : ℝ) : EReal) = 1
    simp
  · rw [if_neg h, if_neg h]
    show (((0#1).toNat : ℝ) : EReal) = 0
    simp

theorem V_v9 (c : Dev nD) (t : Fin 4096) (k : Fin 1024) : V m c main_v9 (ix2 t k) = (m ((c : Thread nD τ).loc main_arg0)) (ix3 (sq t) (pl t) k) := by
  unfold V
  after_reads_at
  rfl

theorem V_v10 (c : Dev nD) (k : Fin 1024) : V m c main_v10 (ix2 0 k) = (m ((c : Thread nD τ).loc main_arg2)) (ix1 k) := by
  unfold V
  after_reads_at

theorem V_v11 (c : Dev nD) (k : Fin 1024) (e : Fin 7168) : V m c main_v11 (ix2 k e) = (m ((c : Thread nD τ).loc main_arg3)) (ix2 k e) := by
  unfold V
  after_reads_at

theorem V_v15 (c : Dev nD) (l : Fin 512) : V m c main_v15 (ix2 0 l) = (m ((c : Thread nD τ).loc main_arg4)) (ix1 ⟨l.val % 64, by omega⟩) := by
  unfold V
  after_reads_at

theorem V_v19 (c : Dev nD) (l : Fin 128) : V m c main_v19 (ix2 0 l) = (m ((c : Thread nD τ).loc main_arg5)) (ix1 ⟨l.val % 64, by omega⟩) := by
  unfold V
  after_reads_at

theorem V_a1 (c : Dev nD) (i : Fin 6) (k : Fin 1024) : V m c main_arg1 (ix3 0 i k) = (m ((c : Thread nD τ).loc main_arg1)) (ix3 0 i k) := by
  unfold V
  after_reads_at

/-! ## The blocks of a grid point -/

theorem idx0 : ∀ t : Fin cfg0.N, win0_0.index t (0 : Fin 2) = t.val ∧ win0_0.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 1 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)
theorem idx8 : ∀ t : Fin cfg0.N, win0_8.index t (0 : Fin 2) = t.val ∧ win0_8.index t (1 : Fin 2) = 0 :=
  (by decide +kernel : ∀ t : Fin grid0.N, _)
theorem idx9 : ∀ t : Fin cfg0.N, win0_9.index t (0 : Fin 2) = t.val ∧ win0_9.index t (1 : Fin 2) = 0 :=
  (by decide +kernel : ∀ t : Fin grid0.N, _)
theorem idx10 : ∀ t : Fin cfg0.N, win0_10.index t (0 : Fin 2) = t.val ∧ win0_10.index t (1 : Fin 2) = 0 :=
  (by decide +kernel : ∀ t : Fin grid0.N, _)
theorem idx11 : ∀ t : Fin cfg0.N, win0_11.index t (0 : Fin 2) = t.val ∧ win0_11.index t (1 : Fin 2) = 0 :=
  (by decide +kernel : ∀ t : Fin grid0.N, _)
theorem idx12 : ∀ t : Fin cfg0.N, win0_12.index t (0 : Fin 2) = t.val ∧ win0_12.index t (1 : Fin 2) = 0 :=
  (by decide +kernel : ∀ t : Fin grid0.N, _)
theorem idx13 : ∀ t : Fin cfg0.N, win0_13.index t (0 : Fin 2) = t.val ∧ win0_13.index t (1 : Fin 2) = 0 :=
  (by decide +kernel : ∀ t : Fin grid0.N, _)
theorem idx1 : ∀ t : Fin cfg0.N, win0_1.index t (0 : Fin 3) = 0 ∧ win0_1.index t (1 : Fin 3) = 0 ∧ win0_1.index t (2 : Fin 3) = 0 :=
  (by decide +kernel : ∀ t : Fin grid0.N, _)

theorem tlt (t : Fin cfg0.N) : t.val < 8 := t.isLt

/-- Row `r` of the block of point `t`. -/
def qrow (t : Fin cfg0.N) (r : Fin 512) : Fin 4096 := ⟨512 * t.val + r.val, by have := tlt t; omega⟩

theorem iblk0_at (c : Dev nD) (t : Fin cfg0.N) (r : Fin 512) (k : Fin 1024) :
    iblk m c 0 t (ix2 r k) = V m c main_v9 (ix2 (qrow t r) k) := by
  obtain ⟨e0, e1⟩ := idx0 t
  show V m c main_v9 (((cfg0.win 0).blk t).view.emb (ix2 r k)) = _
  refine congrArg (V m c main_v9) (funext fun a => Fin.ext ?_)
  match a with
  | ⟨0, _⟩ => show win0_0.index t (0 : Fin 2) * 512 + 1 * r.val = 512 * t.val + r.val; omega
  | ⟨1, _⟩ => show win0_0.index t (1 : Fin 2) * 1024 + 1 * k.val = k.val; omega

theorem iblk1_at (c : Dev nD) (t : Fin cfg0.N) (i : Fin 6) (k : Fin 1024) :
    iblk m c 1 t (ix3 0 i k) = V m c main_arg1 (ix3 0 i k) := by
  obtain ⟨e0, e1, e2⟩ := idx1 t
  show V m c main_arg1 (((cfg0.win 1).blk t).view.emb (ix3 0 i k)) = _
  refine congrArg (V m c main_arg1) (funext fun a => Fin.ext ?_)
  match a with
  | ⟨0, _⟩ => show win0_1.index t (0 : Fin 3) * 1 + 1 * 0 = 0; omega
  | ⟨1, _⟩ => show win0_1.index t (1 : Fin 3) * 6 + 1 * i.val = i.val; omega
  | ⟨2, _⟩ => show win0_1.index t (2 : Fin 3) * 1024 + 1 * k.val = k.val; omega

theorem x3_at (c : Dev nD) (t : Fin cfg0.N) (k : Fin 1024) (e : Fin 1536) :
    X0_3 m c t (ix2 k e) = V m c main_v11 (ix2 k ⟨1536 + e.val, by have := e.isLt; omega⟩) := by
  obtain ⟨e0, e1⟩ := idx3 t
  unfold X0_3 Pipeline.Window.fill
  rw [dif_pos (moved0_3 t _)]
  show V m c main_v11 (((cfg0.win 3).blk t).view.emb _) = _
  refine congrArg (V m c main_v11) (funext fun a => Fin.ext ?_)
  match a with
  | ⟨0, _⟩ => show win0_3.index t (0 : Fin 2) * 1024 + 1 * k.val = k.val; omega
  | ⟨1, _⟩ => show win0_3.index t (1 : Fin 2) * 1536 + 1 * e.val = 1536 + e.val; omega

theorem iblk2_at (c : Dev nD) (t : Fin cfg0.N) (k : Fin 1024) :
    iblk m c 2 t (ix2 0 k) = V m c main_v10 (ix2 0 k) := by
  obtain ⟨e0, e1⟩ := idx2 t
  show V m c main_v10 (((cfg0.win 2).blk t).view.emb (ix2 0 k)) = _
  refine congrArg (V m c main_v10) (funext fun a => Fin.ext ?_)
  match a with
  | ⟨0, _⟩ => show win0_2.index t (0 : Fin 2) * 1 + 1 * 0 = 0; omega
  | ⟨1, _⟩ => show win0_2.index t (1 : Fin 2) * 1024 + 1 * k.val = k.val; omega

theorem iblk4_at (c : Dev nD) (t : Fin cfg0.N) (r : Fin 512) (k : Fin 512) :
    iblk m c 4 t (ix2 r k) = V m c main_v8 (ix2 r k) := by
  obtain ⟨e0, e1⟩ := idx4 t
  show V m c main_v8 (((cfg0.win 4).blk t).view.emb (ix2 r k)) = _
  refine congrArg (V m c main_v8) (funext fun a => Fin.ext ?_)
  match a with
  | ⟨0, _⟩ => show win0_4.index t (0 : Fin 2) * 512 + 1 * r.val = r.val; omega
  | ⟨1, _⟩ => show win0_4.index t (1 : Fin 2) * 512 + 1 * k.val = k.val; omega

theorem iblk5_at (c : Dev nD) (t : Fin cfg0.N) (k : Fin 512) :
    iblk m c 5 t (ix2 0 k) = V m c main_v15 (ix2 0 k) := by
  obtain ⟨e0, e1⟩ := idx5 t
  show V m c main_v15 (((cfg0.win 5).blk t).view.emb (ix2 0 k)) = _
  refine congrArg (V m c main_v15) (funext fun a => Fin.ext ?_)
  match a with
  | ⟨0, _⟩ => show win0_5.index t (0 : Fin 2) * 1 + 1 * 0 = 0; omega
  | ⟨1, _⟩ => show win0_5.index t (1 : Fin 2) * 512 + 1 * k.val = k.val; omega

theorem iblk6_at (c : Dev nD) (t : Fin cfg0.N) (k : Fin 128) :
    iblk m c 6 t (ix2 0 k) = V m c main_v19 (ix2 0 k) := by
  obtain ⟨e0, e1⟩ := idx6 t
  show V m c main_v19 (((cfg0.win 6).blk t).view.emb (ix2 0 k)) = _
  refine congrArg (V m c main_v19) (funext fun a => Fin.ext ?_)
  match a with
  | ⟨0, _⟩ => show win0_6.index t (0 : Fin 2) * 1 + 1 * 0 = 0; omega
  | ⟨1, _⟩ => show win0_6.index t (1 : Fin 2) * 128 + 1 * k.val = k.val; omega

theorem emb7 (t : Fin cfg0.N) (r : Fin 512) (k : Fin 512) :
    ((cfg0.win 7).blk t).view.emb (ix2 r k) = ix2 (qrow t r) k := by
  obtain ⟨e0, e1⟩ := idx7 t
  refine funext fun a => Fin.ext ?_
  match a with
  | ⟨0, _⟩ => show win0_7.index t (0 : Fin 2) * 512 + 1 * r.val = 512 * t.val + r.val; omega
  | ⟨1, _⟩ => show win0_7.index t (1 : Fin 2) * 512 + 1 * k.val = k.val; omega

theorem emb8 (t : Fin cfg0.N) (r : Fin 512) (k : Fin 512) :
    ((cfg0.win 8).blk t).view.emb (ix2 r k) = ix2 (qrow t r) k := by
  obtain ⟨e0, e1⟩ := idx8 t
  refine funext fun a => Fin.ext ?_
  match a with
  | ⟨0, _⟩ => show win0_8.index t (0 : Fin 2) * 512 + 1 * r.val = 512 * t.val + r.val; omega
  | ⟨1, _⟩ => show win0_8.index t (1 : Fin 2) * 512 + 1 * k.val = k.val; omega

theorem emb9 (t : Fin cfg0.N) (r : Fin 512) (k : Fin 512) :
    ((cfg0.win 9).blk t).view.emb (ix2 r k) = ix2 (qrow t r) k := by
  obtain ⟨e0, e1⟩ := idx9 t
  refine funext fun a => Fin.ext ?_
  match a with
  | ⟨0, _⟩ => show win0_9.index t (0 : Fin 2) * 512 + 1 * r.val = 512 * t.val + r.val; omega
  | ⟨1, _⟩ => show win0_9.index t (1 : Fin 2) * 512 + 1 * k.val = k.val; omega

theorem emb10 (t : Fin cfg0.N) (r : Fin 512) (k : Fin 512) :
    ((cfg0.win 10).blk t).view.emb (ix2 r k) = ix2 (qrow t r) k := by
  obtain ⟨e0, e1⟩ := idx10 t
  refine funext fun a => Fin.ext ?_
  match a with
  | ⟨0, _⟩ => show win0_10.index t (0 : Fin 2) * 512 + 1 * r.val = 512 * t.val + r.val; omega
  | ⟨1, _⟩ => show win0_10.index t (1 : Fin 2) * 512 + 1 * k.val = k.val; omega

theorem emb11 (t : Fin cfg0.N) (r : Fin 512) (k : Fin 512) :
    ((cfg0.win 11).blk t).view.emb (ix2 r k) = ix2 (qrow t r) k := by
  obtain ⟨e0, e1⟩ := idx11 t
  refine funext fun a => Fin.ext ?_
  match a with
  | ⟨0, _⟩ => show win0_11.index t (0 : Fin 2) * 512 + 1 * r.val = 512 * t.val + r.val; omega
  | ⟨1, _⟩ => show win0_11.index t (1 : Fin 2) * 512 + 1 * k.val = k.val; omega

theorem emb12 (t : Fin cfg0.N) (r : Fin 512) (k : Fin 512) :
    ((cfg0.win 12).blk t).view.emb (ix2 r k) = ix2 (qrow t r) k := by
  obtain ⟨e0, e1⟩ := idx12 t
  refine funext fun a => Fin.ext ?_
  match a with
  | ⟨0, _⟩ => show win0_12.index t (0 : Fin 2) * 512 + 1 * r.val = 512 * t.val + r.val; omega
  | ⟨1, _⟩ => show win0_12.index t (1 : Fin 2) * 512 + 1 * k.val = k.val; omega

theorem emb13 (t : Fin cfg0.N) (r : Fin 512) (k : Fin 512) :
    ((cfg0.win 13).blk t).view.emb (ix2 r k) = ix2 (qrow t r) k := by
  obtain ⟨e0, e1⟩ := idx13 t
  refine funext fun a => Fin.ext ?_
  match a with
  | ⟨0, _⟩ => show win0_13.index t (0 : Fin 2) * 512 + 1 * r.val = 512 * t.val + r.val; omega
  | ⟨1, _⟩ => show win0_13.index t (1 : Fin 2) * 512 + 1 * k.val = k.val; omega

/-- A row of the blocks of a grid point is a token of the argument arrays. -/
theorem brow_eq (c : Dev nD) (t : Fin cfg0.N) (r : Fin 512) :
    brow (iblk m c 0 t) (iblk m c 1 t) (iblk m c 2 t) (X0_3 m c t) (iblk m c 5 t) (iblk m c 6 t) r = arow m c (qrow t r) :=
  brow_of _ _ _ _ _ _ (arow m c (qrow t r)) r
    (fun k => (iblk0_at m c t r k).trans (V_v9 m c _ _)) (fun k => (iblk1_at m c t 1 k).trans (V_a1 m c _ _))
    (fun k => (iblk1_at m c t 0 k).trans (V_a1 m c _ _)) (fun k => (iblk2_at m c t k).trans (V_v10 m c _))
    (fun k e => (x3_at m c t k e).trans (V_v11 m c _ _)) (fun l => (iblk5_at m c t l).trans (V_v15 m c _))
    (fun l => (iblk6_at m c t l).trans (V_v19 m c _))

/-- The block that the squares are multiplied by. -/
theorem ones_at (c : Dev nD) (t : Fin cfg0.N) (k l : Fin 512) :
    iblk m c 4 t (ix2 k l) = (if k.val / 64 = l.val / 64 then 1 else 0 : EReal) := (iblk4_at m c t k l).trans (V_v8 m c k l)

end Cert.Proof.InHost
-- ==== Proof.InArray.lean ====
/- Hand-written, untrusted: the seven result arrays of the attention inputs' kernel are the parts of `Row` of the tokens of the
   argument arrays: what a grid point writes back (`flushed…_eq`), the arrays after the run (`final…`). -/
module

public import proofs.«01_k».proof.Proof.InHost

@[expose] public section

set_option maxRecDepth 16384

noncomputable section

namespace Cert.Proof.InArray

open Cert.InIdeal Cert.InIdeal.Gen Cert.InIdeal.Value Idealize.ShloMosaic Idealize.ShloMosaic.TcCoe Idealize.SL.Sem
open Cert.Proof.InSpec Cert.Proof.InSum Cert.Proof.InBody Cert.Proof.InBlocks Cert.Proof.InHost

variable (m : (ℓ : Loc nD τ sig) → Buf (Elt Ideal) ℓ) (ρ : Dev nD → PrngReg)

/-- Every column of every token's projection is real. -/
def Reals (c : Dev nD) : Prop := ∀ t e, IsReal ((arow m c t).acc e)

/-- An array from its rows. -/
def ofTokens {e : EltTy} (f : Fin 4096 → Fin 512 → Elt Ideal e) : Vec Ideal S4096x512 e := fun i => f (i 0) (i 1)

/-- The seven result arrays. -/
def R7 (c : Dev nD) : Vec Ideal S4096x512 .bf16 := ofTokens fun t => (arow m c t).qa
def R8 (c : Dev nD) : Vec Ideal S4096x512 .bf16 := ofTokens fun t => (arow m c t).qw
def R9 (c : Dev nD) : Vec Ideal S4096x512 .bf16 := ofTokens fun t => beside (arow m c t).ka
def R10 (c : Dev nD) : Vec Ideal S4096x512 .bf16 := ofTokens fun t => beside (arow m c t).va
def R11 (c : Dev nD) : Vec Ideal S4096x512 .bf16 := ofTokens fun t => beside (arow m c t).kw
def R12 (c : Dev nD) : Vec Ideal S4096x512 .bf16 := ofTokens fun t => beside (arow m c t).vw
def R13 (c : Dev nD) : Vec Ideal S4096x512 .f32 := ofTokens fun t => (arow m c t).kv

theorem real_rows (c : Dev nD) (hr : Reals m c) (t : Fin cfg0.N) (r : Fin 512) (e : Fin 1536) :
    IsReal ((brow (iblk m c 0 t) (iblk m c 1 t) (iblk m c 2 t) (X0_3 m c t) (iblk m c 5 t) (iblk m c 6 t) r).acc e) := by
  rw [brow_eq]
  exact hr _ e

theorem flushed7_eq (c : Dev nD) (hr : Reals m c) (t : Fin cfg0.N) :
    (dats m 0 c).flushed 7 t = ((cfg0.win 7).blk t).view.read (Elt Ideal) (R7 m c) := by
  rw [flushed7_A, out7 _ _ _ _ _ _ _ _ _ _ _ _ _ _ _ _ _ _ _ _ _ _ _ _ _ _ _ _ _ _ _ _ _ _ _ _ _ (ones_at m c t) (real_rows m c hr t)]
  funext j
  obtain ⟨r, x, rfl⟩ : ∃ (r : Fin 512) (x : Fin 512), j = ix2 r x :=
    ⟨j 0, j 1, funext fun a => by match a with | ⟨0, _⟩ => rfl | ⟨1, _⟩ => rfl⟩
  show (brow (iblk m c 0 t) (iblk m c 1 t) (iblk m c 2 t) (X0_3 m c t) (iblk m c 5 t) (iblk m c 6 t) r).qa x = R7 m c (((cfg0.win 7).blk t).view.emb (ix2 r x))
  rw [emb7, brow_eq]
  rfl

theorem covered7 (i : S4096x512.Idx) :
    ∃ t : Fin cfg0.N, (cfg0.win 7).flush t = true ∧ i ∈ ((cfg0.win 7).blk t).view.set := by
  have h0 : (i 0).val < 4096 := (i 0).isLt
  obtain ⟨t, ht⟩ : ∃ t : Fin cfg0.N, t.val = (i 0).val / 512 := ⟨⟨(i 0).val / 512, (by omega : (i 0).val / 512 < 8)⟩, rfl⟩
  obtain ⟨r, hr⟩ : ∃ r : Fin 512, r.val = (i 0).val % 512 := ⟨⟨(i 0).val % 512, by omega⟩, rfl⟩
  obtain ⟨x, hx⟩ : ∃ x : Fin 512, x.val = (i 1).val := ⟨i 1, rfl⟩
  have e : ix2 (qrow t r) x = i := funext fun a => by
    match a with
    | ⟨0, _⟩ => exact Fin.ext (show 512 * t.val + r.val = (i 0).val by omega)
    | ⟨1, _⟩ => exact Fin.ext hx
  refine ⟨t, flush0_7 t, ?_⟩
  have h := ((cfg0.win 7).blk t).view.emb_mem_set (ix2 r x)
  rw [emb7, e] at h
  exact h

theorem final7 (c : Dev nD) (hr : Reals m c) : (dats m 0 c).arrAt 7 cfg0.N = R7 m c :=
  (dats m 0 c).arrAt_eq_of_cover 7 (R7 m c) (fun t _ => flushed7_eq m c hr t) covered7

theorem flushed8_eq (c : Dev nD) (t : Fin cfg0.N) :
    (dats m 0 c).flushed 8 t = ((cfg0.win 8).blk t).view.read (Elt Ideal) (R8 m c) := by
  rw [flushed8_A, out8]
  funext j
  obtain ⟨r, x, rfl⟩ : ∃ (r : Fin 512) (x : Fin 512), j = ix2 r x :=
    ⟨j 0, j 1, funext fun a => by match a with | ⟨0, _⟩ => rfl | ⟨1, _⟩ => rfl⟩
  show (brow (iblk m c 0 t) (iblk m c 1 t) (iblk m c 2 t) (X0_3 m c t) (iblk m c 5 t) (iblk m c 6 t) r).qw x = R8 m c (((cfg0.win 8).blk t).view.emb (ix2 r x))
  rw [emb8, brow_eq]
  rfl

theorem covered8 (i : S4096x512.Idx) :
    ∃ t : Fin cfg0.N, (cfg0.win 8).flush t = true ∧ i ∈ ((cfg0.win 8).blk t).view.set := by
  have h0 : (i 0).val < 4096 := (i 0).isLt
  obtain ⟨t, ht⟩ : ∃ t : Fin cfg0.N, t.val = (i 0).val / 512 := ⟨⟨(i 0).val / 512, (by omega : (i 0).val / 512 < 8)⟩, rfl⟩
  obtain ⟨r, hr⟩ : ∃ r : Fin 512, r.val = (i 0).val % 512 := ⟨⟨(i 0).val % 512, by omega⟩, rfl⟩
  obtain ⟨x, hx⟩ : ∃ x : Fin 512, x.val = (i 1).val := ⟨i 1, rfl⟩
  have e : ix2 (qrow t r) x = i := funext fun a => by
    match a with
    | ⟨0, _⟩ => exact Fin.ext (show 512 * t.val + r.val = (i 0).val by omega)
    | ⟨1, _⟩ => exact Fin.ext hx
  refine ⟨t, flush0_8 t, ?_⟩
  have h := ((cfg0.win 8).blk t).view.emb_mem_set (ix2 r x)
  rw [emb8, e] at h
  exact h

theorem final8 (c : Dev nD) : (dats m 0 c).arrAt 8 cfg0.N = R8 m c :=
  (dats m 0 c).arrAt_eq_of_cover 8 (R8 m c) (fun t _ => flushed8_eq m c t) covered8

theorem flushed9_eq (c : Dev nD) (hr : Reals m c) (t : Fin cfg0.N) :
    (dats m 0 c).flushed 9 t = ((cfg0.win 9).blk t).view.read (Elt Ideal) (R9 m c) := by
  rw [flushed9_A, out9 _ _ _ _ _ _ _ _ _ _ _ _ _ _ _ _ _ _ _ _ _ _ _ _ _ _ _ _ _ _ _ _ _ _ _ _ _ (ones_at m c t) (real_rows m c hr t)]
  funext j
  obtain ⟨r, x, rfl⟩ : ∃ (r : Fin 512) (x : Fin 512), j = ix2 r x :=
    ⟨j 0, j 1, funext fun a => by match a with | ⟨0, _⟩ => rfl | ⟨1, _⟩ => rfl⟩
  show beside (brow (iblk m c 0 t) (iblk m c 1 t) (iblk m c 2 t) (X0_3 m c t) (iblk m c 5 t) (iblk m c 6 t) r).ka x = R9 m c (((cfg0.win 9).blk t).view.emb (ix2 r x))
  rw [emb9, brow_eq]
  rfl

theorem covered9 (i : S4096x512.Idx) :
    ∃ t : Fin cfg0.N, (cfg0.win 9).flush t = true ∧ i ∈ ((cfg0.win 9).blk t).view.set := by
  have h0 : (i 0).val < 4096 := (i 0).isLt
  obtain ⟨t, ht⟩ : ∃ t : Fin cfg0.N, t.val = (i 0).val / 512 := ⟨⟨(i 0).val / 512, (by omega : (i 0).val / 512 < 8)⟩, rfl⟩
  obtain ⟨r, hr⟩ : ∃ r : Fin 512, r.val = (i 0).val % 512 := ⟨⟨(i 0).val % 512, by omega⟩, rfl⟩
  obtain ⟨x, hx⟩ : ∃ x : Fin 512, x.val = (i 1).val := ⟨i 1, rfl⟩
  have e : ix2 (qrow t r) x = i := funext fun a => by
    match a with
    | ⟨0, _⟩ => exact Fin.ext (show 512 * t.val + r.val = (i 0).val by omega)
    | ⟨1, _⟩ => exact Fin.ext hx
  refine ⟨t, flush0_9 t, ?_⟩
  have h := ((cfg0.win 9).blk t).view.emb_mem_set (ix2 r x)
  rw [emb9, e] at h
  exact h

theorem final9 (c : Dev nD) (hr : Reals m c) : (dats m 0 c).arrAt 9 cfg0.N = R9 m c :=
  (dats m 0 c).arrAt_eq_of_cover 9 (R9 m c) (fun t _ => flushed9_eq m c hr t) covered9

theorem flushed10_eq (c : Dev nD) (t : Fin cfg0.N) :
    (dats m 0 c).flushed 10 t = ((cfg0.win 10).blk t).view.read (Elt Ideal) (R10 m c) := by
  rw [flushed10_A, out10]
  funext j
  obtain ⟨r, x, rfl⟩ : ∃ (r : Fin 512) (x : Fin 512), j = ix2 r x :=
    ⟨j 0, j 1, funext fun a => by match a with | ⟨0, _⟩ => rfl | ⟨1, _⟩ => rfl⟩
  show beside (brow (iblk m c 0 t) (iblk m c 1 t) (iblk m c 2 t) (X0_3 m c t) (iblk m c 5 t) (iblk m c 6 t) r).va x = R10 m c (((cfg0.win 10).blk t).view.emb (ix2 r x))
  rw [emb10, brow_eq]
  rfl

theorem covered10 (i : S4096x512.Idx) :
    ∃ t : Fin cfg0.N, (cfg0.win 10).flush t = true ∧ i ∈ ((cfg0.win 10).blk t).view.set := by
  have h0 : (i 0).val < 4096 := (i 0).isLt
  obtain ⟨t, ht⟩ : ∃ t : Fin cfg0.N, t.val = (i 0).val / 512 := ⟨⟨(i 0).val / 512, (by omega : (i 0).val / 512 < 8)⟩, rfl⟩
  obtain ⟨r, hr⟩ : ∃ r : Fin 512, r.val = (i 0).val % 512 := ⟨⟨(i 0).val % 512, by omega⟩, rfl⟩
  obtain ⟨x, hx⟩ : ∃ x : Fin 512, x.val = (i 1).val := ⟨i 1, rfl⟩
  have e : ix2 (qrow t r) x = i := funext fun a => by
    match a with
    | ⟨0, _⟩ => exact Fin.ext (show 512 * t.val + r.val = (i 0).val by omega)
    | ⟨1, _⟩ => exact Fin.ext hx
  refine ⟨t, flush0_10 t, ?_⟩
  have h := ((cfg0.win 10).blk t).view.emb_mem_set (ix2 r x)
  rw [emb10, e] at h
  exact h

theorem final10 (c : Dev nD) : (dats m 0 c).arrAt 10 cfg0.N = R10 m c :=
  (dats m 0 c).arrAt_eq_of_cover 10 (R10 m c) (fun t _ => flushed10_eq m c t) covered10

theorem flushed11_eq (c : Dev nD) (t : Fin cfg0.N) :
    (dats m 0 c).flushed 11 t = ((cfg0.win 11).blk t).view.read (Elt Ideal) (R11 m c) := by
  rw [flushed11_A, out11]
  funext j
  obtain ⟨r, x, rfl⟩ : ∃ (r : Fin 512) (x : Fin 512), j = ix2 r x :=
    ⟨j 0, j 1, funext fun a => by match a with | ⟨0, _⟩ => rfl | ⟨1, _⟩ => rfl⟩
  show beside (brow (iblk m c 0 t) (iblk m c 1 t) (iblk m c 2 t) (X0_3 m c t) (iblk m c 5 t) (iblk m c 6 t) r).kw x = R11 m c (((cfg0.win 11).blk t).view.emb (ix2 r x))
  rw [emb11, brow_eq]
  rfl

theorem covered11 (i : S4096x512.Idx) :
    ∃ t : Fin cfg0.N, (cfg0.win 11).flush t = true ∧ i ∈ ((cfg0.win 11).blk t).view.set := by
  have h0 : (i 0).val < 4096 := (i 0).isLt
  obtain ⟨t, ht⟩ : ∃ t : Fin cfg0.N, t.val = (i 0).val / 512 := ⟨⟨(i 0).val / 512, (by omega : (i 0).val / 512 < 8)⟩, rfl⟩
  obtain ⟨r, hr⟩ : ∃ r : Fin 512, r.val = (i 0).val % 512 := ⟨⟨(i 0).val % 512, by omega⟩, rfl⟩
  obtain ⟨x, hx⟩ : ∃ x : Fin 512, x.val = (i 1).val := ⟨i 1, rfl⟩
  have e : ix2 (qrow t r) x = i := funext fun a => by
    match a with
    | ⟨0, _⟩ => exact Fin.ext (show 512 * t.val + r.val = (i 0).val by omega)
    | ⟨1, _⟩ => exact Fin.ext hx
  refine ⟨t, flush0_11 t, ?_⟩
  have h := ((cfg0.win 11).blk t).view.emb_mem_set (ix2 r x)
  rw [emb11, e] at h
  exact h

theorem final11 (c : Dev nD) : (dats m 0 c).arrAt 11 cfg0.N = R11 m c :=
  (dats m 0 c).arrAt_eq_of_cover 11 (R11 m c) (fun t _ => flushed11_eq m c t) covered11

theorem flushed12_eq (c : Dev nD) (t : Fin cfg0.N) :
    (dats m 0 c).flushed 12 t = ((cfg0.win 12).blk t).view.read (Elt Ideal) (R12 m c) := by
  rw [flushed12_A, out12]
  funext j
  obtain ⟨r, x, rfl⟩ : ∃ (r : Fin 512) (x : Fin 512), j = ix2 r x :=
    ⟨j 0, j 1, funext fun a => by match a with | ⟨0, _⟩ => rfl | ⟨1, _⟩ => rfl⟩
  show beside (brow (iblk m c 0 t) (iblk m c 1 t) (iblk m c 2 t) (X0_3 m c t) (iblk m c 5 t) (iblk m c 6 t) r).vw x = R12 m c (((cfg0.win 12).blk t).view.emb (ix2 r x))
  rw [emb12, brow_eq]
  rfl

theorem covered12 (i : S4096x512.Idx) :
    ∃ t : Fin cfg0.N, (cfg0.win 12).flush t = true ∧ i ∈ ((cfg0.win 12).blk t).view.set := by
  have h0 : (i 0).val < 4096 := (i 0).isLt
  obtain ⟨t, ht⟩ : ∃ t : Fin cfg0.N, t.val = (i 0).val / 512 := ⟨⟨(i 0).val / 512, (by omega : (i 0).val / 512 < 8)⟩, rfl⟩
  obtain ⟨r, hr⟩ : ∃ r : Fin 512, r.val = (i 0).val % 512 := ⟨⟨(i 0).val % 512, by omega⟩, rfl⟩
  obtain ⟨x, hx⟩ : ∃ x : Fin 512, x.val = (i 1).val := ⟨i 1, rfl⟩
  have e : ix2 (qrow t r) x = i := funext fun a => by
    match a with
    | ⟨0, _⟩ => exact Fin.ext (show 512 * t.val + r.val = (i 0).val by omega)
    | ⟨1, _⟩ => exact Fin.ext hx
  refine ⟨t, flush0_12 t, ?_⟩
  have h := ((cfg0.win 12).blk t).view.emb_mem_set (ix2 r x)
  rw [emb12, e] at h
  exact h

theorem final12 (c : Dev nD) : (dats m 0 c).arrAt 12 cfg0.N = R12 m c :=
  (dats m 0 c).arrAt_eq_of_cover 12 (R12 m c) (fun t _ => flushed12_eq m c t) covered12

theorem flushed13_eq (c : Dev nD) (hr : Reals m c) (t : Fin cfg0.N) :
    (dats m 0 c).flushed 13 t = ((cfg0.win 13).blk t).view.read (Elt Ideal) (R13 m c) := by
  rw [flushed13_A, out13 _ _ _ _ _ _ _ _ _ _ _ _ _ _ _ _ _ _ _ _ _ _ _ _ _ _ _ _ _ _ _ _ _ _ _ _ _ (ones_at m c t) (real_rows m c hr t)]
  funext j
  obtain ⟨r, x, rfl⟩ : ∃ (r : Fin 512) (x : Fin 512), j = ix2 r x :=
    ⟨j 0, j 1, funext fun a => by match a with | ⟨0, _⟩ => rfl | ⟨1, _⟩ => rfl⟩
  show (brow (iblk m c 0 t) (iblk m c 1 t) (iblk m c 2 t) (X0_3 m c t) (iblk m c 5 t) (iblk m c 6 t) r).kv x = R13 m c (((cfg0.win 13).blk t).view.emb (ix2 r x))
  rw [emb13, brow_eq]
  rfl

theorem covered13 (i : S4096x512.Idx) :
    ∃ t : Fin cfg0.N, (cfg0.win 13).flush t = true ∧ i ∈ ((cfg0.win 13).blk t).view.set := by
  have h0 : (i 0).val < 4096 := (i 0).isLt
  obtain ⟨t, ht⟩ : ∃ t : Fin cfg0.N, t.val = (i 0).val / 512 := ⟨⟨(i 0).val / 512, (by omega : (i 0).val / 512 < 8)⟩, rfl⟩
  obtain ⟨r, hr⟩ : ∃ r : Fin 512, r.val = (i 0).val % 512 := ⟨⟨(i 0).val % 512, by omega⟩, rfl⟩
  obtain ⟨x, hx⟩ : ∃ x : Fin 512, x.val = (i 1).val := ⟨i 1, rfl⟩
  have e : ix2 (qrow t r) x = i := funext fun a => by
    match a with
    | ⟨0, _⟩ => exact Fin.ext (show 512 * t.val + r.val = (i 0).val by omega)
    | ⟨1, _⟩ => exact Fin.ext hx
  refine ⟨t, flush0_13 t, ?_⟩
  have h := ((cfg0.win 13).blk t).view.emb_mem_set (ix2 r x)
  rw [emb13, e] at h
  exact h

theorem final13 (c : Dev nD) (hr : Reals m c) : (dats m 0 c).arrAt 13 cfg0.N = R13 m c :=
  (dats m 0 c).arrAt_eq_of_cover 13 (R13 m c) (fun t _ => flushed13_eq m c hr t) covered13

end Cert.Proof.InArray
-- ==== Proof.InRef.lean ====
/- Hand-written, untrusted: the seven results of the attention inputs' reference at an index are the parts of `Row` of the token of
   its arguments (`v74_at`, …). -/
module

public import proofs.«01_k».proof.Proof.InSum
public import proofs.«01_k».proof.Proof.Gen.InRefIdeal.Read
public import Idealize.ShloMosaic.Lib.Pointwise

@[expose] public section

set_option maxRecDepth 16384

noncomputable section

namespace Cert.Proof.InRef

open Cert.InRefIdeal Cert.InRefIdeal.Gen Cert.InRefIdeal.Read Idealize.ShloMosaic Idealize.ShloMosaic.TcCoe Idealize.SL.Sem
open Cert.Proof.InSpec

variable (x0 : Vec Ideal S16x256x1024 .f32) (x1 : Vec Ideal S1x6x1024 .f32) (x2 : Vec Ideal S1024 .f32)
  (x3 : Vec Ideal S1024x7168 .f32) (x4 x5 : Vec Ideal S64 .f32)

/-- Token `t` of the arguments. -/
def rrow : Fin 4096 → Row :=
  trow (fun t k => x0 (ix3 ⟨t.val / 256, by have := t.isLt; omega⟩ ⟨t.val % 256, by omega⟩ k)) (fun i k => x1 (ix3 0 i k))
    (fun k => x2 (ix1 k)) (fun k e => x3 (ix2 k e)) (fun l => x4 (ix1 l)) (fun l => x5 (ix1 l))

/-- Token `i` of sequence `b`. -/
def qr (b : Fin 16) (i : Fin 256) : Fin 4096 := ⟨b.val * 256 + i.val, by omega⟩

theorem qr_surj (t : Fin 4096) : ∃ b i, t = qr b i :=
  ⟨⟨t.val / 256, by omega⟩, ⟨t.val % 256, by omega⟩, Fin.ext (by show t.val = t.val / 256 * 256 + t.val % 256; omega)⟩

theorem x_qr (b : Fin 16) (i : Fin 256) (k : Fin 1024) : (rrow x0 x1 x2 x3 x4 x5 (qr b i)).x k = x0 (ix3 b i k) := by
  show x0 (ix3 _ _ k) = _
  refine congrArg x0 (funext fun a => Fin.ext ?_)
  match a with
  | ⟨0, _⟩ => show (b.val * 256 + i.val) / 256 = b.val; omega
  | ⟨1, _⟩ => show (b.val * 256 + i.val) % 256 = i.val; omega
  | ⟨2, _⟩ => rfl

theorem zero_add_sum {n : ℕ} (f : Fin n → EReal) : Ideal.ofBits .f32 0x00000000#32 + ∑ k, f k = ∑ k, f k := by
  rw [Ideal.ofBits_zero, zero_add]

theorem v7_at (b : Fin 16) (i : Fin 256) :
    val_main_v7 (F := Ideal) x0 (ix2 b i) = ∑ k, x0 (ix3 b i k) * x0 (ix3 b i k) := by
  rw [val_main_v7_apply]
  refine (zero_add_sum _).trans (Finset.sum_congr rfl fun k _ => ?_)
  rw [show idx_main_v7 (ix2 b i) k = ix3 b i k from funext fun a => by match a with | ⟨0, _⟩ => rfl | ⟨1, _⟩ => rfl | ⟨2, _⟩ => rfl]
  rfl

theorem v24_at (b : Fin 16) (i : Fin 256) (d : Fin 1024) :
    val_main_v24 (F := Ideal) x0 x1 x2 (ix3 b i d)
      = OutSpec.norm (fun k => x0 (ix3 b i k)) (fun k => x2 (ix1 k)) (fun k => x1 (ix3 0 1 k)) (fun k => x1 (ix3 0 0 k)) d := by
  unfold val_main_v24 val_main_v23 val_main_v22 val_main_v21 val_main_v20 val_main_v19 val_main_cst_2 val_main_v18
    val_main_v17 val_main_v16 val_main_v15 val_main_v14 val_main_v13 val_main_v12 val_main_v11 val_main_cst_1 val_main_v10
    val_main_v9 val_main_cst_0 val_main_v8 val_main_v0 val_main_v1
  have e7 := v7_at x0 b i
  generalize val_main_v7 (F := Ideal) x0 = s at *
  pointwise []
  rw [e7]
  unfold OutSpec.norm
  rfl

theorem v25_at (b : Fin 16) (i : Fin 256) (c : Fin 1536) :
    val_main_v25 (F := Ideal) x0 x1 x2 x3 (ix3 b i ⟨1536 + c.val, by omega⟩) = (rrow x0 x1 x2 x3 x4 x5 (qr b i)).acc c := by
  unfold val_main_v25
  have e := fun k => v24_at x0 x1 x2 b i k
  generalize val_main_v24 (F := Ideal) x0 x1 x2 = h at *
  pointwise []
  unfold Row.acc
  simp only [e]
  rw [show (rrow x0 x1 x2 x3 x4 x5 (qr b i)).x = fun k => x0 (ix3 b i k) from funext fun k => x_qr x0 x1 x2 x3 x4 x5 b i k]
  rfl

/-- Column `o + l` of the projection, cut out of it. -/
theorem part_at (b : Fin 16) (i : Fin 256) (o n : ℕ) (h : o + n ≤ 1536) (l : Fin n) (e : Fin 7168) (he : e.val = 1536 + (o + l.val)) :
    val_main_v25 (F := Ideal) x0 x1 x2 x3 (ix3 b i e) = (rrow x0 x1 x2 x3 x4 x5 (qr b i)).part o n h l := by
  refine Eq.trans ?_ (v25_at x0 x1 x2 x3 x4 x5 b i ⟨o + l.val, by have := l.isLt; omega⟩)
  exact congrArg (fun z => val_main_v25 (F := Ideal) x0 x1 x2 x3 (ix3 b i z)) (Fin.ext he)

theorem v35_at (b : Fin 16) (i : Fin 256) (g : Fin 2) (h : Fin 4) (e : Fin 64) :
    val_main_v35 (F := Ideal) x0 x1 x2 x3 (ix5 b i g h e)
      = (rrow x0 x1 x2 x3 x4 x5 (qr b i)).part 0 512 (by decide) ⟨256 * g.val + 64 * h.val + e.val, by omega⟩ := by
  unfold val_main_v35 val_main_v28
  have p := part_at x0 x1 x2 x3 x4 x5 b i 0 512 (by decide)
  generalize val_main_v25 (F := Ideal) x0 x1 x2 x3 = y at *
  pointwise []
  exact p _ _ (by dsimp only; omega)

theorem v37_at (b : Fin 16) (i : Fin 256) (g : Fin 2) (h : Fin 4) :
    val_main_v37 (F := Ideal) x0 x1 x2 x3 (ix4 b i g h)
      = ∑ k : Fin 64, val_main_v35 (F := Ideal) x0 x1 x2 x3 (ix5 b i g h k) * val_main_v35 (F := Ideal) x0 x1 x2 x3 (ix5 b i g h k) := by
  rw [val_main_v37_apply]
  refine (zero_add_sum _).trans (Finset.sum_congr rfl fun k _ => ?_)
  rw [show idx_main_v37 (ix4 b i g h) k = ix5 b i g h k from
    funext fun a => by match a with | ⟨0, _⟩ => rfl | ⟨1, _⟩ => rfl | ⟨2, _⟩ => rfl | ⟨3, _⟩ => rfl | ⟨4, _⟩ => rfl]
  rfl

theorem v48_at (b : Fin 16) (i : Fin 256) (g : Fin 2) (h : Fin 4) (e : Fin 64) :
    val_main_v48 (F := Ideal) x0 x1 x2 x3 x4 (ix5 b i g h e)
      = heads (by decide) ((rrow x0 x1 x2 x3 x4 x5 (qr b i)).part 0 512 (by decide)) (rrow x0 x1 x2 x3 x4 x5 (qr b i)).qg
          ⟨256 * g.val + 64 * h.val + e.val, by omega⟩ := by
  unfold val_main_v48 val_main_v47 val_main_v46 val_main_v45 val_main_v44 val_main_v43 val_main_v42 val_main_v41 val_main_cst_5
    val_main_v40 val_main_v39 val_main_cst_4 val_main_v38
  have e0 := fun e => v35_at x0 x1 x2 x3 x4 x5 b i g h e
  have e7 := v37_at x0 x1 x2 x3 b i g h
  generalize val_main_v37 (F := Ideal) x0 x1 x2 x3 = s at *
  generalize val_main_v35 (F := Ideal) x0 x1 x2 x3 = y at *
  pointwise []
  rw [e7]
  simp only [e0]
  unfold heads
  have hk : ∀ k : Fin 64, inHead (n := 512) (by decide) ⟨256 * g.val + 64 * h.val + e.val, by omega⟩ k = ⟨256 * g.val + 64 * h.val + k.val, by omega⟩ :=
    fun k => Fin.ext (by show 64 * ((256 * g.val + 64 * h.val + e.val) / 64) + k.val = 256 * g.val + 64 * h.val + k.val; omega)
  have hq : (rrow x0 x1 x2 x3 x4 x5 (qr b i)).qg ⟨256 * g.val + 64 * h.val + e.val, by omega⟩ = x4 (ix1 e) :=
    congrArg (fun z => x4 (ix1 z)) (Fin.ext (by show (256 * g.val + 64 * h.val + e.val) % 64 = e.val; omega))
  simp only [hk, hq]

theorem v49_at (b : Fin 16) (i : Fin 256) (g : Fin 2) (e : Fin 64) :
    val_main_v49 (F := Ideal) x0 x1 x2 x3 (ix4 b i g e)
      = (rrow x0 x1 x2 x3 x4 x5 (qr b i)).part 512 128 (by decide) ⟨64 * g.val + e.val, by omega⟩ := by
  unfold val_main_v49 val_main_v29
  have p := part_at x0 x1 x2 x3 x4 x5 b i 512 128 (by decide)
  generalize val_main_v25 (F := Ideal) x0 x1 x2 x3 = y at *
  pointwise []
  exact p _ _ (by dsimp only; omega)

theorem v51_at (b : Fin 16) (i : Fin 256) (g : Fin 2) :
    val_main_v51 (F := Ideal) x0 x1 x2 x3 (ix3 b i g)
      = ∑ k : Fin 64, val_main_v49 (F := Ideal) x0 x1 x2 x3 (ix4 b i g k) * val_main_v49 (F := Ideal) x0 x1 x2 x3 (ix4 b i g k) := by
  rw [val_main_v51_apply]
  refine (zero_add_sum _).trans (Finset.sum_congr rfl fun k _ => ?_)
  rw [show idx_main_v51 (ix3 b i g) k = ix4 b i g k from
    funext fun a => by match a with | ⟨0, _⟩ => rfl | ⟨1, _⟩ => rfl | ⟨2, _⟩ => rfl | ⟨3, _⟩ => rfl]
  rfl

theorem v62_at (b : Fin 16) (i : Fin 256) (g : Fin 2) (e : Fin 64) :
    val_main_v62 (F := Ideal) x0 x1 x2 x3 x5 (ix4 b i g e) = (rrow x0 x1 x2 x3 x4 x5 (qr b i)).ka ⟨64 * g.val + e.val, by omega⟩ := by
  unfold val_main_v62 val_main_v61 val_main_v60 val_main_v59 val_main_v58 val_main_v57 val_main_v56 val_main_v55 val_main_cst_8
    val_main_v54 val_main_v53 val_main_cst_7 val_main_v52
  have e0 := fun e => v49_at x0 x1 x2 x3 x4 x5 b i g e
  have e7 := v51_at x0 x1 x2 x3 b i g
  generalize val_main_v51 (F := Ideal) x0 x1 x2 x3 = s at *
  generalize val_main_v49 (F := Ideal) x0 x1 x2 x3 = y at *
  pointwise []
  rw [e7]
  simp only [e0]
  unfold Row.ka heads
  have hk : ∀ k : Fin 64, inHead (n := 128) (by decide) ⟨64 * g.val + e.val, by omega⟩ k = ⟨64 * g.val + k.val, by omega⟩ :=
    fun k => Fin.ext (by show 64 * ((64 * g.val + e.val) / 64) + k.val = 64 * g.val + k.val; omega)
  have hq : (rrow x0 x1 x2 x3 x4 x5 (qr b i)).kg ⟨64 * g.val + e.val, by omega⟩ = x5 (ix1 e) :=
    congrArg (fun z => x5 (ix1 z)) (Fin.ext (by show (64 * g.val + e.val) % 64 = e.val; omega))
  simp only [hk, hq]

theorem v63_at (b : Fin 16) (i : Fin 256) (g : Fin 2) (e : Fin 64) :
    val_main_v63 (F := Ideal) x0 x1 x2 x3 (ix4 b i g e) = (rrow x0 x1 x2 x3 x4 x5 (qr b i)).va ⟨64 * g.val + e.val, by omega⟩ := by
  unfold val_main_v63 val_main_v30
  have p := part_at x0 x1 x2 x3 x4 x5 b i 640 128 (by decide)
  generalize val_main_v25 (F := Ideal) x0 x1 x2 x3 = y at *
  pointwise []
  exact p _ _ (by dsimp only; omega)

theorem v64_at (b : Fin 16) (i : Fin 256) (g : Fin 2) (e : Fin 64) :
    val_main_v64 (F := Ideal) x0 x1 x2 x3 (ix4 b i g e) = (rrow x0 x1 x2 x3 x4 x5 (qr b i)).kw ⟨64 * g.val + e.val, by omega⟩ := by
  unfold val_main_v64 val_main_v32
  have p := part_at x0 x1 x2 x3 x4 x5 b i 1280 128 (by decide)
  generalize val_main_v25 (F := Ideal) x0 x1 x2 x3 = y at *
  pointwise []
  exact p _ _ (by dsimp only; omega)

theorem v65_at (b : Fin 16) (i : Fin 256) (g : Fin 2) (e : Fin 64) :
    val_main_v65 (F := Ideal) x0 x1 x2 x3 (ix4 b i g e) = (rrow x0 x1 x2 x3 x4 x5 (qr b i)).vw ⟨64 * g.val + e.val, by omega⟩ := by
  unfold val_main_v65 val_main_v33
  have p := part_at x0 x1 x2 x3 x4 x5 b i 1408 128 (by decide)
  generalize val_main_v25 (F := Ideal) x0 x1 x2 x3 = y at *
  pointwise []
  exact p _ _ (by dsimp only; omega)

/-! ## The results -/

/-- Four rows side by side, at an index. -/
theorem kv_of (y z w u : Vec Ideal S4096x128 .f32) (t : Fin 4096) (l : Fin 512) :
    concatenate S4096x512 1 [⟨S4096x128, y⟩, ⟨S4096x128, z⟩, ⟨S4096x128, w⟩, ⟨S4096x128, u⟩]
      concatenates_S4096x128_S4096x128_S4096x128_S4096x128_S4096x512_d1 (ix2 t l)
      = (![y, z, w, u] ⟨l.val / 128, by have := l.isLt; omega⟩) (ix2 t ⟨l.val % 128, by omega⟩) := by
  have hl := l.isLt
  pointwise []
  by_cases h1 : l.val < 128
  · rw [dif_pos h1, show (⟨l.val / 128, by omega⟩ : Fin 4) = 0 from Fin.ext (by show l.val / 128 = 0; omega)]
    refine congrArg (fun e => y (ix2 t e)) (Fin.ext ?_)
    show l.val = l.val % 128
    omega
  rw [dif_neg h1]
  by_cases h2 : l.val - 128 < 128
  · rw [dif_pos h2, show (⟨l.val / 128, by omega⟩ : Fin 4) = 1 from Fin.ext (by show l.val / 128 = 1; omega)]
    refine congrArg (fun e => z (ix2 t e)) (Fin.ext ?_)
    show l.val - 128 = l.val % 128
    omega
  rw [dif_neg h2]
  by_cases h3 : l.val - 128 - 128 < 128
  · rw [dif_pos h3, show (⟨l.val / 128, by omega⟩ : Fin 4) = 2 from Fin.ext (by show l.val / 128 = 2; omega)]
    refine congrArg (fun e => w (ix2 t e)) (Fin.ext ?_)
    show l.val - 128 - 128 = l.val % 128
    omega
  · rw [dif_neg h3, show (⟨l.val / 128, by omega⟩ : Fin 4) = 3 from Fin.ext (by show l.val / 128 = 3; omega)]
    refine congrArg (fun e => u (ix2 t e)) (Fin.ext ?_)
    show l.val - 128 - 128 - 128 = l.val % 128
    omega

/-- Four heads side by side, the middle two zeros, at an index. -/
theorem cat_of (y : Vec Ideal S16x256x2x64 .f32) (b : Fin 16) (i : Fin 256) (g : Fin 2) (j : Fin 256) :
    concatenate S16x256x2x256 3
          [⟨S16x256x2x64, y⟩,
            ⟨S16x256x2x64, broadcastInDim S16x256x2x64 ![] bcast_S_S16x256x2x64 (constant (F := Ideal) S_ FTy.f32 0#32)⟩,
            ⟨S16x256x2x64, broadcastInDim S16x256x2x64 ![] bcast_S_S16x256x2x64 (constant (F := Ideal) S_ FTy.f32 0#32)⟩,
            ⟨S16x256x2x64, y⟩]
          concatenates_S16x256x2x64_S16x256x2x64_S16x256x2x64_S16x256x2x64_S16x256x2x256_d3 (ix4 b i g j)
      = if j.val / 64 = 0 ∨ j.val / 64 = 3 then y (ix4 b i g ⟨j.val % 64, by omega⟩) else (0 : EReal) := by
  have hj := j.isLt
  pointwise []
  by_cases h1 : j.val < 64
  · rw [dif_pos h1, if_pos (show j.val / 64 = 0 ∨ j.val / 64 = 3 by omega)]
    refine congrArg (fun e => y (ix4 b i g e)) (Fin.ext ?_)
    show j.val = j.val % 64
    omega
  rw [dif_neg h1]
  by_cases h2 : j.val - 64 < 64
  · rw [dif_pos h2, if_neg (show ¬(j.val / 64 = 0 ∨ j.val / 64 = 3) by omega)]
  rw [dif_neg h2]
  by_cases h3 : j.val - 64 - 64 < 64
  · rw [dif_pos h3, if_neg (show ¬(j.val / 64 = 0 ∨ j.val / 64 = 3) by omega)]
  · rw [dif_neg h3, if_pos (show j.val / 64 = 0 ∨ j.val / 64 = 3 by omega)]
    refine congrArg (fun e => y (ix4 b i g e)) (Fin.ext ?_)
    show j.val - 64 - 64 - 64 = j.val % 64
    omega

theorem cast_of (y : Vec Ideal S16x256x2x256 .f32) (b : Fin 16) (i : Fin 256) (l : Fin 512) :
    (truncf (F := Ideal) FTy.bf16 (shapeCast S4096x512 y shapeCasts_S16x256x2x256_S4096x512) bitsLt_bf16_f32 (ix2 (qr b i) l) : EReal)
      = y (ix4 b i ⟨l.val / 256, by have := l.isLt; omega⟩ ⟨l.val % 256, by omega⟩) := by
  have hl := l.isLt
  pointwise []
  refine congrArg y (funext fun a => Fin.ext ?_)
  match a with
  | ⟨0, _⟩ => show (b.val * 256 + i.val) / 256 = b.val; omega
  | ⟨1, _⟩ => show (b.val * 256 + i.val) % 256 = i.val; omega
  | ⟨2, _⟩ => show l.val / 256 = l.val / 256; omega
  | ⟨3, _⟩ => rfl

theorem cast64_of (y : Vec Ideal S16x256x2x64 .f32) (b : Fin 16) (i : Fin 256) (l : Fin 128) :
    shapeCast S4096x128 y shapeCasts_S16x256x2x64_S4096x128 (ix2 (qr b i) l)
      = y (ix4 b i ⟨l.val / 64, by have := l.isLt; omega⟩ ⟨l.val % 64, by omega⟩) := by
  have hl := l.isLt
  pointwise []
  refine congrArg y (funext fun a => Fin.ext ?_)
  match a with
  | ⟨0, _⟩ => show (b.val * 256 + i.val) / 256 = b.val; omega
  | ⟨1, _⟩ => show (b.val * 256 + i.val) % 256 = i.val; omega
  | ⟨2, _⟩ => show l.val / 64 = l.val / 64; omega
  | ⟨3, _⟩ => rfl

/-- The array of four heads, two of them zeros, at an index. -/
theorem beside_of (y : Vec Ideal S16x256x2x64 .f32) (b : Fin 16) (i : Fin 256) (l : Fin 512) (f : Fin 128 → EReal)
    (h : ∀ g e, y (ix4 b i g e) = f ⟨64 * g.val + e.val, by omega⟩) :
    truncf (F := Ideal) FTy.bf16 (shapeCast S4096x512 (concatenate S16x256x2x256 3
          [⟨S16x256x2x64, y⟩,
            ⟨S16x256x2x64, broadcastInDim S16x256x2x64 ![] bcast_S_S16x256x2x64 (constant (F := Ideal) S_ FTy.f32 0#32)⟩,
            ⟨S16x256x2x64, broadcastInDim S16x256x2x64 ![] bcast_S_S16x256x2x64 (constant (F := Ideal) S_ FTy.f32 0#32)⟩,
            ⟨S16x256x2x64, y⟩]
          concatenates_S16x256x2x64_S16x256x2x64_S16x256x2x64_S16x256x2x64_S16x256x2x256_d3)
      shapeCasts_S16x256x2x256_S4096x512) bitsLt_bf16_f32 (ix2 (qr b i) l) = beside f l := by
  have hl := l.isLt
  rw [cast_of, cat_of, h]
  unfold beside
  have e1 : (l.val % 256) / 64 = l.val / 64 % 4 := by omega
  have e2 : (⟨64 * (l.val / 256) + l.val % 256 % 64, by omega⟩ : Fin 128) = ⟨64 * (l.val / 256) + l.val % 64, by omega⟩ :=
    Fin.ext (by show 64 * (l.val / 256) + l.val % 256 % 64 = 64 * (l.val / 256) + l.val % 64; omega)
  dsimp only
  rw [e1, e2]

theorem v74_at (b : Fin 16) (i : Fin 256) (l : Fin 512) :
    val_main_v74 (F := Ideal) x0 x1 x2 x3 x4 (ix2 (qr b i) l) = (rrow x0 x1 x2 x3 x4 x5 (qr b i)).qa l := by
  obtain ⟨g, h, e, rfl⟩ : ∃ (g : Fin 2) (h : Fin 4) (e : Fin 64), l = ⟨256 * g.val + 64 * h.val + e.val, by omega⟩ :=
    ⟨⟨l.val / 256, by omega⟩, ⟨l.val / 64 % 4, by omega⟩, ⟨l.val % 64, by omega⟩,
      Fin.ext (by show l.val = 256 * (l.val / 256) + 64 * (l.val / 64 % 4) + l.val % 64; omega)⟩
  unfold Row.qa
  rw [← v48_at]
  rw [val_main_v74_apply, val_main_v73_apply, val_main_v71_apply]
  refine congrArg (fun z => val_main_v48 (F := Ideal) x0 x1 x2 x3 x4 z * Ideal.ofBits .f32 0x3E000000#32) (funext fun a => Fin.ext ?_)
  match a with
  | ⟨0, _⟩ => show ((b.val * 256 + i.val) * 512 + (256 * g.val + 64 * h.val + e.val)) / 131072 = b.val; omega
  | ⟨1, _⟩ => show ((b.val * 256 + i.val) * 512 + (256 * g.val + 64 * h.val + e.val)) / 512 % 256 = i.val; omega
  | ⟨2, _⟩ => show ((b.val * 256 + i.val) * 512 + (256 * g.val + 64 * h.val + e.val)) / 256 % 2 = g.val; omega
  | ⟨3, _⟩ => show ((b.val * 256 + i.val) * 512 + (256 * g.val + 64 * h.val + e.val)) / 64 % 4 = h.val; omega
  | ⟨4, _⟩ => show ((b.val * 256 + i.val) * 512 + (256 * g.val + 64 * h.val + e.val)) % 64 = e.val; omega

theorem v78_at (b : Fin 16) (i : Fin 256) (l : Fin 512) :
    val_main_v78 (F := Ideal) x0 x1 x2 x3 (ix2 (qr b i) l) = (rrow x0 x1 x2 x3 x4 x5 (qr b i)).qw l := by
  unfold Row.qw
  rw [← part_at x0 x1 x2 x3 x4 x5 b i 768 512 (by decide) l ⟨2304 + l.val, by omega⟩ (by show 2304 + l.val = 1536 + (768 + l.val); omega)]
  rw [val_main_v78_apply, val_main_v77_apply, val_main_v75_apply, val_main_v31_apply]
  refine congrArg (fun z => val_main_v25 (F := Ideal) x0 x1 x2 x3 z * Ideal.ofBits .f32 0x3E000000#32) (funext fun a => Fin.ext ?_)
  match a with
  | ⟨0, _⟩ => show ((b.val * 256 + i.val) * 512 + l.val) / 131072 = b.val; omega
  | ⟨1, _⟩ => show ((b.val * 256 + i.val) * 512 + l.val) / 512 % 256 = i.val; omega
  | ⟨2, _⟩ => show 2304 + ((b.val * 256 + i.val) * 512 + l.val) % 512 = 2304 + l.val; omega

theorem v82_at (b : Fin 16) (i : Fin 256) (l : Fin 512) :
    val_main_v82 (F := Ideal) x0 x1 x2 x3 x5 (ix2 (qr b i) l) = beside (rrow x0 x1 x2 x3 x4 x5 (qr b i)).ka l := by
  have e0 := fun g e => v62_at x0 x1 x2 x3 x4 x5 b i g e
  unfold val_main_v82 val_main_v81 val_main_v80 val_main_v79 val_main_cst_11
  generalize val_main_v62 (F := Ideal) x0 x1 x2 x3 x5 = y at *
  exact beside_of y b i l _ e0

theorem v86_at (b : Fin 16) (i : Fin 256) (l : Fin 512) :
    val_main_v86 (F := Ideal) x0 x1 x2 x3 (ix2 (qr b i) l) = beside (rrow x0 x1 x2 x3 x4 x5 (qr b i)).va l := by
  have e0 := fun g e => v63_at x0 x1 x2 x3 x4 x5 b i g e
  unfold val_main_v86 val_main_v85 val_main_v84 val_main_v83 val_main_cst_12
  generalize val_main_v63 (F := Ideal) x0 x1 x2 x3 = y at *
  exact beside_of y b i l _ e0

theorem v90_at (b : Fin 16) (i : Fin 256) (l : Fin 512) :
    val_main_v90 (F := Ideal) x0 x1 x2 x3 (ix2 (qr b i) l) = beside (rrow x0 x1 x2 x3 x4 x5 (qr b i)).kw l := by
  have e0 := fun g e => v64_at x0 x1 x2 x3 x4 x5 b i g e
  unfold val_main_v90 val_main_v89 val_main_v88 val_main_v87 val_main_cst_13
  generalize val_main_v64 (F := Ideal) x0 x1 x2 x3 = y at *
  exact beside_of y b i l _ e0

theorem v94_at (b : Fin 16) (i : Fin 256) (l : Fin 512) :
    val_main_v94 (F := Ideal) x0 x1 x2 x3 (ix2 (qr b i) l) = beside (rrow x0 x1 x2 x3 x4 x5 (qr b i)).vw l := by
  have e0 := fun g e => v65_at x0 x1 x2 x3 x4 x5 b i g e
  unfold val_main_v94 val_main_v93 val_main_v92 val_main_v91 val_main_cst_14
  generalize val_main_v65 (F := Ideal) x0 x1 x2 x3 = y at *
  exact beside_of y b i l _ e0

theorem v70_at (b : Fin 16) (i : Fin 256) (l : Fin 512) :
    val_main_v70 (F := Ideal) x0 x1 x2 x3 x5 (ix2 (qr b i) l) = (rrow x0 x1 x2 x3 x4 x5 (qr b i)).kv l := by
  obtain ⟨q, d, rfl⟩ : ∃ (q : Fin 4) (d : Fin 128), l = ⟨128 * q.val + d.val, by omega⟩ :=
    ⟨⟨l.val / 128, by omega⟩, ⟨l.val % 128, by omega⟩, Fin.ext (by show l.val = 128 * (l.val / 128) + l.val % 128; omega)⟩
  have hd := d.isLt
  have eq : (⟨(128 * q.val + d.val) / 128, by omega⟩ : Fin 4) = q := Fin.ext (by show (128 * q.val + d.val) / 128 = q.val; omega)
  have ed : (⟨(128 * q.val + d.val) % 128, by omega⟩ : Fin 128) = d := Fin.ext (by show (128 * q.val + d.val) % 128 = d.val; omega)
  have el : (⟨64 * (d.val / 64) + d.val % 64, by omega⟩ : Fin 128) = d := Fin.ext (by show 64 * (d.val / 64) + d.val % 64 = d.val; omega)
  unfold val_main_v70 Row.kv
  rw [kv_of]
  dsimp only
  rw [eq, ed]
  match q with
  | ⟨0, _⟩ =>
    show val_main_v66 (F := Ideal) x0 x1 x2 x3 x5 (ix2 (qr b i) d) = (rrow x0 x1 x2 x3 x4 x5 (qr b i)).ka d
    unfold val_main_v66
    exact (cast64_of _ b i d).trans ((v62_at x0 x1 x2 x3 x4 x5 b i _ _).trans (congrArg _ el))
  | ⟨1, _⟩ =>
    show val_main_v67 (F := Ideal) x0 x1 x2 x3 (ix2 (qr b i) d) = (rrow x0 x1 x2 x3 x4 x5 (qr b i)).va d
    unfold val_main_v67
    exact (cast64_of _ b i d).trans ((v63_at x0 x1 x2 x3 x4 x5 b i _ _).trans (congrArg _ el))
  | ⟨2, _⟩ =>
    show val_main_v68 (F := Ideal) x0 x1 x2 x3 (ix2 (qr b i) d) = (rrow x0 x1 x2 x3 x4 x5 (qr b i)).kw d
    unfold val_main_v68
    exact (cast64_of _ b i d).trans ((v64_at x0 x1 x2 x3 x4 x5 b i _ _).trans (congrArg _ el))
  | ⟨3, _⟩ =>
    show val_main_v69 (F := Ideal) x0 x1 x2 x3 (ix2 (qr b i) d) = (rrow x0 x1 x2 x3 x4 x5 (qr b i)).vw d
    unfold val_main_v69
    exact (cast64_of _ b i d).trans ((v65_at x0 x1 x2 x3 x4 x5 b i _ _).trans (congrArg _ el))

end Cert.Proof.InRef
-- ==== Proof.InClaim.lean ====
/- Hand-written, untrusted: the claims of the attention inputs. -/
module

public import proofs.«01_k».proof.Defs
public import proofs.«01_k».proof.Proof.InArray
public import proofs.«01_k».proof.Proof.InRef
public import proofs.«01_k».proof.Proof.Real
public import proofs.«01_k».proof.Proof.Gen.In
public import proofs.«01_k».proof.Proof.Gen.In.Frame

@[expose] public section

noncomputable section

namespace Cert.Proof.InClaim

open Idealize.ShloMosaic Idealize.ShloMosaic.TcCoe Idealize.SL.Sem Cert.Proof.InSpec Cert.Proof.InSum

theorem pre_facts : Cert.Pre_finite_input.Facts := ⟨by decide, by decide, by decide, by decide⟩

theorem frame_p : Cert.quiescent_In := fun m ρ _ => Cert.In.Gen.frame m ρ

theorem frame_pi : Cert.quiescent_InIdeal := fun m ρ _ => Cert.InIdeal.Gen.frame m ρ

theorem frame_pi_pre : Cert.quiescent_InIdeal_pre_finite_input (hPre_finite_input := pre_facts) :=
  fun m ρ _ => Cert.InIdeal.Gen.frame m ρ

theorem frame_ri : Cert.quiescent_InRefIdeal := fun m ρ _ =>
  (θ_run Cert.InRefIdeal.defs _ _).mono (fun r h => ⟨fun c => (h c).2.2.2.2.2.2.2, sem_eq_zero_of_no_sems (by decide) r.2⟩)
    (Cert.InRefIdeal.Value.run (F := Ideal) m ρ)

theorem frame_ri_pre : Cert.quiescent_InRefIdeal_pre_finite_input (hPre_finite_input := pre_facts) := fun m ρ _ =>
  (θ_run Cert.InRefIdeal.defs _ _).mono (fun r h => ⟨fun c => (h c).2.2.2.2.2.2.2, sem_eq_zero_of_no_sems (by decide) r.2⟩)
    (Cert.InRefIdeal.Value.run (F := Ideal) m ρ)

theorem preserves : Cert.preserves_In_InIdeal := trivial

/-- From real arguments, the projection's columns are real. -/
theorem reals (m : (ℓ : Loc Cert.InIdeal.nD Cert.InIdeal.τ Cert.InIdeal.sig) → Buf (Elt Ideal) ℓ)
    (h : Cert.Pre_InIdeal_finite_input (hPre_finite_input := pre_facts) m) (c : Dev Cert.InIdeal.nD) :
    InArray.Reals m c := by
  obtain ⟨h0, h1, h2, h3⟩ := h c
  have r0 := Real.real_of_pre _ _ h0
  have r1 := Real.real_of_pre _ _ h1
  have r2 := Real.real_of_pre _ _ h2
  have r3 := Real.real_of_pre _ _ h3
  exact fun t e => acc_real (InHost.arow m c t) (fun k => r0 _) (fun k => r2 _) (fun k => r1 _) (fun k => r1 _) (fun k c => r3 _) e

section

variable (m : (ℓ : Loc Cert.InIdeal.nD Cert.InIdeal.τ Cert.InIdeal.sig) → Buf (Elt Ideal) ℓ) (c : Dev Cert.InIdeal.nD)
  (x0 : Vec Ideal Cert.InRefIdeal.S16x256x1024 .f32) (x1 : Vec Ideal Cert.InRefIdeal.S1x6x1024 .f32)
  (x2 : Vec Ideal Cert.InRefIdeal.S1024 .f32) (x3 : Vec Ideal Cert.InRefIdeal.S1024x7168 .f32)
  (x4 x5 : Vec Ideal Cert.InRefIdeal.S64 .f32)

/-- From equal arguments, the tokens are equal. -/
theorem row_eq
    (h0 : x0 = m ((c.tc : Thread Cert.InIdeal.nD Cert.InIdeal.τ).loc Cert.InIdeal.main_arg0))
    (h1 : x1 = m ((c.tc : Thread Cert.InIdeal.nD Cert.InIdeal.τ).loc Cert.InIdeal.main_arg1))
    (h2 : x2 = m ((c.tc : Thread Cert.InIdeal.nD Cert.InIdeal.τ).loc Cert.InIdeal.main_arg2))
    (h3 : x3 = m ((c.tc : Thread Cert.InIdeal.nD Cert.InIdeal.τ).loc Cert.InIdeal.main_arg3))
    (h4 : x4 = m ((c.tc : Thread Cert.InIdeal.nD Cert.InIdeal.τ).loc Cert.InIdeal.main_arg4))
    (h5 : x5 = m ((c.tc : Thread Cert.InIdeal.nD Cert.InIdeal.τ).loc Cert.InIdeal.main_arg5)) :
    InRef.rrow x0 x1 x2 x3 x4 x5 = InHost.arow m c := by
  rw [h0, h1, h2, h3, h4, h5]
  rfl

theorem idx_surj (i : Cert.InRefIdeal.S4096x512.Idx) : ∃ (b : Fin 16) (p : Fin 256) (x : Fin 512), i = ix2 (InRef.qr b p) x := by
  obtain ⟨b, p, h⟩ := InRef.qr_surj (i 0)
  exact ⟨b, p, i 1, funext fun a => by match a with | ⟨0, _⟩ => exact h | ⟨1, _⟩ => rfl⟩

theorem ref74_eq (h : InRef.rrow x0 x1 x2 x3 x4 x5 = InHost.arow m c) :
    Cert.InRefIdeal.Read.val_main_v74 (F := Ideal) x0 x1 x2 x3 x4 = InArray.R7 m c := by
  funext i
  obtain ⟨b, p, x, rfl⟩ := idx_surj i
  exact (InRef.v74_at x0 x1 x2 x3 x4 x5 b p x).trans (congrFun (congrArg (Row.qa) (congrFun h (InRef.qr b p))) x)

theorem ref78_eq (h : InRef.rrow x0 x1 x2 x3 x4 x5 = InHost.arow m c) :
    Cert.InRefIdeal.Read.val_main_v78 (F := Ideal) x0 x1 x2 x3 = InArray.R8 m c := by
  funext i
  obtain ⟨b, p, x, rfl⟩ := idx_surj i
  exact (InRef.v78_at x0 x1 x2 x3 x4 x5 b p x).trans (congrFun (congrArg (Row.qw) (congrFun h (InRef.qr b p))) x)

theorem ref82_eq (h : InRef.rrow x0 x1 x2 x3 x4 x5 = InHost.arow m c) :
    Cert.InRefIdeal.Read.val_main_v82 (F := Ideal) x0 x1 x2 x3 x5 = InArray.R9 m c := by
  funext i
  obtain ⟨b, p, x, rfl⟩ := idx_surj i
  exact (InRef.v82_at x0 x1 x2 x3 x4 x5 b p x).trans (congrFun (congrArg (fun R => beside (Row.ka R)) (congrFun h (InRef.qr b p))) x)

theorem ref86_eq (h : InRef.rrow x0 x1 x2 x3 x4 x5 = InHost.arow m c) :
    Cert.InRefIdeal.Read.val_main_v86 (F := Ideal) x0 x1 x2 x3 = InArray.R10 m c := by
  funext i
  obtain ⟨b, p, x, rfl⟩ := idx_surj i
  exact (InRef.v86_at x0 x1 x2 x3 x4 x5 b p x).trans (congrFun (congrArg (fun R => beside (Row.va R)) (congrFun h (InRef.qr b p))) x)

theorem ref90_eq (h : InRef.rrow x0 x1 x2 x3 x4 x5 = InHost.arow m c) :
    Cert.InRefIdeal.Read.val_main_v90 (F := Ideal) x0 x1 x2 x3 = InArray.R11 m c := by
  funext i
  obtain ⟨b, p, x, rfl⟩ := idx_surj i
  exact (InRef.v90_at x0 x1 x2 x3 x4 x5 b p x).trans (congrFun (congrArg (fun R => beside (Row.kw R)) (congrFun h (InRef.qr b p))) x)

theorem ref94_eq (h : InRef.rrow x0 x1 x2 x3 x4 x5 = InHost.arow m c) :
    Cert.InRefIdeal.Read.val_main_v94 (F := Ideal) x0 x1 x2 x3 = InArray.R12 m c := by
  funext i
  obtain ⟨b, p, x, rfl⟩ := idx_surj i
  exact (InRef.v94_at x0 x1 x2 x3 x4 x5 b p x).trans (congrFun (congrArg (fun R => beside (Row.vw R)) (congrFun h (InRef.qr b p))) x)

theorem ref70_eq (h : InRef.rrow x0 x1 x2 x3 x4 x5 = InHost.arow m c) :
    Cert.InRefIdeal.Read.val_main_v70 (F := Ideal) x0 x1 x2 x3 x5 = InArray.R13 m c := by
  funext i
  obtain ⟨b, p, x, rfl⟩ := idx_surj i
  exact (InRef.v70_at x0 x1 x2 x3 x4 x5 b p x).trans (congrFun (congrArg (Row.kv) (congrFun h (InRef.qr b p))) x)

end

theorem algebraic : Cert.algebraic_InIdeal_InRefIdeal_pre_finite_input (hPre_finite_input := pre_facts) := by
  intro m g m' g' hpre hargs
  refine ⟨fun c => InArray.R7 m c, fun c => InArray.R8 m c, fun c => InArray.R9 m c, fun c => InArray.R10 m c, fun c => InArray.R11 m c, fun c => InArray.R12 m c, fun c => InArray.R13 m c, ?_, ?_⟩
  · exact (θ_run Cert.InIdeal.defs _ _).mono
      (fun r h c => ⟨(h c).1.trans (InArray.final7 m c (reals m hpre c)),
        (h c).2.1.trans (InArray.final8 m c),
        (h c).2.2.1.trans (InArray.final9 m c (reals m hpre c)),
        (h c).2.2.2.1.trans (InArray.final10 m c),
        (h c).2.2.2.2.1.trans (InArray.final11 m c),
        (h c).2.2.2.2.2.1.trans (InArray.final12 m c),
        (h c).2.2.2.2.2.2.1.trans (InArray.final13 m c (reals m hpre c)),
        (h c).2.2.2.2.2.2.2⟩)
      (Cert.InIdeal.Value.run_blocks m g)
  · refine (θ_run Cert.InRefIdeal.defs _ _).mono (fun r h c => ?_) (Cert.InRefIdeal.Value.run (F := Ideal) m' g')
    obtain ⟨h0, h1, h2, h3, h4, h5⟩ := hargs c
    have hrow := row_eq m c _ _ _ _ _ _ h0 h1 h2 h3 h4 h5
    exact ⟨(h c).1.trans ((Cert.InRefIdeal.Read.val_main_v74_eq m' c).trans (ref74_eq m c _ _ _ _ _ _ hrow)),
      (h c).2.1.trans ((Cert.InRefIdeal.Read.val_main_v78_eq _ _ _ _).trans (ref78_eq m c _ _ _ _ _ _ hrow)),
      (h c).2.2.1.trans ((Cert.InRefIdeal.Read.val_main_v82_eq m' c).trans (ref82_eq m c _ _ _ _ _ _ hrow)),
      (h c).2.2.2.1.trans ((Cert.InRefIdeal.Read.val_main_v86_eq _ _ _ _).trans (ref86_eq m c _ _ _ _ _ _ hrow)),
      (h c).2.2.2.2.1.trans ((Cert.InRefIdeal.Read.val_main_v90_eq _ _ _ _).trans (ref90_eq m c _ _ _ _ _ _ hrow)),
      (h c).2.2.2.2.2.1.trans ((Cert.InRefIdeal.Read.val_main_v94_eq _ _ _ _).trans (ref94_eq m c _ _ _ _ _ _ hrow)),
      (h c).2.2.2.2.2.2.1.trans ((Cert.InRefIdeal.Read.val_main_v70_eq m' c).trans (ref70_eq m c _ _ _ _ _ _ hrow)),
      (h c).2.2.2.2.2.2.2⟩

end Cert.Proof.InClaim
-- ==== Proof.RotSpec.lean ====
/- Hand-written, untrusted: the attention inputs at one token of the sample, as a function of the token's row, the weights and the
   angles of its place. -/
module

public import proofs.«01_k».proof.Proof.InSpec

@[expose] public section

noncomputable section

namespace Cert.Proof.RotSpec

open Idealize.ShloMosaic Cert.Proof.InSpec

/-- Lane `l` of the heads of which each pair of lanes, 32 apart, is turned by its angle. -/
def turn {n : ℕ} (hn : 64 ∣ n) (cs sn : Fin 32 → EReal) (v : Fin n → EReal) (l : Fin n) : EReal :=
  if l.val % 64 < 32 then
    v (inHead hn l ⟨l.val % 32, by omega⟩) * cs ⟨l.val % 32, by omega⟩
      - v (inHead hn l ⟨l.val % 32 + 32, by omega⟩) * sn ⟨l.val % 32, by omega⟩
  else
    v (inHead hn l ⟨l.val % 32, by omega⟩) * sn ⟨l.val % 32, by omega⟩
      + v (inHead hn l ⟨l.val % 32 + 32, by omega⟩) * cs ⟨l.val % 32, by omega⟩

variable (R : Row) (cs sn : Fin 32 → EReal)

def ka : Fin 128 → EReal := turn (by decide) cs sn R.ka
def kw : Fin 128 → EReal := turn (by decide) cs sn R.kw

/-- The queries of the full attention, turned and scaled. -/
def qa (l : Fin 512) : EReal :=
  turn (by decide) cs sn (heads (by decide) (R.part 0 512 (by decide)) R.qg) l * Ideal.ofBits .f32 0x3E000000#32

/-- The queries of the windowed attention, turned and scaled. -/
def qw (l : Fin 512) : EReal := turn (by decide) cs sn (R.part 768 512 (by decide)) l * Ideal.ofBits .f32 0x3E000000#32

/-- The four rows of keys and values, side by side. -/
def kv (l : Fin 512) : EReal :=
  (![ka R cs sn, R.va, kw R cs sn, R.vw] ⟨l.val / 128, by have := l.isLt; omega⟩) ⟨l.val % 128, by omega⟩

/-- Token `t` of the whole arrays. -/
def rrow (x : Fin 16384 → Fin 1024 → EReal) (mod : Fin 8 → Fin 6 → Fin 1024 → EReal) (n1 : Fin 1024 → EReal)
    (wi : Fin 1024 → Fin 7168 → EReal) (qg kg : Fin 64 → EReal) (t : Fin 16384) : Row where
  x := x t
  n1 := n1
  sc := mod ⟨t.val / 2048, by have := t.isLt; omega⟩ 1
  sh := mod ⟨t.val / 2048, by have := t.isLt; omega⟩ 0
  w k c := wi k ⟨1536 + c.val, by have := c.isLt; omega⟩
  qg l := qg ⟨l.val % 64, by omega⟩
  kg l := kg ⟨l.val % 64, by omega⟩

/-- Lane `l` of the signed sines of a whole row. -/
def signed (sn : Fin 32 → EReal) {n : ℕ} (l : Fin n) : EReal :=
  if l.val % 64 < 32 then -sn ⟨l.val % 32, by omega⟩ else sn ⟨l.val % 32, by omega⟩

/-- A turned lane from the whole row's cosines and signed sines and the lanes rolled by 32 either way. -/
theorem turn_eq {n : ℕ} (hn : 64 ∣ n) (v : Fin n → EReal) (l : Fin n) (i j : Fin n)
    (hi : i.val = (l.val + 32) % n) (hj : j.val = (l.val + (n - 32)) % n) :
    v l * cs ⟨l.val % 32, by omega⟩ + (if l.val % 64 < 32 then v i else v j) * signed sn l = turn hn cs sn v l := by
  unfold turn signed
  obtain ⟨q, rfl⟩ := hn
  have hl := l.isLt
  by_cases h : l.val % 64 < 32
  · rw [if_pos h, if_pos h, if_pos h, mul_neg, ← sub_eq_add_neg]
    have e1 : l = inHead (Dvd.intro q rfl) l ⟨l.val % 32, by omega⟩ := Fin.ext (by
      show l.val = 64 * (l.val / 64) + l.val % 32
      omega)
    have e2 : i = inHead (Dvd.intro q rfl) l ⟨l.val % 32 + 32, by omega⟩ := Fin.ext (by
      show i.val = 64 * (l.val / 64) + (l.val % 32 + 32)
      rw [hi, Nat.mod_eq_of_lt (by omega)]
      omega)
    rw [← e1, ← e2]
  · rw [if_neg h, if_neg h, if_neg h, add_comm]
    have e1 : j = inHead (Dvd.intro q rfl) l ⟨l.val % 32, by omega⟩ := Fin.ext (by
      show j.val = 64 * (l.val / 64) + l.val % 32
      rw [hj, show l.val + (64 * q - 32) = l.val - 32 + 64 * q by omega, Nat.add_mod_right, Nat.mod_eq_of_lt (by omega)]
      omega)
    have e2 : l = inHead (Dvd.intro q rfl) l ⟨l.val % 32 + 32, by omega⟩ := Fin.ext (by
      show l.val = 64 * (l.val / 64) + (l.val % 32 + 32)
      omega)
    rw [← e1, ← e2]

end Cert.Proof.RotSpec
-- ==== Proof.RotPay.lean ====
/- Hand-written, untrusted: the payloads of the sample's body at an index: the turned lanes; the rest are the prompt's payloads. -/
module

public import proofs.«01_k».proof.Proof.InBody
public import proofs.«01_k».proof.Proof.RotSpec
public import proofs.«01_k».proof.Proof.Gen.RotIdeal.Frame

@[expose] public section

set_option maxRecDepth 16384

noncomputable section

namespace Cert.Proof.RotPay

open Cert.RotIdeal Cert.RotIdeal.Gen Idealize.ShloMosaic Idealize.ShloMosaic.TcCoe Idealize.SL.Sem

/-! ## Lanes rolled by 32 -/

theorem fwd5_at (v : FVec Ideal S512x512 .f32) (r : Fin 512) (l : Fin 512) :
    dynamicRotate 1 32#32 none v rotates_S512x512_d1 (ix2 r l) = v (ix2 r ⟨(l.val + (512 - 32)) % 512, by omega⟩) := by
  refine congrArg v (funext fun a => Fin.ext ?_)
  match a with
  | ⟨0, _⟩ => rfl
  | ⟨1, _⟩ =>
    show (l.val + 512 - (32 + 0) % 512) % 512 = (l.val + (512 - 32)) % 512
    omega

theorem bwd5_at (v : FVec Ideal S512x512 .f32) (r : Fin 512) (l : Fin 512) :
    dynamicRotate 1 480#32 none v rotates_S512x512_d1 (ix2 r l) = v (ix2 r ⟨(l.val + 32) % 512, by omega⟩) := by
  refine congrArg v (funext fun a => Fin.ext ?_)
  match a with
  | ⟨0, _⟩ => rfl
  | ⟨1, _⟩ =>
    show (l.val + 512 - (480 + 0) % 512) % 512 = (l.val + 32) % 512
    omega

theorem fwd1_at (v : FVec Ideal S512x128 .f32) (r : Fin 512) (l : Fin 128) :
    dynamicRotate 1 32#32 none v rotates_S512x128_d1 (ix2 r l) = v (ix2 r ⟨(l.val + (128 - 32)) % 128, by omega⟩) := by
  refine congrArg v (funext fun a => Fin.ext ?_)
  match a with
  | ⟨0, _⟩ => rfl
  | ⟨1, _⟩ =>
    show (l.val + 128 - (32 + 0) % 128) % 128 = (l.val + (128 - 32)) % 128
    omega

theorem bwd1_at (v : FVec Ideal S512x128 .f32) (r : Fin 512) (l : Fin 128) :
    dynamicRotate 1 96#32 none v rotates_S512x128_d1 (ix2 r l) = v (ix2 r ⟨(l.val + 32) % 128, by omega⟩) := by
  refine congrArg v (funext fun a => Fin.ext ?_)
  match a with
  | ⟨0, _⟩ => rfl
  | ⟨1, _⟩ =>
    show (l.val + 128 - (96 + 0) % 128) % 128 = (l.val + 32) % 128
    omega

/-- The kernel's comparison of lane `l` with the middle of its head. -/
def side (l : ℕ) : BitVec 1 :=
  let n : BitVec 32 := Scalar.select (Scalar.cmpi CmpIPredicate.eq 64#32 0#32) 1#32 64#32
  let q : BitVec 32 := IntOp.remsi ArithUnit.vector (BitVec.ofNat 32 l) n
  IntOp.cmpi CmpIPredicate.slt
    (Scalar.select (IntOp.andi (IntOp.xori (IntOp.cmpi CmpIPredicate.slt q 0#32) (Scalar.cmpi CmpIPredicate.slt n 0#32))
      (IntOp.cmpi CmpIPredicate.ne q 0#32)) (IntOp.addi q n) q) 32#32

theorem side_eq : ∀ l : Fin 512, side l.val = if l.val % 64 < 32 then 1#1 else 0#1 := by
  decide +kernel

theorem select_side {l : ℕ} (hl : l < 512) (b f : EReal) : Scalar.select (side l) b f = if l % 64 < 32 then b else f := by
  rw [side_eq ⟨l, hl⟩]
  by_cases h : l % 64 < 32
  · rw [if_pos h, if_pos h]; rfl
  · rw [if_neg h, if_neg h]; rfl

theorem turn5_at (v c s f b : FVec Ideal S512x512 .f32) (r : Fin 512) (l : Fin 512) :
    k0_pay17 v c s f b (iota .tc S512x512 32 [1] iota_S512x512_d1_w32) (ix2 r l)
      = v (ix2 r l) * c (ix2 r l) + (if l.val % 64 < 32 then b (ix2 r l) else f (ix2 r l)) * s (ix2 r l) := by
  unfold k0_pay17
  pointwise []
  exact congrArg (fun z => v (ix2 r l) * c (ix2 r l) + z * s (ix2 r l)) (select_side l.isLt _ _)

theorem turn1_at (v : FVec Ideal S512x128 .f32) (c s : FVec Ideal S512x512 .f32) (r : Fin 512) (l : Fin 128) :
    k0_pay20 v c s (ix2 r l)
      = v (ix2 r l) * c (ix2 r (l.castLE (by decide)))
        + (if l.val % 64 < 32 then v (ix2 r ⟨(l.val + 32) % 128, by omega⟩) else v (ix2 r ⟨(l.val + (128 - 32)) % 128, by omega⟩))
          * s (ix2 r (l.castLE (by decide))) := by
  rw [← fwd1_at v r l, ← bwd1_at v r l]
  unfold k0_pay20
  generalize dynamicRotate 1 32#32 none v rotates_S512x128_d1 = f
  generalize dynamicRotate 1 96#32 none v rotates_S512x128_d1 = b
  pointwise []
  exact congrArg (fun z => v (ix2 r l) * c (ix2 r (l.castLE (by decide))) + z * s (ix2 r (l.castLE (by decide))))
    (select_side (lt_of_lt_of_le l.isLt (by decide)) _ _)

theorem wq_eq (v c s : FVec Ideal S512x512 .f32) :
    k0_pay19 v c s (k0_pay18 v) = k0_pay17 v c s (dynamicRotate 1 32#32 none v rotates_S512x512_d1)
      (dynamicRotate 1 480#32 none v rotates_S512x512_d1) (iota .tc S512x512 32 [1] iota_S512x512_d1_w32) := rfl

theorem wk_eq (v : FVec Ideal S512x128 .f32) (c s : FVec Ideal S512x512 .f32) :
    k0_pay28 v (k0_pay21 c) (k0_pay22 s) (k0_pay23 v) (k0_pay24 v) (Scalar.select (Scalar.cmpi .eq 64#32 0#32) 1#32 64#32)
      k0_pay25 k0_pay26 k0_pay27 0#32 = k0_pay20 v c s := rfl

/-! ## The norm over the heads of the queries -/

theorem nq_at (a : FVec Ideal S512x512 .f32) (v36 : Vec Ideal S512x512 .bf16) (v51 : Vec Ideal S1x512 .f32) (r : Fin 512) (l : Fin 512) :
    k0_pay11 a (k0_pay8 v36) (mulf a a) (truncf .bf16 (mulf a a) bitsLt_bf16_f32) v51 (ix2 r l)
      = a (ix2 r l) * Ideal.rsqrt ((∑ k : Fin 512, a (ix2 r k) * a (ix2 r k) * v36 (ix2 k l)
          + ∑ k : Fin 512, (a (ix2 r k) * a (ix2 r k) - a (ix2 r k) * a (ix2 r k)) * v36 (ix2 k l))
            * Ideal.ofBits .f32 0x3C800000#32 + Ideal.ofBits .f32 0x358637BD#32) * v51 (ix2 0 l) := by
  unfold k0_pay11 k0_pay8
  pointwise []

theorem scale_at (v : FVec Ideal S512x512 .f32) (r : Fin 512) (l : Fin 512) :
    k0_pay29 v (ix2 r l) = v (ix2 r l) * Ideal.ofBits .f32 0x3E000000#32 := by
  unfold k0_pay29
  pointwise []

theorem cos_at (v : Vec Ideal S512x512 .f32) : k0_pay13 v = v := by
  unfold k0_pay13
  funext y
  pointwise []

end Cert.Proof.RotPay

end
-- ==== Proof.RotBody.lean ====
/- Hand-written, untrusted: the values that the sample's body stores are the turned heads of the rows of its input blocks. -/
module

public import proofs.«01_k».proof.Proof.RotPay
public import Idealize.ShloMosaic.Lib.Pipeline.CanonAppend

@[expose] public section

set_option maxRecDepth 16384

noncomputable section

namespace Cert.Proof.RotBody

open Cert.RotIdeal Cert.RotIdeal.Gen Idealize.ShloMosaic Idealize.ShloMosaic.TcCoe Idealize.SL.Sem
open Cert.Proof.InSpec Cert.Proof.InSum
open Cert.Proof.InPay (lane)
open Cert.Proof.InBody (brow scale shift ofRows full2 emb0 embAll acc_eq)
open Cert.Proof.RotSpec (turn signed turn_eq)
open Cert.Proof.RotPay

/-! ## Turned lanes -/

theorem turned5 (v : FVec Ideal S512x512 .f32) (x7 x8 : Vec Ideal S512x512 .f32) (r : Fin 512) (f : Fin 512 → EReal) (cs sn : Fin 32 → EReal)
    (hv : ∀ l, v (ix2 r l) = f l) (h7 : ∀ l, x7 (ix2 r l) = cs ⟨l.val % 32, by omega⟩) (h8 : ∀ l, x8 (ix2 r l) = signed sn l) (l : Fin 512) :
    k0_pay17 v (k0_pay13 x7) (k0_pay14 x8) (dynamicRotate 1 32#32 none v rotates_S512x512_d1)
      (dynamicRotate 1 480#32 none v rotates_S512x512_d1) (iota .tc S512x512 32 [1] iota_S512x512_d1_w32) (ix2 r l)
      = turn (by decide) cs sn f l := by
  have c8 : k0_pay14 x8 = x8 := cos_at x8
  rw [turn5_at, fwd5_at, bwd5_at, cos_at, c8, hv, hv, hv, h7, h8]
  exact turn_eq cs sn (by decide) f l _ _ rfl rfl

theorem turned1 (v : FVec Ideal S512x128 .f32) (x7 x8 : Vec Ideal S512x512 .f32) (r : Fin 512) (f : Fin 128 → EReal) (cs sn : Fin 32 → EReal)
    (hv : ∀ l, v (ix2 r l) = f l) (h7 : ∀ l, x7 (ix2 r l) = cs ⟨l.val % 32, by omega⟩) (h8 : ∀ l, x8 (ix2 r l) = signed sn l) (l : Fin 128) :
    k0_pay20 v (k0_pay13 x7) (k0_pay14 x8) (ix2 r l) = turn (by decide) cs sn f l := by
  have c8 : k0_pay14 x8 = x8 := cos_at x8
  rw [turn1_at, cos_at, c8, hv, hv, hv, h7, h8]
  exact turn_eq cs sn (by decide) f l _ _ rfl rfl

section

variable (x0 : Vec Ideal S512x1024 .f32) (x1 : Vec Ideal S1x6x1024 .f32) (x2 : Vec Ideal S1x1024 .f32) (x3 : Vec Ideal S1024x1536 .bf16)
  (x4 : Vec Ideal S512x512 .bf16) (x5 : Vec Ideal S1x512 .f32) (x6 : Vec Ideal S1x128 .f32) (x7 x8 : Vec Ideal S512x512 .f32)

/-- The queries of the full attention after the norm. -/
abbrev nq : FVec Ideal S512x512 .f32 :=
  k0_pay11 (k0_pay2 x0 x2 (scale x1) (shift x1) x3) (k0_pay8 x4) (k0_pay9 x0 x2 (scale x1) (shift x1) x3)
    (k0_pay10 x0 x2 (scale x1) (shift x1) x3) x5

theorem nqBlock (h4 : ∀ k l, x4 (ix2 k l) = if k.val / 64 = l.val / 64 then 1 else 0)
    (r : Fin 512) (hr : ∀ c, IsReal ((brow x0 x1 x2 x3 x5 x6 r).acc c)) (l : Fin 512) :
    nq x0 x1 x2 x3 x4 x5 (ix2 r l)
      = heads (by decide) ((brow x0 x1 x2 x3 x5 x6 r).part 0 512 (by decide)) (brow x0 x1 x2 x3 x5 x6 r).qg l := by
  have e : ∀ k, k0_pay2 x0 x2 (scale x1) (shift x1) x3 (ix2 r k) = (brow x0 x1 x2 x3 x5 x6 r).part 0 512 (by decide) k := fun k =>
    (InPay.part3_at _ _ _ _ _ r k).trans (acc_eq x0 x1 x2 x3 x5 x6 r _)
  refine (nq_at (k0_pay2 x0 x2 (scale x1) (shift x1) x3) x4 x5 r l).trans ?_
  simp only [e]
  exact heads_eq (by decide) _ (fun l => x5 (ix2 0 l)) (fun k => x4 (ix2 k l)) l (fun k => hr _) (fun k => h4 _ _)

variable (cs sn : Fin 512 → Fin 32 → EReal) (h7 : ∀ r l, x7 (ix2 r l) = cs r ⟨l.val % 32, by omega⟩)
  (h8 : ∀ r l, x8 (ix2 r l) = signed (sn r) l)

include h7 h8

theorem qaBlock (h4 : ∀ k l, x4 (ix2 k l) = if k.val / 64 = l.val / 64 then 1 else 0)
    (r : Fin 512) (hr : ∀ c, IsReal ((brow x0 x1 x2 x3 x5 x6 r).acc c)) (l : Fin 512) :
    k0_pay29 (k0_pay17 (nq x0 x1 x2 x3 x4 x5) (k0_pay13 x7) (k0_pay14 x8)
        (dynamicRotate 1 32#32 none (nq x0 x1 x2 x3 x4 x5) rotates_S512x512_d1)
        (dynamicRotate 1 480#32 none (nq x0 x1 x2 x3 x4 x5) rotates_S512x512_d1) (iota .tc S512x512 32 [1] iota_S512x512_d1_w32)) (ix2 r l)
      = RotSpec.qa (brow x0 x1 x2 x3 x5 x6 r) (cs r) (sn r) l := by
  rw [scale_at]
  exact congrArg (fun z => z * Ideal.ofBits .f32 0x3E000000#32)
    (turned5 _ x7 x8 r _ (cs r) (sn r) (nqBlock x0 x1 x2 x3 x4 x5 x6 h4 r hr) (h7 r) (h8 r) l)

theorem qwBlock (r : Fin 512) (l : Fin 512) :
    k0_pay30 (k0_pay19 (k0_pay5 x0 x2 (scale x1) (shift x1) x3) (k0_pay13 x7) (k0_pay14 x8)
        (k0_pay18 (k0_pay5 x0 x2 (scale x1) (shift x1) x3))) (ix2 r l)
      = RotSpec.qw (brow x0 x1 x2 x3 x5 x6 r) (cs r) (sn r) l := by
  rw [wq_eq]
  refine (scale_at _ r l).trans ?_
  exact congrArg (fun z => z * Ideal.ofBits .f32 0x3E000000#32)
    (turned5 _ x7 x8 r _ (cs r) (sn r) (fun l => (InPay.part6_at _ _ _ _ _ r l).trans (acc_eq x0 x1 x2 x3 x5 x6 r _)) (h7 r) (h8 r) l)

theorem kaBlock (h4 : ∀ k l, x4 (ix2 k l) = if k.val / 64 = l.val / 64 then 1 else 0)
    (r : Fin 512) (hr : ∀ c, IsReal ((brow x0 x1 x2 x3 x5 x6 r).acc c)) (l : Fin 128) :
    k0_pay20 (k0_pay12 (k0_pay3 x0 x2 (scale x1) (shift x1) x3) (k0_pay8 x4) x6) (k0_pay13 x7) (k0_pay14 x8) (ix2 r l)
      = RotSpec.ka (brow x0 x1 x2 x3 x5 x6 r) (cs r) (sn r) l :=
  turned1 _ x7 x8 r _ (cs r) (sn r) (InBody.kaBlock x0 x1 x2 x3 x4 x5 x6 h4 r hr) (h7 r) (h8 r) l

theorem kwBlock (r : Fin 512) (l : Fin 128) :
    k0_pay20 (k0_pay6 x0 x2 (scale x1) (shift x1) x3) (k0_pay13 x7) (k0_pay14 x8) (ix2 r l)
      = RotSpec.kw (brow x0 x1 x2 x3 x5 x6 r) (cs r) (sn r) l :=
  turned1 _ x7 x8 r _ (cs r) (sn r) (InBody.kwBlock x0 x1 x2 x3 x5 x6 r) (h7 r) (h8 r) l

end

theorem vaBlock (x0 : Vec Ideal S512x1024 .f32) (x1 : Vec Ideal S1x6x1024 .f32) (x2 : Vec Ideal S1x1024 .f32) (x3 : Vec Ideal S1024x1536 .bf16)
    (x5 : Vec Ideal S1x512 .f32) (x6 : Vec Ideal S1x128 .f32) (r : Fin 512) (l : Fin 128) :
    k0_pay4 x0 x2 (scale x1) (shift x1) x3 (ix2 r l) = (brow x0 x1 x2 x3 x5 x6 r).va l :=
  InBody.vaBlock x0 x1 x2 x3 x5 x6 r l

theorem vwBlock (x0 : Vec Ideal S512x1024 .f32) (x1 : Vec Ideal S1x6x1024 .f32) (x2 : Vec Ideal S1x1024 .f32) (x3 : Vec Ideal S1024x1536 .bf16)
    (x5 : Vec Ideal S1x512 .f32) (x6 : Vec Ideal S1x128 .f32) (r : Fin 512) (l : Fin 128) :
    k0_pay7 x0 x2 (scale x1) (shift x1) x3 (ix2 r l) = (brow x0 x1 x2 x3 x5 x6 r).vw l :=
  InBody.vwBlock x0 x1 x2 x3 x5 x6 r l

/-! ## Heads beside zeros -/

theorem pada0 (v : FVec Ideal S512x128 .f32) (K : Fin 128 → EReal) (r : Fin 512) (hv : ∀ m, v (ix2 r m) = K m) (l : Fin 128) :
    k0_pay34 v (ix2 r l) = beside K (lane 0 l) := InPay.pad0_at v K r hv l
theorem pada1 (v : FVec Ideal S512x128 .f32) (K : Fin 128 → EReal) (r : Fin 512) (hv : ∀ m, v (ix2 r m) = K m) (l : Fin 128) :
    k0_pay35 v (ix2 r l) = beside K (lane 1 l) := InPay.pad1_at v K r hv l
theorem pada2 (v : FVec Ideal S512x128 .f32) (K : Fin 128 → EReal) (r : Fin 512) (hv : ∀ m, v (ix2 r m) = K m) (l : Fin 128) :
    k0_pay36 v (ix2 r l) = beside K (lane 2 l) := InPay.pad2_at v K r hv l
theorem pada3 (v : FVec Ideal S512x128 .f32) (K : Fin 128 → EReal) (r : Fin 512) (hv : ∀ m, v (ix2 r m) = K m) (l : Fin 128) :
    k0_pay37 v (ix2 r l) = beside K (lane 3 l) := InPay.pad3_at v K r hv l
theorem padb0 (v : FVec Ideal S512x128 .f32) (K : Fin 128 → EReal) (r : Fin 512) (hv : ∀ m, v (ix2 r m) = K m) (l : Fin 128) :
    k0_pay41 v (ix2 r l) = beside K (lane 0 l) := InPay.pad0_at v K r hv l
theorem padb1 (v : FVec Ideal S512x128 .f32) (K : Fin 128 → EReal) (r : Fin 512) (hv : ∀ m, v (ix2 r m) = K m) (l : Fin 128) :
    k0_pay42 v (ix2 r l) = beside K (lane 1 l) := InPay.pad1_at v K r hv l
theorem padb2 (v : FVec Ideal S512x128 .f32) (K : Fin 128 → EReal) (r : Fin 512) (hv : ∀ m, v (ix2 r m) = K m) (l : Fin 128) :
    k0_pay43 v (ix2 r l) = beside K (lane 2 l) := InPay.pad2_at v K r hv l
theorem padb3 (v : FVec Ideal S512x128 .f32) (K : Fin 128 → EReal) (r : Fin 512) (hv : ∀ m, v (ix2 r m) = K m) (l : Fin 128) :
    k0_pay44 v (ix2 r l) = beside K (lane 3 l) := InPay.pad3_at v K r hv l
theorem padc0 (v : FVec Ideal S512x128 .f32) (K : Fin 128 → EReal) (r : Fin 512) (hv : ∀ m, v (ix2 r m) = K m) (l : Fin 128) :
    k0_pay48 v (ix2 r l) = beside K (lane 0 l) := InPay.pad0_at v K r hv l
theorem padc1 (v : FVec Ideal S512x128 .f32) (K : Fin 128 → EReal) (r : Fin 512) (hv : ∀ m, v (ix2 r m) = K m) (l : Fin 128) :
    k0_pay49 v (ix2 r l) = beside K (lane 1 l) := InPay.pad1_at v K r hv l
theorem padc2 (v : FVec Ideal S512x128 .f32) (K : Fin 128 → EReal) (r : Fin 512) (hv : ∀ m, v (ix2 r m) = K m) (l : Fin 128) :
    k0_pay50 v (ix2 r l) = beside K (lane 2 l) := InPay.pad2_at v K r hv l
theorem padc3 (v : FVec Ideal S512x128 .f32) (K : Fin 128 → EReal) (r : Fin 512) (hv : ∀ m, v (ix2 r m) = K m) (l : Fin 128) :
    k0_pay51 v k0_pay46 (k0_pay47 (F := Ideal)) (ix2 r l) = beside K (lane 3 l) := InPay.pad3_at v K r hv l
theorem padd0 (v : FVec Ideal S512x128 .f32) (K : Fin 128 → EReal) (r : Fin 512) (hv : ∀ m, v (ix2 r m) = K m) (l : Fin 128) :
    k0_pay55 v (ix2 r l) = beside K (lane 0 l) := InPay.pad0_at v K r hv l
theorem padd1 (v : FVec Ideal S512x128 .f32) (K : Fin 128 → EReal) (r : Fin 512) (hv : ∀ m, v (ix2 r m) = K m) (l : Fin 128) :
    k0_pay56 v (ix2 r l) = beside K (lane 1 l) := InPay.pad1_at v K r hv l
theorem padd2 (v : FVec Ideal S512x128 .f32) (K : Fin 128 → EReal) (r : Fin 512) (hv : ∀ m, v (ix2 r m) = K m) (l : Fin 128) :
    k0_pay57 v (ix2 r l) = beside K (lane 2 l) := InPay.pad2_at v K r hv l
theorem padd3 (v : FVec Ideal S512x128 .f32) (K : Fin 128 → EReal) (r : Fin 512) (hv : ∀ m, v (ix2 r m) = K m) (l : Fin 128) :
    k0_pay58 v (ix2 r l) = beside K (lane 3 l) := InPay.pad3_at v K r hv l

theorem kv_lane (R : Row) (cs sn : Fin 32 → EReal) (b : Fin 4) (l : Fin 128) :
    RotSpec.kv R cs sn (lane b l) = (![RotSpec.ka R cs sn, R.va, RotSpec.kw R cs sn, R.vw] b) l := by
  have hb : (⟨(lane b l).val / 128, by have := (lane b l).isLt; omega⟩ : Fin 4) = b := Fin.ext (by show (128 * b.val + l.val) / 128 = b.val; omega)
  have hl : (⟨(lane b l).val % 128, by omega⟩ : Fin 128) = l := Fin.ext (by show (128 * b.val + l.val) % 128 = l.val; omega)
  show (![RotSpec.ka R cs sn, R.va, RotSpec.kw R cs sn, R.vw] ⟨(lane b l).val / 128, _⟩) ⟨(lane b l).val % 128, _⟩ = _
  rw [hb, hl]

end Cert.Proof.RotBody
-- ==== Proof.RotBlocks.lean ====
/- Hand-written, untrusted: each of the sample's body's seven output blocks is the parts of its rows. -/
module

public import proofs.«01_k».proof.Proof.RotBody

@[expose] public section

set_option maxRecDepth 16384

noncomputable section

namespace Cert.Proof.RotBlocks

open Cert.RotIdeal Cert.RotIdeal.Gen Idealize.ShloMosaic Idealize.ShloMosaic.TcCoe Idealize.SL.Sem
open Cert.Proof.InSpec Cert.Proof.InSum
open Cert.Proof.InPay (lane)
open Cert.Proof.InBody (brow scale shift ofRows full2 emb0 embAll acc_eq)
open Cert.Proof.RotSpec (turn signed turn_eq)
open Cert.Proof.RotBody

set_option maxHeartbeats 4000000 in
/-- Output block 9. -/
theorem out9 (c : Dev nD) (i : grid0.Coords) (arg1 : Memref sig .tc .vmem S512x1024 .f32) (harg1 : arg1.IsWhole) (arg2 : Memref sig .tc .vmem S1x6x1024 .f32) (harg2 : arg2.IsWhole) (arg3 : Memref sig .tc .vmem S1x1024 .f32) (harg3 : arg3.IsWhole) (arg4 : Memref sig .tc .vmem S1024x1536 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x128 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x512 .bf16) (harg14 : arg14.IsWhole) (arg15 : Memref sig .tc .vmem S512x512 .bf16) (harg15 : arg15.IsWhole) (arg16 : Memref sig .tc .vmem S512x512 .f32) (harg16 : arg16.IsWhole)
    (x0 : Vec Ideal S512x1024 .f32) (x1 : Vec Ideal S1x6x1024 .f32) (x2 : Vec Ideal S1x1024 .f32) (x3 : Vec Ideal S1024x1536 .bf16)
    (x4 : Vec Ideal S512x512 .bf16) (x5 : Vec Ideal S1x512 .f32) (x6 : Vec Ideal S1x128 .f32) (x7 x8 : Vec Ideal S512x512 .f32)
    (h4 : ∀ k l, x4 (ix2 k l) = if k.val / 64 = l.val / 64 then 1 else 0) (hr : ∀ r c, IsReal ((brow x0 x1 x2 x3 x5 x6 r).acc c))
    (cs sn : Fin 512 → Fin 32 → EReal) (h7 : ∀ r l, x7 (ix2 r l) = cs r ⟨l.val % 32, by omega⟩) (h8 : ∀ r l, x8 (ix2 r l) = signed (sn r) l) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8
      = ofRows (fun r => RotSpec.qa (brow x0 x1 x2 x3 x5 x6 r) (cs r) (sn r)) := by
  funext y
  have hc := cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 y
  unfold out0_A_9
  rw [View.read_writes_junk_eq_canon]
  revert hc
  have e0 := harg1.read_unread x0
  have e1 := harg2.read_unread x1
  have e2 := harg3.read_unread x2
  have e3 := harg4.read_unread x3
  have e4 := harg5.read_unread x4
  have e5 := harg6.read_unread x5
  have e6 := harg7.read_unread x6
  have e7 := harg8.read_unread x7
  have e8 := harg9.read_unread x8
  have l0 : View.ld x0 (Rect.unit (s := S512x1024) ![0, 0] S512x1024.size inb_S512x1024_S512x1024_0_0) = x0 := full2 _ _
  have l2 : View.ld x2 (Rect.unit (s := S1x1024) ![0, 0] S1x1024.size inb_S1x1024_S1x1024_0_0) = x2 := full2 _ _
  have l3 : View.ld x3 (Rect.unit (s := S1024x1536) ![0, 0] S1024x1536.size inb_S1024x1536_S1024x1536_0_0) = x3 := full2 _ _
  have l4 : View.ld x4 (Rect.unit (s := S512x512) ![0, 0] S512x512.size inb_S512x512_S512x512_0_0) = x4 := full2 _ _
  have l5 : View.ld x5 (Rect.unit (s := S1x512) ![0, 0] S1x512.size inb_S1x512_S1x512_0_0) = x5 := full2 _ _
  have l6 : View.ld x6 (Rect.unit (s := S1x128) ![0, 0] S1x128.size inb_S1x128_S1x128_0_0) = x6 := full2 _ _
  have l7 : View.ld x7 (Rect.unit (s := S512x512) ![0, 0] S512x512.size inb_S512x512_S512x512_0_0) = x7 := full2 _ _
  have l8 : View.ld x8 (Rect.unit (s := S512x512) ![0, 0] S512x512.size inb_S512x512_S512x512_0_0) = x8 := full2 _ _
  unfold kernelRun0_A
  dsimp only
  sl_unfold_words
  simp only [View.readAt_eq_ld, e0, e1, e2, e3, e4, e5, e6, e7, e8, l0, l2, l3, l4, l5, l6, l7, l8]
  intro hc
  rw [← List.append_nil (_ :: _)]
  refine View.canon_append_of_pieces _ [] _ ?_ y hc
  refine List.forall_mem_cons.2 ⟨?_, fun _ h => absurd h List.not_mem_nil⟩
  intro x
  obtain ⟨r, l, rfl⟩ : ∃ (r : Fin 512) (l : Fin 512), x = ix2 r l := ⟨x 0, x 1, eq_ix2 x⟩
  refine Eq.trans ?_ (congrArg (ofRows _) (embAll inb_S512x512_S512x512_0_0 r l).symm)
  exact qaBlock x0 x1 x2 x3 x4 x5 x6 x7 x8 cs sn h7 h8 h4 r (hr r) l

set_option maxHeartbeats 4000000 in
/-- Output block 10. -/
theorem out10 (c : Dev nD) (i : grid0.Coords) (arg1 : Memref sig .tc .vmem S512x1024 .f32) (harg1 : arg1.IsWhole) (arg2 : Memref sig .tc .vmem S1x6x1024 .f32) (harg2 : arg2.IsWhole) (arg3 : Memref sig .tc .vmem S1x1024 .f32) (harg3 : arg3.IsWhole) (arg4 : Memref sig .tc .vmem S1024x1536 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x128 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x512 .bf16) (harg14 : arg14.IsWhole) (arg15 : Memref sig .tc .vmem S512x512 .bf16) (harg15 : arg15.IsWhole) (arg16 : Memref sig .tc .vmem S512x512 .f32) (harg16 : arg16.IsWhole)
    (x0 : Vec Ideal S512x1024 .f32) (x1 : Vec Ideal S1x6x1024 .f32) (x2 : Vec Ideal S1x1024 .f32) (x3 : Vec Ideal S1024x1536 .bf16)
    (x4 : Vec Ideal S512x512 .bf16) (x5 : Vec Ideal S1x512 .f32) (x6 : Vec Ideal S1x128 .f32) (x7 x8 : Vec Ideal S512x512 .f32)
    (cs sn : Fin 512 → Fin 32 → EReal) (h7 : ∀ r l, x7 (ix2 r l) = cs r ⟨l.val % 32, by omega⟩) (h8 : ∀ r l, x8 (ix2 r l) = signed (sn r) l) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8
      = ofRows (fun r => RotSpec.qw (brow x0 x1 x2 x3 x5 x6 r) (cs r) (sn r)) := by
  funext y
  have hc := cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 y
  unfold out0_A_10
  rw [View.read_writes_junk_eq_canon]
  revert hc
  have e0 := harg1.read_unread x0
  have e1 := harg2.read_unread x1
  have e2 := harg3.read_unread x2
  have e3 := harg4.read_unread x3
  have e4 := harg5.read_unread x4
  have e5 := harg6.read_unread x5
  have e6 := harg7.read_unread x6
  have e7 := harg8.read_unread x7
  have e8 := harg9.read_unread x8
  have l0 : View.ld x0 (Rect.unit (s := S512x1024) ![0, 0] S512x1024.size inb_S512x1024_S512x1024_0_0) = x0 := full2 _ _
  have l2 : View.ld x2 (Rect.unit (s := S1x1024) ![0, 0] S1x1024.size inb_S1x1024_S1x1024_0_0) = x2 := full2 _ _
  have l3 : View.ld x3 (Rect.unit (s := S1024x1536) ![0, 0] S1024x1536.size inb_S1024x1536_S1024x1536_0_0) = x3 := full2 _ _
  have l4 : View.ld x4 (Rect.unit (s := S512x512) ![0, 0] S512x512.size inb_S512x512_S512x512_0_0) = x4 := full2 _ _
  have l5 : View.ld x5 (Rect.unit (s := S1x512) ![0, 0] S1x512.size inb_S1x512_S1x512_0_0) = x5 := full2 _ _
  have l6 : View.ld x6 (Rect.unit (s := S1x128) ![0, 0] S1x128.size inb_S1x128_S1x128_0_0) = x6 := full2 _ _
  have l7 : View.ld x7 (Rect.unit (s := S512x512) ![0, 0] S512x512.size inb_S512x512_S512x512_0_0) = x7 := full2 _ _
  have l8 : View.ld x8 (Rect.unit (s := S512x512) ![0, 0] S512x512.size inb_S512x512_S512x512_0_0) = x8 := full2 _ _
  unfold kernelRun0_A
  dsimp only
  sl_unfold_words
  simp only [View.readAt_eq_ld, e0, e1, e2, e3, e4, e5, e6, e7, e8, l0, l2, l3, l4, l5, l6, l7, l8]
  intro hc
  rw [← List.append_nil (_ :: _)]
  refine View.canon_append_of_pieces _ [] _ ?_ y hc
  refine List.forall_mem_cons.2 ⟨?_, fun _ h => absurd h List.not_mem_nil⟩
  intro x
  obtain ⟨r, l, rfl⟩ : ∃ (r : Fin 512) (l : Fin 512), x = ix2 r l := ⟨x 0, x 1, eq_ix2 x⟩
  refine Eq.trans ?_ (congrArg (ofRows _) (embAll inb_S512x512_S512x512_0_0 r l).symm)
  exact qwBlock x0 x1 x2 x3 x5 x6 x7 x8 cs sn h7 h8 r l

set_option maxHeartbeats 4000000 in
/-- Output block 11. -/
theorem out11 (c : Dev nD) (i : grid0.Coords) (arg1 : Memref sig .tc .vmem S512x1024 .f32) (harg1 : arg1.IsWhole) (arg2 : Memref sig .tc .vmem S1x6x1024 .f32) (harg2 : arg2.IsWhole) (arg3 : Memref sig .tc .vmem S1x1024 .f32) (harg3 : arg3.IsWhole) (arg4 : Memref sig .tc .vmem S1024x1536 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x128 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x512 .bf16) (harg14 : arg14.IsWhole) (arg15 : Memref sig .tc .vmem S512x512 .bf16) (harg15 : arg15.IsWhole) (arg16 : Memref sig .tc .vmem S512x512 .f32) (harg16 : arg16.IsWhole)
    (x0 : Vec Ideal S512x1024 .f32) (x1 : Vec Ideal S1x6x1024 .f32) (x2 : Vec Ideal S1x1024 .f32) (x3 : Vec Ideal S1024x1536 .bf16)
    (x4 : Vec Ideal S512x512 .bf16) (x5 : Vec Ideal S1x512 .f32) (x6 : Vec Ideal S1x128 .f32) (x7 x8 : Vec Ideal S512x512 .f32)
    (h4 : ∀ k l, x4 (ix2 k l) = if k.val / 64 = l.val / 64 then 1 else 0) (hr : ∀ r c, IsReal ((brow x0 x1 x2 x3 x5 x6 r).acc c))
    (cs sn : Fin 512 → Fin 32 → EReal) (h7 : ∀ r l, x7 (ix2 r l) = cs r ⟨l.val % 32, by omega⟩) (h8 : ∀ r l, x8 (ix2 r l) = signed (sn r) l) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8
      = ofRows (fun r => beside (RotSpec.ka (brow x0 x1 x2 x3 x5 x6 r) (cs r) (sn r))) := by
  funext y
  have hc := cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 y
  unfold out0_A_11
  rw [View.read_writes_junk_eq_canon]
  revert hc
  have e0 := harg1.read_unread x0
  have e1 := harg2.read_unread x1
  have e2 := harg3.read_unread x2
  have e3 := harg4.read_unread x3
  have e4 := harg5.read_unread x4
  have e5 := harg6.read_unread x5
  have e6 := harg7.read_unread x6
  have e7 := harg8.read_unread x7
  have e8 := harg9.read_unread x8
  have l0 : View.ld x0 (Rect.unit (s := S512x1024) ![0, 0] S512x1024.size inb_S512x1024_S512x1024_0_0) = x0 := full2 _ _
  have l2 : View.ld x2 (Rect.unit (s := S1x1024) ![0, 0] S1x1024.size inb_S1x1024_S1x1024_0_0) = x2 := full2 _ _
  have l3 : View.ld x3 (Rect.unit (s := S1024x1536) ![0, 0] S1024x1536.size inb_S1024x1536_S1024x1536_0_0) = x3 := full2 _ _
  have l4 : View.ld x4 (Rect.unit (s := S512x512) ![0, 0] S512x512.size inb_S512x512_S512x512_0_0) = x4 := full2 _ _
  have l5 : View.ld x5 (Rect.unit (s := S1x512) ![0, 0] S1x512.size inb_S1x512_S1x512_0_0) = x5 := full2 _ _
  have l6 : View.ld x6 (Rect.unit (s := S1x128) ![0, 0] S1x128.size inb_S1x128_S1x128_0_0) = x6 := full2 _ _
  have l7 : View.ld x7 (Rect.unit (s := S512x512) ![0, 0] S512x512.size inb_S512x512_S512x512_0_0) = x7 := full2 _ _
  have l8 : View.ld x8 (Rect.unit (s := S512x512) ![0, 0] S512x512.size inb_S512x512_S512x512_0_0) = x8 := full2 _ _
  unfold kernelRun0_A
  dsimp only
  sl_unfold_words
  simp only [View.readAt_eq_ld, e0, e1, e2, e3, e4, e5, e6, e7, e8, l0, l2, l3, l4, l5, l6, l7, l8]
  intro hc
  rw [← List.append_nil (_ :: _)]
  refine View.canon_append_of_pieces _ [] _ ?_ y hc
  refine List.forall_mem_cons.2 ⟨?_, List.forall_mem_cons.2 ⟨?_, List.forall_mem_cons.2 ⟨?_, List.forall_mem_cons.2 ⟨?_, fun _ h => absurd h List.not_mem_nil⟩⟩⟩⟩
  · intro x
    obtain ⟨r, l, rfl⟩ : ∃ (r : Fin 512) (l : Fin 128), x = ix2 r l := ⟨x 0, x 1, eq_ix2 x⟩
    refine Eq.trans ?_ (congrArg (ofRows _) (emb0 3 rfl inb_S512x512_S512x128_0_384 r l).symm)
    exact pada3 _ _ r (kaBlock x0 x1 x2 x3 x4 x5 x6 x7 x8 cs sn h7 h8 h4 r (hr r)) l
  · intro x
    obtain ⟨r, l, rfl⟩ : ∃ (r : Fin 512) (l : Fin 128), x = ix2 r l := ⟨x 0, x 1, eq_ix2 x⟩
    refine Eq.trans ?_ (congrArg (ofRows _) (emb0 2 rfl inb_S512x512_S512x128_0_256 r l).symm)
    exact pada2 _ _ r (kaBlock x0 x1 x2 x3 x4 x5 x6 x7 x8 cs sn h7 h8 h4 r (hr r)) l
  · intro x
    obtain ⟨r, l, rfl⟩ : ∃ (r : Fin 512) (l : Fin 128), x = ix2 r l := ⟨x 0, x 1, eq_ix2 x⟩
    refine Eq.trans ?_ (congrArg (ofRows _) (emb0 1 rfl inb_S512x512_S512x128_0_128 r l).symm)
    exact pada1 _ _ r (kaBlock x0 x1 x2 x3 x4 x5 x6 x7 x8 cs sn h7 h8 h4 r (hr r)) l
  · intro x
    obtain ⟨r, l, rfl⟩ : ∃ (r : Fin 512) (l : Fin 128), x = ix2 r l := ⟨x 0, x 1, eq_ix2 x⟩
    refine Eq.trans ?_ (congrArg (ofRows _) (emb0 0 rfl inb_S512x512_S512x128_0_0 r l).symm)
    exact pada0 _ _ r (kaBlock x0 x1 x2 x3 x4 x5 x6 x7 x8 cs sn h7 h8 h4 r (hr r)) l

set_option maxHeartbeats 4000000 in
/-- Output block 12. -/
theorem out12 (c : Dev nD) (i : grid0.Coords) (arg1 : Memref sig .tc .vmem S512x1024 .f32) (harg1 : arg1.IsWhole) (arg2 : Memref sig .tc .vmem S1x6x1024 .f32) (harg2 : arg2.IsWhole) (arg3 : Memref sig .tc .vmem S1x1024 .f32) (harg3 : arg3.IsWhole) (arg4 : Memref sig .tc .vmem S1024x1536 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x128 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x512 .bf16) (harg14 : arg14.IsWhole) (arg15 : Memref sig .tc .vmem S512x512 .bf16) (harg15 : arg15.IsWhole) (arg16 : Memref sig .tc .vmem S512x512 .f32) (harg16 : arg16.IsWhole)
    (x0 : Vec Ideal S512x1024 .f32) (x1 : Vec Ideal S1x6x1024 .f32) (x2 : Vec Ideal S1x1024 .f32) (x3 : Vec Ideal S1024x1536 .bf16)
    (x4 : Vec Ideal S512x512 .bf16) (x5 : Vec Ideal S1x512 .f32) (x6 : Vec Ideal S1x128 .f32) (x7 x8 : Vec Ideal S512x512 .f32) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8
      = ofRows (fun r => beside (brow x0 x1 x2 x3 x5 x6 r).va) := by
  funext y
  have hc := cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 y
  unfold out0_A_12
  rw [View.read_writes_junk_eq_canon]
  revert hc
  have e0 := harg1.read_unread x0
  have e1 := harg2.read_unread x1
  have e2 := harg3.read_unread x2
  have e3 := harg4.read_unread x3
  have e4 := harg5.read_unread x4
  have e5 := harg6.read_unread x5
  have e6 := harg7.read_unread x6
  have e7 := harg8.read_unread x7
  have e8 := harg9.read_unread x8
  have l0 : View.ld x0 (Rect.unit (s := S512x1024) ![0, 0] S512x1024.size inb_S512x1024_S512x1024_0_0) = x0 := full2 _ _
  have l2 : View.ld x2 (Rect.unit (s := S1x1024) ![0, 0] S1x1024.size inb_S1x1024_S1x1024_0_0) = x2 := full2 _ _
  have l3 : View.ld x3 (Rect.unit (s := S1024x1536) ![0, 0] S1024x1536.size inb_S1024x1536_S1024x1536_0_0) = x3 := full2 _ _
  have l4 : View.ld x4 (Rect.unit (s := S512x512) ![0, 0] S512x512.size inb_S512x512_S512x512_0_0) = x4 := full2 _ _
  have l5 : View.ld x5 (Rect.unit (s := S1x512) ![0, 0] S1x512.size inb_S1x512_S1x512_0_0) = x5 := full2 _ _
  have l6 : View.ld x6 (Rect.unit (s := S1x128) ![0, 0] S1x128.size inb_S1x128_S1x128_0_0) = x6 := full2 _ _
  have l7 : View.ld x7 (Rect.unit (s := S512x512) ![0, 0] S512x512.size inb_S512x512_S512x512_0_0) = x7 := full2 _ _
  have l8 : View.ld x8 (Rect.unit (s := S512x512) ![0, 0] S512x512.size inb_S512x512_S512x512_0_0) = x8 := full2 _ _
  unfold kernelRun0_A
  dsimp only
  sl_unfold_words
  simp only [View.readAt_eq_ld, e0, e1, e2, e3, e4, e5, e6, e7, e8, l0, l2, l3, l4, l5, l6, l7, l8]
  intro hc
  rw [← List.append_nil (_ :: _)]
  refine View.canon_append_of_pieces _ [] _ ?_ y hc
  refine List.forall_mem_cons.2 ⟨?_, List.forall_mem_cons.2 ⟨?_, List.forall_mem_cons.2 ⟨?_, List.forall_mem_cons.2 ⟨?_, fun _ h => absurd h List.not_mem_nil⟩⟩⟩⟩
  · intro x
    obtain ⟨r, l, rfl⟩ : ∃ (r : Fin 512) (l : Fin 128), x = ix2 r l := ⟨x 0, x 1, eq_ix2 x⟩
    refine Eq.trans ?_ (congrArg (ofRows _) (emb0 3 rfl inb_S512x512_S512x128_0_384 r l).symm)
    exact padb3 _ _ r (vaBlock x0 x1 x2 x3 x5 x6 r) l
  · intro x
    obtain ⟨r, l, rfl⟩ : ∃ (r : Fin 512) (l : Fin 128), x = ix2 r l := ⟨x 0, x 1, eq_ix2 x⟩
    refine Eq.trans ?_ (congrArg (ofRows _) (emb0 2 rfl inb_S512x512_S512x128_0_256 r l).symm)
    exact padb2 _ _ r (vaBlock x0 x1 x2 x3 x5 x6 r) l
  · intro x
    obtain ⟨r, l, rfl⟩ : ∃ (r : Fin 512) (l : Fin 128), x = ix2 r l := ⟨x 0, x 1, eq_ix2 x⟩
    refine Eq.trans ?_ (congrArg (ofRows _) (emb0 1 rfl inb_S512x512_S512x128_0_128 r l).symm)
    exact padb1 _ _ r (vaBlock x0 x1 x2 x3 x5 x6 r) l
  · intro x
    obtain ⟨r, l, rfl⟩ : ∃ (r : Fin 512) (l : Fin 128), x = ix2 r l := ⟨x 0, x 1, eq_ix2 x⟩
    refine Eq.trans ?_ (congrArg (ofRows _) (emb0 0 rfl inb_S512x512_S512x128_0_0 r l).symm)
    exact padb0 _ _ r (vaBlock x0 x1 x2 x3 x5 x6 r) l

set_option maxHeartbeats 4000000 in
/-- Output block 13. -/
theorem out13 (c : Dev nD) (i : grid0.Coords) (arg1 : Memref sig .tc .vmem S512x1024 .f32) (harg1 : arg1.IsWhole) (arg2 : Memref sig .tc .vmem S1x6x1024 .f32) (harg2 : arg2.IsWhole) (arg3 : Memref sig .tc .vmem S1x1024 .f32) (harg3 : arg3.IsWhole) (arg4 : Memref sig .tc .vmem S1024x1536 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x128 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x512 .bf16) (harg14 : arg14.IsWhole) (arg15 : Memref sig .tc .vmem S512x512 .bf16) (harg15 : arg15.IsWhole) (arg16 : Memref sig .tc .vmem S512x512 .f32) (harg16 : arg16.IsWhole)
    (x0 : Vec Ideal S512x1024 .f32) (x1 : Vec Ideal S1x6x1024 .f32) (x2 : Vec Ideal S1x1024 .f32) (x3 : Vec Ideal S1024x1536 .bf16)
    (x4 : Vec Ideal S512x512 .bf16) (x5 : Vec Ideal S1x512 .f32) (x6 : Vec Ideal S1x128 .f32) (x7 x8 : Vec Ideal S512x512 .f32)
    (cs sn : Fin 512 → Fin 32 → EReal) (h7 : ∀ r l, x7 (ix2 r l) = cs r ⟨l.val % 32, by omega⟩) (h8 : ∀ r l, x8 (ix2 r l) = signed (sn r) l) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8
      = ofRows (fun r => beside (RotSpec.kw (brow x0 x1 x2 x3 x5 x6 r) (cs r) (sn r))) := by
  funext y
  have hc := cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 y
  unfold out0_A_13
  rw [View.read_writes_junk_eq_canon]
  revert hc
  have e0 := harg1.read_unread x0
  have e1 := harg2.read_unread x1
  have e2 := harg3.read_unread x2
  have e3 := harg4.read_unread x3
  have e4 := harg5.read_unread x4
  have e5 := harg6.read_unread x5
  have e6 := harg7.read_unread x6
  have e7 := harg8.read_unread x7
  have e8 := harg9.read_unread x8
  have l0 : View.ld x0 (Rect.unit (s := S512x1024) ![0, 0] S512x1024.size inb_S512x1024_S512x1024_0_0) = x0 := full2 _ _
  have l2 : View.ld x2 (Rect.unit (s := S1x1024) ![0, 0] S1x1024.size inb_S1x1024_S1x1024_0_0) = x2 := full2 _ _
  have l3 : View.ld x3 (Rect.unit (s := S1024x1536) ![0, 0] S1024x1536.size inb_S1024x1536_S1024x1536_0_0) = x3 := full2 _ _
  have l4 : View.ld x4 (Rect.unit (s := S512x512) ![0, 0] S512x512.size inb_S512x512_S512x512_0_0) = x4 := full2 _ _
  have l5 : View.ld x5 (Rect.unit (s := S1x512) ![0, 0] S1x512.size inb_S1x512_S1x512_0_0) = x5 := full2 _ _
  have l6 : View.ld x6 (Rect.unit (s := S1x128) ![0, 0] S1x128.size inb_S1x128_S1x128_0_0) = x6 := full2 _ _
  have l7 : View.ld x7 (Rect.unit (s := S512x512) ![0, 0] S512x512.size inb_S512x512_S512x512_0_0) = x7 := full2 _ _
  have l8 : View.ld x8 (Rect.unit (s := S512x512) ![0, 0] S512x512.size inb_S512x512_S512x512_0_0) = x8 := full2 _ _
  unfold kernelRun0_A
  dsimp only
  sl_unfold_words
  simp only [View.readAt_eq_ld, e0, e1, e2, e3, e4, e5, e6, e7, e8, l0, l2, l3, l4, l5, l6, l7, l8]
  intro hc
  rw [← List.append_nil (_ :: _)]
  refine View.canon_append_of_pieces _ [] _ ?_ y hc
  refine List.forall_mem_cons.2 ⟨?_, List.forall_mem_cons.2 ⟨?_, List.forall_mem_cons.2 ⟨?_, List.forall_mem_cons.2 ⟨?_, fun _ h => absurd h List.not_mem_nil⟩⟩⟩⟩
  · intro x
    obtain ⟨r, l, rfl⟩ : ∃ (r : Fin 512) (l : Fin 128), x = ix2 r l := ⟨x 0, x 1, eq_ix2 x⟩
    refine Eq.trans ?_ (congrArg (ofRows _) (emb0 3 rfl inb_S512x512_S512x128_0_384 r l).symm)
    exact padc3 _ _ r (kwBlock x0 x1 x2 x3 x5 x6 x7 x8 cs sn h7 h8 r) l
  · intro x
    obtain ⟨r, l, rfl⟩ : ∃ (r : Fin 512) (l : Fin 128), x = ix2 r l := ⟨x 0, x 1, eq_ix2 x⟩
    refine Eq.trans ?_ (congrArg (ofRows _) (emb0 2 rfl inb_S512x512_S512x128_0_256 r l).symm)
    exact padc2 _ _ r (kwBlock x0 x1 x2 x3 x5 x6 x7 x8 cs sn h7 h8 r) l
  · intro x
    obtain ⟨r, l, rfl⟩ : ∃ (r : Fin 512) (l : Fin 128), x = ix2 r l := ⟨x 0, x 1, eq_ix2 x⟩
    refine Eq.trans ?_ (congrArg (ofRows _) (emb0 1 rfl inb_S512x512_S512x128_0_128 r l).symm)
    exact padc1 _ _ r (kwBlock x0 x1 x2 x3 x5 x6 x7 x8 cs sn h7 h8 r) l
  · intro x
    obtain ⟨r, l, rfl⟩ : ∃ (r : Fin 512) (l : Fin 128), x = ix2 r l := ⟨x 0, x 1, eq_ix2 x⟩
    refine Eq.trans ?_ (congrArg (ofRows _) (emb0 0 rfl inb_S512x512_S512x128_0_0 r l).symm)
    exact padc0 _ _ r (kwBlock x0 x1 x2 x3 x5 x6 x7 x8 cs sn h7 h8 r) l

set_option maxHeartbeats 4000000 in
/-- Output block 14. -/
theorem out14 (c : Dev nD) (i : grid0.Coords) (arg1 : Memref sig .tc .vmem S512x1024 .f32) (harg1 : arg1.IsWhole) (arg2 : Memref sig .tc .vmem S1x6x1024 .f32) (harg2 : arg2.IsWhole) (arg3 : Memref sig .tc .vmem S1x1024 .f32) (harg3 : arg3.IsWhole) (arg4 : Memref sig .tc .vmem S1024x1536 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x128 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x512 .bf16) (harg14 : arg14.IsWhole) (arg15 : Memref sig .tc .vmem S512x512 .bf16) (harg15 : arg15.IsWhole) (arg16 : Memref sig .tc .vmem S512x512 .f32) (harg16 : arg16.IsWhole)
    (x0 : Vec Ideal S512x1024 .f32) (x1 : Vec Ideal S1x6x1024 .f32) (x2 : Vec Ideal S1x1024 .f32) (x3 : Vec Ideal S1024x1536 .bf16)
    (x4 : Vec Ideal S512x512 .bf16) (x5 : Vec Ideal S1x512 .f32) (x6 : Vec Ideal S1x128 .f32) (x7 x8 : Vec Ideal S512x512 .f32) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8
      = ofRows (fun r => beside (brow x0 x1 x2 x3 x5 x6 r).vw) := by
  funext y
  have hc := cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 y
  unfold out0_A_14
  rw [View.read_writes_junk_eq_canon]
  revert hc
  have e0 := harg1.read_unread x0
  have e1 := harg2.read_unread x1
  have e2 := harg3.read_unread x2
  have e3 := harg4.read_unread x3
  have e4 := harg5.read_unread x4
  have e5 := harg6.read_unread x5
  have e6 := harg7.read_unread x6
  have e7 := harg8.read_unread x7
  have e8 := harg9.read_unread x8
  have l0 : View.ld x0 (Rect.unit (s := S512x1024) ![0, 0] S512x1024.size inb_S512x1024_S512x1024_0_0) = x0 := full2 _ _
  have l2 : View.ld x2 (Rect.unit (s := S1x1024) ![0, 0] S1x1024.size inb_S1x1024_S1x1024_0_0) = x2 := full2 _ _
  have l3 : View.ld x3 (Rect.unit (s := S1024x1536) ![0, 0] S1024x1536.size inb_S1024x1536_S1024x1536_0_0) = x3 := full2 _ _
  have l4 : View.ld x4 (Rect.unit (s := S512x512) ![0, 0] S512x512.size inb_S512x512_S512x512_0_0) = x4 := full2 _ _
  have l5 : View.ld x5 (Rect.unit (s := S1x512) ![0, 0] S1x512.size inb_S1x512_S1x512_0_0) = x5 := full2 _ _
  have l6 : View.ld x6 (Rect.unit (s := S1x128) ![0, 0] S1x128.size inb_S1x128_S1x128_0_0) = x6 := full2 _ _
  have l7 : View.ld x7 (Rect.unit (s := S512x512) ![0, 0] S512x512.size inb_S512x512_S512x512_0_0) = x7 := full2 _ _
  have l8 : View.ld x8 (Rect.unit (s := S512x512) ![0, 0] S512x512.size inb_S512x512_S512x512_0_0) = x8 := full2 _ _
  unfold kernelRun0_A
  dsimp only
  sl_unfold_words
  simp only [View.readAt_eq_ld, e0, e1, e2, e3, e4, e5, e6, e7, e8, l0, l2, l3, l4, l5, l6, l7, l8]
  intro hc
  rw [← List.append_nil (_ :: _)]
  refine View.canon_append_of_pieces _ [] _ ?_ y hc
  refine List.forall_mem_cons.2 ⟨?_, List.forall_mem_cons.2 ⟨?_, List.forall_mem_cons.2 ⟨?_, List.forall_mem_cons.2 ⟨?_, fun _ h => absurd h List.not_mem_nil⟩⟩⟩⟩
  · intro x
    obtain ⟨r, l, rfl⟩ : ∃ (r : Fin 512) (l : Fin 128), x = ix2 r l := ⟨x 0, x 1, eq_ix2 x⟩
    refine Eq.trans ?_ (congrArg (ofRows _) (emb0 3 rfl inb_S512x512_S512x128_0_384 r l).symm)
    exact padd3 _ _ r (vwBlock x0 x1 x2 x3 x5 x6 r) l
  · intro x
    obtain ⟨r, l, rfl⟩ : ∃ (r : Fin 512) (l : Fin 128), x = ix2 r l := ⟨x 0, x 1, eq_ix2 x⟩
    refine Eq.trans ?_ (congrArg (ofRows _) (emb0 2 rfl inb_S512x512_S512x128_0_256 r l).symm)
    exact padd2 _ _ r (vwBlock x0 x1 x2 x3 x5 x6 r) l
  · intro x
    obtain ⟨r, l, rfl⟩ : ∃ (r : Fin 512) (l : Fin 128), x = ix2 r l := ⟨x 0, x 1, eq_ix2 x⟩
    refine Eq.trans ?_ (congrArg (ofRows _) (emb0 1 rfl inb_S512x512_S512x128_0_128 r l).symm)
    exact padd1 _ _ r (vwBlock x0 x1 x2 x3 x5 x6 r) l
  · intro x
    obtain ⟨r, l, rfl⟩ : ∃ (r : Fin 512) (l : Fin 128), x = ix2 r l := ⟨x 0, x 1, eq_ix2 x⟩
    refine Eq.trans ?_ (congrArg (ofRows _) (emb0 0 rfl inb_S512x512_S512x128_0_0 r l).symm)
    exact padd0 _ _ r (vwBlock x0 x1 x2 x3 x5 x6 r) l

set_option maxHeartbeats 4000000 in
/-- Output block 15. -/
theorem out15 (c : Dev nD) (i : grid0.Coords) (arg1 : Memref sig .tc .vmem S512x1024 .f32) (harg1 : arg1.IsWhole) (arg2 : Memref sig .tc .vmem S1x6x1024 .f32) (harg2 : arg2.IsWhole) (arg3 : Memref sig .tc .vmem S1x1024 .f32) (harg3 : arg3.IsWhole) (arg4 : Memref sig .tc .vmem S1024x1536 .bf16) (harg4 : arg4.IsWhole) (arg5 : Memref sig .tc .vmem S512x512 .bf16) (harg5 : arg5.IsWhole) (arg6 : Memref sig .tc .vmem S1x512 .f32) (harg6 : arg6.IsWhole) (arg7 : Memref sig .tc .vmem S1x128 .f32) (harg7 : arg7.IsWhole) (arg8 : Memref sig .tc .vmem S512x512 .f32) (harg8 : arg8.IsWhole) (arg9 : Memref sig .tc .vmem S512x512 .f32) (harg9 : arg9.IsWhole) (arg10 : Memref sig .tc .vmem S512x512 .bf16) (harg10 : arg10.IsWhole) (arg11 : Memref sig .tc .vmem S512x512 .bf16) (harg11 : arg11.IsWhole) (arg12 : Memref sig .tc .vmem S512x512 .bf16) (harg12 : arg12.IsWhole) (arg13 : Memref sig .tc .vmem S512x512 .bf16) (harg13 : arg13.IsWhole) (arg14 : Memref sig .tc .vmem S512x512 .bf16) (harg14 : arg14.IsWhole) (arg15 : Memref sig .tc .vmem S512x512 .bf16) (harg15 : arg15.IsWhole) (arg16 : Memref sig .tc .vmem S512x512 .f32) (harg16 : arg16.IsWhole)
    (x0 : Vec Ideal S512x1024 .f32) (x1 : Vec Ideal S1x6x1024 .f32) (x2 : Vec Ideal S1x1024 .f32) (x3 : Vec Ideal S1024x1536 .bf16)
    (x4 : Vec Ideal S512x512 .bf16) (x5 : Vec Ideal S1x512 .f32) (x6 : Vec Ideal S1x128 .f32) (x7 x8 : Vec Ideal S512x512 .f32)
    (h4 : ∀ k l, x4 (ix2 k l) = if k.val / 64 = l.val / 64 then 1 else 0) (hr : ∀ r c, IsReal ((brow x0 x1 x2 x3 x5 x6 r).acc c))
    (cs sn : Fin 512 → Fin 32 → EReal) (h7 : ∀ r l, x7 (ix2 r l) = cs r ⟨l.val % 32, by omega⟩) (h8 : ∀ r l, x8 (ix2 r l) = signed (sn r) l) :
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8
      = ofRows (fun r => RotSpec.kv (brow x0 x1 x2 x3 x5 x6 r) (cs r) (sn r)) := by
  funext y
  have hc := cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 y
  unfold out0_A_15
  rw [View.read_writes_junk_eq_canon]
  revert hc
  have e0 := harg1.read_unread x0
  have e1 := harg2.read_unread x1
  have e2 := harg3.read_unread x2
  have e3 := harg4.read_unread x3
  have e4 := harg5.read_unread x4
  have e5 := harg6.read_unread x5
  have e6 := harg7.read_unread x6
  have e7 := harg8.read_unread x7
  have e8 := harg9.read_unread x8
  have l0 : View.ld x0 (Rect.unit (s := S512x1024) ![0, 0] S512x1024.size inb_S512x1024_S512x1024_0_0) = x0 := full2 _ _
  have l2 : View.ld x2 (Rect.unit (s := S1x1024) ![0, 0] S1x1024.size inb_S1x1024_S1x1024_0_0) = x2 := full2 _ _
  have l3 : View.ld x3 (Rect.unit (s := S1024x1536) ![0, 0] S1024x1536.size inb_S1024x1536_S1024x1536_0_0) = x3 := full2 _ _
  have l4 : View.ld x4 (Rect.unit (s := S512x512) ![0, 0] S512x512.size inb_S512x512_S512x512_0_0) = x4 := full2 _ _
  have l5 : View.ld x5 (Rect.unit (s := S1x512) ![0, 0] S1x512.size inb_S1x512_S1x512_0_0) = x5 := full2 _ _
  have l6 : View.ld x6 (Rect.unit (s := S1x128) ![0, 0] S1x128.size inb_S1x128_S1x128_0_0) = x6 := full2 _ _
  have l7 : View.ld x7 (Rect.unit (s := S512x512) ![0, 0] S512x512.size inb_S512x512_S512x512_0_0) = x7 := full2 _ _
  have l8 : View.ld x8 (Rect.unit (s := S512x512) ![0, 0] S512x512.size inb_S512x512_S512x512_0_0) = x8 := full2 _ _
  unfold kernelRun0_A
  dsimp only
  sl_unfold_words
  simp only [View.readAt_eq_ld, e0, e1, e2, e3, e4, e5, e6, e7, e8, l0, l2, l3, l4, l5, l6, l7, l8]
  intro hc
  rw [← List.append_nil (_ :: _)]
  refine View.canon_append_of_pieces _ [] _ ?_ y hc
  refine List.forall_mem_cons.2 ⟨?_, List.forall_mem_cons.2 ⟨?_, List.forall_mem_cons.2 ⟨?_, List.forall_mem_cons.2 ⟨?_, fun _ h => absurd h List.not_mem_nil⟩⟩⟩⟩
  · intro x
    obtain ⟨r, l, rfl⟩ : ∃ (r : Fin 512) (l : Fin 128), x = ix2 r l := ⟨x 0, x 1, eq_ix2 x⟩
    refine Eq.trans ?_ (congrArg (ofRows _) (emb0 3 rfl inb_S512x512_S512x128_0_384 r l).symm)
    exact (vwBlock x0 x1 x2 x3 x5 x6 r l).trans (kv_lane _ _ _ 3 l).symm
  · intro x
    obtain ⟨r, l, rfl⟩ : ∃ (r : Fin 512) (l : Fin 128), x = ix2 r l := ⟨x 0, x 1, eq_ix2 x⟩
    refine Eq.trans ?_ (congrArg (ofRows _) (emb0 2 rfl inb_S512x512_S512x128_0_256 r l).symm)
    exact (kwBlock x0 x1 x2 x3 x5 x6 x7 x8 cs sn h7 h8 r l).trans (kv_lane _ _ _ 2 l).symm
  · intro x
    obtain ⟨r, l, rfl⟩ : ∃ (r : Fin 512) (l : Fin 128), x = ix2 r l := ⟨x 0, x 1, eq_ix2 x⟩
    refine Eq.trans ?_ (congrArg (ofRows _) (emb0 1 rfl inb_S512x512_S512x128_0_128 r l).symm)
    exact (vaBlock x0 x1 x2 x3 x5 x6 r l).trans (kv_lane _ _ _ 1 l).symm
  · intro x
    obtain ⟨r, l, rfl⟩ : ∃ (r : Fin 512) (l : Fin 128), x = ix2 r l := ⟨x 0, x 1, eq_ix2 x⟩
    refine Eq.trans ?_ (congrArg (ofRows _) (emb0 0 rfl inb_S512x512_S512x128_0_0 r l).symm)
    exact (kaBlock x0 x1 x2 x3 x4 x5 x6 x7 x8 cs sn h7 h8 h4 r (hr r) l).trans (kv_lane _ _ _ 0 l).symm

end Cert.Proof.RotBlocks
-- ==== Proof.RotHost.lean ====
/- Hand-written, untrusted: what the sample's attention inputs' kernel reads: the host's arrays (`V_…`), the blocks of the arrays that a grid
   point sees (`iblk…_at`), and so the rows of the blocks as rows of the argument arrays (`brow_eq`). -/
module

public import proofs.«01_k».proof.Proof.RotBlocks
public import proofs.«01_k».proof.Proof.Gen.RotIdeal.Value
public import Idealize.ShloMosaic.Lib.StableHlo.ReadAt

@[expose] public section

set_option maxRecDepth 16384

noncomputable section

namespace Cert.Proof.RotHost

open Cert.RotIdeal Cert.RotIdeal.Gen Cert.RotIdeal.Value Idealize.ShloMosaic Idealize.ShloMosaic.TcCoe Idealize.SL.Sem
open Cert.Proof.InSpec Cert.Proof.InBody

variable (m : (ℓ : Loc nD τ sig) → Buf (Elt Ideal) ℓ) (ρ : Dev nD → PrngReg)

/-- The sequence and the place in it of token `t`. -/
def sq (t : Fin 16384) : Fin 8 := ⟨t.val / 2048, by have := t.isLt; omega⟩
def pl (t : Fin 16384) : Fin 2048 := ⟨t.val % 2048, by omega⟩

/-- Token `t` of the argument arrays. -/
def arow (c : Dev nD) : Fin 16384 → Row :=
  RotSpec.rrow (fun t k => (m ((c : Thread nD τ).loc main_arg0)) (ix3 (sq t) (pl t) k)) (fun b i k => (m ((c : Thread nD τ).loc main_arg1)) (ix3 b i k)) (fun k => (m ((c : Thread nD τ).loc main_arg2)) (ix1 k)) (fun k e => (m ((c : Thread nD τ).loc main_arg3)) (ix2 k e))
    (fun l => (m ((c : Thread nD τ).loc main_arg4)) (ix1 l)) (fun l => (m ((c : Thread nD τ).loc main_arg5)) (ix1 l))

/-- The cosines and sines of the angles at the place of token `t`. -/
def cs (c : Dev nD) (t : Fin 16384) (j : Fin 32) : EReal := (m ((c : Thread nD τ).loc main_arg6)) (ix2 (pl t) j)
def sn (c : Dev nD) (t : Fin 16384) (j : Fin 32) : EReal := (m ((c : Thread nD τ).loc main_arg7)) (ix2 (pl t) j)

/-! ## The host's arrays before the call -/

/-- The identity's comparison of a row's number with a column's. -/
theorem eye_at : ∀ a b : Fin 8, IntOp.cmpi CmpIPredicate.eq (IntOp.addi (BitVec.ofNat 32 a.val) 0#32) (BitVec.ofNat 32 b.val)
    = if a.val = b.val then 1#1 else 0#1 := by
  decide +kernel

theorem V_v8 (c : Dev nD) (k l : Fin 512) :
    V m c main_v8 (ix2 k l) = (if k.val / 64 = l.val / 64 then 1 else 0 : EReal) := by
  unfold V
  after_reads_at
  have e := eye_at ⟨k.val / 64, by have := k.isLt; omega⟩ ⟨l.val / 64, by have := l.isLt; omega⟩
  refine (congrArg (fun b => (FloatOps.uitofp FTy.f32 b : Ideal .f32)) e).trans ?_
  by_cases h : k.val / 64 = l.val / 64
  · rw [if_pos h, if_pos h]
    show (((1#1).toNat : ℝ) : EReal) = 1
    simp
  · rw [if_neg h, if_neg h]
    show (((0#1).toNat : ℝ) : EReal) = 0
    simp

theorem V_v18 (c : Dev nD) (t : Fin 16384) (k : Fin 1024) : V m c main_v18 (ix2 t k) = (m ((c : Thread nD τ).loc main_arg0)) (ix3 (sq t) (pl t) k) := by
  unfold V
  after_reads_at
  rfl

theorem V_v19 (c : Dev nD) (k : Fin 1024) : V m c main_v19 (ix2 0 k) = (m ((c : Thread nD τ).loc main_arg2)) (ix1 k) := by
  unfold V
  after_reads_at

theorem V_v20 (c : Dev nD) (k : Fin 1024) (e : Fin 7168) : V m c main_v20 (ix2 k e) = (m ((c : Thread nD τ).loc main_arg3)) (ix2 k e) := by
  unfold V
  after_reads_at

theorem V_v24 (c : Dev nD) (l : Fin 512) : V m c main_v24 (ix2 0 l) = (m ((c : Thread nD τ).loc main_arg4)) (ix1 ⟨l.val % 64, by omega⟩) := by
  unfold V
  after_reads_at

theorem V_v28 (c : Dev nD) (l : Fin 128) : V m c main_v28 (ix2 0 l) = (m ((c : Thread nD τ).loc main_arg5)) (ix1 ⟨l.val % 64, by omega⟩) := by
  unfold V
  after_reads_at

theorem V_v12 (c : Dev nD) (p : Fin 2048) (l : Fin 512) : V m c main_v12 (ix2 p l) = (m ((c : Thread nD τ).loc main_arg6)) (ix2 p ⟨l.val % 32, by omega⟩) := by
  unfold V
  after_reads_at
  by_cases h : l.val % 64 < 32
  · rw [dif_pos h]
    refine Eq.trans (b := (m ((c : Thread nD τ).loc main_arg6)) (ix2 p ⟨l.val % 64, by omega⟩)) (by after_reads_at) ?_
    exact congrArg (fun j => (m ((c : Thread nD τ).loc main_arg6)) (ix2 p j)) (Fin.ext (by show l.val % 64 = l.val % 32; omega))
  · rw [dif_neg h]
    refine Eq.trans (b := (m ((c : Thread nD τ).loc main_arg6)) (ix2 p ⟨l.val % 64 - 32, by omega⟩)) (by after_reads_at) ?_
    exact congrArg (fun j => (m ((c : Thread nD τ).loc main_arg6)) (ix2 p j)) (Fin.ext (by show l.val % 64 - 32 = l.val % 32; omega))

theorem V_v17 (c : Dev nD) (p : Fin 2048) (l : Fin 512) :
    V m c main_v17 (ix2 p l) = RotSpec.signed (fun j => (m ((c : Thread nD τ).loc main_arg7)) (ix2 p j)) l := by
  unfold V
  after_reads_at
  unfold RotSpec.signed
  by_cases h : l.val % 64 < 32
  · rw [dif_pos h, if_pos h]
    refine Eq.trans (b := (-(show EReal from (m ((c : Thread nD τ).loc main_arg7)) (ix2 p ⟨l.val % 64, by omega⟩)) : EReal)) (by after_reads_at) ?_
    exact congrArg (fun j : Fin 32 => (-(show EReal from (m ((c : Thread nD τ).loc main_arg7)) (ix2 p j)) : EReal)) (Fin.ext (by show l.val % 64 = l.val % 32; omega))
  · rw [dif_neg h, if_neg h]
    refine Eq.trans (b := (m ((c : Thread nD τ).loc main_arg7)) (ix2 p ⟨l.val % 64 - 32, by omega⟩)) (by after_reads_at) ?_
    exact congrArg (fun j => (m ((c : Thread nD τ).loc main_arg7)) (ix2 p j)) (Fin.ext (by show l.val % 64 - 32 = l.val % 32; omega))

theorem V_a1 (c : Dev nD) (b : Fin 8) (i : Fin 6) (k : Fin 1024) : V m c main_arg1 (ix3 b i k) = (m ((c : Thread nD τ).loc main_arg1)) (ix3 b i k) := by
  unfold V
  after_reads_at

/-! ## The blocks of a grid point -/

theorem idx0 : ∀ t : Fin cfg0.N, win0_0.index t (0 : Fin 2) = t.val ∧ win0_0.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 1 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = t.val % 4 ∧ win0_7.index t (1 : Fin 2) = 0 :=
  (by decide +kernel : ∀ t : Fin grid0.N, _)
theorem idx8 : ∀ t : Fin cfg0.N, win0_8.index t (0 : Fin 2) = t.val % 4 ∧ win0_8.index t (1 : Fin 2) = 0 :=
  (by decide +kernel : ∀ t : Fin grid0.N, _)
theorem idx9 : ∀ t : Fin cfg0.N, win0_9.index t (0 : Fin 2) = t.val ∧ win0_9.index t (1 : Fin 2) = 0 :=
  (by decide +kernel : ∀ t : Fin grid0.N, _)
theorem idx10 : ∀ t : Fin cfg0.N, win0_10.index t (0 : Fin 2) = t.val ∧ win0_10.index t (1 : Fin 2) = 0 :=
  (by decide +kernel : ∀ t : Fin grid0.N, _)
theorem idx11 : ∀ t : Fin cfg0.N, win0_11.index t (0 : Fin 2) = t.val ∧ win0_11.index t (1 : Fin 2) = 0 :=
  (by decide +kernel : ∀ t : Fin grid0.N, _)
theorem idx12 : ∀ t : Fin cfg0.N, win0_12.index t (0 : Fin 2) = t.val ∧ win0_12.index t (1 : Fin 2) = 0 :=
  (by decide +kernel : ∀ t : Fin grid0.N, _)
theorem idx13 : ∀ t : Fin cfg0.N, win0_13.index t (0 : Fin 2) = t.val ∧ win0_13.index t (1 : Fin 2) = 0 :=
  (by decide +kernel : ∀ t : Fin grid0.N, _)
theorem idx14 : ∀ t : Fin cfg0.N, win0_14.index t (0 : Fin 2) = t.val ∧ win0_14.index t (1 : Fin 2) = 0 :=
  (by decide +kernel : ∀ t : Fin grid0.N, _)
theorem idx15 : ∀ t : Fin cfg0.N, win0_15.index t (0 : Fin 2) = t.val ∧ win0_15.index t (1 : Fin 2) = 0 :=
  (by decide +kernel : ∀ t : Fin grid0.N, _)
theorem idx1 : ∀ t : Fin cfg0.N, win0_1.index t (0 : Fin 3) = t.val / 4 ∧ win0_1.index t (1 : Fin 3) = 0 ∧ win0_1.index t (2 : Fin 3) = 0 :=
  (by decide +kernel : ∀ t : Fin grid0.N, _)

theorem tlt (t : Fin cfg0.N) : t.val < 32 := t.isLt

/-- Row `r` of the block of point `t`. -/
def qrow (t : Fin cfg0.N) (r : Fin 512) : Fin 16384 := ⟨512 * t.val + r.val, by have := tlt t; omega⟩

theorem iblk0_at (c : Dev nD) (t : Fin cfg0.N) (r : Fin 512) (k : Fin 1024) :
    iblk m c 0 t (ix2 r k) = V m c main_v18 (ix2 (qrow t r) k) := by
  obtain ⟨e0, e1⟩ := idx0 t
  show V m c main_v18 (((cfg0.win 0).blk t).view.emb (ix2 r k)) = _
  refine congrArg (V m c main_v18) (funext fun a => Fin.ext ?_)
  match a with
  | ⟨0, _⟩ => show win0_0.index t (0 : Fin 2) * 512 + 1 * r.val = 512 * t.val + r.val; omega
  | ⟨1, _⟩ => show win0_0.index t (1 : Fin 2) * 1024 + 1 * k.val = k.val; omega

theorem iblk1_at (c : Dev nD) (t : Fin cfg0.N) (i : Fin 6) (k : Fin 1024) :
    iblk m c 1 t (ix3 0 i k) = V m c main_arg1 (ix3 ⟨t.val / 4, by have := tlt t; omega⟩ i k) := by
  obtain ⟨e0, e1, e2⟩ := idx1 t
  show V m c main_arg1 (((cfg0.win 1).blk t).view.emb (ix3 0 i k)) = _
  refine congrArg (V m c main_arg1) (funext fun a => Fin.ext ?_)
  match a with
  | ⟨0, _⟩ => show win0_1.index t (0 : Fin 3) * 1 + 1 * 0 = t.val / 4; omega
  | ⟨1, _⟩ => show win0_1.index t (1 : Fin 3) * 6 + 1 * i.val = i.val; omega
  | ⟨2, _⟩ => show win0_1.index t (2 : Fin 3) * 1024 + 1 * k.val = k.val; omega

theorem x3_at (c : Dev nD) (t : Fin cfg0.N) (k : Fin 1024) (e : Fin 1536) :
    X0_3 m c t (ix2 k e) = V m c main_v20 (ix2 k ⟨1536 + e.val, by have := e.isLt; omega⟩) := by
  obtain ⟨e0, e1⟩ := idx3 t
  unfold X0_3 Pipeline.Window.fill
  rw [dif_pos (moved0_3 t _)]
  show V m c main_v20 (((cfg0.win 3).blk t).view.emb _) = _
  refine congrArg (V m c main_v20) (funext fun a => Fin.ext ?_)
  match a with
  | ⟨0, _⟩ => show win0_3.index t (0 : Fin 2) * 1024 + 1 * k.val = k.val; omega
  | ⟨1, _⟩ => show win0_3.index t (1 : Fin 2) * 1536 + 1 * e.val = 1536 + e.val; omega

theorem iblk2_at (c : Dev nD) (t : Fin cfg0.N) (k : Fin 1024) :
    iblk m c 2 t (ix2 0 k) = V m c main_v19 (ix2 0 k) := by
  obtain ⟨e0, e1⟩ := idx2 t
  show V m c main_v19 (((cfg0.win 2).blk t).view.emb (ix2 0 k)) = _
  refine congrArg (V m c main_v19) (funext fun a => Fin.ext ?_)
  match a with
  | ⟨0, _⟩ => show win0_2.index t (0 : Fin 2) * 1 + 1 * 0 = 0; omega
  | ⟨1, _⟩ => show win0_2.index t (1 : Fin 2) * 1024 + 1 * k.val = k.val; omega

theorem iblk4_at (c : Dev nD) (t : Fin cfg0.N) (r : Fin 512) (k : Fin 512) :
    iblk m c 4 t (ix2 r k) = V m c main_v8 (ix2 r k) := by
  obtain ⟨e0, e1⟩ := idx4 t
  show V m c main_v8 (((cfg0.win 4).blk t).view.emb (ix2 r k)) = _
  refine congrArg (V m c main_v8) (funext fun a => Fin.ext ?_)
  match a with
  | ⟨0, _⟩ => show win0_4.index t (0 : Fin 2) * 512 + 1 * r.val = r.val; omega
  | ⟨1, _⟩ => show win0_4.index t (1 : Fin 2) * 512 + 1 * k.val = k.val; omega

theorem iblk5_at (c : Dev nD) (t : Fin cfg0.N) (k : Fin 512) :
    iblk m c 5 t (ix2 0 k) = V m c main_v24 (ix2 0 k) := by
  obtain ⟨e0, e1⟩ := idx5 t
  show V m c main_v24 (((cfg0.win 5).blk t).view.emb (ix2 0 k)) = _
  refine congrArg (V m c main_v24) (funext fun a => Fin.ext ?_)
  match a with
  | ⟨0, _⟩ => show win0_5.index t (0 : Fin 2) * 1 + 1 * 0 = 0; omega
  | ⟨1, _⟩ => show win0_5.index t (1 : Fin 2) * 512 + 1 * k.val = k.val; omega

theorem iblk6_at (c : Dev nD) (t : Fin cfg0.N) (k : Fin 128) :
    iblk m c 6 t (ix2 0 k) = V m c main_v28 (ix2 0 k) := by
  obtain ⟨e0, e1⟩ := idx6 t
  show V m c main_v28 (((cfg0.win 6).blk t).view.emb (ix2 0 k)) = _
  refine congrArg (V m c main_v28) (funext fun a => Fin.ext ?_)
  match a with
  | ⟨0, _⟩ => show win0_6.index t (0 : Fin 2) * 1 + 1 * 0 = 0; omega
  | ⟨1, _⟩ => show win0_6.index t (1 : Fin 2) * 128 + 1 * k.val = k.val; omega

theorem iblk7_at (c : Dev nD) (t : Fin cfg0.N) (r : Fin 512) (k : Fin 512) :
    iblk m c 7 t (ix2 r k) = V m c main_v12 (ix2 (pl (qrow t r)) k) := by
  obtain ⟨e0, e1⟩ := idx7 t
  show V m c main_v12 (((cfg0.win 7).blk t).view.emb (ix2 r k)) = _
  refine congrArg (V m c main_v12) (funext fun a => Fin.ext ?_)
  match a with
  | ⟨0, _⟩ => show win0_7.index t (0 : Fin 2) * 512 + 1 * r.val = (512 * t.val + r.val) % 2048; omega
  | ⟨1, _⟩ => show win0_7.index t (1 : Fin 2) * 512 + 1 * k.val = k.val; omega

theorem iblk8_at (c : Dev nD) (t : Fin cfg0.N) (r : Fin 512) (k : Fin 512) :
    iblk m c 8 t (ix2 r k) = V m c main_v17 (ix2 (pl (qrow t r)) k) := by
  obtain ⟨e0, e1⟩ := idx8 t
  show V m c main_v17 (((cfg0.win 8).blk t).view.emb (ix2 r k)) = _
  refine congrArg (V m c main_v17) (funext fun a => Fin.ext ?_)
  match a with
  | ⟨0, _⟩ => show win0_8.index t (0 : Fin 2) * 512 + 1 * r.val = (512 * t.val + r.val) % 2048; omega
  | ⟨1, _⟩ => show win0_8.index t (1 : Fin 2) * 512 + 1 * k.val = k.val; omega

theorem emb9 (t : Fin cfg0.N) (r : Fin 512) (k : Fin 512) :
    ((cfg0.win 9).blk t).view.emb (ix2 r k) = ix2 (qrow t r) k := by
  obtain ⟨e0, e1⟩ := idx9 t
  refine funext fun a => Fin.ext ?_
  match a with
  | ⟨0, _⟩ => show win0_9.index t (0 : Fin 2) * 512 + 1 * r.val = 512 * t.val + r.val; omega
  | ⟨1, _⟩ => show win0_9.index t (1 : Fin 2) * 512 + 1 * k.val = k.val; omega

theorem emb10 (t : Fin cfg0.N) (r : Fin 512) (k : Fin 512) :
    ((cfg0.win 10).blk t).view.emb (ix2 r k) = ix2 (qrow t r) k := by
  obtain ⟨e0, e1⟩ := idx10 t
  refine funext fun a => Fin.ext ?_
  match a with
  | ⟨0, _⟩ => show win0_10.index t (0 : Fin 2) * 512 + 1 * r.val = 512 * t.val + r.val; omega
  | ⟨1, _⟩ => show win0_10.index t (1 : Fin 2) * 512 + 1 * k.val = k.val; omega

theorem emb11 (t : Fin cfg0.N) (r : Fin 512) (k : Fin 512) :
    ((cfg0.win 11).blk t).view.emb (ix2 r k) = ix2 (qrow t r) k := by
  obtain ⟨e0, e1⟩ := idx11 t
  refine funext fun a => Fin.ext ?_
  match a with
  | ⟨0, _⟩ => show win0_11.index t (0 : Fin 2) * 512 + 1 * r.val = 512 * t.val + r.val; omega
  | ⟨1, _⟩ => show win0_11.index t (1 : Fin 2) * 512 + 1 * k.val = k.val; omega

theorem emb12 (t : Fin cfg0.N) (r : Fin 512) (k : Fin 512) :
    ((cfg0.win 12).blk t).view.emb (ix2 r k) = ix2 (qrow t r) k := by
  obtain ⟨e0, e1⟩ := idx12 t
  refine funext fun a => Fin.ext ?_
  match a with
  | ⟨0, _⟩ => show win0_12.index t (0 : Fin 2) * 512 + 1 * r.val = 512 * t.val + r.val; omega
  | ⟨1, _⟩ => show win0_12.index t (1 : Fin 2) * 512 + 1 * k.val = k.val; omega

theorem emb13 (t : Fin cfg0.N) (r : Fin 512) (k : Fin 512) :
    ((cfg0.win 13).blk t).view.emb (ix2 r k) = ix2 (qrow t r) k := by
  obtain ⟨e0, e1⟩ := idx13 t
  refine funext fun a => Fin.ext ?_
  match a with
  | ⟨0, _⟩ => show win0_13.index t (0 : Fin 2) * 512 + 1 * r.val = 512 * t.val + r.val; omega
  | ⟨1, _⟩ => show win0_13.index t (1 : Fin 2) * 512 + 1 * k.val = k.val; omega

theorem emb14 (t : Fin cfg0.N) (r : Fin 512) (k : Fin 512) :
    ((cfg0.win 14).blk t).view.emb (ix2 r k) = ix2 (qrow t r) k := by
  obtain ⟨e0, e1⟩ := idx14 t
  refine funext fun a => Fin.ext ?_
  match a with
  | ⟨0, _⟩ => show win0_14.index t (0 : Fin 2) * 512 + 1 * r.val = 512 * t.val + r.val; omega
  | ⟨1, _⟩ => show win0_14.index t (1 : Fin 2) * 512 + 1 * k.val = k.val; omega

theorem emb15 (t : Fin cfg0.N) (r : Fin 512) (k : Fin 512) :
    ((cfg0.win 15).blk t).view.emb (ix2 r k) = ix2 (qrow t r) k := by
  obtain ⟨e0, e1⟩ := idx15 t
  refine funext fun a => Fin.ext ?_
  match a with
  | ⟨0, _⟩ => show win0_15.index t (0 : Fin 2) * 512 + 1 * r.val = 512 * t.val + r.val; omega
  | ⟨1, _⟩ => show win0_15.index t (1 : Fin 2) * 512 + 1 * k.val = k.val; omega

theorem mod_batch (c : Dev nD) (t : Fin cfg0.N) (r : Fin 512) (i : Fin 6) (k : Fin 1024) :
    (m ((c : Thread nD τ).loc main_arg1)) (ix3 ⟨t.val / 4, by have := tlt t; omega⟩ i k)
      = (m ((c : Thread nD τ).loc main_arg1)) (ix3 ⟨(qrow t r).val / 2048, by have := (qrow t r).isLt; omega⟩ i k) :=
  congrArg (fun b => (m ((c : Thread nD τ).loc main_arg1)) (ix3 b i k)) (Fin.ext (by
    show t.val / 4 = (512 * t.val + r.val) / 2048
    omega))

/-- A row of the blocks of a grid point is a token of the argument arrays. -/
theorem brow_eq (c : Dev nD) (t : Fin cfg0.N) (r : Fin 512) :
    brow (iblk m c 0 t) (iblk m c 1 t) (iblk m c 2 t) (X0_3 m c t) (iblk m c 5 t) (iblk m c 6 t) r = arow m c (qrow t r) :=
  brow_of _ _ _ _ _ _ (arow m c (qrow t r)) r
    (fun k => (iblk0_at m c t r k).trans (V_v18 m c _ _)) (fun k => (iblk1_at m c t 1 k).trans ((V_a1 m c _ _ _).trans (mod_batch m c t r 1 k)))
    (fun k => (iblk1_at m c t 0 k).trans ((V_a1 m c _ _ _).trans (mod_batch m c t r 0 k))) (fun k => (iblk2_at m c t k).trans (V_v19 m c _))
    (fun k e => (x3_at m c t k e).trans (V_v20 m c _ _)) (fun l => (iblk5_at m c t l).trans (V_v24 m c _))
    (fun l => (iblk6_at m c t l).trans (V_v28 m c _))

/-- The block that the squares are multiplied by. -/
theorem ones_at (c : Dev nD) (t : Fin cfg0.N) (k l : Fin 512) :
    iblk m c 4 t (ix2 k l) = (if k.val / 64 = l.val / 64 then 1 else 0 : EReal) := (iblk4_at m c t k l).trans (V_v8 m c k l)

/-- The blocks of the angles. -/
theorem cos_at (c : Dev nD) (t : Fin cfg0.N) (r l : Fin 512) :
    iblk m c 7 t (ix2 r l) = cs m c (qrow t r) ⟨l.val % 32, by omega⟩ := (iblk7_at m c t r l).trans (V_v12 m c _ l)

theorem sin_at (c : Dev nD) (t : Fin cfg0.N) (r l : Fin 512) :
    iblk m c 8 t (ix2 r l) = RotSpec.signed (sn m c (qrow t r)) l := (iblk8_at m c t r l).trans (V_v17 m c _ l)

end Cert.Proof.RotHost
-- ==== Proof.RotArray.lean ====
/- Hand-written, untrusted: the seven result arrays of the attention inputs' kernel are the parts of `Row` of the tokens of the
   argument arrays: what a grid point writes back (`flushed…_eq`), the arrays after the run (`final…`). -/
module

public import proofs.«01_k».proof.Proof.RotHost

@[expose] public section

set_option maxRecDepth 16384

noncomputable section

namespace Cert.Proof.RotArray

open Cert.RotIdeal Cert.RotIdeal.Gen Cert.RotIdeal.Value Idealize.ShloMosaic Idealize.ShloMosaic.TcCoe Idealize.SL.Sem
open Cert.Proof.InSpec Cert.Proof.InSum Cert.Proof.InBody Cert.Proof.RotBlocks Cert.Proof.RotHost

variable (m : (ℓ : Loc nD τ sig) → Buf (Elt Ideal) ℓ) (ρ : Dev nD → PrngReg)

/-- Every column of every token's projection is real. -/
def Reals (c : Dev nD) : Prop := ∀ t e, IsReal ((arow m c t).acc e)

/-- An array from its rows. -/
def ofTokens {e : EltTy} (f : Fin 16384 → Fin 512 → Elt Ideal e) : Vec Ideal S16384x512 e := fun i => f (i 0) (i 1)

/-- The seven result arrays. -/
def R9 (c : Dev nD) : Vec Ideal S16384x512 .bf16 := ofTokens fun t => RotSpec.qa (arow m c t) (cs m c t) (sn m c t)
def R10 (c : Dev nD) : Vec Ideal S16384x512 .bf16 := ofTokens fun t => RotSpec.qw (arow m c t) (cs m c t) (sn m c t)
def R11 (c : Dev nD) : Vec Ideal S16384x512 .bf16 := ofTokens fun t => beside (RotSpec.ka (arow m c t) (cs m c t) (sn m c t))
def R12 (c : Dev nD) : Vec Ideal S16384x512 .bf16 := ofTokens fun t => beside ((arow m c t).va)
def R13 (c : Dev nD) : Vec Ideal S16384x512 .bf16 := ofTokens fun t => beside (RotSpec.kw (arow m c t) (cs m c t) (sn m c t))
def R14 (c : Dev nD) : Vec Ideal S16384x512 .bf16 := ofTokens fun t => beside ((arow m c t).vw)
def R15 (c : Dev nD) : Vec Ideal S16384x512 .f32 := ofTokens fun t => RotSpec.kv (arow m c t) (cs m c t) (sn m c t)

theorem real_rows (c : Dev nD) (hr : Reals m c) (t : Fin cfg0.N) (r : Fin 512) (e : Fin 1536) :
    IsReal ((brow (iblk m c 0 t) (iblk m c 1 t) (iblk m c 2 t) (X0_3 m c t) (iblk m c 5 t) (iblk m c 6 t) r).acc e) := by
  rw [brow_eq]
  exact hr _ e

theorem flushed9_eq (c : Dev nD) (hr : Reals m c) (t : Fin cfg0.N) :
    (dats m 0 c).flushed 9 t = ((cfg0.win 9).blk t).view.read (Elt Ideal) (R9 m c) := by
  rw [flushed9_A, out9 _ _ _ _ _ _ _ _ _ _ _ _ _ _ _ _ _ _ _ _ _ _ _ _ _ _ _ _ _ _ _ _ _ _ _ _ _ _ _ _ _ _ _ (ones_at m c t) (real_rows m c hr t) (fun r => cs m c (qrow t r)) (fun r => sn m c (qrow t r)) (cos_at m c t) (sin_at m c t)]
  funext j
  obtain ⟨r, x, rfl⟩ : ∃ (r : Fin 512) (x : Fin 512), j = ix2 r x :=
    ⟨j 0, j 1, funext fun a => by match a with | ⟨0, _⟩ => rfl | ⟨1, _⟩ => rfl⟩
  show RotSpec.qa (brow (iblk m c 0 t) (iblk m c 1 t) (iblk m c 2 t) (X0_3 m c t) (iblk m c 5 t) (iblk m c 6 t) r) (cs m c (qrow t r)) (sn m c (qrow t r)) x = R9 m c (((cfg0.win 9).blk t).view.emb (ix2 r x))
  rw [emb9, brow_eq]
  rfl

theorem covered9 (i : S16384x512.Idx) :
    ∃ t : Fin cfg0.N, (cfg0.win 9).flush t = true ∧ i ∈ ((cfg0.win 9).blk t).view.set := by
  have h0 : (i 0).val < 16384 := (i 0).isLt
  obtain ⟨t, ht⟩ : ∃ t : Fin cfg0.N, t.val = (i 0).val / 512 := ⟨⟨(i 0).val / 512, (by omega : (i 0).val / 512 < 32)⟩, rfl⟩
  obtain ⟨r, hr⟩ : ∃ r : Fin 512, r.val = (i 0).val % 512 := ⟨⟨(i 0).val % 512, by omega⟩, rfl⟩
  obtain ⟨x, hx⟩ : ∃ x : Fin 512, x.val = (i 1).val := ⟨i 1, rfl⟩
  have e : ix2 (qrow t r) x = i := funext fun a => by
    match a with
    | ⟨0, _⟩ => exact Fin.ext (show 512 * t.val + r.val = (i 0).val by omega)
    | ⟨1, _⟩ => exact Fin.ext hx
  refine ⟨t, flush0_9 t, ?_⟩
  have h := ((cfg0.win 9).blk t).view.emb_mem_set (ix2 r x)
  rw [emb9, e] at h
  exact h

theorem final9 (c : Dev nD) (hr : Reals m c) : (dats m 0 c).arrAt 9 cfg0.N = R9 m c :=
  (dats m 0 c).arrAt_eq_of_cover 9 (R9 m c) (fun t _ => flushed9_eq m c hr t) covered9

theorem flushed10_eq (c : Dev nD) (t : Fin cfg0.N) :
    (dats m 0 c).flushed 10 t = ((cfg0.win 10).blk t).view.read (Elt Ideal) (R10 m c) := by
  rw [flushed10_A, out10 _ _ _ _ _ _ _ _ _ _ _ _ _ _ _ _ _ _ _ _ _ _ _ _ _ _ _ _ _ _ _ _ _ _ _ _ _ _ _ _ _ _ _ (fun r => cs m c (qrow t r)) (fun r => sn m c (qrow t r)) (cos_at m c t) (sin_at m c t)]
  funext j
  obtain ⟨r, x, rfl⟩ : ∃ (r : Fin 512) (x : Fin 512), j = ix2 r x :=
    ⟨j 0, j 1, funext fun a => by match a with | ⟨0, _⟩ => rfl | ⟨1, _⟩ => rfl⟩
  show RotSpec.qw (brow (iblk m c 0 t) (iblk m c 1 t) (iblk m c 2 t) (X0_3 m c t) (iblk m c 5 t) (iblk m c 6 t) r) (cs m c (qrow t r)) (sn m c (qrow t r)) x = R10 m c (((cfg0.win 10).blk t).view.emb (ix2 r x))
  rw [emb10, brow_eq]
  rfl

theorem covered10 (i : S16384x512.Idx) :
    ∃ t : Fin cfg0.N, (cfg0.win 10).flush t = true ∧ i ∈ ((cfg0.win 10).blk t).view.set := by
  have h0 : (i 0).val < 16384 := (i 0).isLt
  obtain ⟨t, ht⟩ : ∃ t : Fin cfg0.N, t.val = (i 0).val / 512 := ⟨⟨(i 0).val / 512, (by omega : (i 0).val / 512 < 32)⟩, rfl⟩
  obtain ⟨r, hr⟩ : ∃ r : Fin 512, r.val = (i 0).val % 512 := ⟨⟨(i 0).val % 512, by omega⟩, rfl⟩
  obtain ⟨x, hx⟩ : ∃ x : Fin 512, x.val = (i 1).val := ⟨i 1, rfl⟩
  have e : ix2 (qrow t r) x = i := funext fun a => by
    match a with
    | ⟨0, _⟩ => exact Fin.ext (show 512 * t.val + r.val = (i 0).val by omega)
    | ⟨1, _⟩ => exact Fin.ext hx
  refine ⟨t, flush0_10 t, ?_⟩
  have h := ((cfg0.win 10).blk t).view.emb_mem_set (ix2 r x)
  rw [emb10, e] at h
  exact h

theorem final10 (c : Dev nD) : (dats m 0 c).arrAt 10 cfg0.N = R10 m c :=
  (dats m 0 c).arrAt_eq_of_cover 10 (R10 m c) (fun t _ => flushed10_eq m c t) covered10

theorem flushed11_eq (c : Dev nD) (hr : Reals m c) (t : Fin cfg0.N) :
    (dats m 0 c).flushed 11 t = ((cfg0.win 11).blk t).view.read (Elt Ideal) (R11 m c) := by
  rw [flushed11_A, out11 _ _ _ _ _ _ _ _ _ _ _ _ _ _ _ _ _ _ _ _ _ _ _ _ _ _ _ _ _ _ _ _ _ _ _ _ _ _ _ _ _ _ _ (ones_at m c t) (real_rows m c hr t) (fun r => cs m c (qrow t r)) (fun r => sn m c (qrow t r)) (cos_at m c t) (sin_at m c t)]
  funext j
  obtain ⟨r, x, rfl⟩ : ∃ (r : Fin 512) (x : Fin 512), j = ix2 r x :=
    ⟨j 0, j 1, funext fun a => by match a with | ⟨0, _⟩ => rfl | ⟨1, _⟩ => rfl⟩
  show beside (RotSpec.ka (brow (iblk m c 0 t) (iblk m c 1 t) (iblk m c 2 t) (X0_3 m c t) (iblk m c 5 t) (iblk m c 6 t) r) (cs m c (qrow t r)) (sn m c (qrow t r))) x = R11 m c (((cfg0.win 11).blk t).view.emb (ix2 r x))
  rw [emb11, brow_eq]
  rfl

theorem covered11 (i : S16384x512.Idx) :
    ∃ t : Fin cfg0.N, (cfg0.win 11).flush t = true ∧ i ∈ ((cfg0.win 11).blk t).view.set := by
  have h0 : (i 0).val < 16384 := (i 0).isLt
  obtain ⟨t, ht⟩ : ∃ t : Fin cfg0.N, t.val = (i 0).val / 512 := ⟨⟨(i 0).val / 512, (by omega : (i 0).val / 512 < 32)⟩, rfl⟩
  obtain ⟨r, hr⟩ : ∃ r : Fin 512, r.val = (i 0).val % 512 := ⟨⟨(i 0).val % 512, by omega⟩, rfl⟩
  obtain ⟨x, hx⟩ : ∃ x : Fin 512, x.val = (i 1).val := ⟨i 1, rfl⟩
  have e : ix2 (qrow t r) x = i := funext fun a => by
    match a with
    | ⟨0, _⟩ => exact Fin.ext (show 512 * t.val + r.val = (i 0).val by omega)
    | ⟨1, _⟩ => exact Fin.ext hx
  refine ⟨t, flush0_11 t, ?_⟩
  have h := ((cfg0.win 11).blk t).view.emb_mem_set (ix2 r x)
  rw [emb11, e] at h
  exact h

theorem final11 (c : Dev nD) (hr : Reals m c) : (dats m 0 c).arrAt 11 cfg0.N = R11 m c :=
  (dats m 0 c).arrAt_eq_of_cover 11 (R11 m c) (fun t _ => flushed11_eq m c hr t) covered11

theorem flushed12_eq (c : Dev nD) (t : Fin cfg0.N) :
    (dats m 0 c).flushed 12 t = ((cfg0.win 12).blk t).view.read (Elt Ideal) (R12 m c) := by
  rw [flushed12_A, out12 _ _ _ _ _ _ _ _ _ _ _ _ _ _ _ _ _ _ _ _ _ _ _ _ _ _ _ _ _ _ _ _ _ _ _ _ _ _ _ _ _ _ _]
  funext j
  obtain ⟨r, x, rfl⟩ : ∃ (r : Fin 512) (x : Fin 512), j = ix2 r x :=
    ⟨j 0, j 1, funext fun a => by match a with | ⟨0, _⟩ => rfl | ⟨1, _⟩ => rfl⟩
  show beside ((brow (iblk m c 0 t) (iblk m c 1 t) (iblk m c 2 t) (X0_3 m c t) (iblk m c 5 t) (iblk m c 6 t) r).va) x = R12 m c (((cfg0.win 12).blk t).view.emb (ix2 r x))
  rw [emb12, brow_eq]
  rfl

theorem covered12 (i : S16384x512.Idx) :
    ∃ t : Fin cfg0.N, (cfg0.win 12).flush t = true ∧ i ∈ ((cfg0.win 12).blk t).view.set := by
  have h0 : (i 0).val < 16384 := (i 0).isLt
  obtain ⟨t, ht⟩ : ∃ t : Fin cfg0.N, t.val = (i 0).val / 512 := ⟨⟨(i 0).val / 512, (by omega : (i 0).val / 512 < 32)⟩, rfl⟩
  obtain ⟨r, hr⟩ : ∃ r : Fin 512, r.val = (i 0).val % 512 := ⟨⟨(i 0).val % 512, by omega⟩, rfl⟩
  obtain ⟨x, hx⟩ : ∃ x : Fin 512, x.val = (i 1).val := ⟨i 1, rfl⟩
  have e : ix2 (qrow t r) x = i := funext fun a => by
    match a with
    | ⟨0, _⟩ => exact Fin.ext (show 512 * t.val + r.val = (i 0).val by omega)
    | ⟨1, _⟩ => exact Fin.ext hx
  refine ⟨t, flush0_12 t, ?_⟩
  have h := ((cfg0.win 12).blk t).view.emb_mem_set (ix2 r x)
  rw [emb12, e] at h
  exact h

theorem final12 (c : Dev nD) : (dats m 0 c).arrAt 12 cfg0.N = R12 m c :=
  (dats m 0 c).arrAt_eq_of_cover 12 (R12 m c) (fun t _ => flushed12_eq m c t) covered12

theorem flushed13_eq (c : Dev nD) (t : Fin cfg0.N) :
    (dats m 0 c).flushed 13 t = ((cfg0.win 13).blk t).view.read (Elt Ideal) (R13 m c) := by
  rw [flushed13_A, out13 _ _ _ _ _ _ _ _ _ _ _ _ _ _ _ _ _ _ _ _ _ _ _ _ _ _ _ _ _ _ _ _ _ _ _ _ _ _ _ _ _ _ _ (fun r => cs m c (qrow t r)) (fun r => sn m c (qrow t r)) (cos_at m c t) (sin_at m c t)]
  funext j
  obtain ⟨r, x, rfl⟩ : ∃ (r : Fin 512) (x : Fin 512), j = ix2 r x :=
    ⟨j 0, j 1, funext fun a => by match a with | ⟨0, _⟩ => rfl | ⟨1, _⟩ => rfl⟩
  show beside (RotSpec.kw (brow (iblk m c 0 t) (iblk m c 1 t) (iblk m c 2 t) (X0_3 m c t) (iblk m c 5 t) (iblk m c 6 t) r) (cs m c (qrow t r)) (sn m c (qrow t r))) x = R13 m c (((cfg0.win 13).blk t).view.emb (ix2 r x))
  rw [emb13, brow_eq]
  rfl

theorem covered13 (i : S16384x512.Idx) :
    ∃ t : Fin cfg0.N, (cfg0.win 13).flush t = true ∧ i ∈ ((cfg0.win 13).blk t).view.set := by
  have h0 : (i 0).val < 16384 := (i 0).isLt
  obtain ⟨t, ht⟩ : ∃ t : Fin cfg0.N, t.val = (i 0).val / 512 := ⟨⟨(i 0).val / 512, (by omega : (i 0).val / 512 < 32)⟩, rfl⟩
  obtain ⟨r, hr⟩ : ∃ r : Fin 512, r.val = (i 0).val % 512 := ⟨⟨(i 0).val % 512, by omega⟩, rfl⟩
  obtain ⟨x, hx⟩ : ∃ x : Fin 512, x.val = (i 1).val := ⟨i 1, rfl⟩
  have e : ix2 (qrow t r) x = i := funext fun a => by
    match a with
    | ⟨0, _⟩ => exact Fin.ext (show 512 * t.val + r.val = (i 0).val by omega)
    | ⟨1, _⟩ => exact Fin.ext hx
  refine ⟨t, flush0_13 t, ?_⟩
  have h := ((cfg0.win 13).blk t).view.emb_mem_set (ix2 r x)
  rw [emb13, e] at h
  exact h

theorem final13 (c : Dev nD) : (dats m 0 c).arrAt 13 cfg0.N = R13 m c :=
  (dats m 0 c).arrAt_eq_of_cover 13 (R13 m c) (fun t _ => flushed13_eq m c t) covered13

theorem flushed14_eq (c : Dev nD) (t : Fin cfg0.N) :
    (dats m 0 c).flushed 14 t = ((cfg0.win 14).blk t).view.read (Elt Ideal) (R14 m c) := by
  rw [flushed14_A, out14 _ _ _ _ _ _ _ _ _ _ _ _ _ _ _ _ _ _ _ _ _ _ _ _ _ _ _ _ _ _ _ _ _ _ _ _ _ _ _ _ _ _ _]
  funext j
  obtain ⟨r, x, rfl⟩ : ∃ (r : Fin 512) (x : Fin 512), j = ix2 r x :=
    ⟨j 0, j 1, funext fun a => by match a with | ⟨0, _⟩ => rfl | ⟨1, _⟩ => rfl⟩
  show beside ((brow (iblk m c 0 t) (iblk m c 1 t) (iblk m c 2 t) (X0_3 m c t) (iblk m c 5 t) (iblk m c 6 t) r).vw) x = R14 m c (((cfg0.win 14).blk t).view.emb (ix2 r x))
  rw [emb14, brow_eq]
  rfl

theorem covered14 (i : S16384x512.Idx) :
    ∃ t : Fin cfg0.N, (cfg0.win 14).flush t = true ∧ i ∈ ((cfg0.win 14).blk t).view.set := by
  have h0 : (i 0).val < 16384 := (i 0).isLt
  obtain ⟨t, ht⟩ : ∃ t : Fin cfg0.N, t.val = (i 0).val / 512 := ⟨⟨(i 0).val / 512, (by omega : (i 0).val / 512 < 32)⟩, rfl⟩
  obtain ⟨r, hr⟩ : ∃ r : Fin 512, r.val = (i 0).val % 512 := ⟨⟨(i 0).val % 512, by omega⟩, rfl⟩
  obtain ⟨x, hx⟩ : ∃ x : Fin 512, x.val = (i 1).val := ⟨i 1, rfl⟩
  have e : ix2 (qrow t r) x = i := funext fun a => by
    match a with
    | ⟨0, _⟩ => exact Fin.ext (show 512 * t.val + r.val = (i 0).val by omega)
    | ⟨1, _⟩ => exact Fin.ext hx
  refine ⟨t, flush0_14 t, ?_⟩
  have h := ((cfg0.win 14).blk t).view.emb_mem_set (ix2 r x)
  rw [emb14, e] at h
  exact h

theorem final14 (c : Dev nD) : (dats m 0 c).arrAt 14 cfg0.N = R14 m c :=
  (dats m 0 c).arrAt_eq_of_cover 14 (R14 m c) (fun t _ => flushed14_eq m c t) covered14

theorem flushed15_eq (c : Dev nD) (hr : Reals m c) (t : Fin cfg0.N) :
    (dats m 0 c).flushed 15 t = ((cfg0.win 15).blk t).view.read (Elt Ideal) (R15 m c) := by
  rw [flushed15_A, out15 _ _ _ _ _ _ _ _ _ _ _ _ _ _ _ _ _ _ _ _ _ _ _ _ _ _ _ _ _ _ _ _ _ _ _ _ _ _ _ _ _ _ _ (ones_at m c t) (real_rows m c hr t) (fun r => cs m c (qrow t r)) (fun r => sn m c (qrow t r)) (cos_at m c t) (sin_at m c t)]
  funext j
  obtain ⟨r, x, rfl⟩ : ∃ (r : Fin 512) (x : Fin 512), j = ix2 r x :=
    ⟨j 0, j 1, funext fun a => by match a with | ⟨0, _⟩ => rfl | ⟨1, _⟩ => rfl⟩
  show RotSpec.kv (brow (iblk m c 0 t) (iblk m c 1 t) (iblk m c 2 t) (X0_3 m c t) (iblk m c 5 t) (iblk m c 6 t) r) (cs m c (qrow t r)) (sn m c (qrow t r)) x = R15 m c (((cfg0.win 15).blk t).view.emb (ix2 r x))
  rw [emb15, brow_eq]
  rfl

theorem covered15 (i : S16384x512.Idx) :
    ∃ t : Fin cfg0.N, (cfg0.win 15).flush t = true ∧ i ∈ ((cfg0.win 15).blk t).view.set := by
  have h0 : (i 0).val < 16384 := (i 0).isLt
  obtain ⟨t, ht⟩ : ∃ t : Fin cfg0.N, t.val = (i 0).val / 512 := ⟨⟨(i 0).val / 512, (by omega : (i 0).val / 512 < 32)⟩, rfl⟩
  obtain ⟨r, hr⟩ : ∃ r : Fin 512, r.val = (i 0).val % 512 := ⟨⟨(i 0).val % 512, by omega⟩, rfl⟩
  obtain ⟨x, hx⟩ : ∃ x : Fin 512, x.val = (i 1).val := ⟨i 1, rfl⟩
  have e : ix2 (qrow t r) x = i := funext fun a => by
    match a with
    | ⟨0, _⟩ => exact Fin.ext (show 512 * t.val + r.val = (i 0).val by omega)
    | ⟨1, _⟩ => exact Fin.ext hx
  refine ⟨t, flush0_15 t, ?_⟩
  have h := ((cfg0.win 15).blk t).view.emb_mem_set (ix2 r x)
  rw [emb15, e] at h
  exact h

theorem final15 (c : Dev nD) (hr : Reals m c) : (dats m 0 c).arrAt 15 cfg0.N = R15 m c :=
  (dats m 0 c).arrAt_eq_of_cover 15 (R15 m c) (fun t _ => flushed15_eq m c hr t) covered15

end Cert.Proof.RotArray
-- ==== Proof.RotRef.lean ====
/- Hand-written, untrusted: the seven results of the reference of the sample's attention inputs at an index are the parts, turned by
   the angles of its place, of the token of its arguments (`v135_at`, …). -/
module

public import proofs.«01_k».proof.Proof.InSum
public import proofs.«01_k».proof.Proof.RotSpec
public import proofs.«01_k».proof.Proof.Gen.RotRefIdeal.Read
public import Idealize.ShloMosaic.Lib.Pointwise

@[expose] public section

set_option maxRecDepth 16384

noncomputable section

namespace Cert.Proof.RotRef

open Cert.RotRefIdeal Cert.RotRefIdeal.Gen Cert.RotRefIdeal.Read Idealize.ShloMosaic Idealize.ShloMosaic.TcCoe Idealize.SL.Sem
open Cert.Proof.InSpec

variable (x0 : Vec Ideal S8x2048x1024 .f32) (x1 : Vec Ideal S8x6x1024 .f32) (x2 : Vec Ideal S1024 .f32)
  (x3 : Vec Ideal S1024x7168 .f32) (x4 x5 : Vec Ideal S64 .f32) (x6 x7 : Vec Ideal S2048x32 .f32)

/-- Token `t` of the arguments. -/
def rrow : Fin 16384 → Row :=
  RotSpec.rrow (fun t k => x0 (ix3 ⟨t.val / 2048, by have := t.isLt; omega⟩ ⟨t.val % 2048, by omega⟩ k)) (fun b i k => x1 (ix3 b i k))
    (fun k => x2 (ix1 k)) (fun k e => x3 (ix2 k e)) (fun l => x4 (ix1 l)) (fun l => x5 (ix1 l))

/-- The cosines and sines of the angles at place `i`. -/
def ang (i : Fin 2048) : Fin 32 → EReal := fun j => x6 (ix2 i j)

/-- Token `i` of sequence `b`. -/
def qr (b : Fin 8) (i : Fin 2048) : Fin 16384 := ⟨b.val * 2048 + i.val, by omega⟩

theorem qr_surj (t : Fin 16384) : ∃ b i, t = qr b i :=
  ⟨⟨t.val / 2048, by omega⟩, ⟨t.val % 2048, by omega⟩, Fin.ext (by show t.val = t.val / 2048 * 2048 + t.val % 2048; omega)⟩

theorem x_qr (b : Fin 8) (i : Fin 2048) (k : Fin 1024) : (rrow x0 x1 x2 x3 x4 x5 (qr b i)).x k = x0 (ix3 b i k) := by
  show x0 (ix3 _ _ k) = _
  refine congrArg x0 (funext fun a => Fin.ext ?_)
  match a with
  | ⟨0, _⟩ => show (b.val * 2048 + i.val) / 2048 = b.val; omega
  | ⟨1, _⟩ => show (b.val * 2048 + i.val) % 2048 = i.val; omega
  | ⟨2, _⟩ => rfl

theorem mod_qr (b : Fin 8) (i : Fin 2048) (j : Fin 6) (k : Fin 1024) :
    x1 (ix3 (⟨(qr b i).val / 2048, by have := (qr b i).isLt; omega⟩ : Fin 8) j k) = x1 (ix3 b j k) :=
  congrArg (fun z => x1 (ix3 z j k)) (Fin.ext (by show (b.val * 2048 + i.val) / 2048 = b.val; omega))

theorem zero_add_sum {n : ℕ} (f : Fin n → EReal) : Ideal.ofBits .f32 0x00000000#32 + ∑ k, f k = ∑ k, f k := by
  rw [Ideal.ofBits_zero, zero_add]

theorem v7_at (b : Fin 8) (i : Fin 2048) :
    val_main_v7 (F := Ideal) x0 (ix2 b i) = ∑ k, x0 (ix3 b i k) * x0 (ix3 b i k) := by
  rw [val_main_v7_apply]
  refine (zero_add_sum _).trans (Finset.sum_congr rfl fun k _ => ?_)
  rw [show idx_main_v7 (ix2 b i) k = ix3 b i k from funext fun a => by match a with | ⟨0, _⟩ => rfl | ⟨1, _⟩ => rfl | ⟨2, _⟩ => rfl]
  rfl

theorem v24_at (b : Fin 8) (i : Fin 2048) (d : Fin 1024) :
    val_main_v24 (F := Ideal) x0 x1 x2 (ix3 b i d)
      = OutSpec.norm (fun k => x0 (ix3 b i k)) (fun k => x2 (ix1 k)) (fun k => x1 (ix3 b 1 k)) (fun k => x1 (ix3 b 0 k)) d := by
  unfold val_main_v24 val_main_v23 val_main_v22 val_main_v21 val_main_v20 val_main_v19 val_main_cst_2 val_main_v18
    val_main_v17 val_main_v16 val_main_v15 val_main_v14 val_main_v13 val_main_v12 val_main_v11 val_main_cst_1 val_main_v10
    val_main_v9 val_main_cst_0 val_main_v8 val_main_v0 val_main_v1
  have e7 := v7_at x0 b i
  generalize val_main_v7 (F := Ideal) x0 = s at *
  pointwise []
  rw [e7]
  unfold OutSpec.norm
  rfl

theorem v25_at (b : Fin 8) (i : Fin 2048) (c : Fin 1536) :
    val_main_v25 (F := Ideal) x0 x1 x2 x3 (ix3 b i ⟨1536 + c.val, by omega⟩) = (rrow x0 x1 x2 x3 x4 x5 (qr b i)).acc c := by
  unfold val_main_v25
  have e := fun k => v24_at x0 x1 x2 b i k
  generalize val_main_v24 (F := Ideal) x0 x1 x2 = h at *
  pointwise []
  unfold Row.acc
  simp only [e]
  rw [show (rrow x0 x1 x2 x3 x4 x5 (qr b i)).x = fun k => x0 (ix3 b i k) from funext fun k => x_qr x0 x1 x2 x3 x4 x5 b i k,
    show (rrow x0 x1 x2 x3 x4 x5 (qr b i)).sc = fun k => x1 (ix3 b 1 k) from funext fun k => mod_qr x1 b i 1 k,
    show (rrow x0 x1 x2 x3 x4 x5 (qr b i)).sh = fun k => x1 (ix3 b 0 k) from funext fun k => mod_qr x1 b i 0 k]
  rfl

/-- Column `o + l` of the projection, cut out of it. -/
theorem part_at (b : Fin 8) (i : Fin 2048) (o n : ℕ) (h : o + n ≤ 1536) (l : Fin n) (e : Fin 7168) (he : e.val = 1536 + (o + l.val)) :
    val_main_v25 (F := Ideal) x0 x1 x2 x3 (ix3 b i e) = (rrow x0 x1 x2 x3 x4 x5 (qr b i)).part o n h l := by
  refine Eq.trans ?_ (v25_at x0 x1 x2 x3 x4 x5 b i ⟨o + l.val, by have := l.isLt; omega⟩)
  exact congrArg (fun z => val_main_v25 (F := Ideal) x0 x1 x2 x3 (ix3 b i z)) (Fin.ext he)

theorem v35_at (b : Fin 8) (i : Fin 2048) (g : Fin 2) (h : Fin 4) (e : Fin 64) :
    val_main_v35 (F := Ideal) x0 x1 x2 x3 (ix5 b i g h e)
      = (rrow x0 x1 x2 x3 x4 x5 (qr b i)).part 0 512 (by decide) ⟨256 * g.val + 64 * h.val + e.val, by omega⟩ := by
  unfold val_main_v35 val_main_v28
  have p := part_at x0 x1 x2 x3 x4 x5 b i 0 512 (by decide)
  generalize val_main_v25 (F := Ideal) x0 x1 x2 x3 = y at *
  pointwise []
  exact p _ _ (by dsimp only; omega)

theorem v37_at (b : Fin 8) (i : Fin 2048) (g : Fin 2) (h : Fin 4) :
    val_main_v37 (F := Ideal) x0 x1 x2 x3 (ix4 b i g h)
      = ∑ k : Fin 64, val_main_v35 (F := Ideal) x0 x1 x2 x3 (ix5 b i g h k) * val_main_v35 (F := Ideal) x0 x1 x2 x3 (ix5 b i g h k) := by
  rw [val_main_v37_apply]
  refine (zero_add_sum _).trans (Finset.sum_congr rfl fun k _ => ?_)
  rw [show idx_main_v37 (ix4 b i g h) k = ix5 b i g h k from
    funext fun a => by match a with | ⟨0, _⟩ => rfl | ⟨1, _⟩ => rfl | ⟨2, _⟩ => rfl | ⟨3, _⟩ => rfl | ⟨4, _⟩ => rfl]
  rfl

theorem v48_at (b : Fin 8) (i : Fin 2048) (g : Fin 2) (h : Fin 4) (e : Fin 64) :
    val_main_v48 (F := Ideal) x0 x1 x2 x3 x4 (ix5 b i g h e)
      = heads (by decide) ((rrow x0 x1 x2 x3 x4 x5 (qr b i)).part 0 512 (by decide)) (rrow x0 x1 x2 x3 x4 x5 (qr b i)).qg
          ⟨256 * g.val + 64 * h.val + e.val, by omega⟩ := by
  unfold val_main_v48 val_main_v47 val_main_v46 val_main_v45 val_main_v44 val_main_v43 val_main_v42 val_main_v41 val_main_cst_5
    val_main_v40 val_main_v39 val_main_cst_4 val_main_v38
  have e0 := fun e => v35_at x0 x1 x2 x3 x4 x5 b i g h e
  have e7 := v37_at x0 x1 x2 x3 b i g h
  generalize val_main_v37 (F := Ideal) x0 x1 x2 x3 = s at *
  generalize val_main_v35 (F := Ideal) x0 x1 x2 x3 = y at *
  pointwise []
  rw [e7]
  simp only [e0]
  unfold heads
  have hk : ∀ k : Fin 64, inHead (n := 512) (by decide) ⟨256 * g.val + 64 * h.val + e.val, by omega⟩ k = ⟨256 * g.val + 64 * h.val + k.val, by omega⟩ :=
    fun k => Fin.ext (by show 64 * ((256 * g.val + 64 * h.val + e.val) / 64) + k.val = 256 * g.val + 64 * h.val + k.val; omega)
  have hq : (rrow x0 x1 x2 x3 x4 x5 (qr b i)).qg ⟨256 * g.val + 64 * h.val + e.val, by omega⟩ = x4 (ix1 e) :=
    congrArg (fun z => x4 (ix1 z)) (Fin.ext (by show (256 * g.val + 64 * h.val + e.val) % 64 = e.val; omega))
  simp only [hk, hq]

theorem v64_at (b : Fin 8) (i : Fin 2048) (g : Fin 2) (e : Fin 64) :
    val_main_v64 (F := Ideal) x0 x1 x2 x3 (ix4 b i g e)
      = (rrow x0 x1 x2 x3 x4 x5 (qr b i)).part 512 128 (by decide) ⟨64 * g.val + e.val, by omega⟩ := by
  unfold val_main_v64 val_main_v29
  have p := part_at x0 x1 x2 x3 x4 x5 b i 512 128 (by decide)
  generalize val_main_v25 (F := Ideal) x0 x1 x2 x3 = y at *
  pointwise []
  exact p _ _ (by dsimp only; omega)

theorem v66_at (b : Fin 8) (i : Fin 2048) (g : Fin 2) :
    val_main_v66 (F := Ideal) x0 x1 x2 x3 (ix3 b i g)
      = ∑ k : Fin 64, val_main_v64 (F := Ideal) x0 x1 x2 x3 (ix4 b i g k) * val_main_v64 (F := Ideal) x0 x1 x2 x3 (ix4 b i g k) := by
  rw [val_main_v66_apply]
  refine (zero_add_sum _).trans (Finset.sum_congr rfl fun k _ => ?_)
  rw [show idx_main_v66 (ix3 b i g) k = ix4 b i g k from
    funext fun a => by match a with | ⟨0, _⟩ => rfl | ⟨1, _⟩ => rfl | ⟨2, _⟩ => rfl | ⟨3, _⟩ => rfl]
  rfl

theorem v77_at (b : Fin 8) (i : Fin 2048) (g : Fin 2) (e : Fin 64) :
    val_main_v77 (F := Ideal) x0 x1 x2 x3 x5 (ix4 b i g e) = (rrow x0 x1 x2 x3 x4 x5 (qr b i)).ka ⟨64 * g.val + e.val, by omega⟩ := by
  unfold val_main_v77 val_main_v76 val_main_v75 val_main_v74 val_main_v73 val_main_v72 val_main_v71 val_main_v70 val_main_cst_8
    val_main_v69 val_main_v68 val_main_cst_7 val_main_v67
  have e0 := fun e => v64_at x0 x1 x2 x3 x4 x5 b i g e
  have e7 := v66_at x0 x1 x2 x3 b i g
  generalize val_main_v66 (F := Ideal) x0 x1 x2 x3 = s at *
  generalize val_main_v64 (F := Ideal) x0 x1 x2 x3 = y at *
  pointwise []
  rw [e7]
  simp only [e0]
  unfold Row.ka heads
  have hk : ∀ k : Fin 64, inHead (n := 128) (by decide) ⟨64 * g.val + e.val, by omega⟩ k = ⟨64 * g.val + k.val, by omega⟩ :=
    fun k => Fin.ext (by show 64 * ((64 * g.val + e.val) / 64) + k.val = 64 * g.val + k.val; omega)
  have hq : (rrow x0 x1 x2 x3 x4 x5 (qr b i)).kg ⟨64 * g.val + e.val, by omega⟩ = x5 (ix1 e) :=
    congrArg (fun z => x5 (ix1 z)) (Fin.ext (by show (64 * g.val + e.val) % 64 = e.val; omega))
  simp only [hk, hq]

theorem v93_at (b : Fin 8) (i : Fin 2048) (g : Fin 2) (e : Fin 64) :
    val_main_v93 (F := Ideal) x0 x1 x2 x3 (ix4 b i g e) = (rrow x0 x1 x2 x3 x4 x5 (qr b i)).va ⟨64 * g.val + e.val, by omega⟩ := by
  unfold val_main_v93 val_main_v30
  have p := part_at x0 x1 x2 x3 x4 x5 b i 640 128 (by decide)
  generalize val_main_v25 (F := Ideal) x0 x1 x2 x3 = y at *
  pointwise []
  exact p _ _ (by dsimp only; omega)

theorem v126_at (b : Fin 8) (i : Fin 2048) (g : Fin 2) (e : Fin 64) :
    val_main_v126 (F := Ideal) x0 x1 x2 x3 (ix4 b i g e) = (rrow x0 x1 x2 x3 x4 x5 (qr b i)).vw ⟨64 * g.val + e.val, by omega⟩ := by
  unfold val_main_v126 val_main_v33
  have p := part_at x0 x1 x2 x3 x4 x5 b i 1408 128 (by decide)
  generalize val_main_v25 (F := Ideal) x0 x1 x2 x3 = y at *
  pointwise []
  exact p _ _ (by dsimp only; omega)

theorem v110_at (b : Fin 8) (i : Fin 2048) (g : Fin 2) (e : Fin 64) :
    val_main_v110 (F := Ideal) x0 x1 x2 x3 (ix4 b i g e) = (rrow x0 x1 x2 x3 x4 x5 (qr b i)).kw ⟨64 * g.val + e.val, by omega⟩ := by
  unfold val_main_v110 val_main_v32
  have p := part_at x0 x1 x2 x3 x4 x5 b i 1280 128 (by decide)
  generalize val_main_v25 (F := Ideal) x0 x1 x2 x3 = y at *
  pointwise []
  exact p _ _ (by dsimp only; omega)

theorem v94_at (b : Fin 8) (i : Fin 2048) (g : Fin 2) (h : Fin 4) (e : Fin 64) :
    val_main_v94 (F := Ideal) x0 x1 x2 x3 (ix5 b i g h e)
      = (rrow x0 x1 x2 x3 x4 x5 (qr b i)).part 768 512 (by decide) ⟨256 * g.val + 64 * h.val + e.val, by omega⟩ := by
  unfold val_main_v94 val_main_v31
  have p := part_at x0 x1 x2 x3 x4 x5 b i 768 512 (by decide)
  generalize val_main_v25 (F := Ideal) x0 x1 x2 x3 = y at *
  pointwise []
  exact p _ _ (by dsimp only; omega)

theorem v63_at (b : Fin 8) (i : Fin 2048) (g : Fin 2) (h : Fin 4) (e : Fin 64) :
    val_main_v63 (F := Ideal) x0 x1 x2 x3 x4 x6 x7 (ix5 b i g h e)
      = RotSpec.turn (by decide) (ang x6 i) (ang x7 i) (heads (by decide) ((rrow x0 x1 x2 x3 x4 x5 (qr b i)).part 0 512 (by decide)) (rrow x0 x1 x2 x3 x4 x5 (qr b i)).qg) ⟨256 * g.val + 64 * h.val + e.val, by omega⟩ := by
  unfold val_main_v63 val_main_v62 val_main_v61 val_main_v60 val_main_v59 val_main_v58 val_main_v57 val_main_v56 val_main_v55 val_main_v54 val_main_v53 val_main_v52 val_main_v51 val_main_v50 val_main_v49
  have e0 := fun e => v48_at x0 x1 x2 x3 x4 x5 b i g h e
  generalize val_main_v48 (F := Ideal) x0 x1 x2 x3 x4 = y at *
  generalize heads (by decide) ((rrow x0 x1 x2 x3 x4 x5 (qr b i)).part 0 512 (by decide)) (rrow x0 x1 x2 x3 x4 x5 (qr b i)).qg = f at *
  pointwise []
  unfold RotSpec.turn ang
  have hg := g.isLt
  have hk : ∀ k : Fin 64, inHead (n := 512) (by decide) ⟨256 * g.val + 64 * h.val + e.val, by omega⟩ k = ⟨256 * g.val + 64 * h.val + k.val, by omega⟩ :=
    fun k => Fin.ext (by show 64 * ((256 * g.val + 64 * h.val + e.val) / 64) + k.val = 256 * g.val + 64 * h.val + k.val; omega)
  simp only [hk]
  by_cases c : e.val < 32
  · rw [dif_pos c, if_pos (show (256 * g.val + 64 * h.val + e.val) % 64 < 32 by omega)]
    have j1 : (⟨(256 * g.val + 64 * h.val + e.val) % 32, by omega⟩ : Fin 32) = ⟨e.val, c⟩ := Fin.ext (by show (256 * g.val + 64 * h.val + e.val) % 32 = e.val; omega)
    have f1 : (⟨256 * g.val + 64 * h.val + (256 * g.val + 64 * h.val + e.val) % 32, by omega⟩ : Fin 512) = ⟨256 * g.val + 64 * h.val + e.val, by omega⟩ :=
      Fin.ext (by show 256 * g.val + 64 * h.val + (256 * g.val + 64 * h.val + e.val) % 32 = 256 * g.val + 64 * h.val + e.val; omega)
    have f2 : (⟨256 * g.val + 64 * h.val + ((256 * g.val + 64 * h.val + e.val) % 32 + 32), by omega⟩ : Fin 512) = ⟨256 * g.val + 64 * h.val + (32 + e.val), by omega⟩ :=
      Fin.ext (by show 256 * g.val + 64 * h.val + ((256 * g.val + 64 * h.val + e.val) % 32 + 32) = 256 * g.val + 64 * h.val + (32 + e.val); omega)
    rw [e0, e0, j1, f1, f2]
  · rw [dif_neg c, if_neg (show ¬(256 * g.val + 64 * h.val + e.val) % 64 < 32 by omega)]
    have j1 : (⟨(256 * g.val + 64 * h.val + e.val) % 32, by omega⟩ : Fin 32) = ⟨e.val - 32, by omega⟩ := Fin.ext (by show (256 * g.val + 64 * h.val + e.val) % 32 = e.val - 32; omega)
    have f1 : (⟨256 * g.val + 64 * h.val + (256 * g.val + 64 * h.val + e.val) % 32, by omega⟩ : Fin 512) = ⟨256 * g.val + 64 * h.val + (e.val - 32), by omega⟩ :=
      Fin.ext (by show 256 * g.val + 64 * h.val + (256 * g.val + 64 * h.val + e.val) % 32 = 256 * g.val + 64 * h.val + (e.val - 32); omega)
    have f2 : (⟨256 * g.val + 64 * h.val + ((256 * g.val + 64 * h.val + e.val) % 32 + 32), by omega⟩ : Fin 512) = ⟨256 * g.val + 64 * h.val + (32 + (e.val - 32)), by omega⟩ :=
      Fin.ext (by show 256 * g.val + 64 * h.val + ((256 * g.val + 64 * h.val + e.val) % 32 + 32) = 256 * g.val + 64 * h.val + (32 + (e.val - 32)); omega)
    rw [e0, e0, j1, f1, f2]

theorem v109_at (b : Fin 8) (i : Fin 2048) (g : Fin 2) (h : Fin 4) (e : Fin 64) :
    val_main_v109 (F := Ideal) x0 x1 x2 x3 x6 x7 (ix5 b i g h e)
      = RotSpec.turn (by decide) (ang x6 i) (ang x7 i) ((rrow x0 x1 x2 x3 x4 x5 (qr b i)).part 768 512 (by decide)) ⟨256 * g.val + 64 * h.val + e.val, by omega⟩ := by
  unfold val_main_v109 val_main_v108 val_main_v107 val_main_v106 val_main_v105 val_main_v104 val_main_v103 val_main_v102 val_main_v101 val_main_v100 val_main_v99 val_main_v98 val_main_v97 val_main_v96 val_main_v95
  have e0 := fun e => v94_at x0 x1 x2 x3 x4 x5 b i g h e
  generalize val_main_v94 (F := Ideal) x0 x1 x2 x3 = y at *
  generalize (rrow x0 x1 x2 x3 x4 x5 (qr b i)).part 768 512 (by decide) = f at *
  pointwise []
  unfold RotSpec.turn ang
  have hg := g.isLt
  have hk : ∀ k : Fin 64, inHead (n := 512) (by decide) ⟨256 * g.val + 64 * h.val + e.val, by omega⟩ k = ⟨256 * g.val + 64 * h.val + k.val, by omega⟩ :=
    fun k => Fin.ext (by show 64 * ((256 * g.val + 64 * h.val + e.val) / 64) + k.val = 256 * g.val + 64 * h.val + k.val; omega)
  simp only [hk]
  by_cases c : e.val < 32
  · rw [dif_pos c, if_pos (show (256 * g.val + 64 * h.val + e.val) % 64 < 32 by omega)]
    have j1 : (⟨(256 * g.val + 64 * h.val + e.val) % 32, by omega⟩ : Fin 32) = ⟨e.val, c⟩ := Fin.ext (by show (256 * g.val + 64 * h.val + e.val) % 32 = e.val; omega)
    have f1 : (⟨256 * g.val + 64 * h.val + (256 * g.val + 64 * h.val + e.val) % 32, by omega⟩ : Fin 512) = ⟨256 * g.val + 64 * h.val + e.val, by omega⟩ :=
      Fin.ext (by show 256 * g.val + 64 * h.val + (256 * g.val + 64 * h.val + e.val) % 32 = 256 * g.val + 64 * h.val + e.val; omega)
    have f2 : (⟨256 * g.val + 64 * h.val + ((256 * g.val + 64 * h.val + e.val) % 32 + 32), by omega⟩ : Fin 512) = ⟨256 * g.val + 64 * h.val + (32 + e.val), by omega⟩ :=
      Fin.ext (by show 256 * g.val + 64 * h.val + ((256 * g.val + 64 * h.val + e.val) % 32 + 32) = 256 * g.val + 64 * h.val + (32 + e.val); omega)
    rw [e0, e0, j1, f1, f2]
  · rw [dif_neg c, if_neg (show ¬(256 * g.val + 64 * h.val + e.val) % 64 < 32 by omega)]
    have j1 : (⟨(256 * g.val + 64 * h.val + e.val) % 32, by omega⟩ : Fin 32) = ⟨e.val - 32, by omega⟩ := Fin.ext (by show (256 * g.val + 64 * h.val + e.val) % 32 = e.val - 32; omega)
    have f1 : (⟨256 * g.val + 64 * h.val + (256 * g.val + 64 * h.val + e.val) % 32, by omega⟩ : Fin 512) = ⟨256 * g.val + 64 * h.val + (e.val - 32), by omega⟩ :=
      Fin.ext (by show 256 * g.val + 64 * h.val + (256 * g.val + 64 * h.val + e.val) % 32 = 256 * g.val + 64 * h.val + (e.val - 32); omega)
    have f2 : (⟨256 * g.val + 64 * h.val + ((256 * g.val + 64 * h.val + e.val) % 32 + 32), by omega⟩ : Fin 512) = ⟨256 * g.val + 64 * h.val + (32 + (e.val - 32)), by omega⟩ :=
      Fin.ext (by show 256 * g.val + 64 * h.val + ((256 * g.val + 64 * h.val + e.val) % 32 + 32) = 256 * g.val + 64 * h.val + (32 + (e.val - 32)); omega)
    rw [e0, e0, j1, f1, f2]

theorem v92_at (b : Fin 8) (i : Fin 2048) (g : Fin 2) (e : Fin 64) :
    val_main_v92 (F := Ideal) x0 x1 x2 x3 x5 x6 x7 (ix4 b i g e)
      = RotSpec.turn (by decide) (ang x6 i) (ang x7 i) ((rrow x0 x1 x2 x3 x4 x5 (qr b i)).ka) ⟨64 * g.val + e.val, by omega⟩ := by
  unfold val_main_v92 val_main_v91 val_main_v90 val_main_v89 val_main_v88 val_main_v87 val_main_v86 val_main_v85 val_main_v84 val_main_v83 val_main_v82 val_main_v81 val_main_v80 val_main_v79 val_main_v78
  have e0 := fun e => v77_at x0 x1 x2 x3 x4 x5 b i g e
  generalize val_main_v77 (F := Ideal) x0 x1 x2 x3 x5 = y at *
  generalize (rrow x0 x1 x2 x3 x4 x5 (qr b i)).ka = f at *
  pointwise []
  unfold RotSpec.turn ang
  have hg := g.isLt
  have hk : ∀ k : Fin 64, inHead (n := 128) (by decide) ⟨64 * g.val + e.val, by omega⟩ k = ⟨64 * g.val + k.val, by omega⟩ :=
    fun k => Fin.ext (by show 64 * ((64 * g.val + e.val) / 64) + k.val = 64 * g.val + k.val; omega)
  simp only [hk]
  by_cases c : e.val < 32
  · rw [dif_pos c, if_pos (show (64 * g.val + e.val) % 64 < 32 by omega)]
    have j1 : (⟨(64 * g.val + e.val) % 32, by omega⟩ : Fin 32) = ⟨e.val, c⟩ := Fin.ext (by show (64 * g.val + e.val) % 32 = e.val; omega)
    have f1 : (⟨64 * g.val + (64 * g.val + e.val) % 32, by omega⟩ : Fin 128) = ⟨64 * g.val + e.val, by omega⟩ :=
      Fin.ext (by show 64 * g.val + (64 * g.val + e.val) % 32 = 64 * g.val + e.val; omega)
    have f2 : (⟨64 * g.val + ((64 * g.val + e.val) % 32 + 32), by omega⟩ : Fin 128) = ⟨64 * g.val + (32 + e.val), by omega⟩ :=
      Fin.ext (by show 64 * g.val + ((64 * g.val + e.val) % 32 + 32) = 64 * g.val + (32 + e.val); omega)
    rw [e0, e0, j1, f1, f2]
  · rw [dif_neg c, if_neg (show ¬(64 * g.val + e.val) % 64 < 32 by omega)]
    have j1 : (⟨(64 * g.val + e.val) % 32, by omega⟩ : Fin 32) = ⟨e.val - 32, by omega⟩ := Fin.ext (by show (64 * g.val + e.val) % 32 = e.val - 32; omega)
    have f1 : (⟨64 * g.val + (64 * g.val + e.val) % 32, by omega⟩ : Fin 128) = ⟨64 * g.val + (e.val - 32), by omega⟩ :=
      Fin.ext (by show 64 * g.val + (64 * g.val + e.val) % 32 = 64 * g.val + (e.val - 32); omega)
    have f2 : (⟨64 * g.val + ((64 * g.val + e.val) % 32 + 32), by omega⟩ : Fin 128) = ⟨64 * g.val + (32 + (e.val - 32)), by omega⟩ :=
      Fin.ext (by show 64 * g.val + ((64 * g.val + e.val) % 32 + 32) = 64 * g.val + (32 + (e.val - 32)); omega)
    rw [e0, e0, j1, f1, f2]

theorem v125_at (b : Fin 8) (i : Fin 2048) (g : Fin 2) (e : Fin 64) :
    val_main_v125 (F := Ideal) x0 x1 x2 x3 x6 x7 (ix4 b i g e)
      = RotSpec.turn (by decide) (ang x6 i) (ang x7 i) ((rrow x0 x1 x2 x3 x4 x5 (qr b i)).kw) ⟨64 * g.val + e.val, by omega⟩ := by
  unfold val_main_v125 val_main_v124 val_main_v123 val_main_v122 val_main_v121 val_main_v120 val_main_v119 val_main_v118 val_main_v117 val_main_v116 val_main_v115 val_main_v114 val_main_v113 val_main_v112 val_main_v111
  have e0 := fun e => v110_at x0 x1 x2 x3 x4 x5 b i g e
  generalize val_main_v110 (F := Ideal) x0 x1 x2 x3 = y at *
  generalize (rrow x0 x1 x2 x3 x4 x5 (qr b i)).kw = f at *
  pointwise []
  unfold RotSpec.turn ang
  have hg := g.isLt
  have hk : ∀ k : Fin 64, inHead (n := 128) (by decide) ⟨64 * g.val + e.val, by omega⟩ k = ⟨64 * g.val + k.val, by omega⟩ :=
    fun k => Fin.ext (by show 64 * ((64 * g.val + e.val) / 64) + k.val = 64 * g.val + k.val; omega)
  simp only [hk]
  by_cases c : e.val < 32
  · rw [dif_pos c, if_pos (show (64 * g.val + e.val) % 64 < 32 by omega)]
    have j1 : (⟨(64 * g.val + e.val) % 32, by omega⟩ : Fin 32) = ⟨e.val, c⟩ := Fin.ext (by show (64 * g.val + e.val) % 32 = e.val; omega)
    have f1 : (⟨64 * g.val + (64 * g.val + e.val) % 32, by omega⟩ : Fin 128) = ⟨64 * g.val + e.val, by omega⟩ :=
      Fin.ext (by show 64 * g.val + (64 * g.val + e.val) % 32 = 64 * g.val + e.val; omega)
    have f2 : (⟨64 * g.val + ((64 * g.val + e.val) % 32 + 32), by omega⟩ : Fin 128) = ⟨64 * g.val + (32 + e.val), by omega⟩ :=
      Fin.ext (by show 64 * g.val + ((64 * g.val + e.val) % 32 + 32) = 64 * g.val + (32 + e.val); omega)
    rw [e0, e0, j1, f1, f2]
  · rw [dif_neg c, if_neg (show ¬(64 * g.val + e.val) % 64 < 32 by omega)]
    have j1 : (⟨(64 * g.val + e.val) % 32, by omega⟩ : Fin 32) = ⟨e.val - 32, by omega⟩ := Fin.ext (by show (64 * g.val + e.val) % 32 = e.val - 32; omega)
    have f1 : (⟨64 * g.val + (64 * g.val + e.val) % 32, by omega⟩ : Fin 128) = ⟨64 * g.val + (e.val - 32), by omega⟩ :=
      Fin.ext (by show 64 * g.val + (64 * g.val + e.val) % 32 = 64 * g.val + (e.val - 32); omega)
    have f2 : (⟨64 * g.val + ((64 * g.val + e.val) % 32 + 32), by omega⟩ : Fin 128) = ⟨64 * g.val + (32 + (e.val - 32)), by omega⟩ :=
      Fin.ext (by show 64 * g.val + ((64 * g.val + e.val) % 32 + 32) = 64 * g.val + (32 + (e.val - 32)); omega)
    rw [e0, e0, j1, f1, f2]

/-! ## The results -/

/-- Four rows side by side, at an index. -/
theorem kv_of (y z w u : Vec Ideal S16384x128 .f32) (t : Fin 16384) (l : Fin 512) :
    concatenate S16384x512 1 [⟨S16384x128, y⟩, ⟨S16384x128, z⟩, ⟨S16384x128, w⟩, ⟨S16384x128, u⟩]
      concatenates_S16384x128_S16384x128_S16384x128_S16384x128_S16384x512_d1 (ix2 t l)
      = (![y, z, w, u] ⟨l.val / 128, by have := l.isLt; omega⟩) (ix2 t ⟨l.val % 128, by omega⟩) := by
  have hl := l.isLt
  pointwise []
  by_cases h1 : l.val < 128
  · rw [dif_pos h1, show (⟨l.val / 128, by omega⟩ : Fin 4) = 0 from Fin.ext (by show l.val / 128 = 0; omega)]
    refine congrArg (fun e => y (ix2 t e)) (Fin.ext ?_)
    show l.val = l.val % 128
    omega
  rw [dif_neg h1]
  by_cases h2 : l.val - 128 < 128
  · rw [dif_pos h2, show (⟨l.val / 128, by omega⟩ : Fin 4) = 1 from Fin.ext (by show l.val / 128 = 1; omega)]
    refine congrArg (fun e => z (ix2 t e)) (Fin.ext ?_)
    show l.val - 128 = l.val % 128
    omega
  rw [dif_neg h2]
  by_cases h3 : l.val - 128 - 128 < 128
  · rw [dif_pos h3, show (⟨l.val / 128, by omega⟩ : Fin 4) = 2 from Fin.ext (by show l.val / 128 = 2; omega)]
    refine congrArg (fun e => w (ix2 t e)) (Fin.ext ?_)
    show l.val - 128 - 128 = l.val % 128
    omega
  · rw [dif_neg h3, show (⟨l.val / 128, by omega⟩ : Fin 4) = 3 from Fin.ext (by show l.val / 128 = 3; omega)]
    refine congrArg (fun e => u (ix2 t e)) (Fin.ext ?_)
    show l.val - 128 - 128 - 128 = l.val % 128
    omega

/-- Four heads side by side, the middle two zeros, at an index. -/
theorem cat_of (y : Vec Ideal S8x2048x2x64 .f32) (b : Fin 8) (i : Fin 2048) (g : Fin 2) (j : Fin 256) :
    concatenate S8x2048x2x256 3
          [⟨S8x2048x2x64, y⟩,
            ⟨S8x2048x2x64, broadcastInDim S8x2048x2x64 ![] bcast_S_S8x2048x2x64 (constant (F := Ideal) S_ FTy.f32 0#32)⟩,
            ⟨S8x2048x2x64, broadcastInDim S8x2048x2x64 ![] bcast_S_S8x2048x2x64 (constant (F := Ideal) S_ FTy.f32 0#32)⟩,
            ⟨S8x2048x2x64, y⟩]
          concatenates_S8x2048x2x64_S8x2048x2x64_S8x2048x2x64_S8x2048x2x64_S8x2048x2x256_d3 (ix4 b i g j)
      = if j.val / 64 = 0 ∨ j.val / 64 = 3 then y (ix4 b i g ⟨j.val % 64, by omega⟩) else (0 : EReal) := by
  have hj := j.isLt
  pointwise []
  by_cases h1 : j.val < 64
  · rw [dif_pos h1, if_pos (show j.val / 64 = 0 ∨ j.val / 64 = 3 by omega)]
    refine congrArg (fun e => y (ix4 b i g e)) (Fin.ext ?_)
    show j.val = j.val % 64
    omega
  rw [dif_neg h1]
  by_cases h2 : j.val - 64 < 64
  · rw [dif_pos h2, if_neg (show ¬(j.val / 64 = 0 ∨ j.val / 64 = 3) by omega)]
  rw [dif_neg h2]
  by_cases h3 : j.val - 64 - 64 < 64
  · rw [dif_pos h3, if_neg (show ¬(j.val / 64 = 0 ∨ j.val / 64 = 3) by omega)]
  · rw [dif_neg h3, if_pos (show j.val / 64 = 0 ∨ j.val / 64 = 3 by omega)]
    refine congrArg (fun e => y (ix4 b i g e)) (Fin.ext ?_)
    show j.val - 64 - 64 - 64 = j.val % 64
    omega

theorem cast_of (y : Vec Ideal S8x2048x2x256 .f32) (b : Fin 8) (i : Fin 2048) (l : Fin 512) :
    (truncf (F := Ideal) FTy.bf16 (shapeCast S16384x512 y shapeCasts_S8x2048x2x256_S16384x512) bitsLt_bf16_f32 (ix2 (qr b i) l) : EReal)
      = y (ix4 b i ⟨l.val / 256, by have := l.isLt; omega⟩ ⟨l.val % 256, by omega⟩) := by
  have hl := l.isLt
  pointwise []
  refine congrArg y (funext fun a => Fin.ext ?_)
  match a with
  | ⟨0, _⟩ => show (b.val * 2048 + i.val) / 2048 = b.val; omega
  | ⟨1, _⟩ => show (b.val * 2048 + i.val) % 2048 = i.val; omega
  | ⟨2, _⟩ => show l.val / 256 = l.val / 256; omega
  | ⟨3, _⟩ => rfl

theorem cast64_of (y : Vec Ideal S8x2048x2x64 .f32) (b : Fin 8) (i : Fin 2048) (l : Fin 128) :
    shapeCast S16384x128 y shapeCasts_S8x2048x2x64_S16384x128 (ix2 (qr b i) l)
      = y (ix4 b i ⟨l.val / 64, by have := l.isLt; omega⟩ ⟨l.val % 64, by omega⟩) := by
  have hl := l.isLt
  pointwise []
  refine congrArg y (funext fun a => Fin.ext ?_)
  match a with
  | ⟨0, _⟩ => show (b.val * 2048 + i.val) / 2048 = b.val; omega
  | ⟨1, _⟩ => show (b.val * 2048 + i.val) % 2048 = i.val; omega
  | ⟨2, _⟩ => show l.val / 64 = l.val / 64; omega
  | ⟨3, _⟩ => rfl

/-- The array of four heads, two of them zeros, at an index. -/
theorem beside_of (y : Vec Ideal S8x2048x2x64 .f32) (b : Fin 8) (i : Fin 2048) (l : Fin 512) (f : Fin 128 → EReal)
    (h : ∀ g e, y (ix4 b i g e) = f ⟨64 * g.val + e.val, by omega⟩) :
    truncf (F := Ideal) FTy.bf16 (shapeCast S16384x512 (concatenate S8x2048x2x256 3
          [⟨S8x2048x2x64, y⟩,
            ⟨S8x2048x2x64, broadcastInDim S8x2048x2x64 ![] bcast_S_S8x2048x2x64 (constant (F := Ideal) S_ FTy.f32 0#32)⟩,
            ⟨S8x2048x2x64, broadcastInDim S8x2048x2x64 ![] bcast_S_S8x2048x2x64 (constant (F := Ideal) S_ FTy.f32 0#32)⟩,
            ⟨S8x2048x2x64, y⟩]
          concatenates_S8x2048x2x64_S8x2048x2x64_S8x2048x2x64_S8x2048x2x64_S8x2048x2x256_d3)
      shapeCasts_S8x2048x2x256_S16384x512) bitsLt_bf16_f32 (ix2 (qr b i) l) = beside f l := by
  have hl := l.isLt
  rw [cast_of, cat_of, h]
  unfold beside
  have e1 : (l.val % 256) / 64 = l.val / 64 % 4 := by omega
  have e2 : (⟨64 * (l.val / 256) + l.val % 256 % 64, by omega⟩ : Fin 128) = ⟨64 * (l.val / 256) + l.val % 64, by omega⟩ :=
    Fin.ext (by show 64 * (l.val / 256) + l.val % 256 % 64 = 64 * (l.val / 256) + l.val % 64; omega)
  dsimp only
  rw [e1, e2]

theorem v135_at (b : Fin 8) (i : Fin 2048) (l : Fin 512) :
    val_main_v135 (F := Ideal) x0 x1 x2 x3 x4 x6 x7 (ix2 (qr b i) l)
      = RotSpec.qa (rrow x0 x1 x2 x3 x4 x5 (qr b i)) (ang x6 i) (ang x7 i) l := by
  obtain ⟨g, h, e, rfl⟩ : ∃ (g : Fin 2) (h : Fin 4) (e : Fin 64), l = ⟨256 * g.val + 64 * h.val + e.val, by omega⟩ :=
    ⟨⟨l.val / 256, by omega⟩, ⟨l.val / 64 % 4, by omega⟩, ⟨l.val % 64, by omega⟩,
      Fin.ext (by show l.val = 256 * (l.val / 256) + 64 * (l.val / 64 % 4) + l.val % 64; omega)⟩
  unfold RotSpec.qa
  rw [← v63_at]
  rw [val_main_v135_apply, val_main_v134_apply, val_main_v132_apply]
  refine congrArg (fun z => val_main_v63 (F := Ideal) x0 x1 x2 x3 x4 x6 x7 z * Ideal.ofBits .f32 0x3E000000#32) (funext fun a => Fin.ext ?_)
  match a with
  | ⟨0, _⟩ => show ((b.val * 2048 + i.val) * 512 + (256 * g.val + 64 * h.val + e.val)) / 1048576 = b.val; omega
  | ⟨1, _⟩ => show ((b.val * 2048 + i.val) * 512 + (256 * g.val + 64 * h.val + e.val)) / 512 % 2048 = i.val; omega
  | ⟨2, _⟩ => show ((b.val * 2048 + i.val) * 512 + (256 * g.val + 64 * h.val + e.val)) / 256 % 2 = g.val; omega
  | ⟨3, _⟩ => show ((b.val * 2048 + i.val) * 512 + (256 * g.val + 64 * h.val + e.val)) / 64 % 4 = h.val; omega
  | ⟨4, _⟩ => show ((b.val * 2048 + i.val) * 512 + (256 * g.val + 64 * h.val + e.val)) % 64 = e.val; omega

theorem v139_at (b : Fin 8) (i : Fin 2048) (l : Fin 512) :
    val_main_v139 (F := Ideal) x0 x1 x2 x3 x6 x7 (ix2 (qr b i) l)
      = RotSpec.qw (rrow x0 x1 x2 x3 x4 x5 (qr b i)) (ang x6 i) (ang x7 i) l := by
  obtain ⟨g, h, e, rfl⟩ : ∃ (g : Fin 2) (h : Fin 4) (e : Fin 64), l = ⟨256 * g.val + 64 * h.val + e.val, by omega⟩ :=
    ⟨⟨l.val / 256, by omega⟩, ⟨l.val / 64 % 4, by omega⟩, ⟨l.val % 64, by omega⟩,
      Fin.ext (by show l.val = 256 * (l.val / 256) + 64 * (l.val / 64 % 4) + l.val % 64; omega)⟩
  unfold RotSpec.qw
  rw [← v109_at]
  rw [val_main_v139_apply, val_main_v138_apply, val_main_v136_apply]
  refine congrArg (fun z => val_main_v109 (F := Ideal) x0 x1 x2 x3 x6 x7 z * Ideal.ofBits .f32 0x3E000000#32) (funext fun a => Fin.ext ?_)
  match a with
  | ⟨0, _⟩ => show ((b.val * 2048 + i.val) * 512 + (256 * g.val + 64 * h.val + e.val)) / 1048576 = b.val; omega
  | ⟨1, _⟩ => show ((b.val * 2048 + i.val) * 512 + (256 * g.val + 64 * h.val + e.val)) / 512 % 2048 = i.val; omega
  | ⟨2, _⟩ => show ((b.val * 2048 + i.val) * 512 + (256 * g.val + 64 * h.val + e.val)) / 256 % 2 = g.val; omega
  | ⟨3, _⟩ => show ((b.val * 2048 + i.val) * 512 + (256 * g.val + 64 * h.val + e.val)) / 64 % 4 = h.val; omega
  | ⟨4, _⟩ => show ((b.val * 2048 + i.val) * 512 + (256 * g.val + 64 * h.val + e.val)) % 64 = e.val; omega

theorem v143_at (b : Fin 8) (i : Fin 2048) (l : Fin 512) :
    val_main_v143 (F := Ideal) x0 x1 x2 x3 x5 x6 x7 (ix2 (qr b i) l) = beside (RotSpec.ka (rrow x0 x1 x2 x3 x4 x5 (qr b i)) (ang x6 i) (ang x7 i)) l := by
  have e0 := fun g e => v92_at x0 x1 x2 x3 x4 x5 x6 x7 b i g e
  unfold val_main_v143 val_main_v142 val_main_v141 val_main_v140 val_main_cst_11
  generalize val_main_v92 (F := Ideal) x0 x1 x2 x3 x5 x6 x7 = y at *
  exact beside_of y b i l _ e0

theorem v147_at (b : Fin 8) (i : Fin 2048) (l : Fin 512) :
    val_main_v147 (F := Ideal) x0 x1 x2 x3 (ix2 (qr b i) l) = beside (rrow x0 x1 x2 x3 x4 x5 (qr b i)).va l := by
  have e0 := fun g e => v93_at x0 x1 x2 x3 x4 x5 b i g e
  unfold val_main_v147 val_main_v146 val_main_v145 val_main_v144 val_main_cst_12
  generalize val_main_v93 (F := Ideal) x0 x1 x2 x3 = y at *
  exact beside_of y b i l _ e0

theorem v151_at (b : Fin 8) (i : Fin 2048) (l : Fin 512) :
    val_main_v151 (F := Ideal) x0 x1 x2 x3 x6 x7 (ix2 (qr b i) l) = beside (RotSpec.kw (rrow x0 x1 x2 x3 x4 x5 (qr b i)) (ang x6 i) (ang x7 i)) l := by
  have e0 := fun g e => v125_at x0 x1 x2 x3 x4 x5 x6 x7 b i g e
  unfold val_main_v151 val_main_v150 val_main_v149 val_main_v148 val_main_cst_13
  generalize val_main_v125 (F := Ideal) x0 x1 x2 x3 x6 x7 = y at *
  exact beside_of y b i l _ e0

theorem v155_at (b : Fin 8) (i : Fin 2048) (l : Fin 512) :
    val_main_v155 (F := Ideal) x0 x1 x2 x3 (ix2 (qr b i) l) = beside (rrow x0 x1 x2 x3 x4 x5 (qr b i)).vw l := by
  have e0 := fun g e => v126_at x0 x1 x2 x3 x4 x5 b i g e
  unfold val_main_v155 val_main_v154 val_main_v153 val_main_v152 val_main_cst_14
  generalize val_main_v126 (F := Ideal) x0 x1 x2 x3 = y at *
  exact beside_of y b i l _ e0

theorem v131_at (b : Fin 8) (i : Fin 2048) (l : Fin 512) :
    val_main_v131 (F := Ideal) x0 x1 x2 x3 x5 x6 x7 (ix2 (qr b i) l) = RotSpec.kv (rrow x0 x1 x2 x3 x4 x5 (qr b i)) (ang x6 i) (ang x7 i) l := by
  obtain ⟨q, d, rfl⟩ : ∃ (q : Fin 4) (d : Fin 128), l = ⟨128 * q.val + d.val, by omega⟩ :=
    ⟨⟨l.val / 128, by omega⟩, ⟨l.val % 128, by omega⟩, Fin.ext (by show l.val = 128 * (l.val / 128) + l.val % 128; omega)⟩
  have hd := d.isLt
  have eq : (⟨(128 * q.val + d.val) / 128, by omega⟩ : Fin 4) = q := Fin.ext (by show (128 * q.val + d.val) / 128 = q.val; omega)
  have ed : (⟨(128 * q.val + d.val) % 128, by omega⟩ : Fin 128) = d := Fin.ext (by show (128 * q.val + d.val) % 128 = d.val; omega)
  have el : (⟨64 * (d.val / 64) + d.val % 64, by omega⟩ : Fin 128) = d := Fin.ext (by show 64 * (d.val / 64) + d.val % 64 = d.val; omega)
  unfold val_main_v131 RotSpec.kv
  rw [kv_of]
  dsimp only
  rw [eq, ed]
  match q with
  | ⟨0, _⟩ =>
    show val_main_v127 (F := Ideal) x0 x1 x2 x3 x5 x6 x7 (ix2 (qr b i) d) = (RotSpec.ka (rrow x0 x1 x2 x3 x4 x5 (qr b i)) (ang x6 i) (ang x7 i)) d
    unfold val_main_v127
    exact (cast64_of _ b i d).trans ((v92_at x0 x1 x2 x3 x4 x5 x6 x7 b i _ _).trans (congrArg _ el))
  | ⟨1, _⟩ =>
    show val_main_v128 (F := Ideal) x0 x1 x2 x3 (ix2 (qr b i) d) = (rrow x0 x1 x2 x3 x4 x5 (qr b i)).va d
    unfold val_main_v128
    exact (cast64_of _ b i d).trans ((v93_at x0 x1 x2 x3 x4 x5 b i _ _).trans (congrArg _ el))
  | ⟨2, _⟩ =>
    show val_main_v129 (F := Ideal) x0 x1 x2 x3 x6 x7 (ix2 (qr b i) d) = (RotSpec.kw (rrow x0 x1 x2 x3 x4 x5 (qr b i)) (ang x6 i) (ang x7 i)) d
    unfold val_main_v129
    exact (cast64_of _ b i d).trans ((v125_at x0 x1 x2 x3 x4 x5 x6 x7 b i _ _).trans (congrArg _ el))
  | ⟨3, _⟩ =>
    show val_main_v130 (F := Ideal) x0 x1 x2 x3 (ix2 (qr b i) d) = (rrow x0 x1 x2 x3 x4 x5 (qr b i)).vw d
    unfold val_main_v130
    exact (cast64_of _ b i d).trans ((v126_at x0 x1 x2 x3 x4 x5 b i _ _).trans (congrArg _ el))

end Cert.Proof.RotRef
-- ==== Proof.RotClaim.lean ====
/- Hand-written, untrusted: the claims of the sample's attention inputs. -/
module

public import proofs.«01_k».proof.Defs
public import proofs.«01_k».proof.Proof.RotArray
public import proofs.«01_k».proof.Proof.RotRef
public import proofs.«01_k».proof.Proof.Real
public import proofs.«01_k».proof.Proof.Gen.Rot
public import proofs.«01_k».proof.Proof.Gen.Rot.Frame

@[expose] public section

noncomputable section

namespace Cert.Proof.RotClaim

open Idealize.ShloMosaic Idealize.ShloMosaic.TcCoe Idealize.SL.Sem Cert.Proof.InSpec Cert.Proof.InSum

theorem pre_facts : Cert.Pre_finite_sample.Facts := ⟨by decide, by decide, by decide, by decide⟩

theorem frame_p : Cert.quiescent_Rot := fun m ρ _ => Cert.Rot.Gen.frame m ρ

theorem frame_pi : Cert.quiescent_RotIdeal := fun m ρ _ => Cert.RotIdeal.Gen.frame m ρ

theorem frame_pi_pre : Cert.quiescent_RotIdeal_pre_finite_sample (hPre_finite_sample := pre_facts) :=
  fun m ρ _ => Cert.RotIdeal.Gen.frame m ρ

theorem frame_ri : Cert.quiescent_RotRefIdeal := fun m ρ _ =>
  (θ_run Cert.RotRefIdeal.defs _ _).mono (fun r h => ⟨fun c => (h c).2.2.2.2.2.2.2, sem_eq_zero_of_no_sems (by decide) r.2⟩)
    (Cert.RotRefIdeal.Value.run (F := Ideal) m ρ)

theorem frame_ri_pre : Cert.quiescent_RotRefIdeal_pre_finite_sample (hPre_finite_sample := pre_facts) := fun m ρ _ =>
  (θ_run Cert.RotRefIdeal.defs _ _).mono (fun r h => ⟨fun c => (h c).2.2.2.2.2.2.2, sem_eq_zero_of_no_sems (by decide) r.2⟩)
    (Cert.RotRefIdeal.Value.run (F := Ideal) m ρ)

theorem preserves : Cert.preserves_Rot_RotIdeal := trivial

/-- From real arguments, the projection's columns are real. -/
theorem reals (m : (ℓ : Loc Cert.RotIdeal.nD Cert.RotIdeal.τ Cert.RotIdeal.sig) → Buf (Elt Ideal) ℓ)
    (h : Cert.Pre_RotIdeal_finite_sample (hPre_finite_sample := pre_facts) m) (c : Dev Cert.RotIdeal.nD) :
    RotArray.Reals m c := by
  obtain ⟨h0, h1, h2, h3⟩ := h c
  have r0 := Real.real_of_pre _ _ h0
  have r1 := Real.real_of_pre _ _ h1
  have r2 := Real.real_of_pre _ _ h2
  have r3 := Real.real_of_pre _ _ h3
  exact fun t e => acc_real (RotHost.arow m c t) (fun k => r0 _) (fun k => r2 _) (fun k => r1 _) (fun k => r1 _) (fun k c => r3 _) e

section

variable (m : (ℓ : Loc Cert.RotIdeal.nD Cert.RotIdeal.τ Cert.RotIdeal.sig) → Buf (Elt Ideal) ℓ) (c : Dev Cert.RotIdeal.nD)
  (x0 : Vec Ideal Cert.RotRefIdeal.S8x2048x1024 .f32) (x1 : Vec Ideal Cert.RotRefIdeal.S8x6x1024 .f32)
  (x2 : Vec Ideal Cert.RotRefIdeal.S1024 .f32) (x3 : Vec Ideal Cert.RotRefIdeal.S1024x7168 .f32)
  (x4 x5 : Vec Ideal Cert.RotRefIdeal.S64 .f32)
  (x6 x7 : Vec Ideal Cert.RotRefIdeal.S2048x32 .f32)

/-- From equal arguments, the tokens and their angles are equal. -/
theorem row_eq
    (h0 : x0 = m ((c.tc : Thread Cert.RotIdeal.nD Cert.RotIdeal.τ).loc Cert.RotIdeal.main_arg0))
    (h1 : x1 = m ((c.tc : Thread Cert.RotIdeal.nD Cert.RotIdeal.τ).loc Cert.RotIdeal.main_arg1))
    (h2 : x2 = m ((c.tc : Thread Cert.RotIdeal.nD Cert.RotIdeal.τ).loc Cert.RotIdeal.main_arg2))
    (h3 : x3 = m ((c.tc : Thread Cert.RotIdeal.nD Cert.RotIdeal.τ).loc Cert.RotIdeal.main_arg3))
    (h4 : x4 = m ((c.tc : Thread Cert.RotIdeal.nD Cert.RotIdeal.τ).loc Cert.RotIdeal.main_arg4))
    (h5 : x5 = m ((c.tc : Thread Cert.RotIdeal.nD Cert.RotIdeal.τ).loc Cert.RotIdeal.main_arg5)) :
    RotRef.rrow x0 x1 x2 x3 x4 x5 = RotHost.arow m c := by
  rw [h0, h1, h2, h3, h4, h5]
  rfl

theorem cs_eq (h : x6 = m ((c.tc : Thread Cert.RotIdeal.nD Cert.RotIdeal.τ).loc Cert.RotIdeal.main_arg6)) (b : Fin 8) (p : Fin 2048) :
    RotRef.ang x6 p = RotHost.cs m c (RotRef.qr b p) := by
  rw [h]
  exact funext fun j => congrArg (fun z => m ((c.tc : Thread Cert.RotIdeal.nD Cert.RotIdeal.τ).loc Cert.RotIdeal.main_arg6) (ix2 z j))
    (Fin.ext (by show p.val = (b.val * 2048 + p.val) % 2048; omega))

theorem sn_eq (h : x7 = m ((c.tc : Thread Cert.RotIdeal.nD Cert.RotIdeal.τ).loc Cert.RotIdeal.main_arg7)) (b : Fin 8) (p : Fin 2048) :
    RotRef.ang x7 p = RotHost.sn m c (RotRef.qr b p) := by
  rw [h]
  exact funext fun j => congrArg (fun z => m ((c.tc : Thread Cert.RotIdeal.nD Cert.RotIdeal.τ).loc Cert.RotIdeal.main_arg7) (ix2 z j))
    (Fin.ext (by show p.val = (b.val * 2048 + p.val) % 2048; omega))

theorem idx_surj (i : Cert.RotRefIdeal.S16384x512.Idx) : ∃ (b : Fin 8) (p : Fin 2048) (x : Fin 512), i = ix2 (RotRef.qr b p) x := by
  obtain ⟨b, p, h⟩ := RotRef.qr_surj (i 0)
  exact ⟨b, p, i 1, funext fun a => by match a with | ⟨0, _⟩ => exact h | ⟨1, _⟩ => rfl⟩

theorem ref135_eq (h : RotRef.rrow x0 x1 x2 x3 x4 x5 = RotHost.arow m c)
    (h6 : x6 = m ((c.tc : Thread Cert.RotIdeal.nD Cert.RotIdeal.τ).loc Cert.RotIdeal.main_arg6))
    (h7 : x7 = m ((c.tc : Thread Cert.RotIdeal.nD Cert.RotIdeal.τ).loc Cert.RotIdeal.main_arg7)) :
    Cert.RotRefIdeal.Read.val_main_v135 (F := Ideal) x0 x1 x2 x3 x4 x6 x7 = RotArray.R9 m c := by
  funext i
  obtain ⟨b, p, x, rfl⟩ := idx_surj i
  refine (RotRef.v135_at x0 x1 x2 x3 x4 x5 x6 x7 b p x).trans ?_
  rw [cs_eq m c x6 h6 b p, sn_eq m c x7 h7 b p, congrFun h (RotRef.qr b p)]
  rfl

theorem ref139_eq (h : RotRef.rrow x0 x1 x2 x3 x4 x5 = RotHost.arow m c)
    (h6 : x6 = m ((c.tc : Thread Cert.RotIdeal.nD Cert.RotIdeal.τ).loc Cert.RotIdeal.main_arg6))
    (h7 : x7 = m ((c.tc : Thread Cert.RotIdeal.nD Cert.RotIdeal.τ).loc Cert.RotIdeal.main_arg7)) :
    Cert.RotRefIdeal.Read.val_main_v139 (F := Ideal) x0 x1 x2 x3 x6 x7 = RotArray.R10 m c := by
  funext i
  obtain ⟨b, p, x, rfl⟩ := idx_surj i
  refine (RotRef.v139_at x0 x1 x2 x3 x4 x5 x6 x7 b p x).trans ?_
  rw [cs_eq m c x6 h6 b p, sn_eq m c x7 h7 b p, congrFun h (RotRef.qr b p)]
  rfl

theorem ref143_eq (h : RotRef.rrow x0 x1 x2 x3 x4 x5 = RotHost.arow m c)
    (h6 : x6 = m ((c.tc : Thread Cert.RotIdeal.nD Cert.RotIdeal.τ).loc Cert.RotIdeal.main_arg6))
    (h7 : x7 = m ((c.tc : Thread Cert.RotIdeal.nD Cert.RotIdeal.τ).loc Cert.RotIdeal.main_arg7)) :
    Cert.RotRefIdeal.Read.val_main_v143 (F := Ideal) x0 x1 x2 x3 x5 x6 x7 = RotArray.R11 m c := by
  funext i
  obtain ⟨b, p, x, rfl⟩ := idx_surj i
  refine (RotRef.v143_at x0 x1 x2 x3 x4 x5 x6 x7 b p x).trans ?_
  rw [cs_eq m c x6 h6 b p, sn_eq m c x7 h7 b p, congrFun h (RotRef.qr b p)]
  rfl

theorem ref147_eq (h : RotRef.rrow x0 x1 x2 x3 x4 x5 = RotHost.arow m c) :
    Cert.RotRefIdeal.Read.val_main_v147 (F := Ideal) x0 x1 x2 x3 = RotArray.R12 m c := by
  funext i
  obtain ⟨b, p, x, rfl⟩ := idx_surj i
  exact (RotRef.v147_at x0 x1 x2 x3 x4 x5 b p x).trans (congrFun (congrArg (fun R => beside (Row.va R)) (congrFun h (RotRef.qr b p))) x)

theorem ref151_eq (h : RotRef.rrow x0 x1 x2 x3 x4 x5 = RotHost.arow m c)
    (h6 : x6 = m ((c.tc : Thread Cert.RotIdeal.nD Cert.RotIdeal.τ).loc Cert.RotIdeal.main_arg6))
    (h7 : x7 = m ((c.tc : Thread Cert.RotIdeal.nD Cert.RotIdeal.τ).loc Cert.RotIdeal.main_arg7)) :
    Cert.RotRefIdeal.Read.val_main_v151 (F := Ideal) x0 x1 x2 x3 x6 x7 = RotArray.R13 m c := by
  funext i
  obtain ⟨b, p, x, rfl⟩ := idx_surj i
  refine (RotRef.v151_at x0 x1 x2 x3 x4 x5 x6 x7 b p x).trans ?_
  rw [cs_eq m c x6 h6 b p, sn_eq m c x7 h7 b p, congrFun h (RotRef.qr b p)]
  rfl

theorem ref155_eq (h : RotRef.rrow x0 x1 x2 x3 x4 x5 = RotHost.arow m c) :
    Cert.RotRefIdeal.Read.val_main_v155 (F := Ideal) x0 x1 x2 x3 = RotArray.R14 m c := by
  funext i
  obtain ⟨b, p, x, rfl⟩ := idx_surj i
  exact (RotRef.v155_at x0 x1 x2 x3 x4 x5 b p x).trans (congrFun (congrArg (fun R => beside (Row.vw R)) (congrFun h (RotRef.qr b p))) x)

theorem ref131_eq (h : RotRef.rrow x0 x1 x2 x3 x4 x5 = RotHost.arow m c)
    (h6 : x6 = m ((c.tc : Thread Cert.RotIdeal.nD Cert.RotIdeal.τ).loc Cert.RotIdeal.main_arg6))
    (h7 : x7 = m ((c.tc : Thread Cert.RotIdeal.nD Cert.RotIdeal.τ).loc Cert.RotIdeal.main_arg7)) :
    Cert.RotRefIdeal.Read.val_main_v131 (F := Ideal) x0 x1 x2 x3 x5 x6 x7 = RotArray.R15 m c := by
  funext i
  obtain ⟨b, p, x, rfl⟩ := idx_surj i
  refine (RotRef.v131_at x0 x1 x2 x3 x4 x5 x6 x7 b p x).trans ?_
  rw [cs_eq m c x6 h6 b p, sn_eq m c x7 h7 b p, congrFun h (RotRef.qr b p)]
  rfl

end

theorem algebraic : Cert.algebraic_RotIdeal_RotRefIdeal_pre_finite_sample (hPre_finite_sample := pre_facts) := by
  intro m g m' g' hpre hargs
  refine ⟨fun c => RotArray.R9 m c, fun c => RotArray.R10 m c, fun c => RotArray.R11 m c, fun c => RotArray.R12 m c, fun c => RotArray.R13 m c, fun c => RotArray.R14 m c, fun c => RotArray.R15 m c, ?_, ?_⟩
  · exact (θ_run Cert.RotIdeal.defs _ _).mono
      (fun r h c => ⟨(h c).1.trans (RotArray.final9 m c (reals m hpre c)),
        (h c).2.1.trans (RotArray.final10 m c),
        (h c).2.2.1.trans (RotArray.final11 m c (reals m hpre c)),
        (h c).2.2.2.1.trans (RotArray.final12 m c),
        (h c).2.2.2.2.1.trans (RotArray.final13 m c),
        (h c).2.2.2.2.2.1.trans (RotArray.final14 m c),
        (h c).2.2.2.2.2.2.1.trans (RotArray.final15 m c (reals m hpre c)),
        (h c).2.2.2.2.2.2.2⟩)
      (Cert.RotIdeal.Value.run_blocks m g)
  · refine (θ_run Cert.RotRefIdeal.defs _ _).mono (fun r h c => ?_) (Cert.RotRefIdeal.Value.run (F := Ideal) m' g')
    obtain ⟨h0, h1, h2, h3, h4, h5, h6, h7⟩ := hargs c
    have hrow := row_eq m c _ _ _ _ _ _ h0 h1 h2 h3 h4 h5
    exact ⟨(h c).1.trans ((Cert.RotRefIdeal.Read.val_main_v135_eq m' c).trans (ref135_eq m c _ _ _ _ _ _ _ _ hrow h6 h7)),
      (h c).2.1.trans ((Cert.RotRefIdeal.Read.val_main_v139_eq m' c).trans (ref139_eq m c _ _ _ _ _ _ _ _ hrow h6 h7)),
      (h c).2.2.1.trans ((Cert.RotRefIdeal.Read.val_main_v143_eq m' c).trans (ref143_eq m c _ _ _ _ _ _ _ _ hrow h6 h7)),
      (h c).2.2.2.1.trans ((Cert.RotRefIdeal.Read.val_main_v147_eq _ _ _ _).trans (ref147_eq m c _ _ _ _ _ _ hrow)),
      (h c).2.2.2.2.1.trans ((Cert.RotRefIdeal.Read.val_main_v151_eq m' c).trans (ref151_eq m c _ _ _ _ _ _ _ _ hrow h6 h7)),
      (h c).2.2.2.2.2.1.trans ((Cert.RotRefIdeal.Read.val_main_v155_eq _ _ _ _).trans (ref155_eq m c _ _ _ _ _ _ hrow)),
      (h c).2.2.2.2.2.2.1.trans ((Cert.RotRefIdeal.Read.val_main_v131_eq m' c).trans (ref131_eq m c _ _ _ _ _ _ _ _ hrow h6 h7)),
      (h c).2.2.2.2.2.2.2⟩

end Cert.Proof.RotClaim
-- ==== Proof.WinNear.lean ====
/- Hand-written, untrusted: which keys of its sequence a query row's window holds (`near`), and the comparison of 32-bit
   positions that decides it (`select_near`). -/
module

public import proofs.«01_k».proof.Proof.Spec

@[expose] public section

noncomputable section

namespace Cert.Proof.WinNear

open Idealize.ShloMosaic

/-- Positions at most 128 apart. -/
def close (a b : ℕ) : Prop := a ≤ b + 128 ∧ b ≤ a + 128

instance (a b : ℕ) : Decidable (close a b) := inferInstanceAs (Decidable (_ ∧ _))

/-- Key `j` of its sequence is in the window of query row `t`. -/
def near (t : Fin 16384) (j : Fin 2048) : Prop := close j.val (t.val % 2048)

instance (t : Fin 16384) (j : Fin 2048) : Decidable (near t j) := inferInstanceAs (Decidable (close _ _))

theorem near_bit (a b : ℕ) (ha : a < 4096) (hb : b < 4096) :
    IntOp.cmpi .sle (IntOp.absi (IntOp.subi (BitVec.ofNat 32 a) (BitVec.ofNat 32 b))) 128#32 = BitVec.ofBool (decide (close a b)) := by
  unfold IntOp.cmpi IntOp.absi IntOp.subi
  refine congrArg BitVec.ofBool ?_
  dsimp only
  rw [Bool.eq_iff_iff, decide_eq_true_iff, BitVec.sle_iff_toInt_le]
  have e : (BitVec.ofNat 32 a - BitVec.ofNat 32 b).toInt = (a : ℤ) - b := by
    rw [BitVec.toInt_sub, BitVec.toInt_ofNat', BitVec.toInt_ofNat']
    simp only [Int.bmod_def]
    omega
  have e2 : (128#32).toInt = 128 := by decide
  rw [e2]
  split
  · rename_i h
    rw [BitVec.msb_eq_toInt, decide_eq_true_iff, e] at h
    rw [BitVec.toInt_neg, e, Int.bmod_def]
    unfold close
    omega
  · rename_i h
    rw [BitVec.msb_eq_toInt, decide_eq_true_iff, e] at h
    rw [e]
    unfold close
    omega

theorem select_near {α : Type} (a b : ℕ) (ha : a < 4096) (hb : b < 4096) (x y : α) :
    Scalar.select (IntOp.cmpi .sle (IntOp.absi (IntOp.subi (BitVec.ofNat 32 a) (BitVec.ofNat 32 b))) 128#32) x y
      = if close a b then x else y := by
  rw [near_bit a b ha hb]
  unfold Scalar.select
  by_cases h : close a b
  · rw [if_pos h, decide_eq_true h]; rfl
  · rw [if_neg h, decide_eq_false h]; rfl

end Cert.Proof.WinNear
-- ==== Proof.WinHead.lean ====
/- Hand-written, untrusted: one head's output of the windowed attention's body at an index is a softmax average in which a
   masked key's score is −∞; and where the body's key span starts (`st`), which keys it masks (`mask_at`). -/
module

public import proofs.«01_k».proof.Proof.Gen.WinIdeal.Value
public import proofs.«01_k».proof.Proof.WinNear
public import Idealize.ShloMosaic.Lib.Pointwise

@[expose] public section

set_option maxRecDepth 16384

noncomputable section

namespace Cert.Proof.WinHead

open Cert.WinIdeal Cert.WinIdeal.Gen Idealize.ShloMosaic Idealize.ShloMosaic.TcCoe Idealize.SL.Sem
open Cert.Proof.Softmax Cert.Proof.WinNear

/-- The mask's value. -/
theorem mask_value : Named.named (F := Ideal) κ "mask" (φ := .f32) 0xF149F2CA#32 = (⊥ : EReal) :=
  IdealRules.named_const.ideal_named_scalar _ _ _ _ rfl

/-- A head's output at row `r` and lane `l` of its block of columns. -/
theorem head_apply (msk : IVec S512x768 1) (q : FVec Ideal S512x128 .bf16) (k v : Vec Ideal S768x128 .bf16)
    (sink : Elt Ideal .f32) (kc vc : Vec Ideal S512x128 .bf16) (r : Fin 512) (l : Fin 128) :
    k0_pay34 msk q k v sink kc vc (ix2 r l)
      = soft (Sum.elim (fun j => Scalar.select (msk (ix2 r j)) (∑ x, q (ix2 r x) * k (ix2 j x)) (⊥ : EReal))
            (Sum.elim (fun j => ∑ x, q (ix2 r x) * kc (ix2 j x)) fun _ : Unit => sink))
          (Sum.elim (fun j => v (ix2 j l)) (Sum.elim (fun j => vc (ix2 j l)) fun _ : Unit => 0)) := by
  unfold k0_pay34
  rw [mask_value]
  pointwise []
  rw [ofBits_neg_inf]
  exact soft_parts _ _ _ _ _ _ rfl

/-- The first key row of the span, of the query block `n`. -/
def st (n : ℕ) : ℕ := min 1280 (512 * n - 128)

theorem off1 : ∀ i : grid0.Coords, k0_off1 i = ![st (i 1).val, 0] := by decide +kernel
theorem off2 : ∀ i : grid0.Coords, k0_off2 i = ![st (i 1).val, 128] := by decide +kernel
theorem off3 : ∀ i : grid0.Coords, k0_off3 i = ![st (i 1).val, 256] := by decide +kernel
theorem off4 : ∀ i : grid0.Coords, k0_off4 i = ![st (i 1).val, 384] := by decide +kernel

theorem start_word : ∀ i : grid0.Coords,
    Scalar.minsi 1280#32 (Scalar.maxsi 0#32 (Scalar.subi (Scalar.muli (BitVec.ofNat 32 (i 1).val) 512#32) 128#32))
      = BitVec.ofNat 32 (st (i 1).val) := by decide +kernel
theorem row_word : ∀ i : grid0.Coords,
    Scalar.muli (BitVec.ofNat 32 (i 1).val) 512#32 = BitVec.ofNat 32 (512 * (i 1).val) := by decide +kernel

/-- Key `j` of the span is unmasked for row `r` of the query block where their positions are close. -/
theorem mask_at {α : Type} (i : grid0.Coords) (r : Fin 512) (j : Fin 768) (x y : α) :
    Scalar.select (k0_pay1 i (ix2 r j)) x y = if close (st (i 1).val + j.val) (512 * (i 1).val + r.val) then x else y := by
  have hi : (i 1).val < 4 := (i 1).isLt
  have h : k0_pay1 i (ix2 r j) = IntOp.cmpi .sle (IntOp.absi (IntOp.subi (BitVec.ofNat 32 (st (i 1).val + j.val))
      (BitVec.ofNat 32 (512 * (i 1).val + r.val)))) 128#32 := by
    unfold k0_pay1
    dsimp only
    rw [start_word i, row_word i, BitVec.ofNat_add, BitVec.ofNat_add]
    pointwise []
    rfl
  rw [h]
  exact select_near _ _ (by unfold st; omega) (by omega) x y

end Cert.Proof.WinHead
-- ==== Proof.WinBlock.lean ====
/- Hand-written, untrusted: what the windowed attention's body leaves in its output block is one function `G` of the input
   blocks (`out_eq`): each of the four stores holds the sum of two heads, each head the softmax average of WinHead.lean. -/
module

public import proofs.«01_k».proof.Proof.WinHead
public import proofs.«01_k».proof.Proof.Spec
public import Idealize.ShloMosaic.Lib.Pipeline.CanonAppend

@[expose] public section

set_option maxRecDepth 16384

noncomputable section

namespace Cert.Proof.WinBlock

open Cert.WinIdeal Cert.WinIdeal.Gen Idealize.ShloMosaic Idealize.ShloMosaic.TcCoe Idealize.SL.Sem
open Cert.Proof.Softmax Cert.Proof.WinHead Cert.Proof.WinNear Cert.Proof.Spec

/-- Row `j` of the span of keys of query block `n`. -/
def srow (n : ℕ) (j : Fin 768) : Fin 2048 := ⟨st n + j.val, by unfold st; omega⟩

/-- Head `2 b + e` at row `r` and lane `l` of its column block, over whole blocks, for query block `n`. -/
def headG (n : ℕ) (x0 : Vec Ideal S8 .f32) (x1 : Vec Ideal S512x512 .bf16) (x2 x3 : Vec Ideal S2048x512 .bf16)
    (x4 x5 : Vec Ideal S512x512 .bf16) (b : Fin 4) (e : Fin 2) (r : Fin 512) (l : Fin 128) : EReal :=
  soft (Sum.elim (fun j => if close (srow n j).val (512 * n + r.val)
        then ∑ x, x1 (ix2 r (lane b x)) * x2 (ix2 (srow n j) (lane (kvb b e) x)) else (⊥ : EReal))
      (Sum.elim (fun j => ∑ x, x1 (ix2 r (lane b x)) * x4 (ix2 j (lane (kvb b e) x))) fun _ : Unit => x0 (ix1 (hd b e))))
    (Sum.elim (fun j => x3 (ix2 (srow n j) (lane (kvb b e) l)))
      (Sum.elim (fun j => x5 (ix2 j (lane (kvb b e) l))) fun _ : Unit => 0))

def G (n : ℕ) (x0 : Vec Ideal S8 .f32) (x1 : Vec Ideal S512x512 .bf16) (x2 x3 : Vec Ideal S2048x512 .bf16)
    (x4 x5 : Vec Ideal S512x512 .bf16) : Vec Ideal S512x512 .bf16 := fun i =>
  have h1 : (i 1).val < 512 := (i 1).isLt
  headG n x0 x1 x2 x3 x4 x5 ⟨(i 1).val / 128, by omega⟩ 0 (i 0) ⟨(i 1).val % 128, by omega⟩
    + headG n x0 x1 x2 x3 x4 x5 ⟨(i 1).val / 128, by omega⟩ 1 (i 0) ⟨(i 1).val % 128, by omega⟩

theorem G_lane (n : ℕ) (x0 : Vec Ideal S8 .f32) (x1 : Vec Ideal S512x512 .bf16) (x2 x3 : Vec Ideal S2048x512 .bf16)
    (x4 x5 : Vec Ideal S512x512 .bf16) (b : Fin 4) (r : Fin 512) (l : Fin 128) :
    G n x0 x1 x2 x3 x4 x5 (ix2 r (lane b l)) = headG n x0 x1 x2 x3 x4 x5 b 0 r l + headG n x0 x1 x2 x3 x4 x5 b 1 r l := by
  have hb : (⟨(lane b l).val / 128, by have := (lane b l).isLt; omega⟩ : Fin 4) = b := Fin.ext (by show (128 * b.val + l.val) / 128 = b.val; omega)
  have hl : (⟨(lane b l).val % 128, by omega⟩ : Fin 128) = l := Fin.ext (by show (128 * b.val + l.val) % 128 = l.val; omega)
  show headG n x0 x1 x2 x3 x4 x5 ⟨(lane b l).val / 128, _⟩ 0 r ⟨(lane b l).val % 128, _⟩ + headG n x0 x1 x2 x3 x4 x5 ⟨(lane b l).val / 128, _⟩ 1 r ⟨(lane b l).val % 128, _⟩ = _
  rw [hb, hl]

/-- A load of 128 columns from column `o`, at an index. -/
theorem ld_apply {R o : ℕ} {e : EltTy} (X : Vec Ideal (⟨2, ![R, 512]⟩ : Shape) e)
    (inb : ∀ a, (![0, o] : Fin 2 → ℕ) a + (⟨2, ![R, 128]⟩ : Shape).size a ≤ (⟨2, ![R, 512]⟩ : Shape).size a)
    (b : Fin 4) (hb : o = 128 * b.val) (r : Fin R) (x : Fin 128) :
    View.ld X (Rect.unit ![0, o] (⟨2, ![R, 128]⟩ : Shape).size inb) (ix2 r x) = X (ix2 r (lane b x)) := by
  subst hb
  refine congrArg X (funext fun a => Fin.ext ?_)
  match a with
  | ⟨0, _⟩ => show 0 + 1 * r.val = r.val; omega
  | ⟨1, _⟩ => show 128 * b.val + 1 * x.val = 128 * b.val + x.val; omega

/-- A load of 128 columns of the span's rows, at an index. -/
theorem ldk_apply {n o : ℕ} {off : Fin 2 → ℕ} {e : EltTy} (X : Vec Ideal S2048x512 e) (ho : off = ![st n, o])
    (inb : ∀ a, off a + S768x128.size a ≤ S2048x512.size a) (b : Fin 4) (hb : o = 128 * b.val) (j : Fin 768) (x : Fin 128) :
    View.ld X (Rect.unit off S768x128.size inb) (ix2 j x) = X (ix2 (srow n j) (lane b x)) := by
  subst ho hb
  refine congrArg X (funext fun a => Fin.ext ?_)
  match a with
  | ⟨0, _⟩ => show st n + 1 * j.val = st n + j.val; omega
  | ⟨1, _⟩ => show 128 * b.val + 1 * x.val = 128 * b.val + x.val; omega

/-- A head over loads of the whole blocks. -/
theorem head_ld (i : grid0.Coords) (x0 : Vec Ideal S8 .f32) (x1 : Vec Ideal S512x512 .bf16) (x2 x3 : Vec Ideal S2048x512 .bf16)
    (x4 x5 : Vec Ideal S512x512 .bf16) (b : Fin 4) (e : Fin 2) {o p : ℕ} {off : Fin 2 → ℕ}
    (i1 : ∀ a, (![0, o] : Fin 2 → ℕ) a + S512x128.size a ≤ S512x512.size a)
    (i2 : ∀ a, off a + S768x128.size a ≤ S2048x512.size a)
    (i4 : ∀ a, (![0, p] : Fin 2 → ℕ) a + S512x128.size a ≤ S512x512.size a)
    (ho : o = 128 * b.val) (hoff : off = ![st (i 1).val, p]) (hp : p = 128 * (kvb b e).val) (r : Fin 512) (l : Fin 128) :
    k0_pay34 (k0_pay1 i) (k0_pay2 (View.ld x1 (Rect.unit ![0, o] S512x128.size i1)))
      (View.ld x2 (Rect.unit off S768x128.size i2))
      (View.ld x3 (Rect.unit off S768x128.size i2)) (x0 (ix1 (hd b e)))
      (View.ld x4 (Rect.unit ![0, p] S512x128.size i4)) (View.ld x5 (Rect.unit ![0, p] S512x128.size i4)) (ix2 r l)
      = headG (i 1).val x0 x1 x2 x3 x4 x5 b e r l := by
  have hq : k0_pay2 (View.ld x1 (Rect.unit ![0, o] S512x128.size i1)) = View.ld x1 (Rect.unit ![0, o] S512x128.size i1) := by
    unfold k0_pay2; exact shapeCast_self _ _
  rw [hq, head_apply]
  unfold headG
  simp only [mask_at]
  refine congrArg₂ soft (congrArg₂ Sum.elim (funext fun j => ?_) (congrArg₂ Sum.elim (funext fun j => ?_) rfl))
    (congrArg₂ Sum.elim (funext fun j => ldk_apply x3 hoff i2 (kvb b e) hp j l)
      (congrArg₂ Sum.elim (funext fun j => ld_apply x5 i4 (kvb b e) hp j l) rfl))
  · rw [Finset.sum_congr rfl fun x _ => congrArg₂ (· * ·) (ld_apply x1 i1 b ho r x) (ldk_apply x2 hoff i2 (kvb b e) hp j x)]
    rfl
  · exact Finset.sum_congr rfl fun x _ => congrArg₂ (· * ·) (ld_apply x1 i1 b ho r x) (ld_apply x4 i4 (kvb b e) hp j x)

set_option maxHeartbeats 4000000 in
/-- What the body leaves in its output block. -/
theorem out_eq (c : Dev nD) (i : grid0.Coords) (arg2 : Memref sig .tc .smem S8 .f32) (harg2 : arg2.IsWhole) (arg3 : Memref sig .tc .vmem S512x512 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole)
    (x0 : Vec Ideal S8 .f32) (x1 : Vec Ideal S512x512 .bf16) (x2 : Vec Ideal S2048x512 .bf16) (x3 : Vec Ideal S2048x512 .bf16) (x4 : Vec Ideal S512x512 .bf16) (x5 : Vec Ideal S512x512 .bf16) :
    out0_A_6 c i arg2 harg2 arg3 harg3 arg4 harg4 arg5 harg5 arg6 harg6 arg7 harg7 arg8 harg8 x0 x1 x2 x3 x4 x5
      = G (i 1).val x0 x1 x2 x3 x4 x5 := by
  funext y
  have hc := cover0_A_6 c i arg2 harg2 arg3 harg3 arg4 harg4 arg5 harg5 arg6 harg6 arg7 harg7 arg8 harg8 x0 x1 x2 x3 x4 x5 y
  unfold out0_A_6
  rw [View.read_writes_junk_eq_canon]
  revert hc
  have e2 := harg2.read_unread x0
  have e3 := harg3.read_unread x1
  have e4 := harg4.read_unread x2
  have e5 := harg5.read_unread x3
  have e6 := harg6.read_unread x4
  have e7 := harg7.read_unread x5
  unfold kernelRun0_A
  dsimp only
  sl_unfold_words
  simp only [View.readAt_eq_ld, e2, e3, e4, e5, e6, e7]
  intro hc
  rw [← List.append_nil (_ :: _)]
  refine View.canon_append_of_pieces _ [] _ ?_ y hc
  refine List.forall_mem_cons.2 ⟨?_, List.forall_mem_cons.2 ⟨?_, List.forall_mem_cons.2 ⟨?_, List.forall_mem_cons.2 ⟨?_, fun _ h => absurd h List.not_mem_nil⟩⟩⟩⟩
  · intro x
    obtain ⟨r, l, rfl⟩ : ∃ (r : Fin 512) (l : Fin 128), x = ix2 r l := ⟨x 0, x 1, eq_ix2 x⟩
    have he : (Rect.unit (s := S512x512) ![0, 384] ![512, 128] inb_S512x512_S512x128_0_384).emb (ix2 r l) = ix2 r (lane 3 l) := by
      funext a; apply Fin.ext
      match a with
      | ⟨0, _⟩ => show 0 + 1 * r.val = r.val; omega
      | ⟨1, _⟩ => show 384 + 1 * l.val = 128 * 3 + l.val; omega
    refine Eq.trans ?_ (congrArg (G (i 1).val x0 x1 x2 x3 x4 x5) he.symm)
    rw [G_lane, ← head_ld i x0 x1 x2 x3 x4 x5 3 0 inb_S512x512_S512x128_0_384 (k0_off3_inb i) inb_S512x512_S512x128_0_256 rfl (off3 i) rfl,
      ← head_ld i x0 x1 x2 x3 x4 x5 3 1 inb_S512x512_S512x128_0_384 (k0_off4_inb i) inb_S512x512_S512x128_0_384 rfl (off4 i) rfl,
      show ix1 (hd 3 0) = (Rect.unit (s := S8) ![6] S1.size inb_S8_S1_6).emb (Shape.Idx.first (by decide)) from funext fun a => by match a with | ⟨0, _⟩ => rfl,
      show ix1 (hd 3 1) = (Rect.unit (s := S8) ![7] S1.size inb_S8_S1_7).emb (Shape.Idx.first (by decide)) from funext fun a => by match a with | ⟨0, _⟩ => rfl]
    rfl
  · intro x
    obtain ⟨r, l, rfl⟩ : ∃ (r : Fin 512) (l : Fin 128), x = ix2 r l := ⟨x 0, x 1, eq_ix2 x⟩
    have he : (Rect.unit (s := S512x512) ![0, 256] ![512, 128] inb_S512x512_S512x128_0_256).emb (ix2 r l) = ix2 r (lane 2 l) := by
      funext a; apply Fin.ext
      match a with
      | ⟨0, _⟩ => show 0 + 1 * r.val = r.val; omega
      | ⟨1, _⟩ => show 256 + 1 * l.val = 128 * 2 + l.val; omega
    refine Eq.trans ?_ (congrArg (G (i 1).val x0 x1 x2 x3 x4 x5) he.symm)
    rw [G_lane, ← head_ld i x0 x1 x2 x3 x4 x5 2 0 inb_S512x512_S512x128_0_256 (k0_off3_inb i) inb_S512x512_S512x128_0_256 rfl (off3 i) rfl,
      ← head_ld i x0 x1 x2 x3 x4 x5 2 1 inb_S512x512_S512x128_0_256 (k0_off4_inb i) inb_S512x512_S512x128_0_384 rfl (off4 i) rfl,
      show ix1 (hd 2 0) = (Rect.unit (s := S8) ![4] S1.size inb_S8_S1_4).emb (Shape.Idx.first (by decide)) from funext fun a => by match a with | ⟨0, _⟩ => rfl,
      show ix1 (hd 2 1) = (Rect.unit (s := S8) ![5] S1.size inb_S8_S1_5).emb (Shape.Idx.first (by decide)) from funext fun a => by match a with | ⟨0, _⟩ => rfl]
    rfl
  · intro x
    obtain ⟨r, l, rfl⟩ : ∃ (r : Fin 512) (l : Fin 128), x = ix2 r l := ⟨x 0, x 1, eq_ix2 x⟩
    have he : (Rect.unit (s := S512x512) ![0, 128] ![512, 128] inb_S512x512_S512x128_0_128).emb (ix2 r l) = ix2 r (lane 1 l) := by
      funext a; apply Fin.ext
      match a with
      | ⟨0, _⟩ => show 0 + 1 * r.val = r.val; omega
      | ⟨1, _⟩ => show 128 + 1 * l.val = 128 * 1 + l.val; omega
    refine Eq.trans ?_ (congrArg (G (i 1).val x0 x1 x2 x3 x4 x5) he.symm)
    rw [G_lane, ← head_ld i x0 x1 x2 x3 x4 x5 1 0 inb_S512x512_S512x128_0_128 (k0_off1_inb i) inb_S512x512_S512x128_0_0 rfl (off1 i) rfl,
      ← head_ld i x0 x1 x2 x3 x4 x5 1 1 inb_S512x512_S512x128_0_128 (k0_off2_inb i) inb_S512x512_S512x128_0_128 rfl (off2 i) rfl,
      show ix1 (hd 1 0) = (Rect.unit (s := S8) ![2] S1.size inb_S8_S1_2).emb (Shape.Idx.first (by decide)) from funext fun a => by match a with | ⟨0, _⟩ => rfl,
      show ix1 (hd 1 1) = (Rect.unit (s := S8) ![3] S1.size inb_S8_S1_3).emb (Shape.Idx.first (by decide)) from funext fun a => by match a with | ⟨0, _⟩ => rfl]
    rfl
  · intro x
    obtain ⟨r, l, rfl⟩ : ∃ (r : Fin 512) (l : Fin 128), x = ix2 r l := ⟨x 0, x 1, eq_ix2 x⟩
    have he : (Rect.unit (s := S512x512) ![0, 0] ![512, 128] inb_S512x512_S512x128_0_0).emb (ix2 r l) = ix2 r (lane 0 l) := by
      funext a; apply Fin.ext
      match a with
      | ⟨0, _⟩ => show 0 + 1 * r.val = r.val; omega
      | ⟨1, _⟩ => show 0 + 1 * l.val = 128 * 0 + l.val; omega
    refine Eq.trans ?_ (congrArg (G (i 1).val x0 x1 x2 x3 x4 x5) he.symm)
    rw [G_lane, ← head_ld i x0 x1 x2 x3 x4 x5 0 0 inb_S512x512_S512x128_0_0 (k0_off1_inb i) inb_S512x512_S512x128_0_0 rfl (off1 i) rfl,
      ← head_ld i x0 x1 x2 x3 x4 x5 0 1 inb_S512x512_S512x128_0_0 (k0_off2_inb i) inb_S512x512_S512x128_0_128 rfl (off2 i) rfl,
      show ix1 (hd 0 0) = (Rect.unit (s := S8) ![0] S1.size inb_S8_S1_0).emb (Shape.Idx.first (by decide)) from funext fun a => by match a with | ⟨0, _⟩ => rfl,
      show ix1 (hd 0 1) = (Rect.unit (s := S8) ![1] S1.size inb_S8_S1_1).emb (Shape.Idx.first (by decide)) from funext fun a => by match a with | ⟨0, _⟩ => rfl]
    rfl

/-- A head is the average of its own scores, its values in its half of the lanes, where the blocks hold a sequence's scaled
    queries, padded keys and values: the keys out of the span are out of the window, and their scores are −∞. -/
theorem head_spec (n : ℕ) (hn : n < 4) (x0 : Vec Ideal S8 .f32) (x1 : Vec Ideal S512x512 .bf16) (x2 x3 : Vec Ideal S2048x512 .bf16)
    (x4 x5 : Vec Ideal S512x512 .bf16) (q : Fin 16384 → Fin 512 → EReal) (k v : Fin 16384 → Fin 128 → EReal)
    (kc vc : Fin 4096 → Fin 128 → EReal) (sink : Fin 8 → EReal) (t : Fin 16384) (b : Fin 4) (e : Fin 2) (r : Fin 512)
    (l : Fin 128) (ht : t.val % 2048 = 512 * n + r.val)
    (h0 : x0 (ix1 (hd b e)) = sink (hd b e)) (h1 : ∀ x, x1 (ix2 r (lane b x)) = q t (lane b x) * eighth)
    (h2 : ∀ j y, x2 (ix2 j (lane (kvb b e) y)) = Spec.pad e (fun d => k (krow t j) (gcol (hd b e) d)) y)
    (h3 : ∀ j y, x3 (ix2 j (lane (kvb b e) y)) = Spec.pad e (fun d => v (krow t j) (gcol (hd b e) d)) y)
    (h4 : ∀ j y, x4 (ix2 j (lane (kvb b e) y)) = Spec.pad e (fun d => kc (crow t j) (gcol (hd b e) d)) y)
    (h5 : ∀ j y, x5 (ix2 j (lane (kvb b e) y)) = Spec.pad e (fun d => vc (crow t j) (gcol (hd b e) d)) y) :
    headG n x0 x1 x2 x3 x4 x5 b e r l
      = soft (scores near q k kc sink t (hd b e)) fun x => Spec.pad e (fun d => vals v vc t (hd b e) d x) l := by
  have hinj : Function.Injective (Sum.map (srow n) id : Fin 768 ⊕ Fin 512 ⊕ Unit → Fin 2048 ⊕ Fin 512 ⊕ Unit) :=
    Sum.map_injective.2 ⟨fun a c h => Fin.ext (by have := congrArg Fin.val h; simp only [srow] at this; omega), Function.injective_id⟩
  rw [← soft_comp (Sum.map (srow n) id) hinj _ _ ?_]
  · unfold headG
    refine congrArg₂ soft (funext fun x => ?_) (funext fun x => ?_)
    · rcases x with j | j | j
      · show (if close (srow n j).val (512 * n + r.val) then _ else (⊥ : EReal)) = if close (srow n j).val (t.val % 2048) then _ else ⊥
        rw [ht]
        exact if_congr Iff.rfl (dot_pad (q t) (k (krow t (srow n j))) b e _ _ h1 (h2 (srow n j))) rfl
      · exact dot_pad (q t) (kc (crow t j)) b e _ _ h1 (h4 j)
      · exact h0
    · rcases x with j | j | j
      · exact h3 (srow n j) l
      · exact h5 j l
      · show (0 : EReal) = Spec.pad e (fun _ => 0) l
        unfold Spec.pad; split <;> rfl
  · intro x hx
    rcases x with j | j | j
    · refine if_neg fun hc => hx ?_
      have hc' : close j.val (t.val % 2048) := hc
      unfold close at hc'
      rw [ht] at hc'
      have hr := r.isLt
      have hj := j.isLt
      have hs : st n ≤ j.val ∧ j.val < st n + 768 := by unfold st; omega
      exact ⟨Sum.inl ⟨j.val - st n, by omega⟩, congrArg Sum.inl (Fin.ext (by simp only [srow]; omega))⟩
    · exact absurd ⟨Sum.inr (Sum.inl j), rfl⟩ hx
    · exact absurd ⟨Sum.inr (Sum.inr j), rfl⟩ hx

end Cert.Proof.WinBlock
-- ==== Proof.WinHost.lean ====
/- Hand-written, untrusted: what the windowed attention's kernel reads: the host's padded column blocks (`V_…`) and the blocks of
   them that a grid point sees (`iblk…_at`). -/
module

public import proofs.«01_k».proof.Proof.WinBlock
public import proofs.«01_k».proof.Proof.Gen.WinIdeal.Value
public import Idealize.ShloMosaic.Lib.StableHlo.ReadAt

@[expose] public section

set_option maxRecDepth 16384

noncomputable section

namespace Cert.Proof.WinHost

open Cert.WinIdeal Cert.WinIdeal.Gen Cert.WinIdeal.Value Idealize.ShloMosaic Idealize.ShloMosaic.TcCoe Idealize.SL.Sem
open Cert.Proof.Softmax Cert.Proof.Spec Cert.Proof.WinNear Cert.Proof.WinBlock

variable (m : (ℓ : Loc nD τ sig) → Buf (Elt Ideal) ℓ) (ρ : Dev nD → PrngReg)

/-- The argument arrays by row and column. -/
def q (c : Dev nD) (t : Fin 16384) (x : Fin 512) : EReal := m ((c : Thread nD τ).loc main_arg0) (ix2 t x)
def k (c : Dev nD) (t : Fin 16384) (x : Fin 128) : EReal := m ((c : Thread nD τ).loc main_arg1) (ix2 t x)
def v (c : Dev nD) (t : Fin 16384) (x : Fin 128) : EReal := m ((c : Thread nD τ).loc main_arg2) (ix2 t x)
def kc (c : Dev nD) (t : Fin 4096) (x : Fin 128) : EReal := m ((c : Thread nD τ).loc main_arg3) (ix2 t x)
def vc (c : Dev nD) (t : Fin 4096) (x : Fin 128) : EReal := m ((c : Thread nD τ).loc main_arg4) (ix2 t x)
def sink (c : Dev nD) (h : Fin 8) : EReal := m ((c : Thread nD τ).loc main_arg5) (ix1 h)

/-! ## The host's arrays before the call -/

theorem V_q (c : Dev nD) (r : Fin 16384) (x : Fin 512) : V m c main_v2 (ix2 r x) = q m c r x * eighth := by
  unfold V
  after_reads_at
  rfl

theorem V_sink (c : Dev nD) (h : Fin 8) : V m c main_arg5 (ix1 h) = sink m c h :=
  congrFun (V_main_arg5 m c) (ix1 h)

theorem V_k (c : Dev nD) (r : Fin 16384) (b : Fin 4) (e : Fin 2) (y : Fin 128) :
    V m c main_v8 (ix2 r (lane (kvb b e) y)) = pad e (fun d => k m c r (gcol (hd b e) d)) y := by
  unfold V
  after_reads_at
  after_reads_at
  exact ladder_pad (k m c r) b e y _ rfl

theorem V_v (c : Dev nD) (r : Fin 16384) (b : Fin 4) (e : Fin 2) (y : Fin 128) :
    V m c main_v14 (ix2 r (lane (kvb b e) y)) = pad e (fun d => v m c r (gcol (hd b e) d)) y := by
  unfold V
  after_reads_at
  after_reads_at
  exact ladder_pad (v m c r) b e y _ rfl

theorem V_kc (c : Dev nD) (r : Fin 4096) (b : Fin 4) (e : Fin 2) (y : Fin 128) :
    V m c main_v20 (ix2 r (lane (kvb b e) y)) = pad e (fun d => kc m c r (gcol (hd b e) d)) y := by
  unfold V
  after_reads_at
  after_reads_at
  exact ladder_pad (kc m c r) b e y _ rfl

theorem V_vc (c : Dev nD) (r : Fin 4096) (b : Fin 4) (e : Fin 2) (y : Fin 128) :
    V m c main_v26 (ix2 r (lane (kvb b e) y)) = pad e (fun d => vc m c r (gcol (hd b e) d)) y := by
  unfold V
  after_reads_at
  after_reads_at
  exact ladder_pad (vc m c r) b e y _ rfl

/-! ## The blocks of a grid point -/

theorem idx0 : ∀ t : Fin cfg0.N, win0_0.index t (0 : Fin 1) = 0 := (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val / 4 ∧ win0_2.index t (1 : Fin 2) = 0 :=
  (by decide +kernel : ∀ t : Fin grid0.N, _)
theorem idx3 : ∀ t : Fin cfg0.N, win0_3.index t (0 : Fin 2) = t.val / 4 ∧ win0_3.index t (1 : Fin 2) = 0 :=
  (by decide +kernel : ∀ t : Fin grid0.N, _)
theorem idx4 : ∀ t : Fin cfg0.N, win0_4.index t (0 : Fin 2) = t.val / 4 ∧ win0_4.index t (1 : Fin 2) = 0 :=
  (by decide +kernel : ∀ t : Fin grid0.N, _)
theorem idx5 : ∀ t : Fin cfg0.N, win0_5.index t (0 : Fin 2) = t.val / 4 ∧ win0_5.index t (1 : Fin 2) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)

/-- Point `t` is query block `t % 4` of its sequence. -/
theorem coord : ∀ t : Fin cfg0.N, (grid0.coords t 1).val = t.val % 4 := (by decide +kernel : ∀ t : Fin grid0.N, _)

theorem tlt (t : Fin cfg0.N) : t.val < 32 := t.isLt

/-- Row `r` of the query block of point `t`. -/
def qrow (t : Fin cfg0.N) (r : Fin 512) : Fin 16384 := ⟨512 * t.val + r.val, by have := tlt t; omega⟩

theorem iblk0_at (c : Dev nD) (t : Fin cfg0.N) (h : Fin 8) : iblk m c 0 t (ix1 h) = V m c main_arg5 (ix1 h) := by
  have e0 := idx0 t
  show V m c main_arg5 (((cfg0.win 0).blk t).view.emb (ix1 h)) = _
  refine congrArg (V m c main_arg5) (funext fun a => Fin.ext ?_)
  match a with
  | ⟨0, _⟩ => show win0_0.index t (0 : Fin 1) * 8 + 1 * h.val = h.val; omega

theorem iblk1_at (c : Dev nD) (t : Fin cfg0.N) (r : Fin 512) (x : Fin 512) :
    iblk m c 1 t (ix2 r x) = V m c main_v2 (ix2 (qrow t r) x) := by
  obtain ⟨e0, e1⟩ := idx1 t
  show V m c main_v2 (((cfg0.win 1).blk t).view.emb (ix2 r x)) = _
  refine congrArg (V m c main_v2) (funext fun a => Fin.ext ?_)
  match a with
  | ⟨0, _⟩ => show win0_1.index t (0 : Fin 2) * 512 + 1 * r.val = 512 * t.val + r.val; omega
  | ⟨1, _⟩ => show win0_1.index t (1 : Fin 2) * 512 + 1 * x.val = x.val; omega

theorem iblk2_at (c : Dev nD) (t : Fin cfg0.N) (r : Fin 512) (j : Fin 2048) (x : Fin 512) :
    iblk m c 2 t (ix2 j x) = V m c main_v8 (ix2 (krow (qrow t r) j) x) := by
  obtain ⟨e0, e1⟩ := idx2 t
  show V m c main_v8 (((cfg0.win 2).blk t).view.emb (ix2 j x)) = _
  refine congrArg (V m c main_v8) (funext fun a => Fin.ext ?_)
  match a with
  | ⟨0, _⟩ => show win0_2.index t (0 : Fin 2) * 2048 + 1 * j.val = 2048 * ((512 * t.val + r.val) / 2048) + j.val; omega
  | ⟨1, _⟩ => show win0_2.index t (1 : Fin 2) * 512 + 1 * x.val = x.val; omega

theorem iblk3_at (c : Dev nD) (t : Fin cfg0.N) (r : Fin 512) (j : Fin 2048) (x : Fin 512) :
    iblk m c 3 t (ix2 j x) = V m c main_v14 (ix2 (krow (qrow t r) j) x) := by
  obtain ⟨e0, e1⟩ := idx3 t
  show V m c main_v14 (((cfg0.win 3).blk t).view.emb (ix2 j x)) = _
  refine congrArg (V m c main_v14) (funext fun a => Fin.ext ?_)
  match a with
  | ⟨0, _⟩ => show win0_3.index t (0 : Fin 2) * 2048 + 1 * j.val = 2048 * ((512 * t.val + r.val) / 2048) + j.val; omega
  | ⟨1, _⟩ => show win0_3.index t (1 : Fin 2) * 512 + 1 * x.val = x.val; omega

theorem iblk4_at (c : Dev nD) (t : Fin cfg0.N) (r : Fin 512) (j : Fin 512) (x : Fin 512) :
    iblk m c 4 t (ix2 j x) = V m c main_v20 (ix2 (crow (qrow t r) j) x) := by
  obtain ⟨e0, e1⟩ := idx4 t
  show V m c main_v20 (((cfg0.win 4).blk t).view.emb (ix2 j x)) = _
  refine congrArg (V m c main_v20) (funext fun a => Fin.ext ?_)
  match a with
  | ⟨0, _⟩ => show win0_4.index t (0 : Fin 2) * 512 + 1 * j.val = 512 * ((512 * t.val + r.val) / 2048) + j.val; omega
  | ⟨1, _⟩ => show win0_4.index t (1 : Fin 2) * 512 + 1 * x.val = x.val; omega

theorem iblk5_at (c : Dev nD) (t : Fin cfg0.N) (r : Fin 512) (j : Fin 512) (x : Fin 512) :
    iblk m c 5 t (ix2 j x) = V m c main_v26 (ix2 (crow (qrow t r) j) x) := by
  obtain ⟨e0, e1⟩ := idx5 t
  show V m c main_v26 (((cfg0.win 5).blk t).view.emb (ix2 j x)) = _
  refine congrArg (V m c main_v26) (funext fun a => Fin.ext ?_)
  match a with
  | ⟨0, _⟩ => show win0_5.index t (0 : Fin 2) * 512 + 1 * j.val = 512 * ((512 * t.val + r.val) / 2048) + j.val; omega
  | ⟨1, _⟩ => show win0_5.index t (1 : Fin 2) * 512 + 1 * x.val = x.val; omega

theorem emb6 (t : Fin cfg0.N) (r : Fin 512) (x : Fin 512) :
    ((cfg0.win 6).blk t).view.emb (ix2 r x) = ix2 (qrow t r) x := by
  obtain ⟨e0, e1⟩ := idx6 t
  refine funext fun a => Fin.ext ?_
  match a with
  | ⟨0, _⟩ => show win0_6.index t (0 : Fin 2) * 512 + 1 * r.val = 512 * t.val + r.val; omega
  | ⟨1, _⟩ => show win0_6.index t (1 : Fin 2) * 512 + 1 * x.val = x.val; omega

/-! ## The result -/

/-- The scores of head `h` at row `t`. -/
abbrev sc (c : Dev nD) (t : Fin 16384) (h : Fin 8) : Fin 2048 ⊕ Fin 512 ⊕ Unit → EReal :=
  scores near (q m c) (k m c) (kc m c) (sink m c) t h

/-- The result array as a function of the argument arrays. -/
def GA (c : Dev nD) : Vec Ideal S16384x512 .bf16 := fun i =>
  have h1 : (i 1).val < 512 := (i 1).isLt
  spec near (q m c) (k m c) (v m c) (kc m c) (vc m c) (sink m c) (i 0)
    ⟨(i 1).val / 64, by omega⟩ ⟨(i 1).val % 64, by omega⟩

theorem GA_at (c : Dev nD) (t : Fin 16384) (h : Fin 8) (d : Fin 64) :
    GA m c (ix2 t (hcol h d)) = spec near (q m c) (k m c) (v m c) (kc m c) (vc m c) (sink m c) t h d := by
  have h1 : (⟨(hcol h d).val / 64, by have := (hcol h d).isLt; omega⟩ : Fin 8) = h := Fin.ext (by simp only [hcol]; omega)
  have h2 : (⟨(hcol h d).val % 64, by omega⟩ : Fin 64) = d := Fin.ext (by simp only [hcol]; omega)
  show spec _ _ _ _ _ _ _ t ⟨(hcol h d).val / 64, _⟩ ⟨(hcol h d).val % 64, _⟩ = _
  rw [h1, h2]

end Cert.Proof.WinHost
-- ==== Proof.WinArray.lean ====
/- Hand-written, untrusted: the result array of the windowed attention's kernel is `spec` of the argument arrays, at real queries
   and keys and sinks below +∞: what a grid point writes back (`flushed_eq`), the array after the run (`final`). -/
module

public import proofs.«01_k».proof.Proof.WinHost

@[expose] public section

set_option maxRecDepth 16384

noncomputable section

namespace Cert.Proof.WinArray

open Cert.WinIdeal Cert.WinIdeal.Gen Cert.WinIdeal.Value Idealize.ShloMosaic Idealize.ShloMosaic.TcCoe Idealize.SL.Sem
open Cert.Proof.Softmax Cert.Proof.Spec Cert.Proof.WinNear Cert.Proof.WinBlock Cert.Proof.WinHost

variable (m : (ℓ : Loc nD τ sig) → Buf (Elt Ideal) ℓ) (ρ : Dev nD → PrngReg)

/-- A head of the block is the average of its own scores, its values in its half of the lanes. -/
theorem head_eq (c : Dev nD) (t : Fin cfg0.N) (b : Fin 4) (e : Fin 2) (r : Fin 512) (l : Fin 128) :
    headG (t.val % 4) (iblk m c 0 t) (iblk m c 1 t) (iblk m c 2 t) (iblk m c 3 t) (iblk m c 4 t) (iblk m c 5 t) b e r l
      = soft (sc m c (qrow t r) (hd b e)) fun x => Spec.pad e (fun d => vals (v m c) (vc m c) (qrow t r) (hd b e) d x) l := by
  exact head_spec _ (by omega) _ _ _ _ _ _ (q m c) (k m c) (v m c) (kc m c) (vc m c) (sink m c) (qrow t r) b e r l
    (show (512 * t.val + r.val) % 2048 = 512 * (t.val % 4) + r.val by omega)
    ((iblk0_at m c t (hd b e)).trans (V_sink m c (hd b e)))
    (fun x => (iblk1_at m c t r (lane b x)).trans (V_q m c _ _))
    (fun j y => (iblk2_at m c t r j _).trans (V_k m c _ b e y))
    (fun j y => (iblk3_at m c t r j _).trans (V_v m c _ b e y))
    (fun j y => (iblk4_at m c t r j _).trans (V_kc m c _ b e y))
    (fun j y => (iblk5_at m c t r j _).trans (V_vc m c _ b e y))

/-- The queries and keys are real, the sinks below +∞. -/
structure Reals (c : Dev nD) : Prop where
  q : ∃ f : Fin 16384 → Fin 512 → ℝ, q m c = fun t x => (f t x : EReal)
  k : ∃ f : Fin 16384 → Fin 128 → ℝ, k m c = fun t x => (f t x : EReal)
  kc : ∃ f : Fin 4096 → Fin 128 → ℝ, kc m c = fun t x => (f t x : EReal)
  sink : ∀ h, sink m c h ≠ ⊤

theorem block_eq (c : Dev nD) (hr : Reals m c) (t : Fin cfg0.N) (r : Fin 512) (x : Fin 512) :
    G (t.val % 4) (iblk m c 0 t) (iblk m c 1 t) (iblk m c 2 t) (iblk m c 3 t) (iblk m c 4 t) (iblk m c 5 t) (ix2 r x)
      = GA m c (ix2 (qrow t r) x) := by
  obtain ⟨b, e, d, rfl⟩ := lane_surj x
  rw [G_lane, head_eq, head_eq, lane_half, GA_at]
  obtain ⟨⟨fq, hq⟩, ⟨fk, hk⟩, ⟨fkc, hkc⟩, hs⟩ := hr
  have hv : ∀ e' : Fin 2, (vals (v m c) (vc m c) (qrow t r) (hd b e')) = vals (v m c) (vc m c) (qrow t r) (hd b e) := by
    intro e'
    have hg : ∀ d, gcol (hd b e') d = gcol (hd b e) d := fun d => Fin.ext (by simp only [gcol, hd]; omega)
    unfold vals
    simp only [hg]
  rw [hv 0, hv 1]
  exact soft_halves (fun e' => sc m c (qrow t r) (hd b e'))
    (fun e' x => by rw [sc, hq, hk, hkc]; exact scores_ne_top fq _ fk fkc _ hs _ _ x)
    (fun e' => by rw [sc, hq, hk, hkc]; exact scores_ne_bot fq _ fk fkc _ _ _)
    (fun x d => vals (v m c) (vc m c) (qrow t r) (hd b e) d x) e d

theorem flushed_eq (c : Dev nD) (hr : Reals m c) (t : Fin cfg0.N) :
    (dats m 0 c).flushed 6 t = ((cfg0.win 6).blk t).view.read (Elt Ideal) (GA m c) := by
  rw [flushed6_A, out_eq, coord]
  funext j
  show G _ _ _ _ _ _ _ j = GA m c (((cfg0.win 6).blk t).view.emb j)
  obtain ⟨r, x, rfl⟩ : ∃ (r : Fin 512) (x : Fin 512), j = ix2 r x :=
    ⟨j 0, j 1, funext fun a => by match a with | ⟨0, _⟩ => rfl | ⟨1, _⟩ => rfl⟩
  rw [emb6]
  exact block_eq m c hr t r x

theorem covered (i : S16384x512.Idx) :
    ∃ t : Fin cfg0.N, (cfg0.win 6).flush t = true ∧ i ∈ ((cfg0.win 6).blk t).view.set := by
  have h0 : (i 0).val < 16384 := (i 0).isLt
  obtain ⟨t, ht⟩ : ∃ t : Fin cfg0.N, t.val = (i 0).val / 512 := ⟨⟨(i 0).val / 512, (by omega : (i 0).val / 512 < 32)⟩, rfl⟩
  obtain ⟨r, hr⟩ : ∃ r : Fin 512, r.val = (i 0).val % 512 := ⟨⟨(i 0).val % 512, by omega⟩, rfl⟩
  obtain ⟨x, hx⟩ : ∃ x : Fin 512, x.val = (i 1).val := ⟨i 1, rfl⟩
  have e : ix2 (qrow t r) x = i := funext fun a => by
    match a with
    | ⟨0, _⟩ => exact Fin.ext (show 512 * t.val + r.val = (i 0).val by omega)
    | ⟨1, _⟩ => exact Fin.ext hx
  refine ⟨t, flush0_6 t, ?_⟩
  have h := ((cfg0.win 6).blk t).view.emb_mem_set (ix2 r x)
  rw [emb6, e] at h
  exact h

theorem final (c : Dev nD) (hr : Reals m c) : (dats m 0 c).arrAt 6 cfg0.N = GA m c :=
  (dats m 0 c).arrAt_eq_of_cover 6 (GA m c) (fun t _ => flushed_eq m c hr t) covered

end Cert.Proof.WinArray
-- ==== Proof.WinRef.lean ====
/- Hand-written, untrusted: the windowed attention's reference at an index is `spec` of the argument arrays: its score matrix
   holds each sequence key's score, −∞ out of the window, each context key's and the sink's (`v26_at`), its softmax the
   quotients of their exponentials (`v37_at`), and its two products' sum the average of the values (`ref_at`). -/
module

public import proofs.«01_k».proof.Proof.Spec
public import proofs.«01_k».proof.Proof.RefMax
public import proofs.«01_k».proof.Proof.WinNear
public import proofs.«01_k».proof.Proof.Gen.WinRefIdeal.Read
public import Idealize.ShloMosaic.Lib.Pointwise

@[expose] public section

set_option maxRecDepth 16384

noncomputable section

namespace Cert.Proof.WinRef

open Cert.WinRefIdeal Cert.WinRefIdeal.Gen Cert.WinRefIdeal.Read Idealize.ShloMosaic Idealize.ShloMosaic.TcCoe Idealize.SL.Sem
open Cert.Proof.Softmax Cert.Proof.Spec Cert.Proof.RefMax Cert.Proof.WinNear

variable (x0 : Vec Ideal S16384x512 .f32) (x1 x2 : Vec Ideal S16384x128 .f32) (x3 x4 : Vec Ideal S4096x128 .f32)
  (x5 : Vec Ideal S8 .f32)

/-- Query row `i` of sequence `b`; head `p` of group `g`. -/
def qr (b : Fin 8) (i : Fin 2048) : Fin 16384 := ⟨2048 * b.val + i.val, by omega⟩
def hg (g : Fin 2) (p : Fin 4) : Fin 8 := ⟨4 * g.val + p.val, by omega⟩

/-- The places of the scores in a row of the matrix: the sequence's, the context's, the sink's. -/
def idx : Fin 2048 ⊕ Fin 512 ⊕ Unit → Fin 2561
  | Sum.inl j => ⟨j.val, by omega⟩
  | Sum.inr (Sum.inl j) => ⟨2048 + j.val, by omega⟩
  | Sum.inr (Sum.inr _) => ⟨2560, by omega⟩

theorem idx_bijective : Function.Bijective idx := by
  refine ⟨fun a c h => ?_, fun j => ?_⟩
  · have h' := congrArg Fin.val h
    rcases a with a | a | a <;> rcases c with c | c | c <;> simp only [idx] at h' <;>
      first
        | (exact congrArg Sum.inl (Fin.ext (by omega)))
        | (exact congrArg (fun z => Sum.inr (Sum.inl z)) (Fin.ext (by omega)))
        | rfl
        | (exfalso; omega)
  · by_cases h : j.val < 2048
    · exact ⟨Sum.inl ⟨j.val, h⟩, rfl⟩
    · by_cases h' : j.val < 2560
      · exact ⟨Sum.inr (Sum.inl ⟨j.val - 2048, by omega⟩), Fin.ext (show 2048 + (j.val - 2048) = j.val by omega)⟩
      · exact ⟨Sum.inr (Sum.inr ()), Fin.ext (show 2560 = j.val by omega)⟩

/-- A sum over the three parts where the last adds nothing. -/
theorem sum_parts (f : Fin 2048 ⊕ Fin 512 ⊕ Unit → EReal) (h : f (Sum.inr (Sum.inr ())) = 0) :
    ∑ x, f x = ∑ j, f (Sum.inl j) + ∑ j, f (Sum.inr (Sum.inl j)) := by
  rw [Fintype.sum_sum_type, Fintype.sum_sum_type, Fintype.sum_unique (fun a : Unit => f (Sum.inr (Sum.inr a)))]
  refine congrArg₂ (· + ·) rfl ?_
  rw [show f (Sum.inr (Sum.inr default)) = 0 from h, add_zero]

/-- The values at an index. -/
theorem v2_at (b : Fin 8) (g : Fin 2) (p : Fin 4) (d : Fin 64) (i : Fin 2048) (j : Fin 2048) :
    val_main_v2 (F := Ideal) x2 (ix4 b j g d) = x2 (ix2 (krow (qr b i) j) (gcol (hg g p) d)) := by
  unfold val_main_v2
  pointwise []
  refine congrArg x2 (congrArg₂ ix2 (Fin.ext ?_) (Fin.ext ?_))
  · show b.val * 2048 + j.val = 2048 * ((2048 * b.val + i.val) / 2048) + j.val; omega
  · show g.val * 64 + d.val = 64 * ((4 * g.val + p.val) / 4) + d.val; omega

theorem v4_at (b : Fin 8) (g : Fin 2) (p : Fin 4) (d : Fin 64) (i : Fin 2048) (j : Fin 512) :
    val_main_v4 (F := Ideal) x4 (ix4 b j g d) = x4 (ix2 (crow (qr b i) j) (gcol (hg g p) d)) := by
  unfold val_main_v4
  pointwise []
  refine congrArg x4 (congrArg₂ ix2 (Fin.ext ?_) (Fin.ext ?_))
  · show b.val * 512 + j.val = 512 * ((2048 * b.val + i.val) / 2048) + j.val; omega
  · show g.val * 64 + d.val = 64 * ((4 * g.val + p.val) / 4) + d.val; omega

/-- The scaled scores at an index, out of the window −∞. -/
theorem v19_at (fq : Fin 16384 → Fin 512 → ℝ) (fk : Fin 16384 → Fin 128 → ℝ)
    (hq : ∀ t x, x0 (ix2 t x) = (fq t x : EReal)) (hk : ∀ t x, x1 (ix2 t x) = (fk t x : EReal))
    (b : Fin 8) (g : Fin 2) (p : Fin 4) (i : Fin 2048) (j : Fin 2048) :
    val_main_v19 (F := Ideal) x0 x1 (ix5 b g p i j)
      = if near (qr b i) j then score (fun t x => (fq t x : EReal)) (fun t x => (fk t x : EReal)) (qr b i) (krow (qr b i) j) (hg g p)
        else ⊥ := by
  have hs : val_main_v18 (F := Ideal) x0 x1 (ix5 b g p i j)
      = score (fun t x => (fq t x : EReal)) (fun t x => (fk t x : EReal)) (qr b i) (krow (qr b i) j) (hg g p) := by
    unfold val_main_v18 val_main_v17 val_main_cst val_main_v16 val_main_v15 val_main_v1 val_main_v0
    pointwise []
    refine Eq.trans ?_ (score_swap fq fk (qr b i) (krow (qr b i) j) (hg g p))
    refine congrArg (· * eighth) (Finset.sum_congr rfl fun d _ => ?_)
    rw [hk, hq]
    refine congrArg₂ (· * ·) (congrArg _ (congrArg₂ fk (Fin.ext ?_) (Fin.ext ?_))) (congrArg _ (congrArg₂ fq (Fin.ext ?_) (Fin.ext ?_)))
    · show b.val * 2048 + j.val = 2048 * ((2048 * b.val + i.val) / 2048) + j.val; omega
    · show g.val * 64 + d.val = 64 * ((4 * g.val + p.val) / 4) + d.val; omega
    · show b.val * 2048 + i.val = 2048 * b.val + i.val; omega
    · show g.val * 256 + p.val * 64 + d.val = 64 * (4 * g.val + p.val) + d.val; omega
  have hm : val_main_call0_v1 (F := Ideal) (ix5 b g p i j)
      = IntOp.cmpi .sle (IntOp.absi (IntOp.subi (BitVec.ofNat 32 j.val) (BitVec.ofNat 32 i.val))) 128#32 := rfl
  have hb : val_main_call0_v2 (F := Ideal) (ix5 b g p i j) = (⊥ : EReal) := ofBits_neg_inf
  rw [val_main_v19_apply, hs, hm, hb, select_near _ _ (by omega) (by omega)]
  have hi : (qr b i).val % 2048 = i.val := by simp only [qr]; omega
  refine if_congr ?_ rfl rfl
  show close j.val i.val ↔ close j.val ((qr b i).val % 2048)
  rw [hi]

theorem v23_at (fq : Fin 16384 → Fin 512 → ℝ) (fkc : Fin 4096 → Fin 128 → ℝ)
    (hq : ∀ t x, x0 (ix2 t x) = (fq t x : EReal)) (hkc : ∀ t x, x3 (ix2 t x) = (fkc t x : EReal))
    (b : Fin 8) (g : Fin 2) (p : Fin 4) (i : Fin 2048) (j : Fin 512) :
    val_main_v23 (F := Ideal) x0 x3 (ix5 b g p i j)
      = score (fun t x => (fq t x : EReal)) (fun t x => (fkc t x : EReal)) (qr b i) (crow (qr b i) j) (hg g p) := by
  unfold val_main_v23 val_main_v22 val_main_cst_1 val_main_v21 val_main_v20 val_main_v3 val_main_v0
  pointwise []
  refine Eq.trans ?_ (score_swap fq fkc (qr b i) (crow (qr b i) j) (hg g p))
  refine congrArg (· * eighth) (Finset.sum_congr rfl fun d _ => ?_)
  rw [hkc, hq]
  refine congrArg₂ (· * ·) (congrArg _ (congrArg₂ fkc (Fin.ext ?_) (Fin.ext ?_))) (congrArg _ (congrArg₂ fq (Fin.ext ?_) (Fin.ext ?_)))
  · show b.val * 512 + j.val = 512 * ((2048 * b.val + i.val) / 2048) + j.val; omega
  · show g.val * 64 + d.val = 64 * ((4 * g.val + p.val) / 4) + d.val; omega
  · show b.val * 2048 + i.val = 2048 * b.val + i.val; omega
  · show g.val * 256 + p.val * 64 + d.val = 64 * (4 * g.val + p.val) + d.val; omega

theorem v25_at (b : Fin 8) (g : Fin 2) (p : Fin 4) (i : Fin 2048) (z : Fin 1) :
    val_main_v25 (F := Ideal) x5 (ix5 b g p i z) = x5 (ix1 (hg g p)) := by
  unfold val_main_v25 val_main_v24 val_main_v5
  pointwise []
  refine congrArg x5 (congrArg ix1 (Fin.ext ?_))
  show g.val * 4 + p.val = 4 * g.val + p.val; omega

/-- The score matrix at an index. -/
theorem v26_at (fq : Fin 16384 → Fin 512 → ℝ) (fk : Fin 16384 → Fin 128 → ℝ) (fkc : Fin 4096 → Fin 128 → ℝ)
    (hq : ∀ t x, x0 (ix2 t x) = (fq t x : EReal)) (hk : ∀ t x, x1 (ix2 t x) = (fk t x : EReal))
    (hkc : ∀ t x, x3 (ix2 t x) = (fkc t x : EReal)) (b : Fin 8) (g : Fin 2) (p : Fin 4) (i : Fin 2048)
    (x : Fin 2048 ⊕ Fin 512 ⊕ Unit) :
    val_main_v26 (F := Ideal) x0 x1 x3 x5 (ix5 b g p i (idx x))
      = scores near (fun t x => (fq t x : EReal)) (fun t x => (fk t x : EReal)) (fun t x => (fkc t x : EReal))
          (fun h => x5 (ix1 h)) (qr b i) (hg g p) x := by
  have h1 := v19_at x0 x1 fq fk hq hk b g p i
  have h2 := v23_at x0 x3 fq fkc hq hkc b g p i
  have h3 := v25_at x5 b g p i
  unfold val_main_v26
  generalize val_main_v19 (F := Ideal) x0 x1 = A at *
  generalize val_main_v23 (F := Ideal) x0 x3 = B at *
  generalize val_main_v25 (F := Ideal) x5 = C at *
  pointwise []
  rcases x with j | j | j
  · have hj : (idx (Sum.inl j)).val = j.val := rfl
    rw [dif_pos (by rw [hj]; exact j.isLt)]
    exact h1 j
  · have hj : (idx (Sum.inr (Sum.inl j))).val = 2048 + j.val := rfl
    rw [dif_neg (by rw [hj]; omega), dif_pos (by rw [hj]; omega)]
    refine Eq.trans (congrArg B (congrArg (ix5 b g p i) (Fin.ext ?_))) (h2 j)
    show 2048 + j.val - 2048 = j.val; omega
  · have hj : (idx (Sum.inr (Sum.inr j))).val = 2560 := rfl
    rw [dif_neg (by rw [hj]; omega), dif_neg (by rw [hj]; omega)]
    exact h3 _

/-! ## The softmax -/

section Soft

variable (b : Fin 8) (g : Fin 2) (p : Fin 4) (i : Fin 2048) (S : Fin 2048 ⊕ Fin 512 ⊕ Unit → EReal)
  (hS : ∀ x, val_main_v26 (F := Ideal) x0 x1 x3 x5 (ix5 b g p i (idx x)) = S x)
include hS

theorem v29_at : val_main_v29 (F := Ideal) x0 x1 x3 x5 (ix4 b g p i) = top S := by
  rw [val_main_v29_apply]
  have h : val_main_v27 (F := Ideal) x0 x1 x3 x5 (ix4 b g p i) = top S := by
    unfold val_main_v27
    refine (reduce_max _ _ (fun _ => ofBits_neg_inf) _ _ b g p i).trans ?_
    rw [← funext hS]
    exact (top_comp idx idx_bijective.1 (fun j => val_main_v26 (F := Ideal) x0 x1 x3 x5 (ix5 b g p i j))
      fun k hk => absurd (idx_bijective.2 k) hk).symm
  rw [h, val_main_v28_apply, val_main_cst_3_apply]
  show max (Ideal.ofBits .f32 0xFF800000#32) (top S) = top S
  rw [ofBits_neg_inf]
  exact max_eq_right bot_le

theorem v33_at (x : Fin 2048 ⊕ Fin 512 ⊕ Unit) :
    val_main_v33 (F := Ideal) x0 x1 x3 x5 (ix5 b g p i (idx x)) = Ideal.exp (S x - top S) := by
  rw [val_main_v33_apply, val_main_v32_apply, val_main_v31_apply, val_main_v30_apply]
  have h : idx_main_v30 (idx_main_v31 (ix5 b g p i (idx x))) = ix4 b g p i := funext fun a => by
    match a with | ⟨0, _⟩ => rfl | ⟨1, _⟩ => rfl | ⟨2, _⟩ => rfl | ⟨3, _⟩ => rfl
  rw [h, v29_at x0 x1 x3 x5 b g p i S hS, hS]
  rfl

theorem v34_at : val_main_v34 (F := Ideal) x0 x1 x3 x5 (ix4 b g p i) = ∑ x, Ideal.exp (S x - top S) := by
  rw [val_main_v34_apply, val_main_cst_4_apply]
  have h : ∀ k, idx_main_v34 (ix4 b g p i) k = ix5 b g p i k := fun k => funext fun a => by
    match a with | ⟨0, _⟩ => rfl | ⟨1, _⟩ => rfl | ⟨2, _⟩ => rfl | ⟨3, _⟩ => rfl | ⟨4, _⟩ => rfl
  rw [Finset.sum_congr rfl fun k _ => congrArg _ (h k)]
  rw [← idx_bijective.sum_comp fun k => val_main_v33 (F := Ideal) x0 x1 x3 x5 (ix5 b g p i k)]
  rw [Finset.sum_congr rfl fun x _ => v33_at x0 x1 x3 x5 b g p i S hS x]
  show Ideal.ofBits .f32 0x00000000#32 + _ = _
  rw [ofBits_zero, zero_add]

theorem v37_at (x : Fin 2048 ⊕ Fin 512 ⊕ Unit) : val_main_v37 (F := Ideal) x0 x1 x3 x5 (ix5 b g p i (idx x))
    = Ideal.div (Ideal.exp (S x - top S)) (∑ x, Ideal.exp (S x - top S)) := by
  rw [val_main_v37_apply, v33_at x0 x1 x3 x5 b g p i S hS, val_main_v36_apply, val_main_v35_apply]
  have h : idx_main_v35 (idx_main_v36 (ix5 b g p i (idx x))) = ix4 b g p i := funext fun a => by
    match a with | ⟨0, _⟩ => rfl | ⟨1, _⟩ => rfl | ⟨2, _⟩ => rfl | ⟨3, _⟩ => rfl
  rw [h, v34_at x0 x1 x3 x5 b g p i S hS]
  rfl

theorem v39_at (d : Fin 64) (W : Fin 2048 → EReal) (hW : ∀ j, val_main_v2 (F := Ideal) x2 (ix4 b j g d) = W j) :
    val_main_v39 (F := Ideal) x0 x1 x2 x3 x5 (ix5 b g d p i)
      = ∑ j : Fin 2048, W j * Ideal.div (Ideal.exp (S (Sum.inl j) - top S)) (∑ x, Ideal.exp (S x - top S)) := by
  rw [val_main_v39_apply]
  refine Finset.sum_congr rfl fun j _ => congrArg₂ (· * ·) ?_ ?_
  · exact (congrArg _ (funext fun a => by
      match a with | ⟨0, _⟩ => rfl | ⟨1, _⟩ => rfl | ⟨2, _⟩ => rfl | ⟨3, _⟩ => rfl)).trans (hW j)
  · rw [val_main_v38_apply]
    refine (congrArg _ (funext fun a => Fin.ext ?_)).trans (v37_at x0 x1 x3 x5 b g p i S hS (Sum.inl j))
    match a with | ⟨0, _⟩ => rfl | ⟨1, _⟩ => rfl | ⟨2, _⟩ => rfl | ⟨3, _⟩ => rfl | ⟨4, _⟩ => rfl

theorem v42_at (d : Fin 64) (W : Fin 512 → EReal) (hW : ∀ j, val_main_v4 (F := Ideal) x4 (ix4 b j g d) = W j) :
    val_main_v42 (F := Ideal) x0 x1 x3 x4 x5 (ix5 b g d p i)
      = ∑ j : Fin 512, W j * Ideal.div (Ideal.exp (S (Sum.inr (Sum.inl j)) - top S)) (∑ x, Ideal.exp (S x - top S)) := by
  rw [val_main_v42_apply]
  refine Finset.sum_congr rfl fun j _ => congrArg₂ (· * ·) ?_ ?_
  · exact (congrArg _ (funext fun a => by
      match a with | ⟨0, _⟩ => rfl | ⟨1, _⟩ => rfl | ⟨2, _⟩ => rfl | ⟨3, _⟩ => rfl)).trans (hW j)
  · rw [val_main_v41_apply]
    refine (congrArg _ (funext fun a => Fin.ext ?_)).trans (v37_at x0 x1 x3 x5 b g p i S hS (Sum.inr (Sum.inl j)))
    match a with | ⟨0, _⟩ => rfl | ⟨1, _⟩ => rfl | ⟨2, _⟩ => rfl | ⟨3, _⟩ => rfl | ⟨4, _⟩ => rfl

end Soft

/-- The reference at row `t`, head `h`, lane `d`. -/
theorem ref_at (fq : Fin 16384 → Fin 512 → ℝ) (fk : Fin 16384 → Fin 128 → ℝ) (fkc : Fin 4096 → Fin 128 → ℝ)
    (hq : ∀ t x, x0 (ix2 t x) = (fq t x : EReal)) (hk : ∀ t x, x1 (ix2 t x) = (fk t x : EReal))
    (hkc : ∀ t x, x3 (ix2 t x) = (fkc t x : EReal)) (hs : ∀ h, x5 (ix1 h) ≠ (⊤ : EReal))
    (t : Fin 16384) (h : Fin 8) (d : Fin 64) :
    val_main_v46 (F := Ideal) x0 x1 x2 x3 x4 x5 (ix2 t (hcol h d))
      = spec near (fun t x => (fq t x : EReal)) (fun t x => (fk t x : EReal)) (fun t x => x2 (ix2 t x))
          (fun t x => (fkc t x : EReal)) (fun t x => x4 (ix2 t x)) (fun h => x5 (ix1 h)) t h d := by
  obtain ⟨b, i, rfl⟩ : ∃ b i, t = qr b i := ⟨⟨t.val / 2048, by omega⟩, ⟨t.val % 2048, by omega⟩, Fin.ext (by simp only [qr]; omega)⟩
  obtain ⟨g, p, rfl⟩ : ∃ g p, h = hg g p := ⟨⟨h.val / 4, by omega⟩, ⟨h.val % 4, by omega⟩, Fin.ext (by simp only [hg]; omega)⟩
  have e : val_main_v46 (F := Ideal) x0 x1 x2 x3 x4 x5 (ix2 (qr b i) (hcol (hg g p) d))
      = (val_main_v39 (F := Ideal) x0 x1 x2 x3 x5 (ix5 b g d p i) : EReal) + val_main_v42 (F := Ideal) x0 x1 x3 x4 x5 (ix5 b g d p i) := by
    have hi : ∀ s : Vec Ideal S8x2x64x4x2048 .f32, s (ix5
        (⟨(2048 * b.val + i.val) / 2048, by omega⟩ : Fin 8) (⟨(64 * (4 * g.val + p.val) + d.val) / 256, by omega⟩ : Fin 2)
        (⟨(64 * (4 * g.val + p.val) + d.val) % 64, by omega⟩ : Fin 64) (⟨(64 * (4 * g.val + p.val) + d.val) / 64 % 4, by omega⟩ : Fin 4)
        (⟨(2048 * b.val + i.val) % 2048, by omega⟩ : Fin 2048)) = s (ix5 b g d p i) := fun s => by
      refine congrArg s (funext fun a => Fin.ext ?_)
      match a with
      | ⟨0, _⟩ => show (2048 * b.val + i.val) / 2048 = b.val; omega
      | ⟨1, _⟩ => show (64 * (4 * g.val + p.val) + d.val) / 256 = g.val; omega
      | ⟨2, _⟩ => show (64 * (4 * g.val + p.val) + d.val) % 64 = d.val; omega
      | ⟨3, _⟩ => show (64 * (4 * g.val + p.val) + d.val) / 64 % 4 = p.val; omega
      | ⟨4, _⟩ => show (2048 * b.val + i.val) % 2048 = i.val; omega
    unfold val_main_v46 val_main_v45 val_main_v44 val_main_v43 val_main_v40
    generalize val_main_v39 (F := Ideal) x0 x1 x2 x3 x5 = s
    generalize val_main_v42 (F := Ideal) x0 x1 x3 x4 x5 = s'
    pointwise []
    exact congrArg₂ (· + ·) (hi s) (hi s')
  rw [e, v39_at x0 x1 x2 x3 x5 b g p i _ (v26_at x0 x1 x3 x5 fq fk fkc hq hk hkc b g p i) d _ (fun j => v2_at x2 b g p d i j),
    v42_at x0 x1 x3 x4 x5 b g p i _ (v26_at x0 x1 x3 x5 fq fk fkc hq hk hkc b g p i) d _ (fun j => v4_at x4 b g p d i j)]
  have hd := sum_div_eq_soft (scores_ne_top fq near fk fkc (fun h => x5 (ix1 h)) hs (qr b i) (hg g p))
    (scores_ne_bot fq near fk fkc (fun h => x5 (ix1 h)) (qr b i) (hg g p))
    (vals (fun t x => x2 (ix2 t x)) (fun t x => x4 (ix2 t x)) (qr b i) (hg g p) d)
  rw [sum_parts _ (zero_mul _)] at hd
  exact hd

end Cert.Proof.WinRef
-- ==== Proof.WinClaim.lean ====
/- Hand-written, untrusted: the claims of the windowed attention. -/
module

public import proofs.«01_k».proof.Defs
public import proofs.«01_k».proof.Proof.WinArray
public import proofs.«01_k».proof.Proof.WinRef
public import proofs.«01_k».proof.Proof.Real
public import proofs.«01_k».proof.Proof.Gen.Win
public import proofs.«01_k».proof.Proof.Gen.Win.Frame

@[expose] public section

noncomputable section

namespace Cert.Proof.WinClaim

open Idealize.ShloMosaic Idealize.ShloMosaic.TcCoe Idealize.SL.Sem Cert.Proof.Spec

theorem pre_facts : Cert.Pre_finite_scores_sink.Facts := ⟨by decide, by decide, by decide, by decide⟩

theorem frame_p : Cert.quiescent_Win := fun m ρ _ => Cert.Win.Gen.frame m ρ

theorem frame_pi : Cert.quiescent_WinIdeal := fun m ρ _ => Cert.WinIdeal.Gen.frame m ρ

theorem frame_pi_pre : Cert.quiescent_WinIdeal_pre_finite_scores_sink (hPre_finite_scores_sink := pre_facts) :=
  fun m ρ _ => Cert.WinIdeal.Gen.frame m ρ

theorem frame_ri : Cert.quiescent_WinRefIdeal := fun m ρ _ =>
  (θ_run Cert.WinRefIdeal.defs _ _).mono (fun r h => ⟨fun c => (h c).2, sem_eq_zero_of_no_sems (by decide) r.2⟩)
    (Cert.WinRefIdeal.Value.run (F := Ideal) m ρ)

theorem frame_ri_pre : Cert.quiescent_WinRefIdeal_pre_finite_scores_sink (hPre_finite_scores_sink := pre_facts) := fun m ρ _ =>
  (θ_run Cert.WinRefIdeal.defs _ _).mono (fun r h => ⟨fun c => (h c).2, sem_eq_zero_of_no_sems (by decide) r.2⟩)
    (Cert.WinRefIdeal.Value.run (F := Ideal) m ρ)

theorem preserves : Cert.preserves_Win_WinIdeal :=
  IdealRules.named_const.statement Cert.WinIdeal.κ "mask" .f32 0xF149F2CA#32 ⊥ rfl

theorem reals (m : (ℓ : Loc Cert.WinIdeal.nD Cert.WinIdeal.τ Cert.WinIdeal.sig) → Buf (Elt Ideal) ℓ)
    (h : Cert.Pre_WinIdeal_finite_scores_sink (hPre_finite_scores_sink := pre_facts) m) (c : Dev Cert.WinIdeal.nD) :
    WinArray.Reals m c := by
  obtain ⟨h0, h1, h2, h3⟩ := h c
  have r0 := Real.real_of_pre _ _ h0
  have r1 := Real.real_of_pre _ _ h1
  have r2 := Real.real_of_pre _ _ h2
  choose f0 e0 using r0
  choose f1 e1 using r1
  choose f2 e2 using r2
  refine ⟨⟨fun t x => f0 (ix2 t x), funext fun t => funext fun x => e0 (ix2 t x)⟩,
    ⟨fun t x => f1 (ix2 t x), funext fun t => funext fun x => e1 (ix2 t x)⟩,
    ⟨fun t x => f2 (ix2 t x), funext fun t => funext fun x => e2 (ix2 t x)⟩, fun j => ?_⟩
  have h4 : Ideal.cmp .olt (WinHost.sink m c j) (Ideal.ofBits .f32 0x7F800000#32) = 1#1 := congrFun h3 (ix1 j)
  rw [Real.ofBits_inf] at h4
  exact (Real.lt_of_pre h4).ne

/-- The reference's result is the kernel's. -/
theorem ref_eq (m : (ℓ : Loc Cert.WinIdeal.nD Cert.WinIdeal.τ Cert.WinIdeal.sig) → Buf (Elt Ideal) ℓ)
    (c : Dev Cert.WinIdeal.nD) (hr : WinArray.Reals m c)
    (x0 : Vec Ideal Cert.WinRefIdeal.S16384x512 .f32) (x1 x2 : Vec Ideal Cert.WinRefIdeal.S16384x128 .f32)
    (x3 x4 : Vec Ideal Cert.WinRefIdeal.S4096x128 .f32) (x5 : Vec Ideal Cert.WinRefIdeal.S8 .f32)
    (h0 : x0 = m ((c.tc : Thread Cert.WinIdeal.nD Cert.WinIdeal.τ).loc Cert.WinIdeal.main_arg0))
    (h1 : x1 = m ((c.tc : Thread Cert.WinIdeal.nD Cert.WinIdeal.τ).loc Cert.WinIdeal.main_arg1))
    (h2 : x2 = m ((c.tc : Thread Cert.WinIdeal.nD Cert.WinIdeal.τ).loc Cert.WinIdeal.main_arg2))
    (h3 : x3 = m ((c.tc : Thread Cert.WinIdeal.nD Cert.WinIdeal.τ).loc Cert.WinIdeal.main_arg3))
    (h4 : x4 = m ((c.tc : Thread Cert.WinIdeal.nD Cert.WinIdeal.τ).loc Cert.WinIdeal.main_arg4))
    (h5 : x5 = m ((c.tc : Thread Cert.WinIdeal.nD Cert.WinIdeal.τ).loc Cert.WinIdeal.main_arg5)) :
    Cert.WinRefIdeal.Read.val_main_v46 (F := Ideal) x0 x1 x2 x3 x4 x5 = WinHost.GA m c := by
  funext i
  obtain ⟨t, x, rfl⟩ : ∃ (t : Fin 16384) (x : Fin 512), i = ix2 t x :=
    ⟨i 0, i 1, funext fun a => by match a with | ⟨0, _⟩ => rfl | ⟨1, _⟩ => rfl⟩
  obtain ⟨b, e, d, rfl⟩ := lane_surj x
  obtain ⟨⟨fq, hq⟩, ⟨fk, hk⟩, ⟨fkc, hkc⟩, hs⟩ := hr
  rw [lane_half, WinHost.GA_at, hq, hk, hkc]
  refine (WinRef.ref_at x0 x1 x2 x3 x4 x5 fq fk fkc (fun t x => ?_) (fun t x => ?_) (fun t x => ?_) (fun h => ?_) t (hd b e) d).trans ?_
  · rw [h0]; exact congrFun (congrFun hq t) x
  · rw [h1]; exact congrFun (congrFun hk t) x
  · rw [h3]; exact congrFun (congrFun hkc t) x
  · rw [h5]; exact hs h
  · rw [h2, h4, h5]; rfl

theorem algebraic : Cert.algebraic_WinIdeal_WinRefIdeal_pre_finite_scores_sink (hPre_finite_scores_sink := pre_facts) := by
  intro m g m' g' hpre hargs
  refine ⟨fun c => WinHost.GA m c, ?_, ?_⟩
  · exact (θ_run Cert.WinIdeal.defs _ _).mono
      (fun r h c => ⟨(h c).1.trans (WinArray.final m c (reals m hpre c)), (h c).2⟩) (Cert.WinIdeal.Value.run_blocks m g)
  · refine (θ_run Cert.WinRefIdeal.defs _ _).mono (fun r h c => ⟨(h c).1.trans ?_, (h c).2⟩)
      (Cert.WinRefIdeal.Value.run (F := Ideal) m' g')
    obtain ⟨h0, h1, h2, h3, h4, h5⟩ := hargs c
    exact (Cert.WinRefIdeal.Read.val_main_v46_eq m' c).trans (ref_eq m c (reals m hpre c) _ _ _ _ _ _ h0 h1 h2 h3 h4 h5)

end Cert.Proof.WinClaim
-- ==== Proof.lean ====
/- Hand-written, untrusted: the proof of `Cert.Claim`, each claim from the module that proves it. -/
module

public import proofs.«01_k».proof.Defs
public import proofs.«01_k».proof.Proof.FullClaim
public import proofs.«01_k».proof.Proof.OutClaim
public import proofs.«01_k».proof.Proof.InClaim
public import proofs.«01_k».proof.Proof.RotClaim
public import proofs.«01_k».proof.Proof.WinClaim

@[expose] public section

noncomputable section

namespace Cert.Proof

theorem claim : Cert.Claim :=
  ⟨Cert.Full.Gen.facts, Cert.FullIdeal.Gen.facts, Cert.FullRefIdeal.Gen.facts,
    Cert.Out.Gen.facts, Cert.OutIdeal.Gen.facts, Cert.OutRefIdeal.Gen.facts,
    Cert.In.Gen.facts, Cert.InIdeal.Gen.facts, Cert.InRefIdeal.Gen.facts,
    Cert.Rot.Gen.facts, Cert.RotIdeal.Gen.facts, Cert.RotRefIdeal.Gen.facts,
    Cert.Win.Gen.facts, Cert.WinIdeal.Gen.facts, Cert.WinRefIdeal.Gen.facts,
    FullClaim.pre_facts, InClaim.pre_facts, RotClaim.pre_facts, WinClaim.pre_facts,
    FullClaim.frame_p, FullClaim.frame_pi, FullClaim.frame_pi_pre, FullClaim.frame_ri, FullClaim.frame_ri_pre,
    OutClaim.frame_p, OutClaim.frame_pi, OutClaim.frame_ri,
    InClaim.frame_p, InClaim.frame_pi, InClaim.frame_pi_pre, InClaim.frame_ri, InClaim.frame_ri_pre,
    RotClaim.frame_p, RotClaim.frame_pi, RotClaim.frame_pi_pre, RotClaim.frame_ri, RotClaim.frame_ri_pre,
    WinClaim.frame_p, WinClaim.frame_pi, WinClaim.frame_pi_pre, WinClaim.frame_ri, WinClaim.frame_ri_pre,
    FullClaim.preserves, FullClaim.algebraic, OutClaim.preserves, OutClaim.algebraic,
    InClaim.preserves, InClaim.algebraic, RotClaim.preserves, RotClaim.algebraic, WinClaim.preserves, WinClaim.algebraic⟩

end Cert.Proof

end
